-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6)
      ∧ r.2.mem ((c.tc : Thread Cert.Forward.nD Cert.Forward.τ).loc Cert.Forward.main_arg7) = m ((c.tc : Thread Cert.Forward.nD Cert.Forward.τ).loc Cert.Forward.main_arg7)
      ∧ r.2.mem ((c.tc : Thread Cert.Forward.nD Cert.Forward.τ).loc Cert.Forward.main_arg8) = m ((c.tc : Thread Cert.Forward.nD Cert.Forward.τ).loc Cert.Forward.main_arg8)
      ∧ r.2.mem ((c.tc : Thread Cert.Forward.nD Cert.Forward.τ).loc Cert.Forward.main_arg9) = m ((c.tc : Thread Cert.Forward.nD Cert.Forward.τ).loc Cert.Forward.main_arg9)
      ∧ r.2.mem ((c.tc : Thread Cert.Forward.nD Cert.Forward.τ).loc Cert.Forward.main_arg10) = m ((c.tc : Thread Cert.Forward.nD Cert.Forward.τ).loc Cert.Forward.main_arg10)
      ∧ r.2.mem ((c.tc : Thread Cert.Forward.nD Cert.Forward.τ).loc Cert.Forward.main_arg11) = m ((c.tc : Thread Cert.Forward.nD Cert.Forward.τ).loc Cert.Forward.main_arg11))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
      ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
      ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10)
      ∧ r.2.mem ((c.tc : Thread Cert.ForwardIdeal.nD Cert.ForwardIdeal.τ).loc Cert.ForwardIdeal.main_arg11) = m ((c.tc : Thread Cert.ForwardIdeal.nD Cert.ForwardIdeal.τ).loc Cert.ForwardIdeal.main_arg11))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5)
      ∧ r.2.mem ((c.tc : Thread Cert.ForwardReferenceIdeal.nD Cert.ForwardReferenceIdeal.τ).loc Cert.ForwardReferenceIdeal.main_arg6) = m ((c.tc : Thread Cert.ForwardReferenceIdeal.nD Cert.ForwardReferenceIdeal.τ).loc Cert.ForwardReferenceIdeal.main_arg6)
      ∧ r.2.mem ((c.tc : Thread Cert.ForwardReferenceIdeal.nD Cert.ForwardReferenceIdeal.τ).loc Cert.ForwardReferenceIdeal.main_arg7) = m ((c.tc : Thread Cert.ForwardReferenceIdeal.nD Cert.ForwardReferenceIdeal.τ).loc Cert.ForwardReferenceIdeal.main_arg7)
      ∧ r.2.mem ((c.tc : Thread Cert.ForwardReferenceIdeal.nD Cert.ForwardReferenceIdeal.τ).loc Cert.ForwardReferenceIdeal.main_arg8) = m ((c.tc : Thread Cert.ForwardReferenceIdeal.nD Cert.ForwardReferenceIdeal.τ).loc Cert.ForwardReferenceIdeal.main_arg8)
      ∧ r.2.mem ((c.tc : Thread Cert.ForwardReferenceIdeal.nD Cert.ForwardReferenceIdeal.τ).loc Cert.ForwardReferenceIdeal.main_arg9) = m ((c.tc : Thread Cert.ForwardReferenceIdeal.nD Cert.ForwardReferenceIdeal.τ).loc Cert.ForwardReferenceIdeal.main_arg9)
      ∧ r.2.mem ((c.tc : Thread Cert.ForwardReferenceIdeal.nD Cert.ForwardReferenceIdeal.τ).loc Cert.ForwardReferenceIdeal.main_arg10) = m ((c.tc : Thread Cert.ForwardReferenceIdeal.nD Cert.ForwardReferenceIdeal.τ).loc Cert.ForwardReferenceIdeal.main_arg10)
      ∧ r.2.mem ((c.tc : Thread Cert.ForwardReferenceIdeal.nD Cert.ForwardReferenceIdeal.τ).loc Cert.ForwardReferenceIdeal.main_arg11) = m ((c.tc : Thread Cert.ForwardReferenceIdeal.nD Cert.ForwardReferenceIdeal.τ).loc Cert.ForwardReferenceIdeal.main_arg11))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def preserves_Kernel_KernelIdeal : Prop :=
  IdealRules.named_const.Statement Cert.KernelIdeal.κ "gelu_ca" .f32 0x3D122279#32 ((80338380498831 / 2251799813685248 : ℝ) : EReal)
  ∧ IdealRules.named_const.Statement Cert.KernelIdeal.κ "gelu_3ca" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)) (v4 : (c : Dev Cert.KernelIdeal.nD) → Buf (Elt Ideal) ((c.tc : Thread Cert.KernelIdeal.nD Cert.KernelIdeal.τ).loc Cert.KernelIdeal.main_v32_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_v32_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_v139) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Forward_ForwardIdeal : Prop :=
  IdealRules.named_const.Statement Cert.ForwardIdeal.κ "gelu_ca" .f32 0x3D122279#32 ((80338380498831 / 2251799813685248 : ℝ) : EReal)

def algebraic_ForwardIdeal_ForwardReferenceIdeal [hForwardIdeal : Cert.ForwardIdeal.Facts] [hForwardReferenceIdeal : Cert.ForwardReferenceIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)
      ∧ m' ((c.tc : Thread Cert.ForwardReferenceIdeal.nD Cert.ForwardReferenceIdeal.τ).loc Cert.ForwardReferenceIdeal.main_arg4) = m ((c.tc : Thread Cert.ForwardIdeal.nD Cert.ForwardIdeal.τ).loc Cert.ForwardIdeal.main_arg4)
      ∧ m' ((c.tc : Thread Cert.ForwardReferenceIdeal.nD Cert.ForwardReferenceIdeal.τ).loc Cert.ForwardReferenceIdeal.main_arg5) = m ((c.tc : Thread Cert.ForwardIdeal.nD Cert.ForwardIdeal.τ).loc Cert.ForwardIdeal.main_arg5)
      ∧ m' ((c.tc : Thread Cert.ForwardReferenceIdeal.nD Cert.ForwardReferenceIdeal.τ).loc Cert.ForwardReferenceIdeal.main_arg6) = m ((c.tc : Thread Cert.ForwardIdeal.nD Cert.ForwardIdeal.τ).loc Cert.ForwardIdeal.main_arg6)
      ∧ m' ((c.tc : Thread Cert.ForwardReferenceIdeal.nD Cert.ForwardReferenceIdeal.τ).loc Cert.ForwardReferenceIdeal.main_arg7) = m ((c.tc : Thread Cert.ForwardIdeal.nD Cert.ForwardIdeal.τ).loc Cert.ForwardIdeal.main_arg7)
      ∧ m' ((c.tc : Thread Cert.ForwardReferenceIdeal.nD Cert.ForwardReferenceIdeal.τ).loc Cert.ForwardReferenceIdeal.main_arg8) = m ((c.tc : Thread Cert.ForwardIdeal.nD Cert.ForwardIdeal.τ).loc Cert.ForwardIdeal.main_arg8)
      ∧ m' ((c.tc : Thread Cert.ForwardReferenceIdeal.nD Cert.ForwardReferenceIdeal.τ).loc Cert.ForwardReferenceIdeal.main_arg9) = m ((c.tc : Thread Cert.ForwardIdeal.nD Cert.ForwardIdeal.τ).loc Cert.ForwardIdeal.main_arg9)
      ∧ m' ((c.tc : Thread Cert.ForwardReferenceIdeal.nD Cert.ForwardReferenceIdeal.τ).loc Cert.ForwardReferenceIdeal.main_arg10) = m ((c.tc : Thread Cert.ForwardIdeal.nD Cert.ForwardIdeal.τ).loc Cert.ForwardIdeal.main_arg10)
      ∧ m' ((c.tc : Thread Cert.ForwardReferenceIdeal.nD Cert.ForwardReferenceIdeal.τ).loc Cert.ForwardReferenceIdeal.main_arg11) = m ((c.tc : Thread Cert.ForwardIdeal.nD Cert.ForwardIdeal.τ).loc Cert.ForwardIdeal.main_arg11)) →
    ∃ (v0 : (c : Dev Cert.ForwardIdeal.nD) → Buf (Elt Ideal) ((c.tc : Thread Cert.ForwardIdeal.nD Cert.ForwardIdeal.τ).loc Cert.ForwardIdeal.main_v19_0)) (v1 : (c : Dev Cert.ForwardIdeal.nD) → Buf (Elt Ideal) ((c.tc : Thread Cert.ForwardIdeal.nD Cert.ForwardIdeal.τ).loc Cert.ForwardIdeal.main_v19_1)) (v2 : (c : Dev Cert.ForwardIdeal.nD) → Buf (Elt Ideal) ((c.tc : Thread Cert.ForwardIdeal.nD Cert.ForwardIdeal.τ).loc Cert.ForwardIdeal.main_v19_2)) (v3 : (c : Dev Cert.ForwardIdeal.nD) → Buf (Elt Ideal) ((c.tc : Thread Cert.ForwardIdeal.nD Cert.ForwardIdeal.τ).loc Cert.ForwardIdeal.main_v19_3)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v19_0) = v0 c
          ∧ r.2.mem ((c.tc : Thread Cert.ForwardIdeal.nD Cert.ForwardIdeal.τ).loc Cert.ForwardIdeal.main_v19_1) = v1 c
          ∧ r.2.mem ((c.tc : Thread Cert.ForwardIdeal.nD Cert.ForwardIdeal.τ).loc Cert.ForwardIdeal.main_v19_2) = v2 c
          ∧ r.2.mem ((c.tc : Thread Cert.ForwardIdeal.nD Cert.ForwardIdeal.τ).loc Cert.ForwardIdeal.main_v19_3) = v3 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
          ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
          ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
          ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
          ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10)
          ∧ r.2.mem ((c.tc : Thread Cert.ForwardIdeal.nD Cert.ForwardIdeal.τ).loc Cert.ForwardIdeal.main_arg11) = m ((c.tc : Thread Cert.ForwardIdeal.nD Cert.ForwardIdeal.τ).loc Cert.ForwardIdeal.main_arg11))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v1) = v0 c
          ∧ r.2.mem ((c.tc : Thread Cert.ForwardReferenceIdeal.nD Cert.ForwardReferenceIdeal.τ).loc Cert.ForwardReferenceIdeal.main_v58) = v1 c
          ∧ r.2.mem ((c.tc : Thread Cert.ForwardReferenceIdeal.nD Cert.ForwardReferenceIdeal.τ).loc Cert.ForwardReferenceIdeal.main_v83) = v2 c
          ∧ r.2.mem ((c.tc : Thread Cert.ForwardReferenceIdeal.nD Cert.ForwardReferenceIdeal.τ).loc Cert.ForwardReferenceIdeal.main_v87) = v3 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4)
          ∧ r.2.mem ((c.tc : Thread Cert.ForwardReferenceIdeal.nD Cert.ForwardReferenceIdeal.τ).loc Cert.ForwardReferenceIdeal.main_arg5) = m' ((c.tc : Thread Cert.ForwardReferenceIdeal.nD Cert.ForwardReferenceIdeal.τ).loc Cert.ForwardReferenceIdeal.main_arg5)
          ∧ r.2.mem ((c.tc : Thread Cert.ForwardReferenceIdeal.nD Cert.ForwardReferenceIdeal.τ).loc Cert.ForwardReferenceIdeal.main_arg6) = m' ((c.tc : Thread Cert.ForwardReferenceIdeal.nD Cert.ForwardReferenceIdeal.τ).loc Cert.ForwardReferenceIdeal.main_arg6)
          ∧ r.2.mem ((c.tc : Thread Cert.ForwardReferenceIdeal.nD Cert.ForwardReferenceIdeal.τ).loc Cert.ForwardReferenceIdeal.main_arg7) = m' ((c.tc : Thread Cert.ForwardReferenceIdeal.nD Cert.ForwardReferenceIdeal.τ).loc Cert.ForwardReferenceIdeal.main_arg7)
          ∧ r.2.mem ((c.tc : Thread Cert.ForwardReferenceIdeal.nD Cert.ForwardReferenceIdeal.τ).loc Cert.ForwardReferenceIdeal.main_arg8) = m' ((c.tc : Thread Cert.ForwardReferenceIdeal.nD Cert.ForwardReferenceIdeal.τ).loc Cert.ForwardReferenceIdeal.main_arg8)
          ∧ r.2.mem ((c.tc : Thread Cert.ForwardReferenceIdeal.nD Cert.ForwardReferenceIdeal.τ).loc Cert.ForwardReferenceIdeal.main_arg9) = m' ((c.tc : Thread Cert.ForwardReferenceIdeal.nD Cert.ForwardReferenceIdeal.τ).loc Cert.ForwardReferenceIdeal.main_arg9)
          ∧ r.2.mem ((c.tc : Thread Cert.ForwardReferenceIdeal.nD Cert.ForwardReferenceIdeal.τ).loc Cert.ForwardReferenceIdeal.main_arg10) = m' ((c.tc : Thread Cert.ForwardReferenceIdeal.nD Cert.ForwardReferenceIdeal.τ).loc Cert.ForwardReferenceIdeal.main_arg10)
          ∧ r.2.mem ((c.tc : Thread Cert.ForwardReferenceIdeal.nD Cert.ForwardReferenceIdeal.τ).loc Cert.ForwardReferenceIdeal.main_arg11) = m' ((c.tc : Thread Cert.ForwardReferenceIdeal.nD Cert.ForwardReferenceIdeal.τ).loc Cert.ForwardReferenceIdeal.main_arg11))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)
      ∧ m' ((c.tc : Thread Cert.GateReferenceIdeal.nD Cert.GateReferenceIdeal.τ).loc Cert.GateReferenceIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)) (v2 : (c : Dev Cert.GateIdeal.nD) → Buf (Elt Ideal) ((c.tc : Thread Cert.GateIdeal.nD Cert.GateIdeal.τ).loc Cert.GateIdeal.main_v3_2)) (v3 : (c : Dev Cert.GateIdeal.nD) → Buf (Elt Ideal) ((c.tc : Thread Cert.GateIdeal.nD Cert.GateIdeal.τ).loc Cert.GateIdeal.main_v3_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_v3_2) = v2 c
          ∧ r.2.mem ((c.tc : Thread Cert.GateIdeal.nD Cert.GateIdeal.τ).loc Cert.GateIdeal.main_v3_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v58) = v0 c
          ∧ r.2.mem ((c.tc : Thread Cert.GateReferenceIdeal.nD Cert.GateReferenceIdeal.τ).loc Cert.GateReferenceIdeal.main_v36) = v1 c
          ∧ r.2.mem ((c.tc : Thread Cert.GateReferenceIdeal.nD Cert.GateReferenceIdeal.τ).loc Cert.GateReferenceIdeal.main_v60) = v2 c
          ∧ r.2.mem ((c.tc : Thread Cert.GateReferenceIdeal.nD Cert.GateReferenceIdeal.τ).loc Cert.GateReferenceIdeal.main_v61) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)) (v2 : (c : Dev Cert.OutIdeal.nD) → Buf (Elt Ideal) ((c.tc : Thread Cert.OutIdeal.nD Cert.OutIdeal.τ).loc Cert.OutIdeal.main_v5_2)) (v3 : (c : Dev Cert.OutIdeal.nD) → Buf (Elt Ideal) ((c.tc : Thread Cert.OutIdeal.nD Cert.OutIdeal.τ).loc Cert.OutIdeal.main_v5_3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_v5_2) = v2 c
          ∧ r.2.mem ((c.tc : Thread Cert.OutIdeal.nD Cert.OutIdeal.τ).loc Cert.OutIdeal.main_v5_3) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v43) = v0 c
          ∧ r.2.mem ((c.tc : Thread Cert.OutReferenceIdeal.nD Cert.OutReferenceIdeal.τ).loc Cert.OutReferenceIdeal.main_v48) = v1 c
          ∧ r.2.mem ((c.tc : Thread Cert.OutReferenceIdeal.nD Cert.OutReferenceIdeal.τ).loc Cert.OutReferenceIdeal.main_v46) = v2 c
          ∧ r.2.mem ((c.tc : Thread Cert.OutReferenceIdeal.nD Cert.OutReferenceIdeal.τ).loc Cert.OutReferenceIdeal.main_v49) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hGate : Cert.Gate.Facts) (hGateIdeal : Cert.GateIdeal.Facts) (hGateReferenceIdeal : Cert.GateReferenceIdeal.Facts) (hOut : Cert.Out.Facts) (hOutIdeal : Cert.OutIdeal.Facts) (hOutReferenceIdeal : Cert.OutReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardReferenceIdeal (hForwardReferenceIdeal := hForwardReferenceIdeal)
    ∧ quiescent_Gate (hGate := hGate)
    ∧ quiescent_GateIdeal (hGateIdeal := hGateIdeal)
    ∧ quiescent_GateReferenceIdeal (hGateReferenceIdeal := hGateReferenceIdeal)
    ∧ quiescent_Out (hOut := hOut)
    ∧ quiescent_OutIdeal (hOutIdeal := hOutIdeal)
    ∧ quiescent_OutReferenceIdeal (hOutReferenceIdeal := hOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal (hForwardIdeal := hForwardIdeal) (hForwardReferenceIdeal := hForwardReferenceIdeal)
    ∧ preserves_Gate_GateIdeal
    ∧ algebraic_GateIdeal_GateReferenceIdeal (hGateIdeal := hGateIdeal) (hGateReferenceIdeal := hGateReferenceIdeal)
    ∧ preserves_Out_OutIdeal
    ∧ algebraic_OutIdeal_OutReferenceIdeal (hOutIdeal := hOutIdeal) (hOutReferenceIdeal := hOutReferenceIdeal)
-- ==== Pre_finite.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn_part1 {F : FTy → Type} [FloatOps F] (main_arg6 : FVec F S2816x1024 .f32) (main_v2 : IVec S16384x1024 1) (main_v5 : IVec S16384x1024 1) (main_v8 : IVec S1024 1) (main_v11 : IVec S1024x5632 1) (main_v14 : IVec S3x5632 1) (main_v17 : IVec S5632 1) : IVec S16384x1024 1 × IVec S16384x1024 1 × IVec S1024 1 × IVec S1024x5632 1 × IVec S3x5632 1 × IVec S5632 1 × IVec S2816x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  (main_v2, main_v5, main_v8, main_v11, main_v14, main_v17, main_v20)

def fn {F : FTy → Type} [FloatOps F] (main_arg0 : FVec F S16384x1024 .f32) (main_arg1 : FVec F S16384x1024 .f32) (main_arg2 : FVec F S1024 .f32) (main_arg3 : FVec F S1024x5632 .f32) (main_arg4 : FVec F S3x5632 .f32) (main_arg5 : FVec F S5632 .f32) (main_arg6 : FVec F S2816x1024 .f32) : IVec S16384x1024 1 × IVec S16384x1024 1 × IVec S1024 1 × IVec S1024x5632 1 × IVec S3x5632 1 × IVec S5632 1 × IVec S2816x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S3x5632 .f32 := Host.absf main_arg4
  let main_cst_3 : FVec F S_ .f32 := constant S_ .f32 0x7F800000#32
  let main_v13 : FVec F S3x5632 .f32 := broadcastInDim S3x5632 ![] bcast_S_S3x5632 main_cst_3
  let main_v14 : IVec S3x5632 1 := cmpf .olt main_v12 main_v13
  let main_v15 : FVec F S5632 .f32 := Host.absf main_arg5
  let main_cst_4 : FVec F S_ .f32 := constant S_ .f32 0x7F800000#32
  let main_v16 : FVec F S5632 .f32 := broadcastInDim S5632 ![] bcast_S_S5632 main_cst_4
  let main_v17 : IVec S5632 1 := cmpf .olt main_v15 main_v16
  fn_part1 (F := F) main_arg6 main_v2 main_v5 main_v8 main_v11 main_v14 main_v17
-- ==== Kernel.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2x2x1408 : Shape := ⟨4, ![16384, 2, 2, 1408]⟩
abbrev S2x16384x2x1408 : Shape := ⟨4, ![2, 16384, 2, 1408]⟩
abbrev S2x16384x2816 : Shape := ⟨3, ![2, 16384, 2816]⟩
abbrev S1024x2x2x1408 : Shape := ⟨4, ![1024, 2, 2, 1408]⟩
abbrev S2x1024x2x1408 : Shape := ⟨4, ![2, 1024, 2, 1408]⟩
abbrev S2x1024x2816 : Shape := ⟨3, ![2, 1024, 2816]⟩
abbrev S2x1408x1024 : Shape := ⟨3, ![2, 1408, 1024]⟩
abbrev S3x2x2x1408 : Shape := ⟨4, ![3, 2, 2, 1408]⟩
abbrev S2x3x2x1408 : Shape := ⟨4, ![2, 3, 2, 1408]⟩
abbrev S2x3x2816 : Shape := ⟨3, ![2, 3, 2816]⟩
abbrev S1x5632 : Shape := ⟨2, ![1, 5632]⟩
abbrev S1x2x2x1408 : Shape := ⟨4, ![1, 2, 2, 1408]⟩
abbrev S2x1x2x1408 : Shape := ⟨4, ![2, 1, 2, 1408]⟩
abbrev S2x1x2816 : Shape := ⟨3, ![2, 1, 2816]⟩
abbrev S2x16384x1024 : Shape := ⟨3, ![2, 16384, 1024]⟩
abbrev S4x1024x1408 : Shape := ⟨3, ![4, 1024, 1408]⟩
abbrev S256x1024 : Shape := ⟨2, ![256, 1024]⟩
abbrev S16x1024 : Shape := ⟨2, ![16, 1024]⟩
abbrev S1x256x2816 : Shape := ⟨3, ![1, 256, 2816]⟩
abbrev S1x16x2816 : Shape := ⟨3, ![1, 16, 2816]⟩
abbrev S1x1024x2816 : Shape := ⟨3, ![1, 1024, 2816]⟩
abbrev S1x1408x1024 : Shape := ⟨3, ![1, 1408, 1024]⟩
abbrev S1x3x2816 : Shape := ⟨3, ![1, 3, 2816]⟩
abbrev S1x1x2816 : Shape := ⟨3, ![1, 1, 2816]⟩
abbrev S1x256x1024 : Shape := ⟨3, ![1, 256, 1024]⟩
abbrev S288x2816 : Shape := ⟨2, ![288, 2816]⟩
abbrev S272x2816 : Shape := ⟨2, ![272, 2816]⟩
abbrev S1024x2816 : Shape := ⟨2, ![1024, 2816]⟩
abbrev S1408x1024 : Shape := ⟨2, ![1408, 1024]⟩
abbrev S256 : Shape := ⟨1, ![256]⟩
abbrev S256x1 : Shape := ⟨2, ![256, 1]⟩
abbrev S16x2816 : Shape := ⟨2, ![16, 2816]⟩
abbrev S256x2816 : Shape := ⟨2, ![256, 2816]⟩
abbrev S3x2816 : Shape := ⟨2, ![3, 2816]⟩
abbrev S1x2816 : Shape := ⟨2, ![1, 2816]⟩
abbrev S272x1024 : Shape := ⟨2, ![272, 1024]⟩
abbrev S272x1408 : Shape := ⟨2, ![272, 1408]⟩
abbrev S256x1408 : Shape := ⟨2, ![256, 1408]⟩
abbrev S2816 : Shape := ⟨1, ![2816]⟩
abbrev S1x1024x1408 : Shape := ⟨3, ![1, 1024, 1408]⟩
abbrev S1024x1408 : Shape := ⟨2, ![1024, 1408]⟩

abbrev nBuf : Space → Nat
  | .hbm => 47
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x5632, .f32⟩
  | .hbm, ⟨24, _⟩ => ⟨S16384x2x2x1408, .f32⟩
  | .hbm, ⟨25, _⟩ => ⟨S2x16384x2x1408, .f32⟩
  | .hbm, ⟨26, _⟩ => ⟨S2x16384x2816, .f32⟩
  | .hbm, ⟨27, _⟩ => ⟨S2x16384x2816, .bf16⟩
  | .hbm, ⟨28, _⟩ => ⟨S1024x5632, .bf16⟩
  | .hbm, ⟨29, _⟩ => ⟨S1024x2x2x1408, .bf16⟩
  | .hbm, ⟨30, _⟩ => ⟨S2x1024x2x1408, .bf16⟩
  | .hbm, ⟨31, _⟩ => ⟨S2x1024x2816, .bf16⟩
  | .hbm, ⟨32, _⟩ => ⟨S2816x1024, .bf16⟩
  | .hbm, ⟨33, _⟩ => ⟨S2x1408x1024, .bf16⟩
  | .hbm, ⟨34, _⟩ => ⟨S1x1024, .f32⟩
  | .hbm, ⟨35, _⟩ => ⟨S3x2x2x1408, .f32⟩
  | .hbm, ⟨36, _⟩ => ⟨S2x3x2x1408, .f32⟩
  | .hbm, ⟨37, _⟩ => ⟨S2x3x2816, .f32⟩
  | .hbm, ⟨38, _⟩ => ⟨S1x5632, .f32⟩
  | .hbm, ⟨39, _⟩ => ⟨S1x2x2x1408, .f32⟩
  | .hbm, ⟨40, _⟩ => ⟨S2x1x2x1408, .f32⟩
  | .hbm, ⟨41, _⟩ => ⟨S2x1x2816, .f32⟩
  | .hbm, ⟨42, _⟩ => ⟨S2x16384x1024, .f32⟩
  | .hbm, ⟨43, _⟩ => ⟨S4x1024x1408, .f32⟩
  | .hbm, ⟨44, _⟩ => ⟨S2x1408x1024, .f32⟩
  | .hbm, ⟨45, _⟩ => ⟨S2x3x2816, .f32⟩
  | .hbm, ⟨46, _⟩ => ⟨S2x1x2816, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .f32⟩
  | .local _ .vmem, ⟨5, _⟩ => ⟨S256x1024, .f32⟩
  | .local _ .vmem, ⟨6, _⟩ => ⟨S1x256x2816, .bf16⟩
  | .local _ .vmem, ⟨7, _⟩ => ⟨S1x256x2816, .bf16⟩
  | .local _ .vmem, ⟨8, _⟩ => ⟨S1x16x2816, .bf16⟩
  | .local _ .vmem, ⟨9, _⟩ => ⟨S1x16x2816, .bf16⟩
  | .local _ .vmem, ⟨10, _⟩ => ⟨S1x16x2816, .bf16⟩
  | .local _ .vmem, ⟨11, _⟩ => ⟨S1x16x2816, .bf16⟩
  | .local _ .vmem, ⟨12, _⟩ => ⟨S1x1024, .f32⟩
  | .local _ .vmem, ⟨13, _⟩ => ⟨S1x1024x2816, .bf16⟩
  | .local _ .vmem, ⟨14, _⟩ => ⟨S1x1408x1024, .bf16⟩
  | .local _ .vmem, ⟨15, _⟩ => ⟨S1x3x2816, .f32⟩
  | .local _ .vmem, ⟨16, _⟩ => ⟨S1x3x2816, .f32⟩
  | .local _ .vmem, ⟨17, _⟩ => ⟨S1x1x2816, .f32⟩
  | .local _ .vmem, ⟨18, _⟩ => ⟨S1x1x2816, .f32⟩
  | .local _ .vmem, ⟨19, _⟩ => ⟨S1x256x1024, .f32⟩
  | .local _ .vmem, ⟨20, _⟩ => ⟨S1x256x1024, .f32⟩
  | .local _ .vmem, ⟨21, _⟩ => ⟨S1x3x2816, .f32⟩
  | .local _ .vmem, ⟨22, _⟩ => ⟨S1x3x2816, .f32⟩
  | .local _ .vmem, ⟨23, _⟩ => ⟨S1x1x2816, .f32⟩
  | .local _ .vmem, ⟨24, _⟩ => ⟨S1x1x2816, .f32⟩
  | .local _ .vmem, ⟨25, _⟩ => ⟨S288x2816, .f32⟩
  | .local _ .vmem, ⟨26, _⟩ => ⟨S272x2816, .f32⟩
  | .local _ .vmem, ⟨27, _⟩ => ⟨S1024x2816, .f32⟩
  | .local _ .vmem, ⟨28, _⟩ => ⟨S1408x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32_105 : BitVec 32 := 63#32
  let v178 : BitVec 1 := Scalar.cmpi .eq arg1 c63_i32_105
  let v179 : BitVec 32 := Scalar.extui v178
  let c0_i32_106 : BitVec 32 := 0#32
  let v180 : BitVec 1 := Scalar.cmpi .ne v179 c0_i32_106
  v180

def k0_off1 (i : grid0.Coords) : Fin 3 → Nat :=
  let arg0 : BitVec 32 := BitVec.ofNat 32 (i 0).val
  let c0_i32_107_r0 : BitVec 32 := 0#32
  let c0_i32_108_r0 : BitVec 32 := 0#32
  ![arg0.toNat, 0, 0]
def k0_off2 (i : grid0.Coords) : Fin 3 → Nat :=
  let c2_i32 : BitVec 32 := 2#32
  let arg0 : BitVec 32 := BitVec.ofNat 32 (i 0).val
  let v181 : BitVec 32 := Scalar.addi c2_i32 arg0
  let c0_i32_107_r1 : BitVec 32 := 0#32
  let c0_i32_108_r1 : BitVec 32 := 0#32
  ![v181.toNat, 0, 0]
def k0_off3 (i : grid0.Coords) : Fin 3 → Nat :=
  let arg0 : BitVec 32 := BitVec.ofNat 32 (i 0).val
  let c0_i32_107_r2 : BitVec 32 := 0#32
  let c0_i32_108_r2 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1408x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S1x3x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "gelu_3ca" => some ((241015141496493 / 2251799813685248 : ℝ) : EReal)
  | "gelu_ca" => some ((80338380498831 / 2251799813685248 : ℝ) : EReal)
  | _ => none
-- ==== ReferenceIdeal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x16384x1024 : Shape := ⟨3, ![1, 16384, 1024]⟩
abbrev S2x16384x1024 : Shape := ⟨3, ![2, 16384, 1024]⟩
abbrev S1024x2x2x1408 : Shape := ⟨4, ![1024, 2, 2, 1408]⟩
abbrev S2x2x1408x16384 : Shape := ⟨4, ![2, 2, 1408, 16384]⟩
abbrev S16384x2x2x1408 : Shape := ⟨4, ![16384, 2, 2, 1408]⟩
abbrev S16384x5632 : Shape := ⟨2, ![16384, 5632]⟩
abbrev S2x5632 : Shape := ⟨2, ![2, 5632]⟩
abbrev S16386x5632 : Shape := ⟨2, ![16386, 5632]⟩
abbrev S1x5632 : Shape := ⟨2, ![1, 5632]⟩
abbrev S16384x2816 : Shape := ⟨2, ![16384, 2816]⟩
abbrev S1024x2816 : Shape := ⟨2, ![1024, 2816]⟩
abbrev S2x2x1408x1024 : Shape := ⟨4, ![2, 2, 1408, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S3x2x2x1408 : Shape := ⟨4, ![3, 2, 2, 1408]⟩
abbrev S2x3x2x1408 : Shape := ⟨4, ![2, 3, 2, 1408]⟩
abbrev S2x3x2816 : Shape := ⟨3, ![2, 3, 2816]⟩
abbrev S1x2x2x1408 : Shape := ⟨4, ![1, 2, 2, 1408]⟩
abbrev S2x1x2x1408 : Shape := ⟨4, ![2, 1, 2, 1408]⟩
abbrev S2x1x2816 : Shape := ⟨3, ![2, 1, 2816]⟩

abbrev nBuf : Space → Nat
  | .hbm => 176
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024x5632, .f32⟩
  | 4 => ⟨S3x5632, .f32⟩
  | 5 => ⟨S5632, .f32⟩
  | 6 => ⟨S2816x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S1x16384x1024, .f32⟩
  | 24 => ⟨S1x16384x1024, .f32⟩
  | 25 => ⟨S2x16384x1024, .f32⟩
  | 26 => ⟨S1024x2x2x1408, .f32⟩
  | 27 => ⟨S2x2x1408x16384, .f32⟩
  | 28 => ⟨S16384x2x2x1408, .f32⟩
  | 29 => ⟨S16384x5632, .f32⟩
  | 30 => ⟨S_, .f32⟩
  | 31 => ⟨S2x5632, .f32⟩
  | 32 => ⟨S16386x5632, .f32⟩
  | 33 => ⟨S_, .f32⟩
  | 34 => ⟨S2x5632, .f32⟩
  | 35 => ⟨S16384x5632, .f32⟩
  | 36 => ⟨S1x5632, .f32⟩
  | 37 => ⟨S5632, .f32⟩
  | 38 => ⟨S1x5632, .f32⟩
  | 39 => ⟨S16384x5632, .f32⟩
  | 40 => ⟨S16384x5632, .f32⟩
  | 41 => ⟨S1x5632, .f32⟩
  | 42 => ⟨S16384x5632, .f32⟩
  | 43 => ⟨S16384x5632, .f32⟩
  | 44 => ⟨S16384x5632, .f32⟩
  | 45 => ⟨S1x5632, .f32⟩
  | 46 => ⟨S5632, .f32⟩
  | 47 => ⟨S1x5632, .f32⟩
  | 48 => ⟨S16384x5632, .f32⟩
  | 49 => ⟨S16384x5632, .f32⟩
  | 50 => ⟨S16384x5632, .f32⟩
  | 51 => ⟨S16384x5632, .f32⟩
  | 52 => ⟨S1x5632, .f32⟩
  | 53 => ⟨S5632, .f32⟩
  | 54 => ⟨S1x5632, .f32⟩
  | 55 => ⟨S16384x5632, .f32⟩
  | 56 => ⟨S16384x5632, .f32⟩
  | 57 => ⟨S16384x5632, .f32⟩
  | 58 => ⟨S16384x2816, .f32⟩
  | 59 => ⟨S16384x2816, .f32⟩
  | 60 => ⟨S16384x2816, .f32⟩
  | 61 => ⟨S16384x2816, .f32⟩
  | 62 => ⟨S16384x2816, .f32⟩
  | 63 => ⟨S_, .f32⟩
  | 64 => ⟨S16384x2816, .f32⟩
  | 65 => ⟨S16384x2816, .f32⟩
  | 66 => ⟨S_, .f32⟩
  | 67 => ⟨S16384x2816, .f32⟩
  | 68 => ⟨S16384x2816, .f32⟩
  | 69 => ⟨S16384x2816, .f32⟩
  | 70 => ⟨S_, .f32⟩
  | 71 => ⟨S16384x2816, .f32⟩
  | 72 => ⟨S16384x2816, .f32⟩
  | 73 => ⟨S16384x2816, .f32⟩
  | 74 => ⟨S_, .f32⟩
  | 75 => ⟨S16384x2816, .f32⟩
  | 76 => ⟨S16384x2816, .f32⟩
  | 77 => ⟨S_, .f32⟩
  | 78 => ⟨S16384x2816, .f32⟩
  | 79 => ⟨S16384x2816, .f32⟩
  | 80 => ⟨S16384x2816, .f32⟩
  | 81 => ⟨S_, .f32⟩
  | 82 => ⟨S16384x2816, .f32⟩
  | 83 => ⟨S16384x2816, .f32⟩
  | 84 => ⟨S_, .f32⟩
  | 85 => ⟨S16384x2816, .f32⟩
  | 86 => ⟨S16384x2816, .f32⟩
  | 87 => ⟨S16384x2816, .f32⟩
  | 88 => ⟨S16384x2816, .f32⟩
  | 89 => ⟨S16384x1024, .f32⟩
  | 90 => ⟨S1024x2816, .f32⟩
  | 91 => ⟨S2816x1024, .f32⟩
  | 92 => ⟨S16384x2816, .f32⟩
  | 93 => ⟨S16384x2816, .f32⟩
  | 94 => ⟨S16384x2816, .f32⟩
  | 95 => ⟨S16384x2816, .f32⟩
  | 96 => ⟨S16384x2816, .f32⟩
  | 97 => ⟨S_, .f32⟩
  | 98 => ⟨S16384x2816, .f32⟩
  | 99 => ⟨S16384x2816, .f32⟩
  | 100 => ⟨S16384x2816, .f32⟩
  | 101 => ⟨S_, .f32⟩
  | 102 => ⟨S16384x2816, .f32⟩
  | 103 => ⟨S16384x2816, .f32⟩
  | 104 => ⟨S16384x2816, .f32⟩
  | 105 => ⟨S_, .f32⟩
  | 106 => ⟨S16384x2816, .f32⟩
  | 107 => ⟨S16384x2816, .f32⟩
  | 108 => ⟨S16384x2816, .f32⟩
  | 109 => ⟨S16384x2816, .f32⟩
  | 110 => ⟨S16384x5632, .f32⟩
  | 111 => ⟨S16384x5632, .f32⟩
  | 112 => ⟨S_, .f32⟩
  | 113 => ⟨S5632, .f32⟩
  | 114 => ⟨S1x5632, .f32⟩
  | 115 => ⟨S16384x5632, .f32⟩
  | 116 => ⟨S16384x5632, .f32⟩
  | 117 => ⟨S_, .f32⟩
  | 118 => ⟨S5632, .f32⟩
  | 119 => ⟨S1x5632, .f32⟩
  | 120 => ⟨S_, .f32⟩
  | 121 => ⟨S3x5632, .f32⟩
  | 122 => ⟨S_, .f32⟩
  | 123 => ⟨S16386x5632, .f32⟩
  | 124 => ⟨S16384x5632, .f32⟩
  | 125 => ⟨S_, .f32⟩
  | 126 => ⟨S5632, .f32⟩
  | 127 => ⟨S1x5632, .f32⟩
  | _ => ⟨S16384x1024, .f32⟩

abbrev hbmTy0_1 (i : Nat) : BufTy := match i % 128 with
  | 0 => ⟨S16384x5632, .f32⟩
  | 1 => ⟨S16384x5632, .f32⟩
  | 2 => ⟨S_, .f32⟩
  | 3 => ⟨S5632, .f32⟩
  | 4 => ⟨S1x5632, .f32⟩
  | 5 => ⟨S_, .f32⟩
  | 6 => ⟨S3x5632, .f32⟩
  | 7 => ⟨S3x5632, .f32⟩
  | 8 => ⟨S_, .f32⟩
  | 9 => ⟨S16386x5632, .f32⟩
  | 10 => ⟨S16386x5632, .f32⟩
  | 11 => ⟨S_, .f32⟩
  | 12 => ⟨S5632, .f32⟩
  | 13 => ⟨S1x5632, .f32⟩
  | 14 => ⟨S_, .f32⟩
  | 15 => ⟨S5632, .f32⟩
  | 16 => ⟨S16384x5632, .f32⟩
  | 17 => ⟨S_, .f32⟩
  | 18 => ⟨S5632, .f32⟩
  | 19 => ⟨S1x5632, .f32⟩
  | 20 => ⟨S16384x5632, .f32⟩
  | 21 => ⟨S16384x5632, .f32⟩
  | 22 => ⟨S_, .f32⟩
  | 23 => ⟨S5632, .f32⟩
  | 24 => ⟨S1x5632, .f32⟩
  | 25 => ⟨S_, .f32⟩
  | 26 => ⟨S3x5632, .f32⟩
  | 27 => ⟨S3x5632, .f32⟩
  | 28 => ⟨S_, .f32⟩
  | 29 => ⟨S16386x5632, .f32⟩
  | 30 => ⟨S16386x5632, .f32⟩
  | 31 => ⟨S2x5632, .f32⟩
  | 32 => ⟨S16384x5632, .f32⟩
  | 33 => ⟨S16384x2x2x1408, .f32⟩
  | 34 => ⟨S2x2x1408x16384, .f32⟩
  | 35 => ⟨S2x16384x1024, .f32⟩
  | 36 => ⟨S2x2x1408x1024, .f32⟩
  | 37 => ⟨S1024x2x2x1408, .f32⟩
  | 38 => ⟨S1024x5632, .f32⟩
  | 39 => ⟨S1024x4x1408, .f32⟩
  | 40 => ⟨S4x1024x1408, .f32⟩
  | 41 => ⟨S2x1408x1024, .f32⟩
  | 42 => ⟨S3x2x2x1408, .f32⟩
  | 43 => ⟨S2x3x2x1408, .f32⟩
  | 44 => ⟨S2x3x2816, .f32⟩
  | 45 => ⟨S1x2x2x1408, .f32⟩
  | 46 => ⟨S2x1x2x1408, .f32⟩
  | 47 => ⟨S2x1x2816, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_14 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_15 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_cst_17 : Ref sig .tc := ⟨.hbm, 122, rfl⟩
abbrev main_v97 : Ref sig .tc := ⟨.hbm, 123, rfl⟩
abbrev main_v98 : Ref sig .tc := ⟨.hbm, 124, rfl⟩
abbrev main_cst_18 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_19 : Ref sig .tc := ⟨.hbm, 130, rfl⟩
abbrev main_v103 : Ref sig .tc := ⟨.hbm, 131, rfl⟩
abbrev main_v104 : Ref sig .tc := ⟨.hbm, 132, rfl⟩
abbrev main_cst_20 : Ref sig .tc := ⟨.hbm, 133, rfl⟩
abbrev main_v105 : Ref sig .tc := ⟨.hbm, 134, rfl⟩
abbrev main_v106 : Ref sig .tc := ⟨.hbm, 135, rfl⟩
abbrev main_cst_21 : Ref sig .tc := ⟨.hbm, 136, rfl⟩
abbrev main_v107 : Ref sig .tc := ⟨.hbm, 137, rfl⟩
abbrev main_v108 : Ref sig .tc := ⟨.hbm, 138, rfl⟩
abbrev main_cst_22 : Ref sig .tc := ⟨.hbm, 139, rfl⟩
abbrev main_v109 : Ref sig .tc := ⟨.hbm, 140, rfl⟩
abbrev main_v110 : Ref sig .tc := ⟨.hbm, 141, rfl⟩
abbrev main_cst_23 : Ref sig .tc := ⟨.hbm, 142, rfl⟩
abbrev main_v111 : Ref sig .tc := ⟨.hbm, 143, rfl⟩
abbrev main_v112 : Ref sig .tc := ⟨.hbm, 144, rfl⟩
abbrev main_cst_24 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_25 : Ref sig .tc := ⟨.hbm, 150, rfl⟩
abbrev main_v117 : Ref sig .tc := ⟨.hbm, 151, rfl⟩
abbrev main_v118 : Ref sig .tc := ⟨.hbm, 152, rfl⟩
abbrev main_cst_26 : Ref sig .tc := ⟨.hbm, 153, rfl⟩
abbrev main_v119 : Ref sig .tc := ⟨.hbm, 154, rfl⟩
abbrev main_v120 : Ref sig .tc := ⟨.hbm, 155, rfl⟩
abbrev main_cst_27 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩

abbrev nD : Nat := 1
abbrev τ : Topo := Topo.v7x

variable {F : FTy → Type} [FloatOps F]
-- ==== Forward.lean ====
abbrev S16384x1024 : Shape := ⟨2, ![16384, 1024]⟩
abbrev S4x16384x256 : Shape := ⟨3, ![4, 16384, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S1024x2x2x1408 : Shape := ⟨4, ![1024, 2, 2, 1408]⟩
abbrev S2x1024x2x1408 : Shape := ⟨4, ![2, 1024, 2, 1408]⟩
abbrev S2x1024x2816 : Shape := ⟨3, ![2, 1024, 2816]⟩
abbrev S2x1408x1024 : Shape := ⟨3, ![2, 1408, 1024]⟩
abbrev S1x1024 : Shape := ⟨2, ![1, 1024]⟩
abbrev S3x2x2x1408 : Shape := ⟨4, ![3, 2, 2, 1408]⟩
abbrev S2x3x2x1408 : Shape := ⟨4, ![2, 3, 2, 1408]⟩
abbrev S2x3x2816 : Shape := ⟨3, ![2, 3, 2816]⟩
abbrev S1x5632 : Shape := ⟨2, ![1, 5632]⟩
abbrev S1x2x2x1408 : Shape := ⟨4, ![1, 2, 2, 1408]⟩
abbrev S2x1x2x1408 : Shape := ⟨4, ![2, 1, 2, 1408]⟩
abbrev S2x1x2816 : Shape := ⟨3, ![2, 1, 2816]⟩
abbrev S2x16384x2816 : Shape := ⟨3, ![2, 16384, 2816]⟩
abbrev S16x1024 : Shape := ⟨2, ![16, 1024]⟩
abbrev S1x256x256 : Shape := ⟨3, ![1, 256, 256]⟩
abbrev S2x256x2816 : Shape := ⟨3, ![2, 256, 2816]⟩
abbrev S272x2816 : Shape := ⟨2, ![272, 2816]⟩
abbrev S272x1024 : Shape := ⟨2, ![272, 1024]⟩
abbrev S272 : Shape := ⟨1, ![272]⟩
abbrev S272x1 : Shape := ⟨2, ![272, 1]⟩
abbrev S1x1024x2816 : Shape := ⟨3, ![1, 1024, 2816]⟩
abbrev S1024x2816 : Shape := ⟨2, ![1024, 2816]⟩
abbrev S1x3x2816 : Shape := ⟨3, ![1, 3, 2816]⟩
abbrev S3x2816 : Shape := ⟨2, ![3, 2816]⟩
abbrev S1x1x2816 : Shape := ⟨3, ![1, 1, 2816]⟩
abbrev S1x2816 : Shape := ⟨2, ![1, 2816]⟩
abbrev S256x2816 : Shape := ⟨2, ![256, 2816]⟩
abbrev S1x256x2816 : Shape := ⟨3, ![1, 256, 2816]⟩
abbrev S256x1408 : Shape := ⟨2, ![256, 1408]⟩
abbrev S1x1408x1024 : Shape := ⟨3, ![1, 1408, 1024]⟩
abbrev S1408x1024 : Shape := ⟨2, ![1408, 1024]⟩
abbrev S256 : Shape := ⟨1, ![256]⟩
abbrev S256x1 : Shape := ⟨2, ![256, 1]⟩
abbrev S256x256 : Shape := ⟨2, ![256, 256]⟩

abbrev nBuf : Space → Nat
  | .hbm => 35
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S1024x5632, .bf16⟩
  | .hbm, ⟨13, _⟩ => ⟨S1024x2x2x1408, .bf16⟩
  | .hbm, ⟨14, _⟩ => ⟨S2x1024x2x1408, .bf16⟩
  | .hbm, ⟨15, _⟩ => ⟨S2x1024x2816, .bf16⟩
  | .hbm, ⟨16, _⟩ => ⟨S2816x1024, .bf16⟩
  | .hbm, ⟨17, _⟩ => ⟨S2x1408x1024, .bf16⟩
  | .hbm, ⟨18, _⟩ => ⟨S16384x1024, .bf16⟩
  | .hbm, ⟨19, _⟩ => ⟨S1024x1024, .bf16⟩
  | .hbm, ⟨20, _⟩ => ⟨S1x1024, .f32⟩
  | .hbm, ⟨21, _⟩ => ⟨S3x2x2x1408, .f32⟩
  | .hbm, ⟨22, _⟩ => ⟨S2x3x2x1408, .f32⟩
  | .hbm, ⟨23, _⟩ => ⟨S2x3x2816, .f32⟩
  | .hbm, ⟨24, _⟩ => ⟨S1x5632, .f32⟩
  | .hbm, ⟨25, _⟩ => ⟨S1x2x2x1408, .f32⟩
  | .hbm, ⟨26, _⟩ => ⟨S2x1x2x1408, .f32⟩
  | .hbm, ⟨27, _⟩ => ⟨S2x1x2816, .f32⟩
  | .hbm, ⟨28, _⟩ => ⟨S1x1024, .f32⟩
  | .hbm, ⟨29, _⟩ => ⟨S1024x1024, .bf16⟩
  | .hbm, ⟨30, _⟩ => ⟨S256x1024, .bf16⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S2x16384x2816, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S1x256x256, .f32⟩
  | .local _ .vmem, ⟨9, _⟩ => ⟨S1x256x256, .f32⟩
  | .local _ .vmem, ⟨10, _⟩ => ⟨S1024x1024, .bf16⟩
  | .local _ .vmem, ⟨11, _⟩ => ⟨S1x1024, .f32⟩
  | .local _ .vmem, ⟨12, _⟩ => ⟨S2x1024x2816, .bf16⟩
  | .local _ .vmem, ⟨13, _⟩ => ⟨S2x3x2816, .f32⟩
  | .local _ .vmem, ⟨14, _⟩ => ⟨S2x1x2816, .f32⟩
  | .local _ .vmem, ⟨15, _⟩ => ⟨S2x1408x1024, .bf16⟩
  | .local _ .vmem, ⟨16, _⟩ => ⟨S1x1024, .f32⟩
  | .local _ .vmem, ⟨17, _⟩ => ⟨S1024x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S2x256x2816, .bf16⟩
  | .local _ .vmem, ⟨26, _⟩ => ⟨S2x256x2816, .bf16⟩
  | .local _ .vmem, ⟨27, _⟩ => ⟨S272x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1408x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x256x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ForwardIdeal.lean ====
variable {F : FTy → Type} [FloatOps F] [Named F]
def κ : String → Option EReal := fun
  | "gelu_ca" => some ((80338380498831 / 2251799813685248 : ℝ) : EReal)
  | _ => none
-- ==== ForwardReferenceIdeal.lean ====
abbrev S16384x1024 : Shape := ⟨2, ![16384, 1024]⟩
abbrev S4x16384x256 : Shape := ⟨3, ![4, 16384, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S2x5632 : Shape := ⟨2, ![2, 5632]⟩
abbrev S16386x5632 : Shape := ⟨2, ![16386, 5632]⟩
abbrev S1x5632 : Shape := ⟨2, ![1, 5632]⟩
abbrev S16384x2816 : Shape := ⟨2, ![16384, 2816]⟩
abbrev S1x16384x256 : Shape := ⟨3, ![1, 16384, 256]⟩
abbrev S16384x256 : Shape := ⟨2, ![16384, 256]⟩
abbrev S16384x2x2x1408 : Shape := ⟨4, ![16384, 2, 2, 1408]⟩
abbrev S2x16384x2x1408 : Shape := ⟨4, ![2, 16384, 2, 1408]⟩
abbrev S2x16384x2816 : Shape := ⟨3, ![2, 16384, 2816]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x5632, .f32⟩
  | .hbm, ⟨31, _⟩ => ⟨S_, .f32⟩
  | .hbm, ⟨32, _⟩ => ⟨S2x5632, .f32⟩
  | .hbm, ⟨33, _⟩ => ⟨S16386x5632, .f32⟩
  | .hbm, ⟨34, _⟩ => ⟨S16384x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S16384x5632, .f32⟩
  | .hbm, ⟨39, _⟩ => ⟨S16384x5632, .f32⟩
  | .hbm, ⟨40, _⟩ => ⟨S1x5632, .f32⟩
  | .hbm, ⟨41, _⟩ => ⟨S16384x5632, .f32⟩
  | .hbm, ⟨42, _⟩ => ⟨S16384x5632, .f32⟩
  | .hbm, ⟨43, _⟩ => ⟨S16384x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S16384x5632, .f32⟩
  | .hbm, ⟨51, _⟩ => ⟨S1x5632, .f32⟩
  | .hbm, ⟨52, _⟩ => ⟨S5632, .f32⟩
  | .hbm, ⟨53, _⟩ => ⟨S1x5632, .f32⟩
  | .hbm, ⟨54, _⟩ => ⟨S16384x5632, .f32⟩
  | .hbm, ⟨55, _⟩ => ⟨S16384x5632, .f32⟩
  | .hbm, ⟨56, _⟩ => ⟨S16384x5632, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S_, .f32⟩
  | .hbm, ⟨70, _⟩ => ⟨S16384x2816, .f32⟩
  | .hbm, ⟨71, _⟩ => ⟨S16384x2816, .f32⟩
  | .hbm, ⟨72, _⟩ => ⟨S_, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x1024, .f32⟩
  | .hbm, ⟨78, _⟩ => ⟨S16384x1024, .f32⟩
  | .hbm, ⟨79, _⟩ => ⟨S1x16384x256, .f32⟩
  | .hbm, ⟨80, _⟩ => ⟨S16384x256, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x1024, .f32⟩
  | .hbm, ⟨94, _⟩ => ⟨S16384x1024, .f32⟩
  | .hbm, ⟨95, _⟩ => ⟨S1x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S_, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384x1024, .f32⟩
  | .hbm, ⟨106, _⟩ => ⟨S16384x1024, .f32⟩
  | .hbm, ⟨107, _⟩ => ⟨S16384x1024, .f32⟩
  | .hbm, ⟨108, _⟩ => ⟨S16384x1024, .f32⟩
  | .hbm, ⟨109, _⟩ => ⟨S16384x2x2x1408, .f32⟩
  | .hbm, ⟨110, _⟩ => ⟨S2x16384x2x1408, .f32⟩
  | .hbm, ⟨111, _⟩ => ⟨S2x16384x2816, .f32⟩
  | .hbm, ⟨112, _⟩ => ⟨S2x16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_cst_11 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== Gate.lean ====
abbrev S16384x1024 : Shape := ⟨2, ![16384, 1024]⟩
abbrev S4x16384x256 : Shape := ⟨3, ![4, 16384, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S16384x1024, .f32⟩
  | .hbm, ⟨10, _⟩ => ⟨S1024x1024, .f32⟩
  | .hbm, ⟨11, _⟩ => ⟨S256x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | .local _ .vmem, ⟨12, _⟩ => ⟨S256x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateReferenceIdeal.lean ====
abbrev S16384x1024 : Shape := ⟨2, ![16384, 1024]⟩
abbrev S4x16384x256 : Shape := ⟨3, ![4, 16384, 256]⟩
abbrev S1024 : Shape := ⟨1, ![1024]⟩
abbrev S1024x1024 : Shape := ⟨2, ![1024, 1024]⟩
abbrev S256x1024 : Shape := ⟨2, ![256, 1024]⟩
abbrev S1x16384x256 : Shape := ⟨3, ![1, 16384, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x256 : Shape := ⟨2, ![1024, 256]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1x16384x256, .f32⟩
  | .hbm, ⟨7, _⟩ => ⟨S16384x256, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1024x1024, .f32⟩
  | .hbm, ⟨49, _⟩ => ⟨S1024x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1024x256, .f32⟩
  | .hbm, ⟨78, _⟩ => ⟨S256x1024, .f32⟩
  | .hbm, ⟨79, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Out.lean ====
abbrev S16384x1024 : Shape := ⟨2, ![16384, 1024]⟩
abbrev S2x16384x1024 : Shape := ⟨3, ![2, 16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 15
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S2x16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | .hbm, ⟨9, _⟩ => ⟨S1x1024, .f32⟩
  | .hbm, ⟨10, _⟩ => ⟨S1024x1024, .bf16⟩
  | .hbm, ⟨11, _⟩ => ⟨S16384x1024, .f32⟩
  | .hbm, ⟨12, _⟩ => ⟨S16384x1024, .bf16⟩
  | .hbm, ⟨13, _⟩ => ⟨S1024x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S2x512x1024, .f32⟩
  | .local _ .vmem, ⟨3, _⟩ => ⟨S2x512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutReferenceIdeal.lean ====
abbrev S16384x1024 : Shape := ⟨2, ![16384, 1024]⟩
abbrev S2x16384x1024 : Shape := ⟨3, ![2, 16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x16384x1024 : Shape := ⟨3, ![1, 16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1x16384x1024, .f32⟩
  | .hbm, ⟨29, _⟩ => ⟨S16384x1024, .f32⟩
  | .hbm, ⟨30, _⟩ => ⟨S1x16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S1024x1024, .f32⟩
  | .hbm, ⟨61, _⟩ => ⟨S1024x1024, .f32⟩
  | .hbm, ⟨62, _⟩ => ⟨S16384x1024, .f32⟩
  | .hbm, ⟨63, _⟩ => ⟨S16384x1024, .bf16⟩
  | .hbm, ⟨64, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Proof.Spec.lean ====
module

public import Idealize.ShloMosaic.PureOps.Ideal

@[expose] public section

noncomputable section

/-! The gradient of the convolutional feed-forward block as formulas over the extended reals, row by row and
column by column. Rows are positions of the sequence, columns are hidden units; every function is total on the
naturals, so that a row past the end of the sequence can be written. -/

namespace Cert.Spec

open Idealize.ShloMosaic

/-- The arrays the gradient is taken of, each read at a row and a column. -/
structure Args where
  /-- the cotangent of the output of the block -/
  dh : ℕ → ℕ → EReal
  /-- the input of the block -/
  h : ℕ → ℕ → EReal
  /-- the gain of the norm -/
  g : ℕ → EReal
  /-- the weight of the projection up -/
  W : ℕ → ℕ → EReal
  /-- the taps of the convolution -/
  cw : ℕ → ℕ → EReal
  /-- the bias of the convolution -/
  b : ℕ → EReal
  /-- the weight of the projection down -/
  wd : ℕ → ℕ → EReal

/-- √(2/π) as its float word. -/
def C : EReal := Ideal.ofBits FTy.f32 1061962282#32

/-- One half. -/
def half : EReal := Ideal.ofBits FTy.f32 1056964608#32

/-- The constant of the cubic term of gelu, times √(2/π). -/
def CA : EReal := ((80338380498831 / 2251799813685248 : ℝ) : EReal)

/-- Three times that constant. -/
def CA3 : EReal := ((241015141496493 / 2251799813685248 : ℝ) : EReal)

/-- The hyperbolic tangent inside gelu. -/
def th (x : EReal) : EReal := Ideal.tanh (x * (C + CA * (x * x)))

/-- The factor of gelu. -/
def gu (x : EReal) : EReal := half * th x + half

/-- Gelu. -/
def gl (x : EReal) : EReal := x * gu x

/-- The derivative of gelu. -/
def dgl (x : EReal) : EReal := gu x + x * gu x * (1 - th x) * (C + CA3 * (x * x))

namespace Args

variable (A : Args)

/-- The normalised input. -/
def hn (s d : ℕ) : EReal :=
  A.h s d * Ideal.rsqrt (Ideal.div (∑ x : Fin 1024, A.h s x * A.h s x) (Ideal.ofBits FTy.f32 1149239296#32)
    + Ideal.ofBits FTy.f32 897988541#32) * A.g d

/-- The projection up. -/
def up (s c : ℕ) : EReal := ∑ d : Fin 1024, A.hn s d * A.W d c

/-- The projection up behind two rows of zeros. -/
def upp (p c : ℕ) : EReal := if p < 2 then 0 else A.up (p - 2) c

/-- The convolution. -/
def cv (s c : ℕ) : EReal :=
  A.b c + A.upp s c * A.cw 0 c + A.upp (s + 1) c * A.cw 1 c + A.upp (s + 2) c * A.cw 2 c

/-- The cotangent of the activation. -/
def da (s f : ℕ) : EReal := ∑ d : Fin 1024, A.dh s d * A.wd f d

/-- The cotangent of the convolution. -/
def dcv (s c : ℕ) : EReal :=
  if c < 2816 then A.da s c * A.cv s (2816 + c) * dgl (A.cv s c)
  else A.da s (c - 2816) * gl (A.cv s (c - 2816))

/-- The same, zero past the last row. -/
def dz (s c : ℕ) : EReal := if s < 16384 then A.dcv s c else 0

/-- The cotangent of the projection up. -/
def dup (s c : ℕ) : EReal := A.cw 2 c * A.dz s c + A.cw 0 c * A.dz (s + 2) c + A.cw 1 c * A.dz (s + 1) c

/-- Column `q` of half `j`: the gates of the half, then its values. -/
def col (j q : ℕ) : ℕ := q / 1408 * 2816 + j * 1408 + q % 1408

/-- The gradient of the normalised input through half `j`. -/
def part (j s d : ℕ) : EReal := ∑ q : Fin 2816, A.dup s (col j q) * A.W d (col j q)

/-- The gradient of the weight of the projection up. -/
def dwup (d c : ℕ) : EReal := ∑ s : Fin 16384, A.hn s d * A.dup s c

/-- The gradient of the weight of the projection down. -/
def dwdn (f d : ℕ) : EReal := ∑ s : Fin 16384, gl (A.cv s f) * A.cv s (2816 + f) * A.dh s d

/-- The gradient of tap `k`. -/
def dcw (k c : ℕ) : EReal := ∑ s : Fin 16384, A.dcv s c * A.upp (s + k) c

/-- The gradient of the bias. -/
def dcb (c : ℕ) : EReal := ∑ s : Fin 16384, A.dcv s c

end Args

/-- The gate columns of a half. -/
theorem col_lo (j q : ℕ) (h : q < 1408) : Args.col j q = j * 1408 + q := by
  unfold Args.col; omega

/-- The value columns of a half. -/
theorem col_hi (j q : ℕ) (h : q < 1408) : Args.col j (1408 + q) = 2816 + (j * 1408 + q) := by
  unfold Args.col; omega

end Cert.Spec

end
-- ==== Proof.Args.lean ====
module

public import proofs.«01_k».proof.Proof.Spec
public import Idealize.ShloMosaic.Lib.Pointwise

@[expose] public section

noncomputable section

/-! The seven arrays of the program as the arguments of the formulas. -/

namespace Cert.Spec

open Idealize.ShloMosaic Idealize.ShloMosaic.Tactic

/-- A vector read at a natural number, zero outside. -/
def rd1 {n : ℕ} (x : (⟨1, ![n]⟩ : Shape).Idx → EReal) (a : ℕ) : EReal := if h : a < n then x (ix1 ⟨a, h⟩) else 0

/-- A matrix read at two natural numbers, zero outside. -/
def rd2 {n m : ℕ} (x : (⟨2, ![n, m]⟩ : Shape).Idx → EReal) (a b : ℕ) : EReal :=
  if h : a < n ∧ b < m then x (ix2 ⟨a, h.1⟩ ⟨b, h.2⟩) else 0

/-- Inside its bounds a vector is read at the entry. -/
theorem rd1_lt {n : ℕ} (x : (⟨1, ![n]⟩ : Shape).Idx → EReal) (a : ℕ) (h : a < n) : rd1 x a = x (ix1 ⟨a, h⟩) := dif_pos h

/-- Inside its bounds a matrix is read at the entry. -/
theorem rd2_lt {n m : ℕ} (x : (⟨2, ![n, m]⟩ : Shape).Idx → EReal) (a b : ℕ) (ha : a < n) (hb : b < m) :
    rd2 x a b = x (ix2 ⟨a, ha⟩ ⟨b, hb⟩) := dif_pos ⟨ha, hb⟩

/-- A vector read at an index of its own. -/
theorem rd1_val {n : ℕ} (x : (⟨1, ![n]⟩ : Shape).Idx → EReal) (a : Fin n) : rd1 x a.val = x (ix1 a) := rd1_lt x _ a.isLt

/-- A matrix read at two indices of its own. -/
theorem rd2_val {n m : ℕ} (x : (⟨2, ![n, m]⟩ : Shape).Idx → EReal) (a : Fin n) (b : Fin m) :
    rd2 x a.val b.val = x (ix2 a b) := rd2_lt x _ _ a.isLt b.isLt

/-- The arguments of the formulas from the seven arrays. -/
def args (x0 x1 : (⟨2, ![16384, 1024]⟩ : Shape).Idx → EReal) (x2 : (⟨1, ![1024]⟩ : Shape).Idx → EReal)
    (x3 : (⟨2, ![1024, 5632]⟩ : Shape).Idx → EReal) (x4 : (⟨2, ![3, 5632]⟩ : Shape).Idx → EReal)
    (x5 : (⟨1, ![5632]⟩ : Shape).Idx → EReal) (x6 : (⟨2, ![2816, 1024]⟩ : Shape).Idx → EReal) : Args where
  dh := rd2 x0
  h := rd2 x1
  g := rd1 x2
  W := rd2 x3
  cw := rd2 x4
  b := rd1 x5
  wd := rd2 x6

end Cert.Spec

end
-- ==== Proof.Host.Entry.lean ====
module

public import proofs.«01_k».proof.Proof.Gen.KernelIdeal.Frame.Runs
public import proofs.«01_k».proof.Proof.Args
public import Idealize.ShloMosaic.Lib.Claim
public import Idealize.ShloMosaic.Lib.Pipeline.Value
public import Idealize.ShloMosaic.Lib.Pointwise

@[expose] public section

set_option maxRecDepth 8000

noncomputable section

/-! What the arrays of the call hold when it is entered: the host operations before it read off. -/

namespace Cert.Host

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- The columns of a matrix in the order of the halves: an entry. -/
theorem halves_apply {n : ℕ} {α : Type} (x : (⟨2, ![n, 5632]⟩ : Shape).Idx → α)
    (h1 : (⟨2, ![n, 5632]⟩ : Shape).ShapeCasts ⟨4, ![n, 2, 2, 1408]⟩)
    (h2 : (⟨4, ![n, 2, 2, 1408]⟩ : Shape).Transposes [2, 0, 1, 3] ⟨4, ![2, n, 2, 1408]⟩)
    (h3 : (⟨4, ![2, n, 2, 1408]⟩ : Shape).ShapeCasts ⟨3, ![2, n, 2816]⟩) (j : Fin 2) (d : Fin n) (q : Fin 2816)
    (hc : Spec.Args.col j.val q.val < 5632) :
    shapeCast (⟨3, ![2, n, 2816]⟩ : Shape) (transpose (⟨4, ![2, n, 2, 1408]⟩ : Shape) [2, 0, 1, 3]
      (shapeCast (⟨4, ![n, 2, 2, 1408]⟩ : Shape) x h1) h2) h3 (ix3 j d q) = x (ix2 d (⟨Spec.Args.col j.val q.val, hc⟩ : Fin 5632)) := by
  have hq := q.isLt
  refine (shapeCast_apply _ h3 _ (ix4 j d (⟨q.val / 1408, by omega⟩ : Fin 2) (⟨q.val % 1408, by omega⟩ : Fin 1408)) ?_).trans ?_
  · rw [Shape.rowMajor_val_three, Shape.rowMajor_val_four]
    show (((j.val * n + d.val) * 2 + q.val / 1408) * 1408 + q.val % 1408) = (j.val * n + d.val) * 2816 + q.val
    omega
  refine (transpose_apply _ _ h2 _ (ix4 d (⟨q.val / 1408, by omega⟩ : Fin 2) j (⟨q.val % 1408, by omega⟩ : Fin 1408)) (fun b => by
    match b with
    | ⟨0, _⟩ => rfl
    | ⟨1, _⟩ => rfl
    | ⟨2, _⟩ => rfl
    | ⟨3, _⟩ => rfl)).trans ?_
  refine shapeCast_apply _ h1 _ _ ?_
  rw [Shape.rowMajor_val_two, Shape.rowMajor_val_four]
  show d.val * 5632 + Spec.Args.col j.val q.val = (((d.val * 2 + q.val / 1408) * 2 + j.val) * 1408 + q.val % 1408)
  unfold Spec.Args.col
  omega

/-- A column of a half is a column of the whole. -/
theorem col_lt (j : Fin 2) (q : Fin 2816) : Spec.Args.col j.val q.val < 5632 := by
  have := j.isLt; have := q.isLt; unfold Spec.Args.col; omega

/-- The input over its root mean square, times the gain. -/
def normed (x1 : FVec Ideal S16384x1024 .f32) (x2 : FVec Ideal S1024 .f32) : FVec Ideal S16384x1024 .f32 :=
  mulf (mulf x1 (broadcastInDim S16384x1024 ![0, 1] bcast_S16384x1_S16384x1024_0_1 (Host.rsqrt (addf
    (Host.divf (broadcastInDim S16384x1 ![0] bcast_S16384_S16384x1_0 (Host.reduceAdd (mulf x1 x1) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 x2))

/-- The projection up. -/
def upm (x1 : FVec Ideal S16384x1024 .f32) (x2 : FVec Ideal S1024 .f32) (x3 : FVec Ideal S1024x5632 .f32) : FVec Ideal S16384x5632 .f32 :=
  Host.dotGeneral dot_S16384x1024_S1024x5632_S16384x5632_1_0_0_1_n_n none (normed x1 x2) x3

/-- The normalised input, entry by entry. -/
theorem normed_apply (x0 x1 : FVec Ideal S16384x1024 .f32) (x2 : FVec Ideal S1024 .f32) (x3 : FVec Ideal S1024x5632 .f32)
    (x4 : FVec Ideal S3x5632 .f32) (x5 : FVec Ideal S5632 .f32) (x6 : FVec Ideal S2816x1024 .f32) (s : Fin 16384) (d : Fin 1024) :
    normed x1 x2 (ix2 s d) = (Spec.args x0 x1 x2 x3 x4 x5 x6).hn s.val d.val := by
  unfold Spec.Args.hn Spec.args
  simp only [Spec.rd2_val, Spec.rd1_val]
  pointwise [normed]

/-- The projection up, entry by entry. -/
theorem upm_apply (x0 x1 : FVec Ideal S16384x1024 .f32) (x2 : FVec Ideal S1024 .f32) (x3 : FVec Ideal S1024x5632 .f32)
    (x4 : FVec Ideal S3x5632 .f32) (x5 : FVec Ideal S5632 .f32) (x6 : FVec Ideal S2816x1024 .f32) (s : Fin 16384) (c : Fin 5632) :
    upm x1 x2 x3 (ix2 s c) = (Spec.args x0 x1 x2 x3 x4 x5 x6).up s.val c.val := by
  have e : upm x1 x2 x3 (ix2 s c) = ∑ d : Fin 1024, normed x1 x2 (ix2 s d) * x3 (ix2 d c) := by
    pointwise [upm]
  rw [e]
  unfold Spec.Args.up
  refine Finset.sum_congr rfl fun d _ => ?_
  rw [normed_apply x0 x1 x2 x3 x4 x5 x6 s d]
  exact congrArg _ (Spec.rd2_val x3 d c).symm

/-- What the forward pass saved, as the call reads it. -/
theorem V_up : V m c main_v17 = truncf (F := Ideal) .bf16 (shapeCast S2x16384x2816 (transpose S2x16384x2x1408 [2, 0, 1, 3] (shapeCast S16384x2x2x1408
    (upm (m ((c : Thread nD τ).loc main_arg1)) (m ((c : Thread nD τ).loc main_arg2)) (m ((c : Thread nD τ).loc main_arg3))) shapeCasts_S16384x5632_S16384x2x2x1408)
    transposes_S16384x2x2x1408_S2x16384x2x1408_2_0_1_3) shapeCasts_S2x16384x2x1408_S2x16384x2816) bitsLt_bf16_f32 := by
  entry_read
  rfl

/-- The weight of the projection up, as the call reads it. -/
theorem V_W : V m c main_v21 = shapeCast S2x1024x2816 (transpose S2x1024x2x1408 [2, 0, 1, 3] (shapeCast S1024x2x2x1408
    (truncf (F := Ideal) .bf16 (m ((c : Thread nD τ).loc main_arg3) : FVec Ideal S1024x5632 .f32) bitsLt_bf16_f32) shapeCasts_S1024x5632_S1024x2x2x1408)
    transposes_S1024x2x2x1408_S2x1024x2x1408_2_0_1_3) shapeCasts_S2x1024x2x1408_S2x1024x2816 := by
  entry_read
  rfl

/-- The weight of the projection down, as the call reads it. -/
theorem V_wd : V m c main_v23 = shapeCast S2x1408x1024 (truncf (F := Ideal) .bf16 (m ((c : Thread nD τ).loc main_arg6) : FVec Ideal S2816x1024 .f32) bitsLt_bf16_f32) shapeCasts_S2816x1024_S2x1408x1024 := by
  entry_read
  rfl

/-- The gain of the norm, as the call reads it. -/
theorem V_g : V m c main_v24 = shapeCast S1x1024 (m ((c : Thread nD τ).loc main_arg2) : FVec Ideal S1024 .f32) shapeCasts_S1024_S1x1024 := by
  entry_read
  rfl

/-- The taps, as the call reads them. -/
theorem V_cw : V m c main_v27 = shapeCast S2x3x2816 (transpose S2x3x2x1408 [2, 0, 1, 3] (shapeCast S3x2x2x1408 (m ((c : Thread nD τ).loc main_arg4) : FVec Ideal S3x5632 .f32) shapeCasts_S3x5632_S3x2x2x1408)
    transposes_S3x2x2x1408_S2x3x2x1408_2_0_1_3) shapeCasts_S2x3x2x1408_S2x3x2816 := by
  entry_read
  rfl

/-- The bias, as the call reads it. -/
theorem V_b : V m c main_v31 = shapeCast S2x1x2816 (transpose S2x1x2x1408 [2, 0, 1, 3] (shapeCast S1x2x2x1408 (shapeCast S1x5632 (m ((c : Thread nD τ).loc main_arg5) : FVec Ideal S5632 .f32) shapeCasts_S5632_S1x5632)
    shapeCasts_S1x5632_S1x2x2x1408) transposes_S1x2x2x1408_S2x1x2x1408_2_0_1_3) shapeCasts_S2x1x2x1408_S2x1x2816 := by
  entry_read
  rfl

/-- The arguments of the formulas from the arrays the program is launched on. -/
def A : Spec.Args := Spec.args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- An entry of what the forward pass saved. -/
theorem up_at (j : Fin 2) (s : Fin 16384) (q : Fin 2816) : V m c main_v17 (ix3 j s q) = (A m c).up s.val (Spec.Args.col j.val q.val) :=
  ((congrFun (V_up m c) (ix3 j s q)).trans (halves_apply (upm (m ((c : Thread nD τ).loc main_arg1)) (m ((c : Thread nD τ).loc main_arg2)) (m ((c : Thread nD τ).loc main_arg3))) _ _ _ j s q (col_lt j q))).trans
    (upm_apply (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) s ⟨_, col_lt j q⟩)

/-- An entry of the weight of the projection up. -/
theorem W_at (j : Fin 2) (d : Fin 1024) (q : Fin 2816) : V m c main_v21 (ix3 j d q) = (A m c).W d.val (Spec.Args.col j.val q.val) :=
  (congrFun (V_W m c) _).trans ((halves_apply _ _ _ _ j d q (col_lt j q)).trans (Spec.rd2_val _ d ⟨_, col_lt j q⟩).symm)

/-- An entry of the taps. -/
theorem cw_at (j : Fin 2) (k : Fin 3) (q : Fin 2816) : V m c main_v27 (ix3 j k q) = (A m c).cw k.val (Spec.Args.col j.val q.val) :=
  (congrFun (V_cw m c) _).trans ((halves_apply _ _ _ _ j k q (col_lt j q)).trans (Spec.rd2_val _ k ⟨_, col_lt j q⟩).symm)

/-- An entry of the bias. -/
theorem b_at (j : Fin 2) (q : Fin 2816) : V m c main_v31 (ix3 j 0 q) = (A m c).b (Spec.Args.col j.val q.val) := by
  refine (congrFun (V_b m c) _).trans ((halves_apply _ _ _ _ j 0 q (col_lt j q)).trans ?_)
  refine (shapeCast_apply _ _ _ (ix1 (⟨_, col_lt j q⟩ : Fin 5632)) ?_).trans (Spec.rd1_val _ ⟨_, col_lt j q⟩).symm
  rw [Shape.rowMajor_val_two, Shape.rowMajor_val_one]
  show Spec.Args.col j.val q.val = 0 * 5632 + Spec.Args.col j.val q.val
  omega

/-- An entry of the gain. -/
theorem g_at (d : Fin 1024) : V m c main_v24 (ix2 0 d) = (A m c).g d.val := by
  refine (congrFun (V_g m c) _).trans ((shapeCast_apply _ _ _ (ix1 d) ?_).trans (Spec.rd1_val _ d).symm)
  rw [Shape.rowMajor_val_two, Shape.rowMajor_val_one]
  exact (Nat.zero_add _).symm

/-- An entry of the weight of the projection down. -/
theorem wd_at (j : Fin 2) (f : Fin 1408) (d : Fin 1024) : V m c main_v23 (ix3 j f d) = (A m c).wd (j.val * 1408 + f.val) d.val := by
  have hj := j.isLt
  have hf := f.isLt
  refine (congrFun (V_wd m c) _).trans ((shapeCast_apply _ _ _ (ix2 (⟨j.val * 1408 + f.val, by omega⟩ : Fin 2816) d) ?_).trans (Spec.rd2_val _ (⟨j.val * 1408 + f.val, by omega⟩ : Fin 2816) d).symm)
  rw [Shape.rowMajor_val_two, Shape.rowMajor_val_three]
  rfl

/-- An entry of the cotangent. -/
theorem dh_at (s : Fin 16384) (d : Fin 1024) : V m c main_arg0 (ix2 s d) = (A m c).dh s.val d.val :=
  (congrFun (V_main_arg0 m c) _).trans (Spec.rd2_val _ s d).symm

/-- An entry of the block's input. -/
theorem h_at (s : Fin 16384) (d : Fin 1024) : V m c main_arg1 (ix2 s d) = (A m c).h s.val d.val :=
  (congrFun (V_main_arg1 m c) _).trans (Spec.rd2_val _ s d).symm

end Cert.Host

end
-- ==== Proof.Ref.Gelu.lean ====
module

public import proofs.«01_k».proof.Proof.Spec
public import Idealize.ShloMosaic.Lib.Pointwise

@[expose] public section

noncomputable section

/-! Gelu and its derivative at real numbers, and the closure of the real numbers inside the extended reals under
the operations of the block. -/

namespace Cert.Spec

open Idealize.ShloMosaic

/-- An extended real that is a real number. -/
def IsR (x : EReal) : Prop := ∃ r : ℝ, x = (r : EReal)

/-- A sum of real numbers is real. -/
theorem IsR.add {x y : EReal} (hx : IsR x) (hy : IsR y) : IsR (x + y) := by
  obtain ⟨a, rfl⟩ := hx; obtain ⟨b, rfl⟩ := hy; exact ⟨a + b, by push_cast; rfl⟩

/-- A product of real numbers is real. -/
theorem IsR.mul {x y : EReal} (hx : IsR x) (hy : IsR y) : IsR (x * y) := by
  obtain ⟨a, rfl⟩ := hx; obtain ⟨b, rfl⟩ := hy; exact ⟨a * b, by push_cast; rfl⟩

/-- Zero is real. -/
theorem IsR.zero : IsR 0 := ⟨0, by simp⟩

/-- A sum of real numbers, taken among the extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is real. -/
theorem IsR.sum {ι : Type} (s : Finset ι) (f : ι → EReal) (h : ∀ i, IsR (f i)) : IsR (∑ i ∈ s, f i) := by
  choose g hg using h
  exact ⟨∑ i ∈ s, g i, by simp only [hg]; exact (coe_sum s g).symm⟩

/-- √(2/π) as a real number. -/
def cR : ℝ := 13386282 / 16777216

/-- The coefficient of the cubic term as a real number. -/
def aR : ℝ := 12003091 / 268435456

/-- The word of √(2/π). -/
theorem C_eq : C = (cR : EReal) := by
  unfold C cR; simp [Ideal.ofBits, Ideal.ieee, -EReal.coe_mul]; norm_num

/-- The word of the coefficient of the cubic term. -/
theorem A_eq : Ideal.ofBits FTy.f32 1027024659#32 = (aR : EReal) := by
  unfold aR; simp [Ideal.ofBits, Ideal.ieee, -EReal.coe_mul]; norm_num

/-- The word of one half. -/
theorem half_eq : half = ((1 / 2 : ℝ) : EReal) := by
  unfold half; simp [Ideal.ofBits, Ideal.ieee, -EReal.coe_mul]; norm_num

/-- The word of three. -/
theorem three_eq : Ideal.ofBits FTy.f32 1077936128#32 = ((3 : ℝ) : EReal) := by
  simp [Ideal.ofBits, Ideal.ieee, -EReal.coe_mul]; norm_num

/-- The word of the number of channels. -/
theorem rows_eq : Ideal.ofBits FTy.f32 1149239296#32 = ((1024 : ℝ) : EReal) := by
  simp [Ideal.ofBits, Ideal.ieee, -EReal.coe_mul]; norm_num

/-- The word of the norm's epsilon is a positive real number. -/
theorem eps_eq : ∃ e : ℝ, 0 < e ∧ Ideal.ofBits FTy.f32 897988541#32 = (e : EReal) := by
  refine ⟨8796093 / 8796093022208, by norm_num, ?_⟩
  simp [Ideal.ofBits, Ideal.ieee, -EReal.coe_mul]; norm_num

/-- The named constant is the product of the two words. -/
theorem CA_eq : CA = ((cR * aR : ℝ) : EReal) := by unfold CA cR aR; norm_num

/-- The named constant of the derivative is three times that product. -/
theorem CA3_eq : CA3 = ((3 * aR * cR : ℝ) : EReal) := by unfold CA3 cR aR; norm_num

/-- The hyperbolic tangent inside gelu at a real number. -/
def tR (x : ℝ) : ℝ := Real.tanh (cR * (x + aR * (x * x * x)))

/-- The hyperbolic tangent inside gelu at a real number. -/
theorem th_coe (x : ℝ) : th (x : EReal) = (tR x : EReal) := by
  unfold th tR
  rw [C_eq, CA_eq]
  norm_cast
  rw [Ideal.tanh_coe]
  congr 2; ring

/-- The factor of gelu at a real number. -/
theorem gu_coe (x : ℝ) : gu (x : EReal) = ((1 / 2 * (1 + tR x) : ℝ) : EReal) := by
  unfold gu
  rw [th_coe, half_eq]
  norm_cast
  congr 1; ring

/-- Gelu at a real number. -/
theorem gl_coe (x : ℝ) : gl (x : EReal) = ((x * (1 / 2 * (1 + tR x)) : ℝ) : EReal) := by
  unfold gl
  rw [gu_coe]
  norm_cast

/-- The derivative of gelu at a real number. -/
theorem dgl_coe (x : ℝ) : dgl (x : EReal)
    = ((1 / 2 * (1 + tR x) + x * (1 / 2 * (1 + tR x)) * (1 - tR x) * (cR + 3 * aR * cR * (x * x)) : ℝ) : EReal) := by
  unfold dgl
  rw [gu_coe, th_coe, C_eq, CA3_eq]
  norm_cast

/-- Gelu as the reference spells it. -/
theorem gl_spell (x : EReal) (hx : IsR x) :
    x * (half * (1 + Ideal.tanh (C * (x + Ideal.ofBits FTy.f32 1027024659#32 * (x * x * x))))) = gl x := by
  obtain ⟨r, rfl⟩ := hx
  rw [gl_coe, C_eq, A_eq, half_eq]
  norm_cast

/-- The transpose of gelu as the reference spells it is the product with the derivative. -/
theorem dgl_spell (x y : EReal) (hx : IsR x) (hy : IsR y) :
    y * (half * (1 + Ideal.tanh (C * (x + Ideal.ofBits FTy.f32 1027024659#32 * (x * x * x)))))
      + C * (half * (x * y) * ((1 + Ideal.tanh (C * (x + Ideal.ofBits FTy.f32 1027024659#32 * (x * x * x))))
          * (1 - Ideal.tanh (C * (x + Ideal.ofBits FTy.f32 1027024659#32 * (x * x * x))))))
      + Ideal.ofBits FTy.f32 1027024659#32 * (C * (half * (x * y) * ((1 + Ideal.tanh (C * (x + Ideal.ofBits FTy.f32 1027024659#32 * (x * x * x))))
          * (1 - Ideal.tanh (C * (x + Ideal.ofBits FTy.f32 1027024659#32 * (x * x * x)))))))
        * (Ideal.ofBits FTy.f32 1077936128#32 * (x * x)) = y * dgl x := by
  obtain ⟨r, rfl⟩ := hx
  obtain ⟨v, rfl⟩ := hy
  have ht : Ideal.tanh (C * ((r : EReal) + Ideal.ofBits FTy.f32 1027024659#32 * ((r : EReal) * r * r))) = (tR r : EReal) := by
    rw [C_eq, A_eq]
    norm_cast
  rw [ht, dgl_coe, C_eq, A_eq, half_eq, three_eq]
  norm_cast
  congr 1; ring

/-- The norm of a row of real numbers is real. -/
theorem hn_isR (A : Args) (hh : ∀ s d, IsR (A.h s d)) (hg : ∀ d, IsR (A.g d)) (s d : ℕ) : IsR (A.hn s d) := by
  unfold Args.hn
  refine ((hh s d).mul ?_).mul (hg d)
  choose f hf using hh
  obtain ⟨e, he, hE⟩ := eps_eq
  have h0 : (∑ x : Fin 1024, A.h s x * A.h s x) = ((∑ x : Fin 1024, f s x * f s x : ℝ) : EReal) := by
    simp only [hf]
    rw [coe_sum]
    exact Finset.sum_congr rfl fun _ _ => by push_cast; rfl
  rw [h0, rows_eq, hE, Ideal.div_coe (by norm_num)]
  have hp : 0 < (∑ x : Fin 1024, f s x * f s x) * (1 / 1024) + e :=
    add_pos_of_nonneg_of_pos (mul_nonneg (Finset.sum_nonneg fun _ _ => mul_self_nonneg _) (by norm_num)) he
  norm_cast
  rw [Ideal.rsqrt_coe, if_neg (not_lt.mpr hp.le), if_neg hp.ne']
  exact ⟨_, rfl⟩

/-- All arrays of the block hold real numbers. -/
structure Args.Real (A : Args) : Prop where
  dh : ∀ s d, IsR (A.dh s d)
  h : ∀ s d, IsR (A.h s d)
  g : ∀ d, IsR (A.g d)
  W : ∀ s d, IsR (A.W s d)
  cw : ∀ s d, IsR (A.cw s d)
  b : ∀ d, IsR (A.b d)
  wd : ∀ s d, IsR (A.wd s d)

/-- The convolution of real numbers is real. -/
theorem cv_isR (A : Args) (h : A.Real) (s c : ℕ) : IsR (A.cv s c) := by
  have hup : ∀ p c, IsR (A.upp p c) := by
    intro p c
    unfold Args.upp
    split
    · exact IsR.zero
    · exact IsR.sum _ _ fun d => (hn_isR A h.h h.g _ _).mul (h.W _ _)
  exact (((h.b _).add ((hup _ _).mul (h.cw _ _))).add ((hup _ _).mul (h.cw _ _))).add ((hup _ _).mul (h.cw _ _))

/-- The cotangent of the activation is real when the arrays are. -/
theorem da_isR (A : Args) (h : A.Real) (s f : ℕ) : IsR (A.da s f) := IsR.sum _ _ fun _ => (h.dh _ _).mul (h.wd _ _)

end Cert.Spec

end
-- ==== Proof.Finite.lean ====
module

public import proofs.«01_k».proof.Defs
public import proofs.«01_k».proof.Proof.Gen.Pre_finite
public import proofs.«01_k».proof.Proof.Host.Entry
public import proofs.«01_k».proof.Proof.Ref.Gelu

@[expose] public section

noncomputable section

/-! The precondition says that every entry of every argument is a real number. -/

namespace Cert.Proof

open Idealize.ShloMosaic Idealize.ShloMosaic.TcCoe Idealize.ShloMosaic.Tactic
open Cert.Spec (IsR rd1 rd2)

/-- An extended real whose absolute value is less than the word for infinity is a real number. -/
theorem isR_of_lt (x : EReal) (h : BitVec.ofBool (decide (max x (-x) < Ideal.ofBits FTy.f32 0x7F800000#32)) = 1#1) : IsR x := by
  have hlt : max x (-x) < Ideal.ofBits FTy.f32 0x7F800000#32 := by
    by_contra hn
    rw [decide_eq_false hn] at h
    exact absurd h (by decide)
  have ht : max x (-x) < ⊤ := lt_of_lt_of_le hlt le_top
  obtain ⟨h1, h2⟩ := max_lt_iff.mp ht
  induction x with
  | bot => exact absurd h2 (by simp)
  | coe r => exact ⟨r, rfl⟩
  | top => exact absurd h1 (by simp)

/-- A vector of real numbers read at any natural number. -/
theorem rd1_isR {n : ℕ} (x : (⟨1, ![n]⟩ : Shape).Idx → EReal) (h : ∀ i, IsR (x i)) (a : ℕ) : IsR (rd1 x a) := by
  unfold rd1; split
  · exact h _
  · exact IsR.zero

/-- A matrix of real numbers read at any two natural numbers. -/
theorem rd2_isR {n k : ℕ} (x : (⟨2, ![n, k]⟩ : Shape).Idx → EReal) (h : ∀ i, IsR (x i)) (a b : ℕ) : IsR (rd2 x a b) := by
  unfold rd2; split
  · exact h _
  · exact IsR.zero

/-- The precondition at the kernel's memory: the formulas' arguments are real numbers. -/
theorem real (m : (ℓ : Loc Cert.KernelIdeal.nD Cert.KernelIdeal.τ Cert.KernelIdeal.sig) → Buf (Elt Ideal) ℓ)
    (h : Cert.Pre_KernelIdeal_finite m) (c : Dev Cert.KernelIdeal.nD) : (Host.A m c).Real := by
  obtain ⟨h0, h1, h2, h3, h4, h5, h6⟩ := h c
  exact {
    dh := rd2_isR _ fun i => isR_of_lt _ (congrFun h0 i)
    h := rd2_isR _ fun i => isR_of_lt _ (congrFun h1 i)
    g := rd1_isR _ fun i => isR_of_lt _ (congrFun h2 i)
    W := rd2_isR _ fun i => isR_of_lt _ (congrFun h3 i)
    cw := rd2_isR _ fun i => isR_of_lt _ (congrFun h4 i)
    b := rd1_isR _ fun i => isR_of_lt _ (congrFun h5 i)
    wd := rd2_isR _ fun i => isR_of_lt _ (congrFun h6 i) }

end Cert.Proof

end
-- ==== Proof.Held.Slab.lean ====
module

public import Idealize.ShloMosaic.Lib.ValueLayout
public import Idealize.ShloMosaic.Lib.VecWindow
public import Idealize.ShloMosaic.Lib.Pipeline.ValueKit.Geometry
public import Idealize.ShloMosaic.Lib.Pointwise

@[expose] public section

noncomputable section

/-! A copy of a matrix into one slab of an array of three axes. -/

namespace Cert.Held

open Idealize.ShloMosaic Idealize.ShloMosaic.Tactic

variable {sig : RefSig} {κ : Kind} {sp : Space} {n a b : ℕ} {e : EltTy} {Val : EltTy → Type}
variable (M : Memref sig κ sp (⟨3, ![n, a, b]⟩ : Shape) e) (off : Fin 3 → ℕ) (p : ℕ)
  (inb : ∀ k : Fin 3, off k + (![1, a, b] : Fin 3 → ℕ) k ≤ (![n, a, b] : Fin 3 → ℕ) k)
  (hr : ∀ k, (Rect.unit (s := (⟨3, ![n, a, b]⟩ : Shape)) off ![1, a, b] inb).stride k = 1)
  (hq : (Rect.unit (s := (⟨3, ![n, a, b]⟩ : Shape)) off ![1, a, b] inb).shape.Squeezes (⟨2, ![a, b]⟩ : Shape))
  (f : M.view.ty.Contents Val) (w : (⟨2, ![a, b]⟩ : Shape).Idx → Val e)

/-- Where entry `(x, y)` of the copied matrix lies. -/
theorem slab_emb (h0 : off 0 = p) (h1 : off 1 = 0) (h2 : off 2 = 0) (s : Fin n) (hs : s.val = p) (x : Fin a) (y : Fin b) :
    ((M.slice (Rect.unit (s := (⟨3, ![n, a, b]⟩ : Shape)) off ![1, a, b] inb) hr).squeeze (⟨2, ![a, b]⟩ : Shape) hq).view.emb (ix2 x y) = M.view.emb (ix3 s x y) := by
  show M.view.emb ((Rect.unit (s := (⟨3, ![n, a, b]⟩ : Shape)) off ![1, a, b] inb).emb (Shape.reshapeEquiv hq.numel_eq (ix2 x y))) = _
  refine congrArg M.view.emb ?_
  refine (congrArg _ (ValueIdx.reshapeEquiv_ix2_1ab _ x y)).trans (funext fun k => Fin.ext ?_)
  refine (ValueKit.rect_emb_unit_val _ _ _ _ _).trans ?_
  match k with
  | ⟨0, _⟩ => show off 0 + 0 = s.val; omega
  | ⟨1, _⟩ => show off 1 + x.val = x.val; omega
  | ⟨2, _⟩ => show off 2 + y.val = y.val; omega

/-- The slab holds the copied matrix. -/
theorem slab_hit (h0 : off 0 = p) (h1 : off 1 = 0) (h2 : off 2 = 0) (s : Fin n) (hs : s.val = p) (x : Fin a) (y : Fin b) :
    M.view.read Val (((M.slice (Rect.unit (s := (⟨3, ![n, a, b]⟩ : Shape)) off ![1, a, b] inb) hr).squeeze (⟨2, ![a, b]⟩ : Shape) hq).view.write Val f w Finset.univ) (ix3 s x y)
      = w (ix2 x y) := by
  refine Eq.trans ?_ (View.read_write_of_mem (v := ((M.slice (Rect.unit (s := (⟨3, ![n, a, b]⟩ : Shape)) off ![1, a, b] inb) hr).squeeze (⟨2, ![a, b]⟩ : Shape) hq).view) (Val := Val) f w (Finset.mem_univ (ix2 x y)))
  show M.view.read Val _ (ix3 s x y) = M.view.read Val _ ((Rect.unit (s := (⟨3, ![n, a, b]⟩ : Shape)) off ![1, a, b] inb).emb (Shape.reshapeEquiv hq.numel_eq (ix2 x y)))
  refine congrArg _ (M.view.emb.injective ?_)
  exact (slab_emb M off p inb hr hq h0 h1 h2 s hs x y).symm

/-- Every other slab is as it was. -/
theorem slab_miss (h0 : off 0 = p) (s : Fin n) (hs : s.val ≠ p) (x : Fin a) (y : Fin b) :
    M.view.read Val (((M.slice (Rect.unit (s := (⟨3, ![n, a, b]⟩ : Shape)) off ![1, a, b] inb) hr).squeeze (⟨2, ![a, b]⟩ : Shape) hq).view.write Val f w Finset.univ) (ix3 s x y)
      = M.view.read Val f (ix3 s x y) := by
  refine congrArg (_root_.cast _) (View.write_of_not_mem (v := ((M.slice (Rect.unit (s := (⟨3, ![n, a, b]⟩ : Shape)) off ![1, a, b] inb) hr).squeeze (⟨2, ![a, b]⟩ : Shape) hq).view) (Val := Val) f w Finset.univ fun hm => ?_)
  obtain ⟨z, _, hz⟩ := Finset.mem_map.mp hm
  have hz' : (Rect.unit (s := (⟨3, ![n, a, b]⟩ : Shape)) off ![1, a, b] inb).emb (Shape.reshapeEquiv hq.numel_eq z) = ix3 s x y :=
    M.view.emb.injective hz
  have h := congrArg (fun i : (⟨3, ![n, a, b]⟩ : Shape).Idx => (i 0).val) hz'
  have hv := ValueKit.rect_emb_unit_val (s := (⟨3, ![n, a, b]⟩ : Shape)) off ![1, a, b] inb (Shape.reshapeEquiv hq.numel_eq z) 0
  have hl : ((Shape.reshapeEquiv hq.numel_eq z) 0).val < 1 := ((Shape.reshapeEquiv hq.numel_eq z) 0).isLt
  have hx : (ix3 s x y 0).val = s.val := rfl
  dsimp only at h
  rw [hv, hx] at h
  omega

end Cert.Held

end
-- ==== Proof.Held.RunC.lean ====
module

public import proofs.«01_k».proof.Proof.Gen.KernelIdeal.Frame.RunC

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's run at the last tile of a half: the three copies out are written over what the two weight gradients held; every other buffer ends as the frame's run of the same case says. -/
noncomputable def heldRun_C (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    Σ' (L11 : List (View.Piece (Elt F) S1x256x1024 .f32)), Σ' (L12 : List (View.Piece (Elt F) S1x3x2816 .f32)), Σ' (L13 : List (View.Piece (Elt F) S1x1x2816 .f32)), Σ' (LS2 : List (View.Piece (Elt F) S1024x2816 .f32)), Σ' (LS3 : List (View.Piece (Elt F) S1408x1024 .f32)), Σ' (LT0 : List (View.Piece (Elt F) S288x2816 .f32)), Σ' (LT1 : List (View.Piece (Elt F) S272x2816 .f32)), Σ' (gw0 : HbBuf0 (F := F) c hbM0_0), { gw1 : HbBuf0 (F := F) c hbM0_1 //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg16 fullShare xo12 ∗ owns (c : Thread nD τ) arg17 fullShare xo13 ∗ (∃ d, owns (c : Thread nD τ) arg18 fullShare d) ∗ (∃ d, owns (c : Thread nD τ) arg19 fullShare d) ∗ owns (c : Thread nD τ) arg20 fullShare xs2 ∗ owns (c : Thread nD τ) arg21 fullShare xs3 ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f L13) ∗ (∃ f, arg18.view.loc (c : Thread nD τ) ↦[arg18.view.set]{fullShare} arg18.view.writes (Elt F) f LT0) ∗ (∃ f, arg19.view.loc (c : Thread nD τ) ↦[arg19.view.set]{fullShare} arg19.view.writes (Elt F) f LT1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ semVal ((c : Thread nD τ), SemLoc.dma 25) 0 ∗ semVal ((c : Thread nD τ), SemLoc.dma 26) 0 ∗ semVal ((c : Thread nD τ), SemLoc.dma 27) 0 ∗ hbPt0 c hbM0_0 gw0 ∗ hbPt0 c hbM0_1 gw1 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 (Memref.whole main_v32_1) (Memref.isWhole_whole _) (Memref.whole main_v32_2) (Memref.isWhole_whole _) arg16 harg16 arg17 harg17 arg18 harg18 arg19 harg19 arg20 harg20 arg21 harg21 cc0_scoped0 cc0_scoped1 cc0_scoped2) K } := by
  refine ⟨?_, ?_, ?_, ?_, ?_, ?_, ?_, ?_, ?_, fun W K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%ds0, %fs0, -, HS0⟩, ⟨%ds1, %fs1, -, HS1⟩, ⟨%fs2, %hfs2, HS2⟩, ⟨%fs3, %hfs3, HS3⟩, Hq0, Hq1, Hq2, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf12; obtain rfl := harg17.eq_unread hf13; obtain rfl := harg20.eq_unread hfs2; obtain rfl := harg21.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hh0]; · iexact Hh0
    isplitl [Hh1]; · iexact Hh1
    iexists _; iexact HW

end Cert.Held

end
-- ==== Proof.Held.Copies.lean ====
module

public import proofs.«01_k».proof.Proof.Held.RunC

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-- What the last tile of a half leaves in the gradient of the weight of the projection up, as two copies into it. -/
theorem heldC_H0 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.1 = kernelRun0_C.sl.Hh0_w1 c i arg2 harg2 arg3 harg3 arg4 harg4 arg5 harg5 arg6 harg6 arg7 harg7 arg8 harg8 arg10 harg10 arg11 harg11 arg12 harg12 arg18 arg19 arg20 harg20 hc1 x0 x1 x2 x3 x4 x5 x6 x8 x9 x10 xs2 fw0 := rfl

/-- What it leaves in the gradient of the weight of the projection down, as one copy into it. -/
theorem heldC_H1 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.2.1 = kernelRun0_C.sl.Hh1_w2 c i arg2 harg2 arg3 harg3 arg5 harg5 arg6 harg6 arg7 harg7 arg11 harg11 arg12 harg12 arg18 arg21 harg21 hc1 x0 x1 x3 x4 x5 x9 x10 xs3 fw1 := rfl

end Cert.Held

end
-- ==== Proof.Tile.Pay.lean ====
module

public import proofs.«01_k».proof.Proof.Gen.KernelIdeal.Skeleton
public import proofs.«01_k».proof.Proof.Spec
public import Idealize.ShloMosaic.Lib.Pointwise
public import Idealize.ShloMosaic.PureOps.IdealRules
public import Idealize.ShloMosaic.PureOps.Ideal

@[expose] public section

noncomputable section

namespace Cert.Tile

open Cert.KernelIdeal Cert.KernelIdeal.Gen Idealize.ShloMosaic Idealize.ShloMosaic.Tactic

/-- What a tile adds to the gradient of the weight of the projection up: an entry. -/
theorem pay1_apply (v18 : FVec Ideal S256x1024 .bf16) (v165 : FVec Ideal S256x2816 .bf16) (v172 : Vec Ideal S1024x2816 .f32)
    (d : Fin 1024) (q : Fin 2816) :
    k0_pay1 v18 v165 v172 (ix2 d q) = v172 (ix2 d q) + ∑ r : Fin 256, v18 (ix2 r d) * v165 (ix2 r q) := by
  pointwise [k0_pay1]

/-- That gradient starts at zero. -/
theorem pay2_apply (d : Fin 1024) (q : Fin 2816) : k0_pay2 (F := Ideal) (ix2 d q) = 0 := by
  pointwise [k0_pay2]

/-- The gradient of the weight of the projection down starts at zero. -/
theorem pay3_apply (f : Fin 1408) (d : Fin 1024) : k0_pay3 (F := Ideal) (ix2 f d) = 0 := by
  pointwise [k0_pay3]

/-- The gradients of the taps start at zero. -/
theorem pay4_apply (k : Fin 3) (q : Fin 2816) : k0_pay4 (F := Ideal) (ix3 0 k q) = 0 := by
  pointwise [k0_pay4]

/-- The gradient of the bias starts at zero. -/
theorem pay5_apply (q : Fin 2816) : k0_pay5 (F := Ideal) (ix3 0 0 q) = 0 := by
  pointwise [k0_pay5]

/-- The normalised rows of a tile. -/
theorem pay6_apply (v3 : Vec Ideal S256x1024 .f32) (v4 : Vec Ideal S1x1024 .f32) (r : Fin 256) (d : Fin 1024) :
    k0_pay6 v3 v4 (ix2 r d) = v3 (ix2 r d) * Ideal.rsqrt (Ideal.div (∑ x : Fin 1024, v3 (ix2 r x) * v3 (ix2 r x))
      (Ideal.ofBits FTy.f32 1149239296#32) + Ideal.ofBits FTy.f32 897988541#32) * v4 (ix2 0 d) := by
  pointwise [k0_pay6]

/-- The rows before a tile: zero before the first tile. -/
theorem pay7_apply (i : grid0.Coords) (v : Vec Ideal S1x16x2816 .bf16) (r : Fin 16) (q : Fin 2816) :
    k0_pay7 i v (ix2 r q) = Scalar.select (Scalar.cmpi CmpIPredicate.sgt (BitVec.ofNat 32 (i 1).val) 0#32) (v (ix3 0 r q)) 0 := by
  pointwise [k0_pay7]

/-- The rows of a tile. -/
theorem pay8_apply (v : Vec Ideal S1x256x2816 .bf16) (r : Fin 256) (q : Fin 2816) : k0_pay8 v (ix2 r q) = v (ix3 0 r q) := by
  pointwise [k0_pay8]

/-- The rows after a tile. -/
theorem pay9_apply (v : Vec Ideal S1x16x2816 .bf16) (r : Fin 16) (q : Fin 2816) : k0_pay9 v (ix2 r q) = v (ix3 0 r q) := by
  pointwise [k0_pay9]

/-- The taps of a half. -/
theorem pay10_apply (v : Vec Ideal S1x3x2816 .f32) (k : Fin 3) (q : Fin 2816) : k0_pay10 v (ix2 k q) = v (ix3 0 k q) := by
  pointwise [k0_pay10]

/-- The convolution's rows of a tile: an entry. -/
theorem pay11_apply (v40 : Vec Ideal S1x3x2816 .f32) (v42 : Vec Ideal S1x1x2816 .f32) (v45 v51 v56 : Vec Ideal S272x2816 .f32) (r : Fin 272) (q : Fin 2816) :
    k0_pay11 v40 v42 v45 v51 v56 (ix2 r q) = v42 (ix3 0 0 q) + v40 (ix3 0 0 q) * v45 (ix2 r q) + v40 (ix3 0 1 q) * v51 (ix2 r q)
      + v40 (ix3 0 2 q) * v56 (ix2 r q) := by
  pointwise [k0_pay11, k0_pay10]

/-- The cotangent's rows of a tile and the rows after it, zero past the last tile. -/
theorem pay12_apply (a : BitVec 32) (v60 : Vec Ideal S256x1024 .f32) (v62 : Vec Ideal S16x1024 .f32) (r : Fin 272) (d : Fin 1024) :
    k0_pay12 a v60 v62 (ix2 r d) = (if h : r.val < 256 then v60 (ix2 ⟨r.val, h⟩ d)
    else Scalar.select (Scalar.cmpi CmpIPredicate.slt a 63#32) (v62 (ix2 ⟨r.val - 256, by omega⟩ d)) 0) := by
  pointwise [k0_pay12]

/-- The named constant of the cubic term. -/
theorem named_ca : (Named.named κ "gelu_ca" 1024598649#32 : Ideal .f32) = Spec.CA :=
  IdealRules.named_const.ideal_named_scalar _ _ _ _ rfl

/-- The named constant of the cubic term's derivative. -/
theorem named_ca3 : (Named.named κ "gelu_3ca" 1037775798#32 : Ideal .f32) = Spec.CA3 :=
  IdealRules.named_const.ideal_named_scalar _ _ _ _ rfl

/-- The cotangent of the gates of a tile. -/
theorem pay20_apply (v59 : FVec Ideal S272x2816 .f32) (v66 : FVec Ideal S272x1024 .bf16) (v67 : Vec Ideal S1x1408x1024 .bf16) (r : Fin 272) (f : Fin 1408) :
    k0_pay20 v59 v66 v67 (ix2 r f) = (∑ x : Fin 1024, v66 (ix2 r x) * v67 (ix3 0 f x)) * v59 (ix2 r ⟨1408 + f.val, by omega⟩)
      * Spec.dgl (v59 (ix2 r ⟨f.val, by omega⟩)) := by
  pointwise [k0_pay20, k0_pay19, k0_pay18, k0_pay17, k0_pay16, k0_pay15, k0_pay14, k0_pay13]
  rw [named_ca, named_ca3]
  rfl

/-- The cotangent of the values of a tile. -/
theorem pay21_apply (v59 : FVec Ideal S272x2816 .f32) (v66 : FVec Ideal S272x1024 .bf16) (v67 : Vec Ideal S1x1408x1024 .bf16) (r : Fin 272) (f : Fin 1408) :
    k0_pay21 v59 v66 v67 (ix2 r f) = (∑ x : Fin 1024, v66 (ix2 r x) * v67 (ix3 0 f x)) * Spec.gl (v59 (ix2 r ⟨f.val, by omega⟩)) := by
  pointwise [k0_pay21, k0_pay19, k0_pay18, k0_pay17, k0_pay16, k0_pay15, k0_pay14, k0_pay13]
  rw [named_ca]
  rfl

/-- The gradient of the projection down, a tile added. -/
theorem pay22_apply (v59 : FVec Ideal S272x2816 .f32) (v66 : FVec Ideal S272x1024 .bf16) (v106 : Vec Ideal S1408x1024 .f32) (f : Fin 1408) (d : Fin 1024) :
    k0_pay22 v59 v66 v106 (ix2 f d) = v106 (ix2 f d) + ∑ x : Fin 256, Spec.gl (v59 (ix2 ⟨x.val, by omega⟩ ⟨f.val, by omega⟩))
      * v59 (ix2 ⟨x.val, by omega⟩ ⟨1408 + f.val, by omega⟩) * v66 (ix2 ⟨x.val, by omega⟩ d) := by
  pointwise [k0_pay22, k0_pay19, k0_pay18, k0_pay17, k0_pay16, k0_pay15, k0_pay14, k0_pay13]
  rw [named_ca]
  rfl

/-- The gradient of the bias, a tile added. -/
theorem pay24_apply (v113 : Vec Ideal S256x2816 .f32) (v114 : Vec Ideal S1x1x2816 .f32) (q : Fin 2816) :
    k0_pay24 v113 v114 (ix3 0 0 q) = v114 (ix3 0 0 q) + ∑ r : Fin 256, v113 (ix2 r q) := by
  pointwise [k0_pay24]

/-- The gradient of the last tap, a tile added. -/
theorem pay26_apply (v113 : Vec Ideal S256x2816 .f32) (v125 : Vec Ideal S1x1x2816 .f32) (v127 : Vec Ideal S256x2816 .f32) (q : Fin 2816) :
    k0_pay26 v113 v125 v127 (ix3 0 0 q) = v125 (ix3 0 0 q) + ∑ r : Fin 256, v113 (ix2 r q) * v127 (ix2 r q) := by
  pointwise [k0_pay26]

/-- The gradient of the first tap, a tile added. -/
theorem pay29_apply (v113 : Vec Ideal S256x2816 .f32) (v125 : Vec Ideal S1x1x2816 .f32) (v127 : Vec Ideal S256x2816 .f32) (q : Fin 2816) :
    k0_pay29 (k0_pay27 v125) (k0_pay28 v113 v127) (ix3 0 0 q) = v125 (ix3 0 0 q) + ∑ r : Fin 256, v113 (ix2 r q) * v127 (ix2 r q) := by
  pointwise [k0_pay29, k0_pay27, k0_pay28]

/-- The gradient of the middle tap, a tile added. -/
theorem pay30_apply (v113 : Vec Ideal S256x2816 .f32) (v125 : Vec Ideal S1x1x2816 .f32) (v127 : Vec Ideal S256x2816 .f32) (q : Fin 2816) :
    k0_pay30 v113 v125 v127 (ix3 0 0 q) = v125 (ix3 0 0 q) + ∑ r : Fin 256, v113 (ix2 r q) * v127 (ix2 r q) := by
  pointwise [k0_pay30]

/-- The cotangent of the projection up in a tile: an entry. -/
theorem pay31_apply (v41 : Vec Ideal S3x2816 .f32) (v113 v146 v161 : Vec Ideal S256x2816 .f32) (r : Fin 256) (q : Fin 2816) :
    k0_pay31 v41 (k0_pay25 v41 v113) v146 v161 (ix2 r q) = v41 (ix2 2 q) * v113 (ix2 r q) + v41 (ix2 0 q) * v146 (ix2 r q) + v41 (ix2 1 q) * v161 (ix2 r q) := by
  pointwise [k0_pay31, k0_pay25]

/-- The cotangent of the normalised input in a tile: an entry. -/
theorem pay32_apply (v41 : Vec Ideal S3x2816 .f32) (v124 v146 v161 : Vec Ideal S256x2816 .f32) (v166 : Vec Ideal S1x1024x2816 .bf16) (r : Fin 256) (d : Fin 1024) :
    k0_pay32 v41 v124 v146 v161 v166 (ix3 0 r d) = ∑ q : Fin 2816, k0_pay31 v41 v124 v146 v161 (ix2 r q) * v166 (ix3 0 d q) := by
  pointwise [k0_pay32]

end Cert.Tile

end
-- ==== Proof.Tile.Math.lean ====
module

public import proofs.«01_k».proof.Proof.Tile.Pay
public import Idealize.ShloMosaic.Lib.Pipeline.ValueKit.Acc

@[expose] public section

noncomputable section

/-! What the values of one tile are, in terms of the formulas of the gradient: tile `i` of half `j` holds rows
`256 * i, …` and the columns `col j q`. -/

namespace Cert.Tile

open Cert.KernelIdeal Cert.KernelIdeal.Gen Idealize.ShloMosaic Idealize.ShloMosaic.Tactic
open Cert.Spec (Args)
open Cert.Spec.Args (col)

variable (A : Args) (j i : ℕ)

/-- The convolution's rows of a tile, wherever they are rows of the sequence. -/
theorem cv_eq {v40 : Vec Ideal S1x3x2816 .f32} {v42 : Vec Ideal S1x1x2816 .f32} {v45 v51 v56 : Vec Ideal S272x2816 .f32}
    (h40 : ∀ (k : Fin 3) (q : Fin 2816), v40 (ix3 0 k q) = A.cw k.val (col j q.val))
    (h42 : ∀ q : Fin 2816, v42 (ix3 0 0 q) = A.b (col j q.val))
    (h45 : ∀ (r : Fin 272) (q : Fin 2816), 256 * i + r.val < 16384 → v45 (ix2 r q) = A.upp (256 * i + r.val) (col j q.val))
    (h51 : ∀ (r : Fin 272) (q : Fin 2816), 256 * i + r.val < 16384 → v51 (ix2 r q) = A.upp (256 * i + r.val + 1) (col j q.val))
    (h56 : ∀ (r : Fin 272) (q : Fin 2816), 256 * i + r.val < 16384 → v56 (ix2 r q) = A.upp (256 * i + r.val + 2) (col j q.val))
    (r : Fin 272) (q : Fin 2816) (hr : 256 * i + r.val < 16384) :
    k0_pay11 v40 v42 v45 v51 v56 (ix2 r q) = A.cv (256 * i + r.val) (col j q.val) := by
  rw [pay11_apply, h40, h40, h40, h42, h45 r q hr, h51 r q hr, h56 r q hr]
  unfold Args.cv
  rw [mul_comm (A.upp (256 * i + r.val) _), mul_comm (A.upp (256 * i + r.val + 1) _), mul_comm (A.upp (256 * i + r.val + 2) _)]
  rfl

/-- The cotangent of the gates of a tile. -/
theorem dcv_lo {v59 : FVec Ideal S272x2816 .f32} {v66 : FVec Ideal S272x1024 .bf16} {v67 : Vec Ideal S1x1408x1024 .bf16} (hj : j < 2)
    (h59 : ∀ (r : Fin 272) (q : Fin 2816), 256 * i + r.val < 16384 → v59 (ix2 r q) = A.cv (256 * i + r.val) (col j q.val))
    (h66 : ∀ (r : Fin 272) (d : Fin 1024), v66 (ix2 r d) = if 256 * i + r.val < 16384 then A.dh (256 * i + r.val) d.val else 0)
    (h67 : ∀ (f : Fin 1408) (d : Fin 1024), v67 (ix3 0 f d) = A.wd (j * 1408 + f.val) d.val)
    (r : Fin 272) (f : Fin 1408) : k0_pay20 v59 v66 v67 (ix2 r f) = A.dz (256 * i + r.val) (col j f.val) := by
  have hf := f.isLt
  rw [pay20_apply]
  unfold Args.dz Args.dcv
  by_cases hr : 256 * i + r.val < 16384
  · rw [h59 _ _ hr, h59 _ _ hr, if_pos hr, Spec.col_lo _ _ hf, Spec.col_hi _ _ hf, if_pos (by omega)]
    simp only [h66, h67, if_pos hr]
    rfl
  · simp only [h66, if_neg hr, zero_mul, Finset.sum_const_zero]

/-- The cotangent of the values of a tile. -/
theorem dcv_hi {v59 : FVec Ideal S272x2816 .f32} {v66 : FVec Ideal S272x1024 .bf16} {v67 : Vec Ideal S1x1408x1024 .bf16} (hj : j < 2)
    (h59 : ∀ (r : Fin 272) (q : Fin 2816), 256 * i + r.val < 16384 → v59 (ix2 r q) = A.cv (256 * i + r.val) (col j q.val))
    (h66 : ∀ (r : Fin 272) (d : Fin 1024), v66 (ix2 r d) = if 256 * i + r.val < 16384 then A.dh (256 * i + r.val) d.val else 0)
    (h67 : ∀ (f : Fin 1408) (d : Fin 1024), v67 (ix3 0 f d) = A.wd (j * 1408 + f.val) d.val)
    (r : Fin 272) (f : Fin 1408) : k0_pay21 v59 v66 v67 (ix2 r f) = A.dz (256 * i + r.val) (col j (1408 + f.val)) := by
  have hf := f.isLt
  rw [pay21_apply]
  unfold Args.dz Args.dcv
  by_cases hr : 256 * i + r.val < 16384
  · rw [h59 _ _ hr, if_pos hr, Spec.col_lo _ _ hf, Spec.col_hi _ _ hf, if_neg (by omega)]
    simp only [h66, h67, if_pos hr, Nat.add_sub_cancel_left]
    rfl
  · simp only [h66, if_neg hr, zero_mul, Finset.sum_const_zero]

/-- The cotangent of the projection up in a tile. -/
theorem dup_eq {v41 : Vec Ideal S3x2816 .f32} {v113 v146 v161 : Vec Ideal S256x2816 .f32}
    (h41 : ∀ (k : Fin 3) (q : Fin 2816), v41 (ix2 k q) = A.cw k.val (col j q.val))
    (h113 : ∀ (r : Fin 256) (q : Fin 2816), v113 (ix2 r q) = A.dz (256 * i + r.val) (col j q.val))
    (h146 : ∀ (r : Fin 256) (q : Fin 2816), v146 (ix2 r q) = A.dz (256 * i + r.val + 2) (col j q.val))
    (h161 : ∀ (r : Fin 256) (q : Fin 2816), v161 (ix2 r q) = A.dz (256 * i + r.val + 1) (col j q.val))
    (r : Fin 256) (q : Fin 2816) :
    k0_pay31 v41 (k0_pay25 v41 v113) v146 v161 (ix2 r q) = A.dup (256 * i + r.val) (col j q.val) := by
  rw [pay31_apply, h41, h41, h41, h113, h146, h161]
  rfl

/-- The gradient of the normalised input in a tile. -/
theorem part_eq {v41 : Vec Ideal S3x2816 .f32} {v113 v146 v161 : Vec Ideal S256x2816 .f32} {v166 : Vec Ideal S1x1024x2816 .bf16}
    (h31 : ∀ (r : Fin 256) (q : Fin 2816), k0_pay31 v41 (k0_pay25 v41 v113) v146 v161 (ix2 r q) = A.dup (256 * i + r.val) (col j q.val))
    (h166 : ∀ (d : Fin 1024) (q : Fin 2816), v166 (ix3 0 d q) = A.W d.val (col j q.val)) (r : Fin 256) (d : Fin 1024) :
    k0_pay32 v41 (k0_pay25 v41 v113) v146 v161 v166 (ix3 0 r d) = A.part j (256 * i + r.val) d.val := by
  rw [pay32_apply]
  simp only [h31, h166]
  rfl

/-- The normalised rows of a tile. -/
theorem hn_eq {v3 : Vec Ideal S256x1024 .f32} {v4 : Vec Ideal S1x1024 .f32}
    (h3 : ∀ (r : Fin 256) (d : Fin 1024), v3 (ix2 r d) = A.h (256 * i + r.val) d.val)
    (h4 : ∀ d : Fin 1024, v4 (ix2 0 d) = A.g d.val) (r : Fin 256) (d : Fin 1024) :
    k0_pay6 v3 v4 (ix2 r d) = A.hn (256 * i + r.val) d.val := by
  rw [pay6_apply]
  simp only [h3, h4]
  rfl

/-- What a tile adds to the gradient of the weight of the projection up. -/
def upTerm (d q : ℕ) : EReal := ∑ r : Fin 256, A.hn (256 * i + r.val) d * A.dup (256 * i + r.val) (col j q)

/-- A tile adds its term to the gradient of the weight of the projection up. -/
theorem up_eq {v18 : FVec Ideal S256x1024 .bf16} {v165 : FVec Ideal S256x2816 .bf16}
    (h18 : ∀ (r : Fin 256) (d : Fin 1024), v18 (ix2 r d) = A.hn (256 * i + r.val) d.val)
    (h165 : ∀ (r : Fin 256) (q : Fin 2816), v165 (ix2 r q) = A.dup (256 * i + r.val) (col j q.val))
    (v172 : Vec Ideal S1024x2816 .f32) (d : Fin 1024) (q : Fin 2816) :
    k0_pay1 v18 v165 v172 (ix2 d q) = v172 (ix2 d q) + upTerm A j i d.val q.val := by
  rw [pay1_apply]
  simp only [h18, h165]
  rfl

/-- What a tile adds to the gradient of the weight of the projection down. -/
def dnTerm (f d : ℕ) : EReal :=
  ∑ r : Fin 256, Spec.gl (A.cv (256 * i + r.val) (j * 1408 + f)) * A.cv (256 * i + r.val) (2816 + (j * 1408 + f)) * A.dh (256 * i + r.val) d

/-- A tile adds its term to the gradient of the weight of the projection down. -/
theorem dn_eq {v59 : FVec Ideal S272x2816 .f32} {v66 : FVec Ideal S272x1024 .bf16} (hi : i < 64)
    (h59 : ∀ (r : Fin 272) (q : Fin 2816), 256 * i + r.val < 16384 → v59 (ix2 r q) = A.cv (256 * i + r.val) (col j q.val))
    (h66 : ∀ (r : Fin 272) (d : Fin 1024), v66 (ix2 r d) = if 256 * i + r.val < 16384 then A.dh (256 * i + r.val) d.val else 0)
    (v106 : Vec Ideal S1408x1024 .f32) (f : Fin 1408) (d : Fin 1024) :
    k0_pay23 (k0_pay22 v59 v66 v106) (ix2 f d) = v106 (ix2 f d) + dnTerm A j i f.val d.val := by
  have e : k0_pay23 (k0_pay22 v59 v66 v106) (ix2 f d) = k0_pay22 v59 v66 v106 (ix2 f d) := by pointwise [k0_pay23]
  rw [e, pay22_apply]
  unfold dnTerm
  congr 1
  refine Finset.sum_congr rfl fun r _ => ?_
  have hr : 256 * i + r.val < 16384 := by have := r.isLt; omega
  rw [h59 _ _ hr, h59 _ _ hr, h66, if_pos hr, Spec.col_lo _ _ f.isLt, Spec.col_hi _ _ f.isLt]

/-- What a tile adds to the gradient of a tap. -/
def cwTerm (k q : ℕ) : EReal := ∑ r : Fin 256, A.dz (256 * i + r.val) (col j q) * A.upp (256 * i + r.val + k) (col j q)

/-- What a tile adds to the gradient of the bias. -/
def cbTerm (q : ℕ) : EReal := ∑ r : Fin 256, A.dz (256 * i + r.val) (col j q)

/-- The tiles' terms summed are the sum over all rows. -/
theorem sum_tiles (f : ℕ → EReal) : ∑ t : Fin 64, ∑ r : Fin 256, f (256 * t.val + r.val) = ∑ s : Fin 16384, f s.val := by
  rw [← Fin.sum_univ_mul_divmod 64 256 (fun a b => f (256 * a + b))]
  exact Finset.sum_congr rfl fun s _ => by rw [Nat.div_add_mod]

end Cert.Tile

end
-- ==== Proof.Tile.Loads.lean ====
module

public import proofs.«01_k».proof.Proof.Tile.Math
public import Idealize.ShloMosaic.Lib.Pipeline.ValueKit.Tiles
public import Idealize.ShloMosaic.Lib.Pipeline.Value
public import Idealize.ShloMosaic.Lib.Pipeline.Frame

@[expose] public section

noncomputable section

/-! What a tile reads back of the two arrays it writes piece by piece: the rows of the projection up with the rows
before and after them, and the cotangent of the convolution. Both are read at a shift of up to two rows. -/

namespace Cert.Tile

open Cert.KernelIdeal Cert.KernelIdeal.Gen Idealize.ShloMosaic Idealize.ShloMosaic.Tactic
open Cert.Spec (Args)
open Cert.Spec.Args (col)

/-- The blocks of a tile are tile `i` of half `j` of the arrays. -/
structure Blocks (A : Args) (j i : ℕ) (ic : grid0.Coords) (x0 : Vec Ideal S256x1024 .f32) (x1 : Vec Ideal S16x1024 .f32)
    (x2 : Vec Ideal S256x1024 .f32) (x3 : Vec Ideal S1x256x2816 .bf16) (x4 x5 : Vec Ideal S1x16x2816 .bf16)
    (x6 : Vec Ideal S1x1024 .f32) (x7 : Vec Ideal S1x1024x2816 .bf16) (x8 : Vec Ideal S1x1408x1024 .bf16)
    (x9 : Vec Ideal S1x3x2816 .f32) (x10 : Vec Ideal S1x1x2816 .f32) : Prop where
  hj : j < 2
  hi : i < 64
  ic : (ic 1).val = i
  h0 : ∀ (r : Fin 256) (d : Fin 1024), x0 (ix2 r d) = A.dh (256 * i + r.val) d.val
  h1 : i < 63 → ∀ (r : Fin 16) (d : Fin 1024), x1 (ix2 r d) = A.dh (256 * i + 256 + r.val) d.val
  h2 : ∀ (r : Fin 256) (d : Fin 1024), x2 (ix2 r d) = A.h (256 * i + r.val) d.val
  h3 : ∀ (r : Fin 256) (q : Fin 2816), x3 (ix3 0 r q) = A.up (256 * i + r.val) (col j q.val)
  h4 : 0 < i → ∀ (r : Fin 16) (q : Fin 2816), x4 (ix3 0 r q) = A.up (256 * i - 16 + r.val) (col j q.val)
  h5 : i < 63 → ∀ (r : Fin 16) (q : Fin 2816), x5 (ix3 0 r q) = A.up (256 * i + 256 + r.val) (col j q.val)
  h6 : ∀ d : Fin 1024, x6 (ix2 0 d) = A.g d.val
  h7 : ∀ (d : Fin 1024) (q : Fin 2816), x7 (ix3 0 d q) = A.W d.val (col j q.val)
  h8 : ∀ (f : Fin 1408) (d : Fin 1024), x8 (ix3 0 f d) = A.wd (j * 1408 + f.val) d.val
  h9 : ∀ (k : Fin 3) (q : Fin 2816), x9 (ix3 0 k q) = A.cw k.val (col j q.val)
  h10 : ∀ q : Fin 2816, x10 (ix3 0 0 q) = A.b (col j q.val)

/-- The three pieces the rows of the projection up are written in, the last one first. -/
abbrev upL (ic : grid0.Coords) (x3 : Vec Ideal S1x256x2816 .bf16) (x4 x5 : Vec Ideal S1x16x2816 .bf16) :
    List (View.Piece (Elt Ideal) S288x2816 .f32) :=
  [⟨Rect.unit ![272, 0] S16x2816.size inb_S288x2816_S16x2816_272_0, k0_pay9 x5⟩,
    ⟨Rect.unit ![16, 0] S256x2816.size inb_S288x2816_S256x2816_16_0, k0_pay8 x3⟩,
    ⟨Rect.unit ![0, 0] S16x2816.size inb_S288x2816_S16x2816_0_0, k0_pay7 ic x4⟩]

/-- The two pieces the cotangent of the convolution is written in, the last one first. -/
abbrev dcvL (v59 : FVec Ideal S272x2816 .f32) (v66 : FVec Ideal S272x1024 .bf16) (x8 : Vec Ideal S1x1408x1024 .bf16) :
    List (View.Piece (Elt Ideal) S272x2816 .f32) :=
  [⟨Rect.unit ![0, 1408] S272x1408.size inb_S272x2816_S272x1408_0_1408, k0_pay21 v59 v66 x8⟩,
    ⟨Rect.unit ![0, 0] S272x1408.size inb_S272x2816_S272x1408_0_0, k0_pay20 v59 v66 x8⟩]

/-- The three pieces are all the rows. -/
theorem upL_cover (ic : grid0.Coords) (x3 : Vec Ideal S1x256x2816 .bf16) (x4 x5 : Vec Ideal S1x16x2816 .bf16) (y : S288x2816.Idx) :
    ∃ p ∈ upL ic x3 x4 x5, y ∈ p.1.set := by
  have hy0 : (y 0).val < 288 := (y 0).isLt
  have hy1 : (y 1).val < 2816 := (y 1).isLt
  by_cases ha : (y 0).val < 16
  · refine ⟨_, List.mem_cons_of_mem _ (List.mem_cons_of_mem _ List.mem_cons_self), ?_⟩
    refine (Rect.mem_set_unit (inb := inb_S288x2816_S16x2816_0_0)).mpr fun a => ?_
    match a with
    | ⟨0, _⟩ => exact ⟨Nat.zero_le _, show (y 0).val < 0 + 16 by omega⟩
    | ⟨1, _⟩ => exact ⟨Nat.zero_le _, show (y 1).val < 0 + 2816 by omega⟩
  · by_cases hb : (y 0).val < 272
    · refine ⟨_, List.mem_cons_of_mem _ List.mem_cons_self, ?_⟩
      refine (Rect.mem_set_unit (inb := inb_S288x2816_S256x2816_16_0)).mpr fun a => ?_
      match a with
      | ⟨0, _⟩ => exact ⟨show 16 ≤ (y 0).val by omega, show (y 0).val < 16 + 256 by omega⟩
      | ⟨1, _⟩ => exact ⟨Nat.zero_le _, show (y 1).val < 0 + 2816 by omega⟩
    · refine ⟨_, List.mem_cons_self, ?_⟩
      refine (Rect.mem_set_unit (inb := inb_S288x2816_S16x2816_272_0)).mpr fun a => ?_
      match a with
      | ⟨0, _⟩ => exact ⟨show 272 ≤ (y 0).val by omega, show (y 0).val < 272 + 16 by omega⟩
      | ⟨1, _⟩ => exact ⟨Nat.zero_le _, show (y 1).val < 0 + 2816 by omega⟩

variable {A : Args} {j i : ℕ} {ic : grid0.Coords} {x0 : Vec Ideal S256x1024 .f32} {x1 : Vec Ideal S16x1024 .f32}
  {x2 : Vec Ideal S256x1024 .f32} {x3 : Vec Ideal S1x256x2816 .bf16} {x4 x5 : Vec Ideal S1x16x2816 .bf16}
  {x6 : Vec Ideal S1x1024 .f32} {x7 : Vec Ideal S1x1024x2816 .bf16} {x8 : Vec Ideal S1x1408x1024 .bf16}
  {x9 : Vec Ideal S1x3x2816 .f32} {x10 : Vec Ideal S1x1x2816 .f32}
  (H : Blocks A j i ic x0 x1 x2 x3 x4 x5 x6 x7 x8 x9 x10)

include H

/-- The comparison with zero of the tile's number selects. -/
theorem sgt_select {α : Type} (a b : α) :
    Scalar.select (Scalar.cmpi CmpIPredicate.sgt (BitVec.ofNat 32 (ic 1).val) 0#32) a b = if 0 < i then a else b := by
  have hi := H.hi
  have hc : (Scalar.cmpi CmpIPredicate.sgt (BitVec.ofNat 32 i) 0#32) = if 0 < i then 1#1 else 0#1 := by
    have := (by decide +kernel : ∀ k : Fin 64, Scalar.cmpi CmpIPredicate.sgt (BitVec.ofNat 32 k.val) 0#32 = if 0 < k.val then 1#1 else 0#1)
    exact this ⟨i, hi⟩
  rw [H.ic, hc]
  split_ifs <;> rfl

/-- The comparison with the last tile's number selects. -/
theorem slt_select {α : Type} (a b : α) :
    Scalar.select (Scalar.cmpi CmpIPredicate.slt (BitVec.ofNat 32 (ic 1).val) 63#32) a b = if i < 63 then a else b := by
  have hi := H.hi
  have hc : (Scalar.cmpi CmpIPredicate.slt (BitVec.ofNat 32 i) 63#32) = if i < 63 then 1#1 else 0#1 := by
    have := (by decide +kernel : ∀ k : Fin 64, Scalar.cmpi CmpIPredicate.slt (BitVec.ofNat 32 k.val) 63#32 = if k.val < 63 then 1#1 else 0#1)
    exact this ⟨i, hi⟩
  rw [H.ic, hc]
  split_ifs <;> rfl

/-- The rows of the projection up, two rows early, at a row that is in the sequence. -/
theorem upL_at (y : S288x2816.Idx) (h14 : 14 ≤ (y 0).val) (hs : 256 * i + (y 0).val < 16384 + 16) :
    View.canon (upL ic x3 x4 x5) y = A.upp (256 * i + (y 0).val - 14) (col j (y 1).val) := by
  have hi := H.hi
  have hy0 : (y 0).val < 288 := (y 0).isLt
  have hy1 : (y 1).val < 2816 := (y 1).isLt
  refine View.canon_eq_of_allAt _ _ _ (upL_cover ic x3 x4 x5 y) (View.allAt_cons_unit _ _ _ _ _ ?_ (View.allAt_cons_unit _ _ _ _ _ ?_
    (View.allAt_cons_unit _ _ _ _ _ ?_ (View.allAt_nil _ _))))
  · intro (x : S16x2816.Idx) hx
    have e0 : (y 0).val = 272 + (x 0).val := hx 0
    have e1 : (y 1).val = 0 + (x 1).val := hx 1
    refine (congrArg (k0_pay9 x5) (eq_ix2 x)).trans ((pay9_apply x5 (x 0) (x 1)).trans ((H.h5 (by omega) (x 0) (x 1)).trans ?_))
    unfold Args.upp
    rw [if_neg (by omega), e1, Nat.zero_add]
    congr 1
    omega
  · intro (x : S256x2816.Idx) hx
    have e0 : (y 0).val = 16 + (x 0).val := hx 0
    have e1 : (y 1).val = 0 + (x 1).val := hx 1
    refine (congrArg (k0_pay8 x3) (eq_ix2 x)).trans ((pay8_apply x3 (x 0) (x 1)).trans ((H.h3 (x 0) (x 1)).trans ?_))
    unfold Args.upp
    rw [if_neg (by omega), e1, Nat.zero_add]
    congr 1
    omega
  · intro (x : S16x2816.Idx) hx
    have e0 : (y 0).val = 0 + (x 0).val := hx 0
    have e1 : (y 1).val = 0 + (x 1).val := hx 1
    have hx0 : (x 0).val < 16 := (x 0).isLt
    refine (congrArg (k0_pay7 ic x4) (eq_ix2 x)).trans ((pay7_apply ic x4 (x 0) (x 1)).trans ?_)
    rw [sgt_select H]
    unfold Args.upp
    by_cases h : 0 < i
    · rw [if_pos h, if_neg (by omega), e1, Nat.zero_add]
      refine (H.h4 h (x 0) (x 1)).trans ?_
      congr 1
      omega
    · rw [if_neg h, if_pos (by omega)]

/-- A load of those rows at an offset of at least 14. -/
theorem up_load {sig : RefSig} {κ : Kind} {sp : Space} (v : View sig κ sp S288x2816 .f32) {n o : ℕ}
    (inb : ∀ a, (![o, 0] : Fin 2 → ℕ) a + (![n, 2816] : Fin 2 → ℕ) a ≤ S288x2816.size a) (ho : 14 ≤ o) (r : Fin n) (q : Fin 2816)
    (hs : 256 * i + (o + r.val) < 16384 + 16) :
    v.readCov (upL ic x3 x4 x5) (Rect.unit (s := S288x2816) ![o, 0] ![n, 2816] inb).toLoadRect (ix2 r q)
      = A.upp (256 * i + (o + r.val) - 14) (col j q.val) := by
  have hb : o + n ≤ 288 := inb 0
  have hr := r.isLt
  have hc : ∀ y, ∃ p ∈ upL ic x3 x4 x5, y ∈ p.1.set := upL_cover ic x3 x4 x5
  refine (congrFun (View.readCov_eq_canon_ld v _ (Rect.unit (s := S288x2816) ![o, 0] ![n, 2816] inb) hc) (ix2 r q)).trans ?_
  refine (View.ld_unit_apply_of _ _ _ _ _ (ix2 (⟨o + r.val, by omega⟩ : Fin 288) q)
    (fun a => by match a with
      | ⟨0, _⟩ => rfl
      | ⟨1, _⟩ => exact (Nat.zero_add _).symm)).trans ?_
  exact upL_at H _ (by show 14 ≤ o + r.val; omega) hs

/-- The cotangent's rows of a tile and the rows after it. -/
theorem dh_rows (r : Fin 272) (d : Fin 1024) :
    k0_pay12 (BitVec.ofNat 32 (ic 1).val) x0 x1 (ix2 r d) = if 256 * i + r.val < 16384 then A.dh (256 * i + r.val) d.val else 0 := by
  have hi := H.hi
  have hr := r.isLt
  rw [pay12_apply]
  by_cases h : r.val < 256
  · rw [dif_pos h, H.h0, if_pos (by omega)]
  · rw [dif_neg h, slt_select H]
    by_cases h' : i < 63
    · rw [if_pos h', H.h1 h', if_pos (by omega)]
      congr 1
      show 256 * i + 256 + (r.val - 256) = _
      omega
    · rw [if_neg h', if_neg (by omega)]

/-- The convolution's rows of a tile, from loads of the rows written. -/
theorem cv_rows {sig : RefSig} {κ : Kind} {sp : Space} (v : View sig κ sp S288x2816 .f32) (r : Fin 272) (q : Fin 2816)
    (hr : 256 * i + r.val < 16384) :
    k0_pay11 x9 x10 (v.readCov (upL ic x3 x4 x5) (Rect.unit (s := S288x2816) ![14, 0] S272x2816.size inb_S288x2816_S272x2816_14_0).toLoadRect)
      (v.readCov (upL ic x3 x4 x5) (Rect.unit (s := S288x2816) ![15, 0] S272x2816.size inb_S288x2816_S272x2816_15_0).toLoadRect)
      (v.readCov (upL ic x3 x4 x5) (Rect.unit (s := S288x2816) ![16, 0] S272x2816.size inb_S288x2816_S272x2816_16_0).toLoadRect) (ix2 r q)
      = A.cv (256 * i + r.val) (col j q.val) := by
  refine cv_eq A j i H.h9 H.h10 (fun r q h => ?_) (fun r q h => ?_) (fun r q h => ?_) r q hr
  · refine (up_load H v _ (by omega) r q (by omega)).trans ?_
    congr 1; omega
  · refine (up_load H v _ (by omega) r q (by omega)).trans ?_
    congr 1; omega
  · refine (up_load H v _ (by omega) r q (by omega)).trans ?_
    congr 1; omega

/-- The cotangent of the convolution as written. -/
theorem dcvL_at {v59 : FVec Ideal S272x2816 .f32} {v66 : FVec Ideal S272x1024 .bf16}
    (h59 : ∀ (r : Fin 272) (q : Fin 2816), 256 * i + r.val < 16384 → v59 (ix2 r q) = A.cv (256 * i + r.val) (col j q.val))
    (h66 : ∀ (r : Fin 272) (d : Fin 1024), v66 (ix2 r d) = if 256 * i + r.val < 16384 then A.dh (256 * i + r.val) d.val else 0)
    (y : S272x2816.Idx) : View.canon (dcvL v59 v66 x8) y = A.dz (256 * i + (y 0).val) (col j (y 1).val) := by
  have hy0 : (y 0).val < 272 := (y 0).isLt
  have hy1 : (y 1).val < 2816 := (y 1).isLt
  refine View.canon_eq_of_allAt _ _ _ (View.cover_of_tiled _ ![272, 1408] (by rfl) y)
    (View.allAt_cons_unit _ _ _ _ _ ?_ (View.allAt_cons_unit _ _ _ _ _ ?_ (View.allAt_nil _ _)))
  · intro (x : S272x1408.Idx) hx
    have e0 : (y 0).val = 0 + (x 0).val := hx 0
    have e1 : (y 1).val = 1408 + (x 1).val := hx 1
    refine (congrArg (k0_pay21 v59 v66 x8) (eq_ix2 x)).trans ((dcv_hi A j i H.hj h59 h66 H.h8 (x 0) (x 1)).trans ?_)
    rw [e0, e1, Nat.zero_add]
  · intro (x : S272x1408.Idx) hx
    have e0 : (y 0).val = 0 + (x 0).val := hx 0
    have e1 : (y 1).val = 0 + (x 1).val := hx 1
    refine (congrArg (k0_pay20 v59 v66 x8) (eq_ix2 x)).trans ((dcv_lo A j i H.hj h59 h66 H.h8 (x 0) (x 1)).trans ?_)
    rw [e0, e1, Nat.zero_add, Nat.zero_add]

/-- A load of it at an offset. -/
theorem dcv_load {sig : RefSig} {κ : Kind} {sp : Space} (v : View sig κ sp S272x2816 .f32)
    {v59 : FVec Ideal S272x2816 .f32} {v66 : FVec Ideal S272x1024 .bf16}
    (h59 : ∀ (r : Fin 272) (q : Fin 2816), 256 * i + r.val < 16384 → v59 (ix2 r q) = A.cv (256 * i + r.val) (col j q.val))
    (h66 : ∀ (r : Fin 272) (d : Fin 1024), v66 (ix2 r d) = if 256 * i + r.val < 16384 then A.dh (256 * i + r.val) d.val else 0)
    {o : ℕ} (inb : ∀ a, (![o, 0] : Fin 2 → ℕ) a + (![256, 2816] : Fin 2 → ℕ) a ≤ S272x2816.size a) (r : Fin 256) (q : Fin 2816) :
    v.readCov (dcvL v59 v66 x8) (Rect.unit (s := S272x2816) ![o, 0] ![256, 2816] inb).toLoadRect (ix2 r q)
      = A.dz (256 * i + r.val + o) (col j q.val) := by
  have hb : o + 256 ≤ 272 := inb 0
  have hr := r.isLt
  have hc : ∀ y, ∃ p ∈ dcvL v59 v66 x8, y ∈ p.1.set := View.cover_of_tiled _ ![272, 1408] (by rfl)
  refine (congrFun (View.readCov_eq_canon_ld v _ (Rect.unit (s := S272x2816) ![o, 0] ![256, 2816] inb) hc) (ix2 r q)).trans ?_
  refine (View.ld_unit_apply_of _ _ _ _ _ (ix2 (⟨o + r.val, by omega⟩ : Fin 272) q)
    (fun a => by match a with
      | ⟨0, _⟩ => rfl
      | ⟨1, _⟩ => exact (Nat.zero_add _).symm)).trans ?_
  refine (dcvL_at H h59 h66 _).trans ?_
  show A.dz (256 * i + (o + r.val)) (col j q.val) = _
  congr 1; omega

end Cert.Tile

end
-- ==== Proof.Tile.Stage.lean ====
module

public import proofs.«01_k».proof.Proof.Tile.Loads
public import Idealize.ShloMosaic.Lib.WholeRead

@[expose] public section

noncomputable section

/-! What a tile adds to each result, from the blocks it reads and the running sums it starts from. -/

namespace Cert.Tile

open Cert.KernelIdeal Cert.KernelIdeal.Gen Idealize.ShloMosaic Idealize.ShloMosaic.Tactic
open Cert.Spec (Args)
open Cert.Spec.Args (col)

/-- A load of a whole array that holds `X` reads `X`. -/
theorem full_read {sig : RefSig} {κ : Kind} {sp : Space} {S : Shape} {e : EltTy} {m : Memref sig κ sp S e} (h : m.IsWhole)
    {off : Fin S.rank → Nat} (ho : off = fun _ => 0) (inb : ∀ a, off a + S.size a ≤ S.size a) (X : Vec Ideal S e) :
    View.readAt (Elt Ideal) m.view (Rect.unit off S.size inb).toLoadRect (h.unread X) = X := by
  rw [View.readAt_eq_ld, h.read_unread, View.ld_unit_zero ho]

/-- The offsets of a whole load, in two dimensions. -/
theorem zero2 : (![0, 0] : Fin 2 → ℕ) = fun _ => 0 := by decide

/-- The offsets of a whole load, in three dimensions. -/
theorem zero3 : (![0, 0, 0] : Fin 3 → ℕ) = fun _ => 0 := by decide

/-- A load of one row of an array that holds `X`. -/
theorem row_read {sig : RefSig} {κ : Kind} {sp : Space} {m : Memref sig κ sp S1x3x2816 .f32} (h : m.IsWhole) (k : Fin 3)
    (inb : ∀ a, (![0, k.val, 0] : Fin 3 → ℕ) a + S1x1x2816.size a ≤ S1x3x2816.size a) (X : Vec Ideal S1x3x2816 .f32) (q : Fin 2816) :
    View.readAt (Elt Ideal) m.view (Rect.unit (s := S1x3x2816) ![0, k.val, 0] S1x1x2816.size inb).toLoadRect (h.unread X) (ix3 0 0 q)
      = X (ix3 0 k q) := by
  rw [View.readAt_eq_ld, h.read_unread]
  exact View.ld_unit_apply_of _ _ _ _ _ (ix3 0 k q) (fun a => by match a with
    | ⟨0, _⟩ => rfl
    | ⟨1, _⟩ => rfl
    | ⟨2, _⟩ => exact (Nat.zero_add _).symm)

/-- A row of an array as a rectangle. -/
abbrev rowR (k : Fin 3) (inb : ∀ a, (![0, k.val, 0] : Fin 3 → ℕ) a + S1x1x2816.size a ≤ S1x3x2816.size a) : Rect S1x3x2816 :=
  Rect.unit (s := S1x3x2816) ![0, k.val, 0] S1x1x2816.size inb

/-- The row last written is what was written. -/
theorem row_here (k : Fin 3) (inb) (w : Vec Ideal S1x1x2816 .f32) (L : List (View.Piece (Elt Ideal) S1x3x2816 .f32)) (q : Fin 2816) :
    View.canon (⟨rowR k inb, w⟩ :: L) (ix3 0 k q) = w (ix3 0 0 q) := by
  have e : (ix3 0 k q : S1x3x2816.Idx) = (rowR k inb).emb (ix3 0 0 q) := by
    funext a
    match a with
    | ⟨0, _⟩ => rfl
    | ⟨1, _⟩ => exact Fin.ext rfl
    | ⟨2, _⟩ => exact Fin.ext (show q.val = 0 + 1 * q.val by omega)
  rw [e]
  exact View.canon_cons_emb _ _ _ _

/-- Another row is what it was before. -/
theorem row_other (k k' : Fin 3) (hk : k' ≠ k) (inb) (w : Vec Ideal S1x1x2816 .f32) (L : List (View.Piece (Elt Ideal) S1x3x2816 .f32)) (q : Fin 2816) :
    View.canon (⟨rowR k inb, w⟩ :: L) (ix3 0 k' q) = View.canon L (ix3 0 k' q) := by
  refine View.canon_cons_of_not_mem _ _ fun h => hk ?_
  have h1 : k.val ≤ k'.val ∧ k'.val < k.val + 1 := (Rect.mem_set_unit (inb := inb)).mp h 1
  exact Fin.ext (by omega)

/-- A row read back of an array written piece by piece. -/
theorem row_load {sig : RefSig} {κ : Kind} {sp : Space} (v : View sig κ sp S1x3x2816 .f32) (k : Fin 3) (inb)
    (L : List (View.Piece (Elt Ideal) S1x3x2816 .f32)) (q : Fin 2816) :
    v.readCov L (rowR k inb).toLoadRect (ix3 0 0 q) = View.canon L (ix3 0 k q) := by
  rw [View.readCov_eq_canon']
  exact congrArg (View.canon L) (funext fun a => by match a with
    | ⟨0, _⟩ => rfl
    | ⟨1, _⟩ => exact Fin.ext rfl
    | ⟨2, _⟩ => exact Fin.ext (show 0 + 1 * q.val = q.val by omega))

/-- The three rows of the taps' gradient, written one after another: row 2, row 0, row 1. -/
theorem rows_at (i0 i1 i2) (w0 w1 w2 : Vec Ideal S1x1x2816 .f32) (L : List (View.Piece (Elt Ideal) S1x3x2816 .f32)) (f : Fin 3 → EReal) (q : Fin 2816)
    (e0 : w0 (ix3 0 0 q) = f 0) (e1 : w1 (ix3 0 0 q) = f 1) (e2 : w2 (ix3 0 0 q) = f 2) (k : Fin 3) :
    View.canon (⟨rowR 1 i1, w1⟩ :: ⟨rowR 0 i0, w0⟩ :: ⟨rowR 2 i2, w2⟩ :: L) (ix3 0 k q) = f k := by
  match k with
  | 0 => exact (row_other 1 0 (by decide) _ _ _ _).trans ((row_here 0 _ _ _ _).trans e0)
  | 1 => exact (row_here 1 _ _ _ _).trans e1
  | 2 => exact (row_other 1 2 (by decide) _ _ _ _).trans ((row_other 0 2 (by decide) _ _ _ _).trans ((row_here 2 _ _ _ _).trans e2))

/-- The convolution's rows of a tile as the tile computes them. -/
abbrev cvT {sig : RefSig} {κ : Kind} {sp : Space} (v : View sig κ sp S288x2816 .f32) (ic : grid0.Coords) (x3 : Vec Ideal S1x256x2816 .bf16)
    (x4 x5 : Vec Ideal S1x16x2816 .bf16) (x9 : Vec Ideal S1x3x2816 .f32) (x10 : Vec Ideal S1x1x2816 .f32) : FVec Ideal S272x2816 .f32 :=
  k0_pay11 x9 x10 (v.readCov (upL ic x3 x4 x5) (Rect.unit (s := S288x2816) ![14, 0] S272x2816.size inb_S288x2816_S272x2816_14_0).toLoadRect)
    (v.readCov (upL ic x3 x4 x5) (Rect.unit (s := S288x2816) ![15, 0] S272x2816.size inb_S288x2816_S272x2816_15_0).toLoadRect)
    (v.readCov (upL ic x3 x4 x5) (Rect.unit (s := S288x2816) ![16, 0] S272x2816.size inb_S288x2816_S272x2816_16_0).toLoadRect)

/-- The cotangent's rows of a tile as the tile computes them. -/
abbrev dhT (ic : grid0.Coords) (x0 : Vec Ideal S256x1024 .f32) (x1 : Vec Ideal S16x1024 .f32) : FVec Ideal S272x1024 .bf16 :=
  k0_pay12 (BitVec.ofNat 32 (ic 1).val) x0 x1

/-- The cotangent of the convolution at a shift of `o` rows, as the tile reads it back. -/
abbrev dcT {sig : RefSig} {κ : Kind} {sp : Space} (w : View sig κ sp S272x2816 .f32) (o : ℕ)
    (inb : ∀ a, (![o, 0] : Fin 2 → ℕ) a + S256x2816.size a ≤ S272x2816.size a)
    (v59 : FVec Ideal S272x2816 .f32) (v66 : FVec Ideal S272x1024 .bf16) (x8 : Vec Ideal S1x1408x1024 .bf16) : Vec Ideal S256x2816 .f32 :=
  w.readCov (dcvL v59 v66 x8) (Rect.unit (s := S272x2816) ![o, 0] S256x2816.size inb).toLoadRect

/-- The rows of the projection up at a shift of `o` rows, as the tile reads them back. -/
abbrev upT {sig : RefSig} {κ : Kind} {sp : Space} (v : View sig κ sp S288x2816 .f32) (o : ℕ)
    (inb : ∀ a, (![o, 0] : Fin 2 → ℕ) a + S256x2816.size a ≤ S288x2816.size a) (ic : grid0.Coords) (x3 : Vec Ideal S1x256x2816 .bf16)
    (x4 x5 : Vec Ideal S1x16x2816 .bf16) : Vec Ideal S256x2816 .f32 :=
  v.readCov (upL ic x3 x4 x5) (Rect.unit (s := S288x2816) ![o, 0] S256x2816.size inb).toLoadRect

section

variable {sig : RefSig} {κ : Kind} {sp : Space} (v : View sig κ sp S288x2816 .f32) (w : View sig κ sp S272x2816 .f32)
variable {A : Args} {j i : ℕ} {ic : grid0.Coords} {x0 : Vec Ideal S256x1024 .f32} {x1 : Vec Ideal S16x1024 .f32}
  {x2 : Vec Ideal S256x1024 .f32} {x3 : Vec Ideal S1x256x2816 .bf16} {x4 x5 : Vec Ideal S1x16x2816 .bf16}
  {x6 : Vec Ideal S1x1024 .f32} {x7 : Vec Ideal S1x1024x2816 .bf16} {x8 : Vec Ideal S1x1408x1024 .bf16}
  {x9 : Vec Ideal S1x3x2816 .f32} {x10 : Vec Ideal S1x1x2816 .f32}
  (H : Blocks A j i ic x0 x1 x2 x3 x4 x5 x6 x7 x8 x9 x10)

include H

/-- A load of the convolution's cotangent, shifted by `o` rows. -/
theorem dcT_eq {o : ℕ} (inb) (r : Fin 256) (q : Fin 2816) :
    dcT w o inb (cvT v ic x3 x4 x5 x9 x10) (dhT ic x0 x1) x8 (ix2 r q) = A.dz (256 * i + r.val + o) (col j q.val) :=
  dcv_load H w (fun r q h => cv_rows H v r q h) (fun r d => dh_rows H r d) inb r q

/-- The cotangent of the projection up in a tile. -/
theorem dupT_eq (i0 i1 i2) (r : Fin 256) (q : Fin 2816) :
    k0_pay31 (k0_pay10 x9) (k0_pay25 (k0_pay10 x9) (dcT w 0 i0 (cvT v ic x3 x4 x5 x9 x10) (dhT ic x0 x1) x8))
      (dcT w 2 i2 (cvT v ic x3 x4 x5 x9 x10) (dhT ic x0 x1) x8) (dcT w 1 i1 (cvT v ic x3 x4 x5 x9 x10) (dhT ic x0 x1) x8) (ix2 r q)
      = A.dup (256 * i + r.val) (col j q.val) :=
  dup_eq A j i (fun k q => (pay10_apply x9 k q).trans (H.h9 k q)) (fun r q => dcT_eq v w H i0 r q) (fun r q => dcT_eq v w H i2 r q)
    (fun r q => dcT_eq v w H i1 r q) r q

/-- The gradient of the normalised input, the rows of a tile. -/
theorem part_tile (i0 i1 i2) (r : Fin 256) (d : Fin 1024) :
    k0_pay32 (k0_pay10 x9) (k0_pay25 (k0_pay10 x9) (dcT w 0 i0 (cvT v ic x3 x4 x5 x9 x10) (dhT ic x0 x1) x8))
      (dcT w 2 i2 (cvT v ic x3 x4 x5 x9 x10) (dhT ic x0 x1) x8) (dcT w 1 i1 (cvT v ic x3 x4 x5 x9 x10) (dhT ic x0 x1) x8) x7 (ix3 0 r d)
      = A.part j (256 * i + r.val) d.val :=
  part_eq A j i (fun r q => dupT_eq v w H i0 i1 i2 r q) H.h7 r d

/-- The gradient of the weight of the projection up, a tile added. -/
theorem up_tile (i0 i1 i2) (acc : Vec Ideal S1024x2816 .f32) (d : Fin 1024) (q : Fin 2816) :
    k0_pay1 (k0_pay6 x2 x6) (k0_pay31 (k0_pay10 x9) (k0_pay25 (k0_pay10 x9) (dcT w 0 i0 (cvT v ic x3 x4 x5 x9 x10) (dhT ic x0 x1) x8))
      (dcT w 2 i2 (cvT v ic x3 x4 x5 x9 x10) (dhT ic x0 x1) x8) (dcT w 1 i1 (cvT v ic x3 x4 x5 x9 x10) (dhT ic x0 x1) x8)) acc (ix2 d q)
      = acc (ix2 d q) + upTerm A j i d.val q.val :=
  up_eq A j i (fun r d => hn_eq A i H.h2 H.h6 r d) (fun r q => dupT_eq v w H i0 i1 i2 r q) acc d q

/-- The gradient of the weight of the projection down, a tile added. -/
theorem dn_tile (acc : Vec Ideal S1408x1024 .f32) (f : Fin 1408) (d : Fin 1024) :
    k0_pay23 (k0_pay22 (cvT v ic x3 x4 x5 x9 x10) (dhT ic x0 x1) acc) (ix2 f d) = acc (ix2 f d) + dnTerm A j i f.val d.val :=
  dn_eq A j i H.hi (fun r q h => cv_rows H v r q h) (fun r d => dh_rows H r d) acc f d

/-- The gradient of the bias, a tile added. -/
theorem cb_tile (i0) (acc : Vec Ideal S1x1x2816 .f32) (q : Fin 2816) :
    k0_pay24 (dcT w 0 i0 (cvT v ic x3 x4 x5 x9 x10) (dhT ic x0 x1) x8) acc (ix3 0 0 q) = acc (ix3 0 0 q) + cbTerm A j i q.val := by
  refine (pay24_apply _ _ _).trans (congrArg _ (Finset.sum_congr rfl fun r _ => dcT_eq v w H i0 r q))

omit H in
/-- The sum over a tile's rows that a tap's gradient gains. -/
theorem cw_sum {v113 v127 : Vec Ideal S256x2816 .f32} (k : Fin 3) (q : Fin 2816)
    (h1 : ∀ r : Fin 256, v113 (ix2 r q) = A.dz (256 * i + r.val) (col j q.val))
    (h2 : ∀ r : Fin 256, v127 (ix2 r q) = A.upp (256 * i + r.val + k.val) (col j q.val)) :
    ∑ r : Fin 256, v113 (ix2 r q) * v127 (ix2 r q) = cwTerm A j i k.val q.val :=
  Finset.sum_congr rfl fun r _ => by rw [h1, h2]

/-- A load of the projection up, shifted for tap `k`. -/
theorem upT_eq (k : Fin 3) (inb) (r : Fin 256) (q : Fin 2816) :
    upT v (14 + k.val) inb ic x3 x4 x5 (ix2 r q) = A.upp (256 * i + r.val + k.val) (col j q.val) := by
  have hi := H.hi
  have hr := r.isLt
  have hk := k.isLt
  refine (up_load H v inb (by omega) r q (by omega)).trans ?_
  congr 1; omega

/-- The gradient of tap 0, a tile added. -/
theorem cw0_tile (i0 i1) (acc : Vec Ideal S1x1x2816 .f32) (q : Fin 2816) :
    k0_pay29 (k0_pay27 acc) (k0_pay28 (dcT w 0 i0 (cvT v ic x3 x4 x5 x9 x10) (dhT ic x0 x1) x8) (upT v 14 i1 ic x3 x4 x5)) (ix3 0 0 q)
      = acc (ix3 0 0 q) + cwTerm A j i 0 q.val :=
  (pay29_apply _ _ _ _).trans (congrArg _ (cw_sum 0 q (fun r => dcT_eq v w H i0 r q) (fun r => upT_eq v H 0 i1 r q)))

/-- The gradient of tap 1, a tile added. -/
theorem cw1_tile (i0 i1) (acc : Vec Ideal S1x1x2816 .f32) (q : Fin 2816) :
    k0_pay30 (dcT w 0 i0 (cvT v ic x3 x4 x5 x9 x10) (dhT ic x0 x1) x8) acc (upT v 15 i1 ic x3 x4 x5) (ix3 0 0 q)
      = acc (ix3 0 0 q) + cwTerm A j i 1 q.val :=
  (pay30_apply _ _ _ _).trans (congrArg _ (cw_sum 1 q (fun r => dcT_eq v w H i0 r q) (fun r => upT_eq v H 1 i1 r q)))

/-- The gradient of tap 2, a tile added. -/
theorem cw2_tile (i0 i1) (acc : Vec Ideal S1x1x2816 .f32) (q : Fin 2816) :
    k0_pay26 (dcT w 0 i0 (cvT v ic x3 x4 x5 x9 x10) (dhT ic x0 x1) x8) acc (upT v 16 i1 ic x3 x4 x5) (ix3 0 0 q)
      = acc (ix3 0 0 q) + cwTerm A j i 2 q.val :=
  (pay26_apply _ _ _ _).trans (congrArg _ (cw_sum 2 q (fun r => dcT_eq v w H i0 r q) (fun r => upT_eq v H 2 i1 r q)))

end

end Cert.Tile

end
-- ==== Proof.Held.Source.lean ====
module

public import proofs.«01_k».proof.Proof.Held.Slab
public import proofs.«01_k».proof.Proof.Held.Copies
public import proofs.«01_k».proof.Proof.Tile.Stage
public import proofs.«01_k».proof.Proof.Gen.KernelIdeal.Frame

@[expose] public section

set_option maxRecDepth 8000

noncomputable section

/-! What the copies of the last tile of a half put into the two weight gradients, entry by entry. -/

namespace Cert.Held

open Cert.KernelIdeal Cert.KernelIdeal.Gen Idealize.ShloMosaic Idealize.ShloMosaic.TcCoe Idealize.ShloMosaic.Tactic
open Cert.Tile (zero2)

variable (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i) (x0 : Vec Ideal S256x1024 .f32) (x1 : Vec Ideal S16x1024 .f32) (x2 : Vec Ideal S256x1024 .f32) (x3 : Vec Ideal S1x256x2816 .bf16) (x4 : Vec Ideal S1x16x2816 .bf16) (x5 : Vec Ideal S1x16x2816 .bf16) (x6 : Vec Ideal S1x1024 .f32) (x7 : Vec Ideal S1x1024x2816 .bf16) (x8 : Vec Ideal S1x1408x1024 .bf16) (x9 : Vec Ideal S1x3x2816 .f32) (x10 : Vec Ideal S1x1x2816 .f32) (xo12 : Vec Ideal S1x3x2816 .f32) (xo13 : Vec Ideal S1x1x2816 .f32) (xs2 : Vec Ideal S1024x2816 .f32) (xs3 : Vec Ideal S1408x1024 .f32)
  (fw0 : HbBuf0 (F := Ideal) c hbM0_0) (fw1 : HbBuf0 (F := Ideal) c hbM0_1)

/-- The first copy's source: the left half of the accumulator. -/
theorem src_lo (d : Fin 1024) (f : Fin 1408) :
    kernelRun0_C.sl.dma50 c i arg2 harg2 arg3 harg3 arg4 harg4 arg5 harg5 arg6 harg6 arg7 harg7 arg8 harg8 arg10 harg10 arg11 harg11 arg12 harg12 arg18 arg19 arg20 harg20 x0 x1 x2 x3 x4 x5 x6 x8 x9 x10 xs2 (ix2 d f)
      = sout0_C_2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 d (⟨f.val, by omega⟩ : Fin 2816)) := by
  unfold kernelRun0_C.sl.dma50 sout0_C_2 kernelRun0_C
  dsimp only
  rw [View.read_writes_junk_eq_canon]
  unfold kernelRun0_C.sl.HS2_1
  rw [View.canon_cons_unit_zero zero2]
  refine (congrFun (View.read_writes_full arg20.view _ _ _ _) _).trans (congrArg _ (funext fun a => Fin.ext ?_))
  match a with
  | ⟨0, _⟩ => show 0 + 1 * d.val = d.val; omega
  | ⟨1, _⟩ => show 0 + 1 * f.val = f.val; omega

/-- The second copy's source: the right half. -/
theorem src_hi (d : Fin 1024) (f : Fin 1408) :
    kernelRun0_C.sl.dma50_1 c i arg2 harg2 arg3 harg3 arg4 harg4 arg5 harg5 arg6 harg6 arg7 harg7 arg8 harg8 arg10 harg10 arg11 harg11 arg12 harg12 arg18 arg19 arg20 harg20 x0 x1 x2 x3 x4 x5 x6 x8 x9 x10 xs2 (ix2 d f)
      = sout0_C_2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 d (⟨1408 + f.val, by omega⟩ : Fin 2816)) := by
  unfold kernelRun0_C.sl.dma50_1 sout0_C_2 kernelRun0_C
  dsimp only
  rw [View.read_writes_junk_eq_canon]
  unfold kernelRun0_C.sl.HS2_1
  rw [View.canon_cons_unit_zero zero2]
  refine (congrFun (View.read_writes_full arg20.view _ _ _ _) _).trans (congrArg _ (funext fun a => Fin.ext ?_))
  match a with
  | ⟨0, _⟩ => show 0 + 1 * d.val = d.val; omega
  | ⟨1, _⟩ => show 1408 + 1 * f.val = 1408 + f.val; omega

/-- The third copy's source: the other accumulator. -/
theorem src_dn (f : Fin 1408) (d : Fin 1024) :
    kernelRun0_C.sl.dma50_2 c i arg2 harg2 arg3 harg3 arg5 harg5 arg6 harg6 arg7 harg7 arg11 harg11 arg12 harg12 arg18 arg21 harg21 x0 x1 x3 x4 x5 x9 x10 xs3 (ix2 f d)
      = sout0_C_3 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 f d) := by
  unfold kernelRun0_C.sl.dma50_2 sout0_C_3 kernelRun0_C
  dsimp only
  rw [View.read_writes_junk_eq_canon]
  unfold kernelRun0_C.sl.HS3_1
  rw [View.canon_cons_unit_zero zero2]
  exact congrFun (View.read_writes_full arg21.view _ _ _ _) _

end Cert.Held

end
-- ==== Proof.Held.RunA.lean ====
module

public import proofs.«01_k».proof.Proof.Gen.KernelIdeal.Frame.RunC

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's run at the first tile of a half: the two weight gradients keep what they hold; every other buffer ends as the frame's run of the same case says. -/
noncomputable def heldRun_A (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (fw0 : HbBuf0 (F := F) c hbM0_0) (fw1 : HbBuf0 (F := F) c hbM0_1) :
    Σ' (L11 : List (View.Piece (Elt F) S1x256x1024 .f32)), Σ' (L12 : List (View.Piece (Elt F) S1x3x2816 .f32)), Σ' (L13 : List (View.Piece (Elt F) S1x1x2816 .f32)), Σ' (LS2 : List (View.Piece (Elt F) S1024x2816 .f32)), Σ' (LS3 : List (View.Piece (Elt F) S1408x1024 .f32)), Σ' (LT0 : List (View.Piece (Elt F) S288x2816 .f32)), { LT1 : List (View.Piece (Elt F) S272x2816 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f L13) ∗ (∃ f, arg18.view.loc (c : Thread nD τ) ↦[arg18.view.set]{fullShare} arg18.view.writes (Elt F) f LT0) ∗ (∃ f, arg19.view.loc (c : Thread nD τ) ↦[arg19.view.set]{fullShare} arg19.view.writes (Elt F) f LT1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 (Memref.whole main_v32_1) (Memref.isWhole_whole _) (Memref.whole main_v32_2) (Memref.isWhole_whole _) arg16 harg16 arg17 harg17 arg18 harg18 arg19 harg19 arg20 harg20 arg21 harg21 cc0_scoped0 cc0_scoped1 cc0_scoped2) K } := by
  refine ⟨?_, ?_, ?_, ?_, ?_, ?_, ?_, fun W K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hq0, Hq1, Hq2, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hh0]; · iexact Hh0
    isplitl [Hh1]; · iexact Hh1
    iexists _; iexact HW

end Cert.Held

end
-- ==== Proof.Held.EqA.lean ====
module

public import proofs.«01_k».proof.Proof.Held.RunA

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The writes to the cotangent of the normalised input are those of the launch's own run. -/
theorem heldA_L11 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (fw0 : HbBuf0 (F := F) c hbM0_0) (fw1 : HbBuf0 (F := F) c hbM0_1) :
    (heldRun_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1).1 = (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).1 := rfl

/-- The writes to the taps' gradients are those of the launch's own run. -/
theorem heldA_L12 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (fw0 : HbBuf0 (F := F) c hbM0_0) (fw1 : HbBuf0 (F := F) c hbM0_1) :
    (heldRun_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1).2.1 = (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.1 := rfl

/-- The writes to the bias's gradient are those of the launch's own run. -/
theorem heldA_L13 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (fw0 : HbBuf0 (F := F) c hbM0_0) (fw1 : HbBuf0 (F := F) c hbM0_1) :
    (heldRun_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1).2.2.1 = (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.1 := rfl

/-- The writes to the accumulator of the weight up are those of the launch's own run. -/
theorem heldA_LS2 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (fw0 : HbBuf0 (F := F) c hbM0_0) (fw1 : HbBuf0 (F := F) c hbM0_1) :
    (heldRun_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1).2.2.2.1 = (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.2.1 := rfl

/-- The writes to the accumulator of the weight down are those of the launch's own run. -/
theorem heldA_LS3 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (fw0 : HbBuf0 (F := F) c hbM0_0) (fw1 : HbBuf0 (F := F) c hbM0_1) :
    (heldRun_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1).2.2.2.2.1 = (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.2.2.1 := rfl

/-- The writes to the scratch rows of the projection up are those of the launch's own run. -/
theorem heldA_LT0 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (fw0 : HbBuf0 (F := F) c hbM0_0) (fw1 : HbBuf0 (F := F) c hbM0_1) :
    (heldRun_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1).2.2.2.2.2.1 = (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.2.2.2.1 := rfl

/-- The writes to the scratch rows of the convolution's cotangent are those of the launch's own run. -/
theorem heldA_LT1 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (fw0 : HbBuf0 (F := F) c hbM0_0) (fw1 : HbBuf0 (F := F) c hbM0_1) :
    (heldRun_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1).2.2.2.2.2.2.1 = (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.2.2.2.2.1 := rfl

end Cert.Held

end
-- ==== Proof.Held.Swap.lean ====
module

public import proofs.«01_k».proof.Proof.Spec

@[expose] public section

namespace Cert.Held

/-- Seven equal things exchanged in a statement. -/
theorem swap7 {A1 A2 A3 A4 A5 A6 A7 : Type*} {P : A1 → A2 → A3 → A4 → A5 → A6 → A7 → Prop} {a1 b1 : A1} {a2 b2 : A2} {a3 b3 : A3}
    {a4 b4 : A4} {a5 b5 : A5} {a6 b6 : A6} {a7 b7 : A7} (h1 : a1 = b1) (h2 : a2 = b2) (h3 : a3 = b3) (h4 : a4 = b4) (h5 : a5 = b5)
    (h6 : a6 = b6) (h7 : a7 = b7) (h : P a1 a2 a3 a4 a5 a6 a7) : P b1 b2 b3 b4 b5 b6 b7 := by
  subst h1 h2 h3 h4 h5 h6 h7; exact h

end Cert.Held

end
-- ==== Proof.Held.AtA.lean ====
module

public import proofs.«01_k».proof.Proof.Held.EqA
public import proofs.«01_k».proof.Proof.Held.Swap

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The run of the case with the buffers as the frame's run of the same case leaves them. -/
theorem heldA_frame (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (fw0 : HbBuf0 (F := F) c hbM0_0) (fw1 : HbBuf0 (F := F) c hbM0_1) :
    ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).1) ∗ (∃ f, arg16.view.loc (c : Thread nD τ) ↦[arg16.view.set]{fullShare} arg16.view.writes (Elt F) f (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.1) ∗ (∃ f, arg17.view.loc (c : Thread nD τ) ↦[arg17.view.set]{fullShare} arg17.view.writes (Elt F) f (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.1) ∗ (∃ f, arg18.view.loc (c : Thread nD τ) ↦[arg18.view.set]{fullShare} arg18.view.writes (Elt F) f (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.2.2.2.1) ∗ (∃ f, arg19.view.loc (c : Thread nD τ) ↦[arg19.view.set]{fullShare} arg19.view.writes (Elt F) f (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.2.2.2.2.1) ∗ (∃ f, arg20.view.loc (c : Thread nD τ) ↦[arg20.view.set]{fullShare} arg20.view.writes (Elt F) f (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.2.1) ∗ (∃ f, arg21.view.loc (c : Thread nD τ) ↦[arg21.view.set]{fullShare} arg21.view.writes (Elt F) f (kernelRun0_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10).2.2.2.2.1) ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 (Memref.whole main_v32_1) (Memref.isWhole_whole _) (Memref.whole main_v32_2) (Memref.isWhole_whole _) arg16 harg16 arg17 harg17 arg18 harg18 arg19 harg19 arg20 harg20 arg21 harg21 cc0_scoped0 cc0_scoped1 cc0_scoped2) K :=
  swap7 (P := fun L11 L12 L13 LS2 LS3 LT0 LT1 => ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f L13) ∗ (∃ f, arg18.view.loc (c : Thread nD τ) ↦[arg18.view.set]{fullShare} arg18.view.writes (Elt F) f LT0) ∗ (∃ f, arg19.view.loc (c : Thread nD τ) ↦[arg19.view.set]{fullShare} arg19.view.writes (Elt F) f LT1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 (Memref.whole main_v32_1) (Memref.isWhole_whole _) (Memref.whole main_v32_2) (Memref.isWhole_whole _) arg16 harg16 arg17 harg17 arg18 harg18 arg19 harg19 arg20 harg20 arg21 harg21 cc0_scoped0 cc0_scoped1 cc0_scoped2) K)
    (heldA_L11 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1) (heldA_L12 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1) (heldA_L13 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1) (heldA_LS2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1) (heldA_LS3 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1) (heldA_LT0 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1) (heldA_LT1 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1) (heldRun_A c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 fw0 fw1).2.2.2.2.2.2.2

end Cert.Held

end
-- ==== Proof.Held.RunB.lean ====
module

public import proofs.«01_k».proof.Proof.Gen.KernelIdeal.Frame.RunC

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's run at an inner tile: the two weight gradients keep what they hold; every other buffer ends as the frame's run of the same case says. -/
noncomputable def heldRun_B (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    Σ' (L11 : List (View.Piece (Elt F) S1x256x1024 .f32)), Σ' (L12 : List (View.Piece (Elt F) S1x3x2816 .f32)), Σ' (L13 : List (View.Piece (Elt F) S1x1x2816 .f32)), Σ' (LS2 : List (View.Piece (Elt F) S1024x2816 .f32)), Σ' (LS3 : List (View.Piece (Elt F) S1408x1024 .f32)), Σ' (LT0 : List (View.Piece (Elt F) S288x2816 .f32)), { LT1 : List (View.Piece (Elt F) S272x2816 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg16 fullShare xo12 ∗ owns (c : Thread nD τ) arg17 fullShare xo13 ∗ (∃ d, owns (c : Thread nD τ) arg18 fullShare d) ∗ (∃ d, owns (c : Thread nD τ) arg19 fullShare d) ∗ owns (c : Thread nD τ) arg20 fullShare xs2 ∗ owns (c : Thread nD τ) arg21 fullShare xs3 ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f L13) ∗ (∃ f, arg18.view.loc (c : Thread nD τ) ↦[arg18.view.set]{fullShare} arg18.view.writes (Elt F) f LT0) ∗ (∃ f, arg19.view.loc (c : Thread nD τ) ↦[arg19.view.set]{fullShare} arg19.view.writes (Elt F) f LT1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 (Memref.whole main_v32_1) (Memref.isWhole_whole _) (Memref.whole main_v32_2) (Memref.isWhole_whole _) arg16 harg16 arg17 harg17 arg18 harg18 arg19 harg19 arg20 harg20 arg21 harg21 cc0_scoped0 cc0_scoped1 cc0_scoped2) K } := by
  refine ⟨?_, ?_, ?_, ?_, ?_, ?_, ?_, fun W K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%ds0, %fs0, -, HS0⟩, ⟨%ds1, %fs1, -, HS1⟩, ⟨%fs2, %hfs2, HS2⟩, ⟨%fs3, %hfs3, HS3⟩, Hq0, Hq1, Hq2, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf12; obtain rfl := harg17.eq_unread hf13; obtain rfl := harg20.eq_unread hfs2; obtain rfl := harg21.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hh0]; · iexact Hh0
    isplitl [Hh1]; · iexact Hh1
    iexists _; iexact HW

end Cert.Held

end
-- ==== Proof.Held.EqB.lean ====
module

public import proofs.«01_k».proof.Proof.Held.RunB

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The writes to the cotangent of the normalised input are those of the launch's own run. -/
theorem heldB_L11 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).1 = (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).1 := rfl

/-- The writes to the taps' gradients are those of the launch's own run. -/
theorem heldB_L12 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.1 = (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.1 := rfl

/-- The writes to the bias's gradient are those of the launch's own run. -/
theorem heldB_L13 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.1 = (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.1 := rfl

/-- The writes to the accumulator of the weight up are those of the launch's own run. -/
theorem heldB_LS2 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.1 = (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.1 := rfl

/-- The writes to the accumulator of the weight down are those of the launch's own run. -/
theorem heldB_LS3 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.1 = (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.1 := rfl

/-- The writes to the scratch rows of the projection up are those of the launch's own run. -/
theorem heldB_LT0 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.1 = (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.2.1 := rfl

/-- The writes to the scratch rows of the convolution's cotangent are those of the launch's own run. -/
theorem heldB_LT1 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.1 = (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.2.2.1 := rfl

end Cert.Held

end
-- ==== Proof.Held.AtB.lean ====
module

public import proofs.«01_k».proof.Proof.Held.EqB
public import proofs.«01_k».proof.Proof.Held.Swap

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The run of the case with the buffers as the frame's run of the same case leaves them. -/
theorem heldB_frame (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg16 fullShare xo12 ∗ owns (c : Thread nD τ) arg17 fullShare xo13 ∗ (∃ d, owns (c : Thread nD τ) arg18 fullShare d) ∗ (∃ d, owns (c : Thread nD τ) arg19 fullShare d) ∗ owns (c : Thread nD τ) arg20 fullShare xs2 ∗ owns (c : Thread nD τ) arg21 fullShare xs3 ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).1) ∗ (∃ f, arg16.view.loc (c : Thread nD τ) ↦[arg16.view.set]{fullShare} arg16.view.writes (Elt F) f (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.1) ∗ (∃ f, arg17.view.loc (c : Thread nD τ) ↦[arg17.view.set]{fullShare} arg17.view.writes (Elt F) f (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.1) ∗ (∃ f, arg18.view.loc (c : Thread nD τ) ↦[arg18.view.set]{fullShare} arg18.view.writes (Elt F) f (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.2.1) ∗ (∃ f, arg19.view.loc (c : Thread nD τ) ↦[arg19.view.set]{fullShare} arg19.view.writes (Elt F) f (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.2.2.1) ∗ (∃ f, arg20.view.loc (c : Thread nD τ) ↦[arg20.view.set]{fullShare} arg20.view.writes (Elt F) f (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.1) ∗ (∃ f, arg21.view.loc (c : Thread nD τ) ↦[arg21.view.set]{fullShare} arg21.view.writes (Elt F) f (kernelRun0_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.1) ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 (Memref.whole main_v32_1) (Memref.isWhole_whole _) (Memref.whole main_v32_2) (Memref.isWhole_whole _) arg16 harg16 arg17 harg17 arg18 harg18 arg19 harg19 arg20 harg20 arg21 harg21 cc0_scoped0 cc0_scoped1 cc0_scoped2) K :=
  swap7 (P := fun L11 L12 L13 LS2 LS3 LT0 LT1 => ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg16 fullShare xo12 ∗ owns (c : Thread nD τ) arg17 fullShare xo13 ∗ (∃ d, owns (c : Thread nD τ) arg18 fullShare d) ∗ (∃ d, owns (c : Thread nD τ) arg19 fullShare d) ∗ owns (c : Thread nD τ) arg20 fullShare xs2 ∗ owns (c : Thread nD τ) arg21 fullShare xs3 ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f L13) ∗ (∃ f, arg18.view.loc (c : Thread nD τ) ↦[arg18.view.set]{fullShare} arg18.view.writes (Elt F) f LT0) ∗ (∃ f, arg19.view.loc (c : Thread nD τ) ↦[arg19.view.set]{fullShare} arg19.view.writes (Elt F) f LT1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 (Memref.whole main_v32_1) (Memref.isWhole_whole _) (Memref.whole main_v32_2) (Memref.isWhole_whole _) arg16 harg16 arg17 harg17 arg18 harg18 arg19 harg19 arg20 harg20 arg21 harg21 cc0_scoped0 cc0_scoped1 cc0_scoped2) K)
    (heldB_L11 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldB_L12 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldB_L13 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldB_LS2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldB_LS3 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldB_LT0 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldB_LT1 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldRun_B c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2

end Cert.Held

end
-- ==== Proof.Held.EqC.lean ====
module

public import proofs.«01_k».proof.Proof.Held.RunC

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The writes to the cotangent of the normalised input are those of the launch's own run. -/
theorem heldC_L11 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).1 = (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).1 := rfl

/-- The writes to the taps' gradients are those of the launch's own run. -/
theorem heldC_L12 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.1 = (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.1 := rfl

/-- The writes to the bias's gradient are those of the launch's own run. -/
theorem heldC_L13 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.1 = (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.1 := rfl

/-- The writes to the accumulator of the weight up are those of the launch's own run. -/
theorem heldC_LS2 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.1 = (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.1 := rfl

/-- The writes to the accumulator of the weight down are those of the launch's own run. -/
theorem heldC_LS3 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.1 = (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.1 := rfl

/-- The writes to the scratch rows of the projection up are those of the launch's own run. -/
theorem heldC_LT0 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.1 = (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.2.1 := rfl

/-- The writes to the scratch rows of the convolution's cotangent are those of the launch's own run. -/
theorem heldC_LT1 (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.1 = (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.2.2.1 := rfl

end Cert.Held

end
-- ==== Proof.Held.AtC.lean ====
module

public import proofs.«01_k».proof.Proof.Held.EqC
public import proofs.«01_k».proof.Proof.Held.Swap

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The run of the case with the buffers as the frame's run of the same case leaves them. -/
theorem heldC_frame (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec F S256x1024 .f32) (x1 : Vec F S16x1024 .f32) (x2 : Vec F S256x1024 .f32) (x3 : Vec F S1x256x2816 .bf16) (x4 : Vec F S1x16x2816 .bf16) (x5 : Vec F S1x16x2816 .bf16) (x6 : Vec F S1x1024 .f32) (x7 : Vec F S1x1024x2816 .bf16) (x8 : Vec F S1x1408x1024 .bf16) (x9 : Vec F S1x3x2816 .f32) (x10 : Vec F S1x1x2816 .f32) (xo12 : Vec F S1x3x2816 .f32) (xo13 : Vec F S1x1x2816 .f32) (xs2 : Vec F S1024x2816 .f32) (xs3 : Vec F S1408x1024 .f32) (fw0 : HbBuf0 (F := F) c hbM0_0) (fw1 : HbBuf0 (F := F) c hbM0_1) :
    ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg16 fullShare xo12 ∗ owns (c : Thread nD τ) arg17 fullShare xo13 ∗ (∃ d, owns (c : Thread nD τ) arg18 fullShare d) ∗ (∃ d, owns (c : Thread nD τ) arg19 fullShare d) ∗ owns (c : Thread nD τ) arg20 fullShare xs2 ∗ owns (c : Thread nD τ) arg21 fullShare xs3 ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).1) ∗ (∃ f, arg16.view.loc (c : Thread nD τ) ↦[arg16.view.set]{fullShare} arg16.view.writes (Elt F) f (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.1) ∗ (∃ f, arg17.view.loc (c : Thread nD τ) ↦[arg17.view.set]{fullShare} arg17.view.writes (Elt F) f (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.1) ∗ (∃ f, arg18.view.loc (c : Thread nD τ) ↦[arg18.view.set]{fullShare} arg18.view.writes (Elt F) f (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.2.1) ∗ (∃ f, arg19.view.loc (c : Thread nD τ) ↦[arg19.view.set]{fullShare} arg19.view.writes (Elt F) f (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.2.2.1) ∗ (∃ f, arg20.view.loc (c : Thread nD τ) ↦[arg20.view.set]{fullShare} arg20.view.writes (Elt F) f (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.1) ∗ (∃ f, arg21.view.loc (c : Thread nD τ) ↦[arg21.view.set]{fullShare} arg21.view.writes (Elt F) f (kernelRun0_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3).2.2.2.2.1) ∗ semVal ((c : Thread nD τ), SemLoc.dma 25) 0 ∗ semVal ((c : Thread nD τ), SemLoc.dma 26) 0 ∗ semVal ((c : Thread nD τ), SemLoc.dma 27) 0 ∗ hbPt0 c hbM0_0 (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.1 ∗ hbPt0 c hbM0_1 (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.2.1 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 (Memref.whole main_v32_1) (Memref.isWhole_whole _) (Memref.whole main_v32_2) (Memref.isWhole_whole _) arg16 harg16 arg17 harg17 arg18 harg18 arg19 harg19 arg20 harg20 arg21 harg21 cc0_scoped0 cc0_scoped1 cc0_scoped2) K :=
  swap7 (P := fun L11 L12 L13 LS2 LS3 LT0 LT1 => ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg16 fullShare xo12 ∗ owns (c : Thread nD τ) arg17 fullShare xo13 ∗ (∃ d, owns (c : Thread nD τ) arg18 fullShare d) ∗ (∃ d, owns (c : Thread nD τ) arg19 fullShare d) ∗ owns (c : Thread nD τ) arg20 fullShare xs2 ∗ owns (c : Thread nD τ) arg21 fullShare xs3 ∗ semVal ((c : Thread nD τ), SemLoc.dma 25) 0 ∗ semVal ((c : Thread nD τ), SemLoc.dma 26) 0 ∗ semVal ((c : Thread nD τ), SemLoc.dma 27) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f L13) ∗ (∃ f, arg18.view.loc (c : Thread nD τ) ↦[arg18.view.set]{fullShare} arg18.view.writes (Elt F) f LT0) ∗ (∃ f, arg19.view.loc (c : Thread nD τ) ↦[arg19.view.set]{fullShare} arg19.view.writes (Elt F) f LT1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3) ∗ semVal ((c : Thread nD τ), SemLoc.dma 25) 0 ∗ semVal ((c : Thread nD τ), SemLoc.dma 26) 0 ∗ semVal ((c : Thread nD τ), SemLoc.dma 27) 0 ∗ hbPt0 c hbM0_0 (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.1 ∗ hbPt0 c hbM0_1 (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.2.1 ∗ (∃ W', owes (c : Thread nD τ) 0 W')) -∗ K ⟨⟩))
          ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 (Memref.whole main_v32_1) (Memref.isWhole_whole _) (Memref.whole main_v32_2) (Memref.isWhole_whole _) arg16 harg16 arg17 harg17 arg18 harg18 arg19 harg19 arg20 harg20 arg21 harg21 cc0_scoped0 cc0_scoped1 cc0_scoped2) K)
    (heldC_L11 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldC_L12 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldC_L13 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldC_LS2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldC_LS3 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldC_LT0 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldC_LT1 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1) (heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.2.2

end Cert.Held

end
-- ==== Proof.Held.Body.lean ====
module

public import proofs.«01_k».proof.Proof.Held.AtA
public import proofs.«01_k».proof.Proof.Held.AtB
public import proofs.«01_k».proof.Proof.Held.AtC
public import proofs.«01_k».proof.Proof.Gen.KernelIdeal.Frame
public import Idealize.ShloMosaic.Lib.Pipeline.FrameValue

@[expose] public section

set_option maxRecDepth 16384

noncomputable section

namespace Cert.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the last tile of a half leaves in the two weight gradients it copies out to, over what they held. -/
def hbStep (c : Dev nD) (t : Fin cfg0.N) (h0 : ¬t.val % 64 = 0) (h1 : t.val % 64 = 63)
    (fw : HbBuf0 (F := F) c hbM0_0 × HbBuf0 (F := F) c hbM0_1) : HbBuf0 (F := F) c hbM0_0 × HbBuf0 (F := F) c hbM0_1 :=
  ((heldRun_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 fw.1 fw.2).2.2.2.2.2.2.2.1,
   (heldRun_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 fw.1 fw.2).2.2.2.2.2.2.2.2.1)

/-- What the two weight gradients hold before grid point `n`: their launch contents, changed at the last tile of each half. -/
def hbAt (c : Dev nD) : ℕ → HbBuf0 (F := F) c hbM0_0 × HbBuf0 (F := F) c hbM0_1
  | 0 => (V m c main_v32_1, V m c main_v32_2)
  | n + 1 => if h : n < cfg0.N ∧ n % 64 = 63 then hbStep m c ⟨n, h.1⟩ (by dsimp only; omega) h.2 (hbAt c n) else hbAt c n

/-- A point that is not the last tile of a half changes neither weight gradient. -/
theorem hbAt_same (c : Dev nD) (n : ℕ) (h : ¬n % 64 = 63) : hbAt m c (n + 1) = hbAt m c n := by
  rw [hbAt, dif_neg (fun e => h e.2)]

/-- The last tile of a half changes them by its copies out. -/
theorem hbAt_step (c : Dev nD) (t : Fin cfg0.N) (h0 : ¬t.val % 64 = 0) (h1 : t.val % 64 = 63) :
    hbAt m c (t.val + 1) = hbStep m c t h0 h1 (hbAt m c t.val) := by
  rw [hbAt, dif_pos ⟨t.isLt, h1⟩]

/-- The written operands' points-tos at the launch contents, listed. -/
theorem heldV_eq (c : Dev nD) :
    (Pipeline.routed R0 c ((V m) c) : sProp 𝕄) = iprop(hbPt0 c hbM0_0 (hbAt m c 0).1 ∗ hbPt0 c hbM0_1 (hbAt m c 0).2) := by
  unfold Pipeline.routed; rw [BI.bigSep_eq_bigSepL_of_eq [main_v32_1, main_v32_2] (by decide) (by decide)]; rfl

/-- The invariant the launch hands the first point, conjunct by conjunct. -/
theorem PhiIn_eq (c : Dev nD) :
    (Pipeline.ΦDRG osem0 spec0 H0 R0 (V m) (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 25) 0 ∗ semVal ((c : Thread nD τ), SemLoc.dma 26) 0 ∗ semVal ((c : Thread nD τ), SemLoc.dma 27) 0) ∗ iprop(emp) ∗ iprop(hbPt0 c hbM0_0 (hbAt m c 0).1 ∗ hbPt0 c hbM0_1 (hbAt m c 0).2)) := by
  rw [Pipeline.ΦDRG_eq, scopedRest0_eq, ownSems00_eq, hbmPts0_eq, heldV_eq]; simp only [scM0_0, scM0_1, scM0_2, scM0_3, owns_whole]; try rfl

/-- The region's invariant before point `n`: the frame's, with the two weight gradients at `hbAt`. -/
def PhiH (c : Dev nD) : (n : ℕ) → n ≤ cfg0.N → sProp 𝕄
  | 0, _ => Pipeline.ΦDRG osem0 spec0 H0 R0 (V m) (V m) c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2.2.2.1) ∗ owns (c : Thread nD τ) scM0_3 fullShare ((outsAt0 m c n hn).2.2.2.2)) ∗ (∃ r, prngReg c r) ∗ iprop(semVal ((c : Thread nD τ), SemLoc.dma 25) 0 ∗ semVal ((c : Thread nD τ), SemLoc.dma 26) 0 ∗ semVal ((c : Thread nD τ), SemLoc.dma 27) 0) ∗ iprop(emp) ∗ iprop(hbPt0 c hbM0_0 (hbAt m c (n + 1)).1 ∗ hbPt0 c hbM0_1 (hbAt m c (n + 1)).2))

/-- Before the first point. -/
theorem PhiH_zero (c : Dev nD) (n : ℕ) (h : n ≤ cfg0.N) (hz : n = 0) : PhiH m c n h
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 25) 0 ∗ semVal ((c : Thread nD τ), SemLoc.dma 26) 0 ∗ semVal ((c : Thread nD τ), SemLoc.dma 27) 0) ∗ iprop(emp) ∗ iprop(hbPt0 c hbM0_0 (hbAt m c n).1 ∗ hbPt0 c hbM0_1 (hbAt m c n).2)) := by
  subst hz; exact PhiIn_eq m c

/-- After point `n`. -/
theorem PhiH_succ (c : Dev nD) (n : ℕ) (hn : n < cfg0.N) :
    PhiH m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2.2.2.1) ∗ owns (c : Thread nD τ) scM0_3 fullShare ((outsAt0 m c n hn).2.2.2.2)) ∗ (∃ r, prngReg c r) ∗ iprop(semVal ((c : Thread nD τ), SemLoc.dma 25) 0 ∗ semVal ((c : Thread nD τ), SemLoc.dma 26) 0 ∗ semVal ((c : Thread nD τ), SemLoc.dma 27) 0) ∗ iprop(emp) ∗ iprop(hbPt0 c hbM0_0 (hbAt m c (n + 1)).1 ∗ hbPt0 c hbM0_1 (hbAt m c (n + 1)).2)) := rfl

/-- Before a point that is not the first. -/
theorem PhiH_pos (c : Dev nD) (n : ℕ) (h : n ≤ cfg0.N) (hz : n ≠ 0) :
    PhiH m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r) ∗ iprop(semVal ((c : Thread nD τ), SemLoc.dma 25) 0 ∗ semVal ((c : Thread nD τ), SemLoc.dma 26) 0 ∗ semVal ((c : Thread nD τ), SemLoc.dma 27) 0) ∗ iprop(emp) ∗ iprop(hbPt0 c hbM0_0 (hbAt m c n).1 ∗ hbPt0 c hbM0_1 (hbAt m c n).2)) := by
  cases n with
  | zero => exact absurd rfl hz
  | succ n => rfl

/-- The proof data of the frame, with the invariant that holds the two weight gradients. -/
def datsH (p : Fin 1) (c : Dev nD) : Dat τ (Elt F) Unit ℕ (Pipeline.UD sig nD τ) ℕ cfg0 c where
  A := (dats m p c).A
  after := (dats m p c).after
  Φ t := PhiH m c t.val (Nat.le_of_lt_succ t.isLt)
  q w := Pipeline.shareOf spec0 w
  owed _ := 0

/-- The arrays it starts from are the region-entry contents. -/
theorem A_eqH (c : Dev nD) (w : Fin cfg0.W) : (datsH m 0 c).A w = V m c (Pipeline.arrRef spec0 w) := by
  dsimp only [datsH]; exact A_eq m c w

/-- The invariant at a point's start. -/
theorem PhiH_castSucc (c : Dev nD) (t : Fin cfg0.N) :
    (datsH m 0 c).Φ t.castSucc = PhiH m c t.val (Nat.le_of_lt t.isLt) := by
  dsimp only [datsH]; exact Pipeline.Dat.Φ_castSucc (PhiH m c) t

/-- What each window holds before a point is the frame's. -/
theorem beforeH (c : Dev nD) (w : Fin cfg0.W) (t : Fin cfg0.N) (d) : (datsH m 0 c).before w t d = (dats m 0 c).before w t d := rfl

/-- What each window holds after a point is the frame's. -/
theorem afterH (c : Dev nD) (w : Fin cfg0.W) (t : Fin cfg0.N) : (datsH m 0 c).after w t = (dats m 0 c).after w t := rfl

/-- Each array of the pipeline ends as in the frame. -/
theorem arrAtH (c : Dev nD) (w : Fin cfg0.W) (n : ℕ) : (datsH m 0 c).arrAt w n = (dats m 0 c).arrAt w n := by
  induction n with
  | zero => rfl
  | succ n ih => rw [Dat.arrAt, Dat.arrAt, ih]; rfl

/-- What the body is called with at point `t`, window by window. -/
def bodyPreH (c : Dev nD) (t : Fin cfg0.N) : sProp 𝕄 :=
  iprop((datsH m 0 c).Φ t.castSucc ∗ (datsH m 0 c).owesAt () t.castSucc
    ∗ (∃ d, owns (c : Thread nD τ) (ms0_0 t) fullShare ((datsH m 0 c).before 0 t d))
    ∗ (∃ d, owns (c : Thread nD τ) (ms0_1 t) fullShare ((datsH m 0 c).before 1 t d))
    ∗ (∃ d, owns (c : Thread nD τ) (ms0_2 t) fullShare ((datsH m 0 c).before 2 t d))
    ∗ (∃ d, owns (c : Thread nD τ) (ms0_3 t) fullShare ((datsH m 0 c).before 3 t d))
    ∗ (∃ d, owns (c : Thread nD τ) (ms0_4 t) fullShare ((datsH m 0 c).before 4 t d))
    ∗ (∃ d, owns (c : Thread nD τ) (ms0_5 t) fullShare ((datsH m 0 c).before 5 t d))
    ∗ (∃ d, owns (c : Thread nD τ) (ms0_6 t) fullShare ((datsH m 0 c).before 6 t d))
    ∗ (∃ d, owns (c : Thread nD τ) (ms0_7 t) fullShare ((datsH m 0 c).before 7 t d))
    ∗ (∃ d, owns (c : Thread nD τ) (ms0_8 t) fullShare ((datsH m 0 c).before 8 t d))
    ∗ (∃ d, owns (c : Thread nD τ) (ms0_9 t) fullShare ((datsH m 0 c).before 9 t d))
    ∗ (∃ d, owns (c : Thread nD τ) (ms0_10 t) fullShare ((datsH m 0 c).before 10 t d))
    ∗ (∃ d, owns (c : Thread nD τ) (ms0_11 t) fullShare ((datsH m 0 c).before 11 t d))
    ∗ (∃ d, owns (c : Thread nD τ) (ms0_12 t) fullShare ((datsH m 0 c).before 12 t d))
    ∗ (∃ d, owns (c : Thread nD τ) (ms0_13 t) fullShare ((datsH m 0 c).before 13 t d)))

/-- What the body returns at point `t`. -/
def bodyPostH (c : Dev nD) (t : Fin cfg0.N) : sProp 𝕄 :=
  iprop((datsH m 0 c).Φ t.succ ∗ (datsH m 0 c).owesAt () t.succ
    ∗ owns (c : Thread nD τ) (ms0_0 t) fullShare ((datsH m 0 c).after 0 t)
    ∗ owns (c : Thread nD τ) (ms0_1 t) fullShare ((datsH m 0 c).after 1 t)
    ∗ owns (c : Thread nD τ) (ms0_2 t) fullShare ((datsH m 0 c).after 2 t)
    ∗ owns (c : Thread nD τ) (ms0_3 t) fullShare ((datsH m 0 c).after 3 t)
    ∗ owns (c : Thread nD τ) (ms0_4 t) fullShare ((datsH m 0 c).after 4 t)
    ∗ owns (c : Thread nD τ) (ms0_5 t) fullShare ((datsH m 0 c).after 5 t)
    ∗ owns (c : Thread nD τ) (ms0_6 t) fullShare ((datsH m 0 c).after 6 t)
    ∗ owns (c : Thread nD τ) (ms0_7 t) fullShare ((datsH m 0 c).after 7 t)
    ∗ owns (c : Thread nD τ) (ms0_8 t) fullShare ((datsH m 0 c).after 8 t)
    ∗ owns (c : Thread nD τ) (ms0_9 t) fullShare ((datsH m 0 c).after 9 t)
    ∗ owns (c : Thread nD τ) (ms0_10 t) fullShare ((datsH m 0 c).after 10 t)
    ∗ owns (c : Thread nD τ) (ms0_11 t) fullShare ((datsH m 0 c).after 11 t)
    ∗ owns (c : Thread nD τ) (ms0_12 t) fullShare ((datsH m 0 c).after 12 t)
    ∗ owns (c : Thread nD τ) (ms0_13 t) fullShare ((datsH m 0 c).after 13 t))

set_option maxHeartbeats 19200000 in
/-- The body at any point: the case's run, between the invariant before the point and the one after it. -/
theorem sound_bodyH (c : Dev nD) (t : Fin cfg0.N) :
    bodyPreH m c t ⊢ wp frame (wpE (defs₀ (F := F)) Variants.none c none) Set.univ (bodyAt0 t) (fun _ => bodyPostH m c t) := by
  unfold bodyPreH bodyPostH bodyAt0
  simp only [beforeH, afterH, before0_0, before0_1, before0_2, before0_3, before0_4, before0_5, before0_6, before0_7, before0_8, before0_9, before0_10]
  rw [show (datsH m 0 c).Φ t.succ = PhiH m c (t.val + 1) t.isLt from rfl, PhiH_succ,
    after0_0, after0_1, after0_2, after0_3, after0_4, after0_5, after0_6, after0_7, after0_8, after0_9, after0_10, after0_11, after0_12, after0_13]
  unfold Dat.owesAt Pipeline.owesWithin
  rw [show (datsH m 0 c).owed t.castSucc = 0 from rfl, show (datsH m 0 c).owed t.succ = 0 from rfl]
  have hN : t.val < 128 := lt_of_lt_of_eq t.isLt (show cfg0.N = 128 from N_0)
  by_cases h0 : t.val % 64 = 0
  · by_cases h1 : t.val % 64 = 63
    · exfalso; omega
    · by_cases hz : t.val = 0
      · rw [PhiH_castSucc m c t, PhiH_zero m c _ _ hz]
        rw [outsAt0_A m c t h0 h1, hbAt_same m c t.val h1]
        unfold out0_A_11 out0_A_12 out0_A_13 sout0_A_2 sout0_A_3; (try dsimp only)
        iintro ⟨⟨⟨HS0, HS1, HS2, HS3⟩, Hg, ⟨Hq0, Hq1, Hq2⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((heldA_frame c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hq2]; · iexact Hq2
        isplitl [Hh0]; · iexact Hh0
        isplitl [Hh1]; · iexact Hh1
        isplitl [HW]; · iexact HW
        iintro ⟨H0, H1, H2, H3, H4, H5, H6, H7, H8, H9, H10, ⟨%e11, H11⟩, ⟨%e12, H12⟩, ⟨%e13, H13⟩, ⟨%fT0, HS0⟩, ⟨%fT1, HS1⟩, ⟨%es2, HS2⟩, ⟨%es3, HS3⟩, Hq0, Hq1, Hq2, Hh0, Hh1, ⟨%W', HW'⟩⟩
        isplitl [HS0 HS1 HS2 HS3 Hg Hq0 Hq1 Hq2 Hh0 Hh1]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _)
      · rw [PhiH_castSucc m c t, PhiH_pos m c _ _ hz]
        rw [outsAt0_A m c t h0 h1, hbAt_same m c t.val h1]
        unfold out0_A_11 out0_A_12 out0_A_13 sout0_A_2 sout0_A_3; (try dsimp only)
        iintro ⟨⟨⟨HS0, HS1, HS2, HS3⟩, Hg, ⟨Hq0, Hq1, Hq2⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((heldA_frame c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [HS0]; · iexact HS0
        isplitl [HS1]; · iexact HS1
        isplitl [HS2]; · iexists _; iexact HS2
        isplitl [HS3]; · iexists _; iexact HS3
        isplitl [Hq0]; · iexact Hq0
        isplitl [Hq1]; · iexact Hq1
        isplitl [Hq2]; · iexact Hq2
        isplitl [Hh0]; · iexact Hh0
        isplitl [Hh1]; · iexact Hh1
        isplitl [HW]; · iexact HW
        iintro ⟨H0, H1, H2, H3, H4, H5, H6, H7, H8, H9, H10, ⟨%e11, H11⟩, ⟨%e12, H12⟩, ⟨%e13, H13⟩, ⟨%fT0, HS0⟩, ⟨%fT1, HS1⟩, ⟨%es2, HS2⟩, ⟨%es3, HS3⟩, Hq0, Hq1, Hq2, Hh0, Hh1, ⟨%W', HW'⟩⟩
        isplitl [HS0 HS1 HS2 HS3 Hg Hq0 Hq1 Hq2 Hh0 Hh1]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _)
  · by_cases h1 : t.val % 64 = 63
    · by_cases hz : t.val = 0
      · exfalso; have hN : t.val < 128 := lt_of_lt_of_eq t.isLt (show cfg0.N = 128 from N_0); omega
      · rw [PhiH_castSucc m c t, PhiH_pos m c _ _ hz]
        rw [outsAt0_C m c t h0 h1, hbAt_step m c t h0 h1]
        simp only [before0_12_C m c t h0 h1, before0_13_C m c t h0 h1]
        unfold hbStep out0_C_11 out0_C_12 out0_C_13 sout0_C_2 sout0_C_3; (try dsimp only)
        iintro ⟨⟨⟨HS0, HS1, HS2, HS3⟩, Hg, ⟨Hq0, Hq1, Hq2⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((heldC_frame c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexact H13
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hq2]; · iexact Hq2
        isplitl [Hh0]; · iexact Hh0
        isplitl [Hh1]; · iexact Hh1
        isplitl [HW]; · iexact HW
        iintro ⟨H0, H1, H2, H3, H4, H5, H6, H7, H8, H9, H10, ⟨%e11, H11⟩, ⟨%e12, H12⟩, ⟨%e13, H13⟩, ⟨%fT0, HS0⟩, ⟨%fT1, HS1⟩, ⟨%es2, HS2⟩, ⟨%es3, HS3⟩, Hq0, Hq1, Hq2, Hh0, Hh1, ⟨%W', HW'⟩⟩
        isplitl [HS0 HS1 HS2 HS3 Hg Hq0 Hq1 Hq2 Hh0 Hh1]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 128 := lt_of_lt_of_eq t.isLt (show cfg0.N = 128 from N_0); omega
      · rw [PhiH_castSucc m c t, PhiH_pos m c _ _ hz]
        rw [outsAt0_B m c t h0 h1, hbAt_same m c t.val h1]
        simp only [before0_12_B m c t h0 h1, before0_13_B m c t h0 h1]
        unfold out0_B_11 out0_B_12 out0_B_13 sout0_B_2 sout0_B_3; (try dsimp only)
        iintro ⟨⟨⟨HS0, HS1, HS2, HS3⟩, Hg, ⟨Hq0, Hq1, Hq2⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((heldB_frame c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexact H13
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hq2]; · iexact Hq2
        isplitl [Hh0]; · iexact Hh0
        isplitl [Hh1]; · iexact Hh1
        isplitl [HW]; · iexact HW
        iintro ⟨H0, H1, H2, H3, H4, H5, H6, H7, H8, H9, H10, ⟨%e11, H11⟩, ⟨%e12, H12⟩, ⟨%e13, H13⟩, ⟨%fT0, HS0⟩, ⟨%fT1, HS1⟩, ⟨%es2, HS2⟩, ⟨%es3, HS3⟩, Hq0, Hq1, Hq2, Hh0, Hh1, ⟨%W', HW'⟩⟩
        isplitl [HS0 HS1 HS2 HS3 Hg Hq0 Hq1 Hq2 Hh0 Hh1]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _)

/-- The body's obligation at every point. -/
theorem body_obligationH (c : Dev nD) : BodyObligation (datsH (F := F) m 0 c) (defs₀ (F := F)) Variants.none () Set.univ := fun t => by
  rw [bigSep_W0, bigSep_W0, defs₀_row]
  exact triple_restated (sound_bodyH m c t) rfl .rfl fun _ => .rfl

/-- The unscoped buffers after the last point: the launch contents, the two weight gradients at what the copies out left. -/
def hbG (c : Dev nD) : (b : Ref sig .tc) → Buf (Elt F) ((c : Thread nD τ).loc b) :=
  Function.update (Function.update ((V m) c) main_v32_1 (hbAt m c cfg0.N).1) main_v32_2 (hbAt m c cfg0.N).2

/-- `hbG` at the up-projection's gradient. -/
theorem hbG_0 (c : Dev nD) : hbG m c main_v32_1 = (hbAt m c cfg0.N).1 := by
  unfold hbG; simp only [Function.update_of_ne (show (main_v32_1 : Ref sig .tc) ≠ main_v32_2 by decide), Function.update_self]

/-- `hbG` at the down-projection's gradient. -/
theorem hbG_1 (c : Dev nD) : hbG m c main_v32_2 = (hbAt m c cfg0.N).2 := by
  unfold hbG; simp only [Function.update_self]

/-- The written operands' points-tos after the last point, listed. -/
theorem heldG_eq (c : Dev nD) :
    (Pipeline.routed R0 c (hbG m c) : sProp 𝕄) = iprop(hbPt0 c hbM0_0 (hbAt m c cfg0.N).1 ∗ hbPt0 c hbM0_1 (hbAt m c cfg0.N).2) := by
  unfold Pipeline.routed; rw [BI.bigSep_eq_bigSepL_of_eq [main_v32_1, main_v32_2] (by decide) (by decide)]
  simp only [BI.bigSepL_cons_cons, BI.bigSepL_singleton, hbG_0, hbG_1]; try rfl

/-- The invariant the launch takes back after the last point, conjunct by conjunct. -/
theorem PhiOut_eq (c : Dev nD) :
    (Pipeline.ΦDRG osem0 spec0 H0 R0 (V m) (hbG m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 25) 0 ∗ semVal ((c : Thread nD τ), SemLoc.dma 26) 0 ∗ semVal ((c : Thread nD τ), SemLoc.dma 27) 0) ∗ iprop(emp) ∗ iprop(hbPt0 c hbM0_0 (hbAt m c cfg0.N).1 ∗ hbPt0 c hbM0_1 (hbAt m c cfg0.N).2)) := by
  rw [Pipeline.ΦDRG_eq, scopedRest0_eq, ownSems00_eq, hbmPts0_eq, heldG_eq]; simp only [scM0_0, scM0_1, scM0_2, scM0_3, owns_whole]; try rfl

/-- What the launch hands the region is the invariant before the first point. -/
theorem hinH (c : Dev nD) : Pipeline.ΦDRG osem0 spec0 H0 R0 (V m) (V m) c ⊢ (datsH m 0 c).Φ 0 := by
  rw [show (datsH m 0 c).Φ 0 = PhiH m c 0 (Nat.zero_le _) from rfl, PhiH_zero m c 0 _ rfl, PhiIn_eq]
  try exact Idealize.SL.BI.Entails.refl _

/-- The invariant after the last point is what the launch takes back. -/
theorem houtH (c : Dev nD) : (datsH m 0 c).Φ (Fin.last cfg0.N) ⊢ Pipeline.ΦDRG osem0 spec0 H0 R0 (V m) (hbG m) c := by
  have e : (datsH m 0 c).Φ (Fin.last cfg0.N) = PhiH m c cfg0.N le_rfl := by dsimp only [datsH, Fin.val_last]
  rw [e, PhiH_pos m c cfg0.N le_rfl (by have : cfg0.N = 128 := N_0; omega), PhiOut_eq]
  iintro ⟨⟨HS0, HS1, HS2, HS3⟩, Hg, ⟨Hq0, Hq1, Hq2⟩, ⟨Hh0, Hh1⟩⟩
  isplitl [HS0 HS1 HS2 HS3]
  · isplitl [HS0]
    · iexact HS0
    isplitl [HS1]
    · iexact HS1
    isplitl [HS2]
    · iexists _; iexact HS2
    iexists _; iexact HS3
  isplitl [Hg]; · iexact Hg
  isplitl [Hq0 Hq1 Hq2]
  · isplitl [Hq0]; · iexact Hq0
    isplitl [Hq1]; · iexact Hq1
    iexact Hq2
  isplitl [Hh0]; · iexact Hh0
  iexact Hh1

set_option backward.isDefEq.respectTransparency.types false in
/-- THE LAUNCH: every weakly fair execution ends with every array of the pipeline at the proof data's contents, the two
    weight gradients at what the copies out left, every other buffer as the region found it, and every counter at zero. -/
theorem run_held : θ_run defs (onTc (τ := τ) (main (F := F))) (s₀ m ρ) (fun r => (Pipeline.FramePostRG cfgs (datsH m) 0 R0 (V m) (hbG m)) r ∧ r.2.sem = fun _ => 0) :=
  Pipeline.θ_run_frame_dmaRG_shared (Q' := _) cfgs (datsH m) (0 : Fin 1) launch₀0 osem0 defs₀ Variants.none ownSemFacts0 H0 R0 H0_sub R0_sub m ρ main
    (hbody := fun c => (body_obligationH m c).loose) (hq := fun _ _ _ => rfl)
    (howed := fun _ _ => rfl) (V := V m) (hmain := hmain m Variants.none) (hA := A_eqH m) (G := hbG m)
    (hin := hinH m) (hout := houtH m)

end Cert.Held

end
-- ==== Proof.Tile.Blocks.lean ====
module

public import proofs.«01_k».proof.Proof.Tile.Loads
public import proofs.«01_k».proof.Proof.Host.Entry
public import Idealize.ShloMosaic.Lib.Pipeline.ValueKit.Point

@[expose] public section

set_option maxRecDepth 8000

noncomputable section

/-! The blocks a grid point is given, as entries of the arrays of the call. Point `t` is tile `t % 64` of half
`t / 64`. -/

namespace Cert.Tile

open Cert.KernelIdeal Cert.KernelIdeal.Gen Idealize.ShloMosaic Idealize.ShloMosaic.TcCoe Idealize.ShloMosaic.Tactic

/-- Which block of each array a grid point is given. -/
theorem idx0 : ∀ t : Fin cfg0.N, (cfg0.win 0).index t 0 = t.val % 64 ∧ (cfg0.win 0).index t 1 = 0 := by decide +kernel
/-- Which block of its array holds the cotangent's rows after the tile. -/
theorem idx1 : ∀ t : Fin cfg0.N, (t.val % 64 < 63 → (cfg0.win 1).index t 0 = t.val % 64 * 16 + 16) ∧ (cfg0.win 1).index t 1 = 0 := by decide +kernel
/-- Which block of its array holds the input's rows. -/
theorem idx2 : ∀ t : Fin cfg0.N, (cfg0.win 2).index t 0 = t.val % 64 ∧ (cfg0.win 2).index t 1 = 0 := by decide +kernel
/-- Which block of its array holds the saved projection's rows. -/
theorem idx3 : ∀ t : Fin cfg0.N, (cfg0.win 3).index t 0 = t.val / 64 ∧ (cfg0.win 3).index t 1 = t.val % 64 ∧ (cfg0.win 3).index t 2 = 0 := by decide +kernel
/-- Which block of its array holds the saved projection's rows before the tile. -/
theorem idx4 : ∀ t : Fin cfg0.N, (cfg0.win 4).index t 0 = t.val / 64 ∧ (cfg0.win 4).index t 1 = t.val % 64 * 16 - 1 ∧ (cfg0.win 4).index t 2 = 0 := by decide +kernel
/-- Which block of its array holds the saved projection's rows after the tile. -/
theorem idx5 : ∀ t : Fin cfg0.N, (cfg0.win 5).index t 0 = t.val / 64 ∧ (t.val % 64 < 63 → (cfg0.win 5).index t 1 = t.val % 64 * 16 + 16) ∧ (cfg0.win 5).index t 2 = 0 := by decide +kernel
/-- Which block of its array holds the gain. -/
theorem idx6 : ∀ t : Fin cfg0.N, (cfg0.win 6).index t 0 = 0 ∧ (cfg0.win 6).index t 1 = 0 := by decide +kernel
/-- Which block of its array holds the half's weight of the projection up. -/
theorem idx7 : ∀ t : Fin cfg0.N, (cfg0.win 7).index t 0 = t.val / 64 ∧ (cfg0.win 7).index t 1 = 0 ∧ (cfg0.win 7).index t 2 = 0 := by decide +kernel
/-- Which block of its array holds the half's weight of the projection down. -/
theorem idx8 : ∀ t : Fin cfg0.N, (cfg0.win 8).index t 0 = t.val / 64 ∧ (cfg0.win 8).index t 1 = 0 ∧ (cfg0.win 8).index t 2 = 0 := by decide +kernel
/-- Which block of its array holds the half's taps. -/
theorem idx9 : ∀ t : Fin cfg0.N, (cfg0.win 9).index t 0 = t.val / 64 ∧ (cfg0.win 9).index t 1 = 0 ∧ (cfg0.win 9).index t 2 = 0 := by decide +kernel
/-- Which block of its array holds the half's bias. -/
theorem idx10 : ∀ t : Fin cfg0.N, (cfg0.win 10).index t 0 = t.val / 64 ∧ (cfg0.win 10).index t 1 = 0 ∧ (cfg0.win 10).index t 2 = 0 := by decide +kernel
/-- The half and the tile of a grid point. -/
theorem crd : ∀ t : Fin cfg0.N, (grid0.coords t 0).val = t.val / 64 ∧ (grid0.coords t 1).val = t.val % 64 := by decide +kernel

variable (t : Fin cfg0.N)

/-- There are 128 grid points. -/
theorem tlt : t.val < 128 := lt_of_lt_of_eq t.isLt N_0

/-- Where in its array the block of the cotangent's rows lies. -/
theorem emb0 (r : Fin 256) (d : Fin 1024) : ((cfg0.win 0).blk t).view.emb (ix2 r d) = ix2 (⟨256 * (t.val % 64) + r.val, by omega⟩ : Fin 16384) d := by
  blk_ext [idx0 t]

/-- Where in its array the block of the cotangent's rows after the tile lies. -/
theorem emb1 (h : t.val % 64 < 63) (r : Fin 16) (d : Fin 1024) : ((cfg0.win 1).blk t).view.emb (ix2 r d) = ix2 (⟨256 * (t.val % 64) + 256 + r.val, by omega⟩ : Fin 16384) d := by
  blk_ext [(idx1 t).1 h, (idx1 t).2]

/-- Where in its array the block of the input's rows lies. -/
theorem emb2 (r : Fin 256) (d : Fin 1024) : ((cfg0.win 2).blk t).view.emb (ix2 r d) = ix2 (⟨256 * (t.val % 64) + r.val, by omega⟩ : Fin 16384) d := by
  blk_ext [idx2 t]

/-- Where in its array the block of the saved projection's rows lies. -/
theorem emb3 (r : Fin 256) (q : Fin 2816) : ((cfg0.win 3).blk t).view.emb (ix3 0 r q)
    = ix3 (⟨t.val / 64, by have := tlt t; omega⟩ : Fin 2) (⟨256 * (t.val % 64) + r.val, by omega⟩ : Fin 16384) q := by
  blk_ext [idx3 t]

/-- Where in its array the block of the saved projection's rows before the tile lies. -/
theorem emb4 (h : 0 < t.val % 64) (r : Fin 16) (q : Fin 2816) : ((cfg0.win 4).blk t).view.emb (ix3 0 r q)
    = ix3 (⟨t.val / 64, by have := tlt t; omega⟩ : Fin 2) (⟨256 * (t.val % 64) - 16 + r.val, by omega⟩ : Fin 16384) q := by
  blk_ext [idx4 t]

/-- Where in its array the block of the saved projection's rows after the tile lies. -/
theorem emb5 (h : t.val % 64 < 63) (r : Fin 16) (q : Fin 2816) : ((cfg0.win 5).blk t).view.emb (ix3 0 r q)
    = ix3 (⟨t.val / 64, by have := tlt t; omega⟩ : Fin 2) (⟨256 * (t.val % 64) + 256 + r.val, by omega⟩ : Fin 16384) q := by
  blk_ext [(idx5 t).1, (idx5 t).2.1 h, (idx5 t).2.2]

/-- Where in its array the block of the gain lies. -/
theorem emb6 (d : Fin 1024) : ((cfg0.win 6).blk t).view.emb (ix2 0 d) = ix2 0 d := by
  blk_ext [idx6 t]

/-- Where in its array the block of the half's weight of the projection up lies. -/
theorem emb7 (d : Fin 1024) (q : Fin 2816) : ((cfg0.win 7).blk t).view.emb (ix3 0 d q)
    = ix3 (⟨t.val / 64, by have := tlt t; omega⟩ : Fin 2) d q := by
  blk_ext [idx7 t]

/-- Where in its array the block of the half's weight of the projection down lies. -/
theorem emb8 (f : Fin 1408) (d : Fin 1024) : ((cfg0.win 8).blk t).view.emb (ix3 0 f d)
    = ix3 (⟨t.val / 64, by have := tlt t; omega⟩ : Fin 2) f d := by
  blk_ext [idx8 t]

/-- Where in its array the block of the half's taps lies. -/
theorem emb9 (k : Fin 3) (q : Fin 2816) : ((cfg0.win 9).blk t).view.emb (ix3 0 k q)
    = ix3 (⟨t.val / 64, by have := tlt t; omega⟩ : Fin 2) k q := by
  blk_ext [idx9 t]

/-- Where in its array the block of the half's bias lies. -/
theorem emb10 (q : Fin 2816) : ((cfg0.win 10).blk t).view.emb (ix3 0 0 q)
    = ix3 (⟨t.val / 64, by have := tlt t; omega⟩ : Fin 2) 0 q := by
  blk_ext [idx10 t]

variable (m : (ℓ : Loc nD τ sig) → Buf (Elt Ideal) ℓ) (c : Dev nD)

/-- The block of the cotangent's rows, entry by entry. -/
theorem blk0 (r : Fin 256) (d : Fin 1024) : (iblk m c 0 t : Vec Ideal S256x1024 .f32) (ix2 r d) = (Host.A m c).dh (256 * (t.val % 64) + r.val) d.val :=
  (congrArg (V m c main_arg0) (emb0 t r d)).trans (Host.dh_at m c _ d)

/-- The block of the cotangent's rows after the tile, entry by entry. -/
theorem blk1 (h : t.val % 64 < 63) (r : Fin 16) (d : Fin 1024) : (iblk m c 1 t : Vec Ideal S16x1024 .f32) (ix2 r d) = (Host.A m c).dh (256 * (t.val % 64) + 256 + r.val) d.val :=
  (congrArg (V m c main_arg0) (emb1 t h r d)).trans (Host.dh_at m c _ d)

/-- The block of the input's rows, entry by entry. -/
theorem blk2 (r : Fin 256) (d : Fin 1024) : (iblk m c 2 t : Vec Ideal S256x1024 .f32) (ix2 r d) = (Host.A m c).h (256 * (t.val % 64) + r.val) d.val :=
  (congrArg (V m c main_arg1) (emb2 t r d)).trans (Host.h_at m c _ d)

/-- The block of the saved projection's rows, entry by entry. -/
theorem blk3 (r : Fin 256) (q : Fin 2816) : (iblk m c 3 t : Vec Ideal S1x256x2816 .bf16) (ix3 0 r q) = (Host.A m c).up (256 * (t.val % 64) + r.val) (Spec.Args.col (t.val / 64) q.val) :=
  (congrArg (V m c main_v17) (emb3 t r q)).trans (Host.up_at m c _ _ q)

/-- The block of the saved projection's rows before the tile, entry by entry. -/
theorem blk4 (h : 0 < t.val % 64) (r : Fin 16) (q : Fin 2816) : (iblk m c 4 t : Vec Ideal S1x16x2816 .bf16) (ix3 0 r q) = (Host.A m c).up (256 * (t.val % 64) - 16 + r.val) (Spec.Args.col (t.val / 64) q.val) :=
  (congrArg (V m c main_v17) (emb4 t h r q)).trans (Host.up_at m c _ _ q)

/-- The block of the saved projection's rows after the tile, entry by entry. -/
theorem blk5 (h : t.val % 64 < 63) (r : Fin 16) (q : Fin 2816) : (iblk m c 5 t : Vec Ideal S1x16x2816 .bf16) (ix3 0 r q) = (Host.A m c).up (256 * (t.val % 64) + 256 + r.val) (Spec.Args.col (t.val / 64) q.val) :=
  (congrArg (V m c main_v17) (emb5 t h r q)).trans (Host.up_at m c _ _ q)

/-- The block of the gain, entry by entry. -/
theorem blk6 (d : Fin 1024) : (iblk m c 6 t : Vec Ideal S1x1024 .f32) (ix2 0 d) = (Host.A m c).g d.val :=
  (congrArg (V m c main_v24) (emb6 t d)).trans (Host.g_at m c d)

/-- The block of the half's weight of the projection up, entry by entry. -/
theorem blk7 (d : Fin 1024) (q : Fin 2816) : (iblk m c 7 t : Vec Ideal S1x1024x2816 .bf16) (ix3 0 d q) = (Host.A m c).W d.val (Spec.Args.col (t.val / 64) q.val) :=
  (congrArg (V m c main_v21) (emb7 t d q)).trans (Host.W_at m c _ d q)

/-- The block of the half's weight of the projection down, entry by entry. -/
theorem blk8 (f : Fin 1408) (d : Fin 1024) : (iblk m c 8 t : Vec Ideal S1x1408x1024 .bf16) (ix3 0 f d) = (Host.A m c).wd (t.val / 64 * 1408 + f.val) d.val :=
  (congrArg (V m c main_v23) (emb8 t f d)).trans (Host.wd_at m c _ f d)

/-- The block of the half's taps, entry by entry. -/
theorem blk9 (k : Fin 3) (q : Fin 2816) : (iblk m c 9 t : Vec Ideal S1x3x2816 .f32) (ix3 0 k q) = (Host.A m c).cw k.val (Spec.Args.col (t.val / 64) q.val) :=
  (congrArg (V m c main_v27) (emb9 t k q)).trans (Host.cw_at m c _ k q)

/-- The block of the half's bias, entry by entry. -/
theorem blk10 (q : Fin 2816) : (iblk m c 10 t : Vec Ideal S1x1x2816 .f32) (ix3 0 0 q) = (Host.A m c).b (Spec.Args.col (t.val / 64) q.val) :=
  (congrArg (V m c main_v31) (emb10 t q)).trans (Host.b_at m c _ q)

/-- The blocks of point `t` are those of tile `t % 64` of half `t / 64`. -/
theorem blocks : Blocks (Host.A m c) (t.val / 64) (t.val % 64) (grid0.coords t) (iblk m c 0 t) (iblk m c 1 t) (iblk m c 2 t)
    (iblk m c 3 t) (iblk m c 4 t) (iblk m c 5 t) (iblk m c 6 t) (iblk m c 7 t) (iblk m c 8 t) (iblk m c 9 t) (iblk m c 10 t) :=
  Blocks.mk (by have := tlt t; omega) (by omega) (crd t).2 (blk0 t m c) (blk1 t m c) (blk2 t m c) (blk3 t m c) (blk4 t m c) (blk5 t m c)
    (blk6 t m c) (blk7 t m c) (blk8 t m c) (blk9 t m c) (blk10 t m c)

end Cert.Tile

end
-- ==== Proof.Tile.CaseA.lean ====
module

public import proofs.«01_k».proof.Proof.Tile.Stage
public import proofs.«01_k».proof.Proof.Gen.KernelIdeal.Frame

@[expose] public section

set_option maxRecDepth 8000

noncomputable section

/-! What the first tile of a half leaves in each result. -/

namespace Cert.Tile.CaseA

open Cert.KernelIdeal Cert.KernelIdeal.Gen Idealize.ShloMosaic Idealize.ShloMosaic.Tactic
open Cert.Spec (Args)
open Cert.Spec.Args (col)

variable (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : cond0_0 i) (hc1 : ¬cond0_1 i)
    (x0 : Vec Ideal S256x1024 .f32) (x1 : Vec Ideal S16x1024 .f32) (x2 : Vec Ideal S256x1024 .f32) (x3 : Vec Ideal S1x256x2816 .bf16) (x4 : Vec Ideal S1x16x2816 .bf16) (x5 : Vec Ideal S1x16x2816 .bf16) (x6 : Vec Ideal S1x1024 .f32) (x7 : Vec Ideal S1x1024x2816 .bf16) (x8 : Vec Ideal S1x1408x1024 .bf16) (x9 : Vec Ideal S1x3x2816 .f32) (x10 : Vec Ideal S1x1x2816 .f32)
/-- What the scratch rows of the projection up are given. -/
theorem HS0_3_eq : kernelRun0_A.sl.HS0_3 c i arg5 harg5 arg6 harg6 arg7 harg7 x3 x4 x5 = upL i x3 x4 x5 := by
  unfold kernelRun0_A.sl.HS0_3
  rw [full_read harg5 zero3, full_read harg6 zero3, full_read harg7 zero3]

/-- The normalised rows. -/
theorem r_eq : kernelRun0_A.sl.r c arg4 harg4 arg8 harg8 x2 x6 = k0_pay6 x2 x6 := by
  unfold kernelRun0_A.sl.r
  rw [full_read harg4 zero2, full_read harg8 zero2]

/-- The taps. -/
theorem r_1_eq : kernelRun0_A.sl.r_1 c arg11 harg11 x9 = k0_pay10 x9 := by
  unfold kernelRun0_A.sl.r_1
  rw [full_read harg11 zero3]

/-- The convolution's rows. -/
theorem r_2_eq : kernelRun0_A.sl.r_2 c i arg5 harg5 arg6 harg6 arg7 harg7 arg11 harg11 arg12 harg12 arg18 x3 x4 x5 x9 x10 = cvT arg18.view i x3 x4 x5 x9 x10 := by
  unfold kernelRun0_A.sl.r_2 kernelRun0_A.sl.v45 kernelRun0_A.sl.v51 kernelRun0_A.sl.v56
  rw [HS0_3_eq, full_read harg11 zero3, full_read harg12 zero3]

/-- The cotangent's rows. -/
theorem r_3_eq : kernelRun0_A.sl.r_3 c i arg2 harg2 arg3 harg3 x0 x1 = dhT i x0 x1 := by
  unfold kernelRun0_A.sl.r_3
  rw [full_read harg2 zero2, full_read harg3 zero2]

/-- What the scratch rows of the convolution's cotangent are given. -/
theorem HS1_2_eq : kernelRun0_A.sl.HS1_2 c i arg2 harg2 arg3 harg3 arg5 harg5 arg6 harg6 arg7 harg7 arg10 harg10 arg11 harg11 arg12 harg12 arg18 x0 x1 x3 x4 x5 x8 x9 x10 = dcvL (cvT arg18.view i x3 x4 x5 x9 x10) (dhT i x0 x1) x8 := by
  unfold kernelRun0_A.sl.HS1_2
  rw [r_2_eq, r_3_eq, full_read harg10 zero3]

/-- The convolution's cotangent, as loaded. -/
theorem v113_eq : kernelRun0_A.sl.v113 c i arg2 harg2 arg3 harg3 arg5 harg5 arg6 harg6 arg7 harg7 arg10 harg10 arg11 harg11 arg12 harg12 arg18 arg19 x0 x1 x3 x4 x5 x8 x9 x10 = dcT arg19.view 0 inb_S272x2816_S256x2816_0_0 (cvT arg18.view i x3 x4 x5 x9 x10) (dhT i x0 x1) x8 := by
  unfold kernelRun0_A.sl.v113
  rw [HS1_2_eq]

/-- The convolution's cotangent one row later. -/
theorem v161_eq : kernelRun0_A.sl.v161 c i arg2 harg2 arg3 harg3 arg5 harg5 arg6 harg6 arg7 harg7 arg10 harg10 arg11 harg11 arg12 harg12 arg18 arg19 x0 x1 x3 x4 x5 x8 x9 x10 = dcT arg19.view 1 inb_S272x2816_S256x2816_1_0 (cvT arg18.view i x3 x4 x5 x9 x10) (dhT i x0 x1) x8 := by
  unfold kernelRun0_A.sl.v161
  rw [HS1_2_eq]

/-- The convolution's cotangent two rows later. -/
theorem v146_eq : kernelRun0_A.sl.v146 c i arg2 harg2 arg3 harg3 arg5 harg5 arg6 harg6 arg7 harg7 arg10 harg10 arg11 harg11 arg12 harg12 arg18 arg19 x0 x1 x3 x4 x5 x8 x9 x10 = dcT arg19.view 2 inb_S272x2816_S256x2816_2_0 (cvT arg18.view i x3 x4 x5 x9 x10) (dhT i x0 x1) x8 := by
  unfold kernelRun0_A.sl.v146
  rw [HS1_2_eq]

/-- The projection up two rows earlier. -/
theorem v137_eq : kernelRun0_A.sl.v137 c i arg5 harg5 arg6 harg6 arg7 harg7 arg18 x3 x4 x5 = upT arg18.view 14 inb_S288x2816_S256x2816_14_0 i x3 x4 x5 := by
  unfold kernelRun0_A.sl.v137
  rw [HS0_3_eq]

/-- The projection up one row earlier. -/
theorem v152_eq : kernelRun0_A.sl.v152 c i arg5 harg5 arg6 harg6 arg7 harg7 arg18 x3 x4 x5 = upT arg18.view 15 inb_S288x2816_S256x2816_15_0 i x3 x4 x5 := by
  unfold kernelRun0_A.sl.v152
  rw [HS0_3_eq]

/-- The projection up, as loaded. -/
theorem v127_eq : kernelRun0_A.sl.v127 c i arg5 harg5 arg6 harg6 arg7 harg7 arg18 x3 x4 x5 = upT arg18.view 16 inb_S288x2816_S256x2816_16_0 i x3 x4 x5 := by
  unfold kernelRun0_A.sl.v127
  rw [HS0_3_eq]

/-- The last tap times the convolution's cotangent. -/
theorem r_5_eq : kernelRun0_A.sl.r_5 c i arg2 harg2 arg3 harg3 arg5 harg5 arg6 harg6 arg7 harg7 arg10 harg10 arg11 harg11 arg12 harg12 arg18 arg19 x0 x1 x3 x4 x5 x8 x9 x10 = k0_pay25 (k0_pay10 x9) (dcT arg19.view 0 inb_S272x2816_S256x2816_0_0 (cvT arg18.view i x3 x4 x5 x9 x10) (dhT i x0 x1) x8) := by
  unfold kernelRun0_A.sl.r_5
  rw [r_1_eq, v113_eq]

/-- The products the first tap's gradient sums. -/
theorem r_7_eq : kernelRun0_A.sl.r_7 c i arg2 harg2 arg3 harg3 arg5 harg5 arg6 harg6 arg7 harg7 arg10 harg10 arg11 harg11 arg12 harg12 arg18 arg19 x0 x1 x3 x4 x5 x8 x9 x10 = k0_pay28 (dcT arg19.view 0 inb_S272x2816_S256x2816_0_0 (cvT arg18.view i x3 x4 x5 x9 x10) (dhT i x0 x1) x8) (upT arg18.view 14 inb_S288x2816_S256x2816_14_0 i x3 x4 x5) := by
  unfold kernelRun0_A.sl.r_7
  rw [v113_eq, v137_eq]

/-- The cotangent of the projection up. -/
theorem r_8_eq : kernelRun0_A.sl.r_8 c i arg2 harg2 arg3 harg3 arg5 harg5 arg6 harg6 arg7 harg7 arg10 harg10 arg11 harg11 arg12 harg12 arg18 arg19 x0 x1 x3 x4 x5 x8 x9 x10 = k0_pay31 (k0_pay10 x9) (k0_pay25 (k0_pay10 x9) (dcT arg19.view 0 inb_S272x2816_S256x2816_0_0 (cvT arg18.view i x3 x4 x5 x9 x10) (dhT i x0 x1) x8)) (dcT arg19.view 2 inb_S272x2816_S256x2816_2_0 (cvT arg18.view i x3 x4 x5 x9 x10) (dhT i x0 x1) x8) (dcT arg19.view 1 inb_S272x2816_S256x2816_1_0 (cvT arg18.view i x3 x4 x5 x9 x10) (dhT i x0 x1) x8) := by
  unfold kernelRun0_A.sl.r_8
  rw [r_1_eq, r_5_eq, v146_eq, v161_eq]

/-- The gradient of the weight of the projection down. -/
theorem r_4_eq : kernelRun0_A.sl.r_4 c i arg2 harg2 arg3 harg3 arg5 harg5 arg6 harg6 arg7 harg7 arg11 harg11 arg12 harg12 arg18 arg21 x0 x1 x3 x4 x5 x9 x10 = k0_pay22 (cvT arg18.view i x3 x4 x5 x9 x10) (dhT i x0 x1) (k0_pay3 (F := Ideal)) := by
  unfold kernelRun0_A.sl.r_4 kernelRun0_A.sl.v106 kernelRun0_A.sl.HS3_1
  rw [r_2_eq, r_3_eq, View.readCov_unit_zero _ zero2]

/-- The taps' gradients start at zero. -/
theorem init_zero (t : Fin 3) (q : Fin 2816) : View.canon (kernelRun0_A.sl.H12_1 (F := Ideal)) (ix3 0 t q) = 0 := by
  unfold kernelRun0_A.sl.H12_1
  rw [View.canon_unit_zero zero3]
  exact pay4_apply t q

/-- The last tap's gradient starts at zero. -/
theorem v125_zero (q : Fin 2816) : kernelRun0_A.sl.v125 (F := Ideal) c arg16 (ix3 0 0 q) = 0 := by
  unfold kernelRun0_A.sl.v125
  exact (row_load _ 2 _ _ q).trans (init_zero 2 q)

/-- The first tap's gradient starts at zero. -/
theorem v135_zero (q : Fin 2816) : kernelRun0_A.sl.v135 c i arg2 harg2 arg3 harg3 arg5 harg5 arg6 harg6 arg7 harg7 arg10 harg10 arg11 harg11 arg12 harg12 arg16 arg18 arg19 x0 x1 x3 x4 x5 x8 x9 x10 (ix3 0 0 q) = 0 := by
  unfold kernelRun0_A.sl.v135 kernelRun0_A.sl.H12_2
  exact (row_load _ 0 _ _ q).trans ((row_other 2 0 (by decide) _ _ _ q).trans (init_zero 0 q))

/-- The middle tap's gradient starts at zero. -/
theorem v150_zero (q : Fin 2816) : kernelRun0_A.sl.v150 c i arg2 harg2 arg3 harg3 arg5 harg5 arg6 harg6 arg7 harg7 arg10 harg10 arg11 harg11 arg12 harg12 arg16 arg18 arg19 x0 x1 x3 x4 x5 x8 x9 x10 (ix3 0 0 q) = 0 := by
  unfold kernelRun0_A.sl.v150 kernelRun0_A.sl.H12_3 kernelRun0_A.sl.H12_2
  exact (row_load _ 1 _ _ q).trans ((row_other 0 1 (by decide) _ _ _ q).trans ((row_other 2 1 (by decide) _ _ _ q).trans (init_zero 1 q)))

variable {A : Args} {j k : ℕ} (H : Blocks A j k i x0 x1 x2 x3 x4 x5 x6 x7 x8 x9 x10)

include H

/-- The rows of the gradient of the normalised input. -/
theorem part_eq (r : Fin 256) (d : Fin 1024) :
    out0_A_11 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 (ix3 0 r d)
      = A.part j (256 * k + r.val) d.val := by
  unfold out0_A_11 kernelRun0_A
  dsimp only
  rw [View.read_writes_junk_eq_canon, View.canon_cons_unit_zero zero3]
  rw [r_1_eq, r_5_eq, v146_eq, v161_eq]
  refine (congrFun (congrArg (k0_pay32 _ _ _ _) (full_read harg9 zero3 _ x7)) _).trans ?_
  exact part_tile _ _ H _ _ _ r d

/-- The gradient of the weight of the projection up. -/
theorem up_eq (d : Fin 1024) (q : Fin 2816) :
    sout0_A_2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 (ix2 d q)
      = upTerm A j k d.val q.val := by
  unfold sout0_A_2 kernelRun0_A
  dsimp only
  rw [View.read_writes_junk_eq_canon, View.canon_cons_unit_zero zero2]
  rw [r_eq, r_8_eq]
  refine (congrFun (congrArg (k0_pay1 _ _) (View.readCov_unit_zero _ zero2 _ _)) _).trans ?_
  refine (up_tile _ _ H _ _ _ _ d q).trans ?_
  rw [pay2_apply, zero_add]

/-- The gradient of the weight of the projection down. -/
theorem dn_eq (f : Fin 1408) (d : Fin 1024) :
    sout0_A_3 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 (ix2 f d)
      = dnTerm A j k f.val d.val := by
  unfold sout0_A_3 kernelRun0_A
  dsimp only
  rw [View.read_writes_junk_eq_canon, View.canon_cons_unit_zero zero2]
  rw [r_4_eq]
  refine (dn_tile _ H _ f d).trans ?_
  rw [pay3_apply, zero_add]

/-- The gradient of the bias. -/
theorem cb_eq (q : Fin 2816) :
    out0_A_13 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 (ix3 0 0 q)
      = cbTerm A j k q.val := by
  unfold out0_A_13 kernelRun0_A
  dsimp only
  rw [View.read_writes_junk_eq_canon, View.canon_cons_unit_zero zero3]
  rw [v113_eq]
  refine (congrFun (congrArg (k0_pay24 _) (View.readCov_unit_zero _ zero3 _ _)) _).trans ?_
  refine (cb_tile _ _ H _ _ q).trans ?_
  rw [pay5_apply, zero_add]

/-- The gradients of the taps. -/
theorem cw_eq (t : Fin 3) (q : Fin 2816) :
    out0_A_12 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 (ix3 0 t q)
      = cwTerm A j k t.val q.val := by
  unfold out0_A_12 kernelRun0_A
  dsimp only
  rw [View.read_writes_junk_eq_canon]
  unfold kernelRun0_A.sl.H12_3 kernelRun0_A.sl.H12_2 kernelRun0_A.sl.r_6
  rw [r_7_eq, v113_eq, v152_eq, v127_eq]
  refine rows_at _ _ _ _ _ _ _ (fun t => cwTerm A j k t.val q.val) q ?_ ?_ ?_ t
  · refine (cw0_tile _ _ H _ _ _ q).trans ?_
    rw [v135_zero, zero_add]; rfl
  · refine (cw1_tile _ _ H _ _ _ q).trans ?_
    rw [v150_zero, zero_add]; rfl
  · refine (cw2_tile _ _ H _ _ _ q).trans ?_
    rw [v125_zero, zero_add]; rfl

end Cert.Tile.CaseA

end
-- ==== Proof.Tile.CaseB.lean ====
module

public import proofs.«01_k».proof.Proof.Tile.Stage
public import proofs.«01_k».proof.Proof.Gen.KernelIdeal.Frame

@[expose] public section

set_option maxRecDepth 8000

noncomputable section

/-! What a tile that is neither the first nor the last of a half leaves in each result. -/

namespace Cert.Tile.CaseB

open Cert.KernelIdeal Cert.KernelIdeal.Gen Idealize.ShloMosaic Idealize.ShloMosaic.Tactic
open Cert.Spec (Args)
open Cert.Spec.Args (col)

variable (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : ¬cond0_1 i)
    (x0 : Vec Ideal S256x1024 .f32) (x1 : Vec Ideal S16x1024 .f32) (x2 : Vec Ideal S256x1024 .f32) (x3 : Vec Ideal S1x256x2816 .bf16) (x4 : Vec Ideal S1x16x2816 .bf16) (x5 : Vec Ideal S1x16x2816 .bf16) (x6 : Vec Ideal S1x1024 .f32) (x7 : Vec Ideal S1x1024x2816 .bf16) (x8 : Vec Ideal S1x1408x1024 .bf16) (x9 : Vec Ideal S1x3x2816 .f32) (x10 : Vec Ideal S1x1x2816 .f32) (xo12 : Vec Ideal S1x3x2816 .f32) (xo13 : Vec Ideal S1x1x2816 .f32) (xs2 : Vec Ideal S1024x2816 .f32) (xs3 : Vec Ideal S1408x1024 .f32)
/-- What the scratch rows of the projection up are given. -/
theorem HS0_3_eq : kernelRun0_B.sl.HS0_3 c i arg5 harg5 arg6 harg6 arg7 harg7 x3 x4 x5 = upL i x3 x4 x5 := by
  unfold kernelRun0_B.sl.HS0_3
  rw [full_read harg5 zero3, full_read harg6 zero3, full_read harg7 zero3]

/-- The normalised rows. -/
theorem r_eq : kernelRun0_B.sl.r c arg4 harg4 arg8 harg8 x2 x6 = k0_pay6 x2 x6 := by
  unfold kernelRun0_B.sl.r
  rw [full_read harg4 zero2, full_read harg8 zero2]

/-- The taps. -/
theorem r_1_eq : kernelRun0_B.sl.r_1 c arg11 harg11 x9 = k0_pay10 x9 := by
  unfold kernelRun0_B.sl.r_1
  rw [full_read harg11 zero3]

/-- The convolution's rows. -/
theorem r_2_eq : kernelRun0_B.sl.r_2 c i arg5 harg5 arg6 harg6 arg7 harg7 arg11 harg11 arg12 harg12 arg18 x3 x4 x5 x9 x10 = cvT arg18.view i x3 x4 x5 x9 x10 := by
  unfold kernelRun0_B.sl.r_2 kernelRun0_B.sl.v45 kernelRun0_B.sl.v51 kernelRun0_B.sl.v56
  rw [HS0_3_eq, full_read harg11 zero3, full_read harg12 zero3]

/-- The cotangent's rows. -/
theorem r_3_eq : kernelRun0_B.sl.r_3 c i arg2 harg2 arg3 harg3 x0 x1 = dhT i x0 x1 := by
  unfold kernelRun0_B.sl.r_3
  rw [full_read harg2 zero2, full_read harg3 zero2]

/-- What the scratch rows of the convolution's cotangent are given. -/
theorem HS1_2_eq : kernelRun0_B.sl.HS1_2 c i arg2 harg2 arg3 harg3 arg5 harg5 arg6 harg6 arg7 harg7 arg10 harg10 arg11 harg11 arg12 harg12 arg18 x0 x1 x3 x4 x5 x8 x9 x10 = dcvL (cvT arg18.view i x3 x4 x5 x9 x10) (dhT i x0 x1) x8 := by
  unfold kernelRun0_B.sl.HS1_2
  rw [r_2_eq, r_3_eq, full_read harg10 zero3]

/-- The convolution's cotangent, as loaded. -/
theorem v113_eq : kernelRun0_B.sl.v113 c i arg2 harg2 arg3 harg3 arg5 harg5 arg6 harg6 arg7 harg7 arg10 harg10 arg11 harg11 arg12 harg12 arg18 arg19 x0 x1 x3 x4 x5 x8 x9 x10 = dcT arg19.view 0 inb_S272x2816_S256x2816_0_0 (cvT arg18.view i x3 x4 x5 x9 x10) (dhT i x0 x1) x8 := by
  unfold kernelRun0_B.sl.v113
  rw [HS1_2_eq]

/-- The convolution's cotangent one row later. -/
theorem v161_eq : kernelRun0_B.sl.v161 c i arg2 harg2 arg3 harg3 arg5 harg5 arg6 harg6 arg7 harg7 arg10 harg10 arg11 harg11 arg12 harg12 arg18 arg19 x0 x1 x3 x4 x5 x8 x9 x10 = dcT arg19.view 1 inb_S272x2816_S256x2816_1_0 (cvT arg18.view i x3 x4 x5 x9 x10) (dhT i x0 x1) x8 := by
  unfold kernelRun0_B.sl.v161
  rw [HS1_2_eq]

/-- The convolution's cotangent two rows later. -/
theorem v146_eq : kernelRun0_B.sl.v146 c i arg2 harg2 arg3 harg3 arg5 harg5 arg6 harg6 arg7 harg7 arg10 harg10 arg11 harg11 arg12 harg12 arg18 arg19 x0 x1 x3 x4 x5 x8 x9 x10 = dcT arg19.view 2 inb_S272x2816_S256x2816_2_0 (cvT arg18.view i x3 x4 x5 x9 x10) (dhT i x0 x1) x8 := by
  unfold kernelRun0_B.sl.v146
  rw [HS1_2_eq]

/-- The projection up two rows earlier. -/
theorem v137_eq : kernelRun0_B.sl.v137 c i arg5 harg5 arg6 harg6 arg7 harg7 arg18 x3 x4 x5 = upT arg18.view 14 inb_S288x2816_S256x2816_14_0 i x3 x4 x5 := by
  unfold kernelRun0_B.sl.v137
  rw [HS0_3_eq]

/-- The projection up one row earlier. -/
theorem v152_eq : kernelRun0_B.sl.v152 c i arg5 harg5 arg6 harg6 arg7 harg7 arg18 x3 x4 x5 = upT arg18.view 15 inb_S288x2816_S256x2816_15_0 i x3 x4 x5 := by
  unfold kernelRun0_B.sl.v152
  rw [HS0_3_eq]

/-- The projection up, as loaded. -/
theorem v127_eq : kernelRun0_B.sl.v127 c i arg5 harg5 arg6 harg6 arg7 harg7 arg18 x3 x4 x5 = upT arg18.view 16 inb_S288x2816_S256x2816_16_0 i x3 x4 x5 := by
  unfold kernelRun0_B.sl.v127
  rw [HS0_3_eq]

/-- The last tap times the convolution's cotangent. -/
theorem r_5_eq : kernelRun0_B.sl.r_5 c i arg2 harg2 arg3 harg3 arg5 harg5 arg6 harg6 arg7 harg7 arg10 harg10 arg11 harg11 arg12 harg12 arg18 arg19 x0 x1 x3 x4 x5 x8 x9 x10 = k0_pay25 (k0_pay10 x9) (dcT arg19.view 0 inb_S272x2816_S256x2816_0_0 (cvT arg18.view i x3 x4 x5 x9 x10) (dhT i x0 x1) x8) := by
  unfold kernelRun0_B.sl.r_5
  rw [r_1_eq, v113_eq]

/-- The products the first tap's gradient sums. -/
theorem r_7_eq : kernelRun0_B.sl.r_7 c i arg2 harg2 arg3 harg3 arg5 harg5 arg6 harg6 arg7 harg7 arg10 harg10 arg11 harg11 arg12 harg12 arg18 arg19 x0 x1 x3 x4 x5 x8 x9 x10 = k0_pay28 (dcT arg19.view 0 inb_S272x2816_S256x2816_0_0 (cvT arg18.view i x3 x4 x5 x9 x10) (dhT i x0 x1) x8) (upT arg18.view 14 inb_S288x2816_S256x2816_14_0 i x3 x4 x5) := by
  unfold kernelRun0_B.sl.r_7
  rw [v113_eq, v137_eq]

/-- The cotangent of the projection up. -/
theorem r_8_eq : kernelRun0_B.sl.r_8 c i arg2 harg2 arg3 harg3 arg5 harg5 arg6 harg6 arg7 harg7 arg10 harg10 arg11 harg11 arg12 harg12 arg18 arg19 x0 x1 x3 x4 x5 x8 x9 x10 = k0_pay31 (k0_pay10 x9) (k0_pay25 (k0_pay10 x9) (dcT arg19.view 0 inb_S272x2816_S256x2816_0_0 (cvT arg18.view i x3 x4 x5 x9 x10) (dhT i x0 x1) x8)) (dcT arg19.view 2 inb_S272x2816_S256x2816_2_0 (cvT arg18.view i x3 x4 x5 x9 x10) (dhT i x0 x1) x8) (dcT arg19.view 1 inb_S272x2816_S256x2816_1_0 (cvT arg18.view i x3 x4 x5 x9 x10) (dhT i x0 x1) x8) := by
  unfold kernelRun0_B.sl.r_8
  rw [r_1_eq, r_5_eq, v146_eq, v161_eq]

/-- The gradient of the weight of the projection down. -/
theorem r_4_eq : kernelRun0_B.sl.r_4 c i arg2 harg2 arg3 harg3 arg5 harg5 arg6 harg6 arg7 harg7 arg11 harg11 arg12 harg12 arg18 arg21 harg21 x0 x1 x3 x4 x5 x9 x10 xs3 = k0_pay22 (cvT arg18.view i x3 x4 x5 x9 x10) (dhT i x0 x1) xs3 := by
  unfold kernelRun0_B.sl.r_4
  rw [r_2_eq, r_3_eq, full_read harg21 zero2]

variable {A : Args} {j k : ℕ} (H : Blocks A j k i x0 x1 x2 x3 x4 x5 x6 x7 x8 x9 x10)

include H

/-- The rows of the gradient of the normalised input. -/
theorem part_eq (r : Fin 256) (d : Fin 1024) :
    out0_B_11 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix3 0 r d)
      = A.part j (256 * k + r.val) d.val := by
  unfold out0_B_11 kernelRun0_B
  dsimp only
  rw [View.read_writes_junk_eq_canon, View.canon_cons_unit_zero zero3]
  rw [r_1_eq, r_5_eq, v146_eq, v161_eq]
  refine (congrFun (congrArg (k0_pay32 _ _ _ _) (full_read harg9 zero3 _ x7)) _).trans ?_
  exact part_tile _ _ H _ _ _ r d

/-- The gradient of the weight of the projection up. -/
theorem up_eq (d : Fin 1024) (q : Fin 2816) :
    sout0_B_2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 d q)
      = xs2 (ix2 d q) + upTerm A j k d.val q.val := by
  unfold sout0_B_2 kernelRun0_B
  dsimp only
  rw [View.read_writes_junk_eq_canon, View.canon_cons_unit_zero zero2]
  rw [r_eq, r_8_eq]
  refine (congrFun (congrArg (k0_pay1 _ _) (full_read harg20 zero2 _ xs2)) _).trans ?_
  exact up_tile _ _ H _ _ _ _ d q

/-- The gradient of the weight of the projection down. -/
theorem dn_eq (f : Fin 1408) (d : Fin 1024) :
    sout0_B_3 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 f d)
      = xs3 (ix2 f d) + dnTerm A j k f.val d.val := by
  unfold sout0_B_3 kernelRun0_B
  dsimp only
  rw [View.read_writes_junk_eq_canon, View.canon_cons_unit_zero zero2]
  rw [r_4_eq]
  exact dn_tile _ H _ f d

/-- The gradient of the bias. -/
theorem cb_eq (q : Fin 2816) :
    out0_B_13 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix3 0 0 q)
      = xo13 (ix3 0 0 q) + cbTerm A j k q.val := by
  unfold out0_B_13 kernelRun0_B
  dsimp only
  rw [View.read_writes_junk_eq_canon, View.canon_cons_unit_zero zero3]
  rw [v113_eq]
  refine (congrFun (congrArg (k0_pay24 _) (full_read harg17 zero3 _ xo13)) _).trans ?_
  exact cb_tile _ _ H _ _ q

/-- The gradients of the taps. -/
theorem cw_eq (t : Fin 3) (q : Fin 2816) :
    out0_B_12 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix3 0 t q)
      = xo12 (ix3 0 t q) + cwTerm A j k t.val q.val := by
  unfold out0_B_12 kernelRun0_B
  dsimp only
  rw [View.read_writes_junk_eq_canon]
  unfold kernelRun0_B.sl.r_6
  rw [r_7_eq, v113_eq, v152_eq, v127_eq]
  refine rows_at _ _ _ _ _ _ _ (fun t => xo12 (ix3 0 t q) + cwTerm A j k t.val q.val) q ?_ ?_ ?_ t
  · exact (cw0_tile _ _ H _ _ _ q).trans (congrArg (· + _) (row_read harg16 0 _ xo12 q))
  · exact (cw1_tile _ _ H _ _ _ q).trans (congrArg (· + _) (row_read harg16 1 _ xo12 q))
  · exact (cw2_tile _ _ H _ _ _ q).trans (congrArg (· + _) (row_read harg16 2 _ xo12 q))

end Cert.Tile.CaseB

end
-- ==== Proof.Tile.CaseC.lean ====
module

public import proofs.«01_k».proof.Proof.Tile.Stage
public import proofs.«01_k».proof.Proof.Gen.KernelIdeal.Frame

@[expose] public section

set_option maxRecDepth 8000

noncomputable section

/-! What the last tile of a half leaves in each result. -/

namespace Cert.Tile.CaseC

open Cert.KernelIdeal Cert.KernelIdeal.Gen Idealize.ShloMosaic Idealize.ShloMosaic.Tactic
open Cert.Spec (Args)
open Cert.Spec.Args (col)

variable (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i)
    (x0 : Vec Ideal S256x1024 .f32) (x1 : Vec Ideal S16x1024 .f32) (x2 : Vec Ideal S256x1024 .f32) (x3 : Vec Ideal S1x256x2816 .bf16) (x4 : Vec Ideal S1x16x2816 .bf16) (x5 : Vec Ideal S1x16x2816 .bf16) (x6 : Vec Ideal S1x1024 .f32) (x7 : Vec Ideal S1x1024x2816 .bf16) (x8 : Vec Ideal S1x1408x1024 .bf16) (x9 : Vec Ideal S1x3x2816 .f32) (x10 : Vec Ideal S1x1x2816 .f32) (xo12 : Vec Ideal S1x3x2816 .f32) (xo13 : Vec Ideal S1x1x2816 .f32) (xs2 : Vec Ideal S1024x2816 .f32) (xs3 : Vec Ideal S1408x1024 .f32)
/-- What the scratch rows of the projection up are given. -/
theorem HS0_3_eq : kernelRun0_C.sl.HS0_3 c i arg5 harg5 arg6 harg6 arg7 harg7 x3 x4 x5 = upL i x3 x4 x5 := by
  unfold kernelRun0_C.sl.HS0_3
  rw [full_read harg5 zero3, full_read harg6 zero3, full_read harg7 zero3]

/-- The normalised rows. -/
theorem r_eq : kernelRun0_C.sl.r c arg4 harg4 arg8 harg8 x2 x6 = k0_pay6 x2 x6 := by
  unfold kernelRun0_C.sl.r
  rw [full_read harg4 zero2, full_read harg8 zero2]

/-- The taps. -/
theorem r_1_eq : kernelRun0_C.sl.r_1 c arg11 harg11 x9 = k0_pay10 x9 := by
  unfold kernelRun0_C.sl.r_1
  rw [full_read harg11 zero3]

/-- The convolution's rows. -/
theorem r_2_eq : kernelRun0_C.sl.r_2 c i arg5 harg5 arg6 harg6 arg7 harg7 arg11 harg11 arg12 harg12 arg18 x3 x4 x5 x9 x10 = cvT arg18.view i x3 x4 x5 x9 x10 := by
  unfold kernelRun0_C.sl.r_2 kernelRun0_C.sl.v45 kernelRun0_C.sl.v51 kernelRun0_C.sl.v56
  rw [HS0_3_eq, full_read harg11 zero3, full_read harg12 zero3]

/-- The cotangent's rows. -/
theorem r_3_eq : kernelRun0_C.sl.r_3 c i arg2 harg2 arg3 harg3 x0 x1 = dhT i x0 x1 := by
  unfold kernelRun0_C.sl.r_3
  rw [full_read harg2 zero2, full_read harg3 zero2]

/-- What the scratch rows of the convolution's cotangent are given. -/
theorem HS1_2_eq : kernelRun0_C.sl.HS1_2 c i arg2 harg2 arg3 harg3 arg5 harg5 arg6 harg6 arg7 harg7 arg10 harg10 arg11 harg11 arg12 harg12 arg18 x0 x1 x3 x4 x5 x8 x9 x10 = dcvL (cvT arg18.view i x3 x4 x5 x9 x10) (dhT i x0 x1) x8 := by
  unfold kernelRun0_C.sl.HS1_2
  rw [r_2_eq, r_3_eq, full_read harg10 zero3]

/-- The convolution's cotangent, as loaded. -/
theorem v113_eq : kernelRun0_C.sl.v113 c i arg2 harg2 arg3 harg3 arg5 harg5 arg6 harg6 arg7 harg7 arg10 harg10 arg11 harg11 arg12 harg12 arg18 arg19 x0 x1 x3 x4 x5 x8 x9 x10 = dcT arg19.view 0 inb_S272x2816_S256x2816_0_0 (cvT arg18.view i x3 x4 x5 x9 x10) (dhT i x0 x1) x8 := by
  unfold kernelRun0_C.sl.v113
  rw [HS1_2_eq]

/-- The convolution's cotangent one row later. -/
theorem v161_eq : kernelRun0_C.sl.v161 c i arg2 harg2 arg3 harg3 arg5 harg5 arg6 harg6 arg7 harg7 arg10 harg10 arg11 harg11 arg12 harg12 arg18 arg19 x0 x1 x3 x4 x5 x8 x9 x10 = dcT arg19.view 1 inb_S272x2816_S256x2816_1_0 (cvT arg18.view i x3 x4 x5 x9 x10) (dhT i x0 x1) x8 := by
  unfold kernelRun0_C.sl.v161
  rw [HS1_2_eq]

/-- The convolution's cotangent two rows later. -/
theorem v146_eq : kernelRun0_C.sl.v146 c i arg2 harg2 arg3 harg3 arg5 harg5 arg6 harg6 arg7 harg7 arg10 harg10 arg11 harg11 arg12 harg12 arg18 arg19 x0 x1 x3 x4 x5 x8 x9 x10 = dcT arg19.view 2 inb_S272x2816_S256x2816_2_0 (cvT arg18.view i x3 x4 x5 x9 x10) (dhT i x0 x1) x8 := by
  unfold kernelRun0_C.sl.v146
  rw [HS1_2_eq]

/-- The projection up two rows earlier. -/
theorem v137_eq : kernelRun0_C.sl.v137 c i arg5 harg5 arg6 harg6 arg7 harg7 arg18 x3 x4 x5 = upT arg18.view 14 inb_S288x2816_S256x2816_14_0 i x3 x4 x5 := by
  unfold kernelRun0_C.sl.v137
  rw [HS0_3_eq]

/-- The projection up one row earlier. -/
theorem v152_eq : kernelRun0_C.sl.v152 c i arg5 harg5 arg6 harg6 arg7 harg7 arg18 x3 x4 x5 = upT arg18.view 15 inb_S288x2816_S256x2816_15_0 i x3 x4 x5 := by
  unfold kernelRun0_C.sl.v152
  rw [HS0_3_eq]

/-- The projection up, as loaded. -/
theorem v127_eq : kernelRun0_C.sl.v127 c i arg5 harg5 arg6 harg6 arg7 harg7 arg18 x3 x4 x5 = upT arg18.view 16 inb_S288x2816_S256x2816_16_0 i x3 x4 x5 := by
  unfold kernelRun0_C.sl.v127
  rw [HS0_3_eq]

/-- The last tap times the convolution's cotangent. -/
theorem r_5_eq : kernelRun0_C.sl.r_5 c i arg2 harg2 arg3 harg3 arg5 harg5 arg6 harg6 arg7 harg7 arg10 harg10 arg11 harg11 arg12 harg12 arg18 arg19 x0 x1 x3 x4 x5 x8 x9 x10 = k0_pay25 (k0_pay10 x9) (dcT arg19.view 0 inb_S272x2816_S256x2816_0_0 (cvT arg18.view i x3 x4 x5 x9 x10) (dhT i x0 x1) x8) := by
  unfold kernelRun0_C.sl.r_5
  rw [r_1_eq, v113_eq]

/-- The products the first tap's gradient sums. -/
theorem r_7_eq : kernelRun0_C.sl.r_7 c i arg2 harg2 arg3 harg3 arg5 harg5 arg6 harg6 arg7 harg7 arg10 harg10 arg11 harg11 arg12 harg12 arg18 arg19 x0 x1 x3 x4 x5 x8 x9 x10 = k0_pay28 (dcT arg19.view 0 inb_S272x2816_S256x2816_0_0 (cvT arg18.view i x3 x4 x5 x9 x10) (dhT i x0 x1) x8) (upT arg18.view 14 inb_S288x2816_S256x2816_14_0 i x3 x4 x5) := by
  unfold kernelRun0_C.sl.r_7
  rw [v113_eq, v137_eq]

/-- The cotangent of the projection up. -/
theorem r_8_eq : kernelRun0_C.sl.r_8 c i arg2 harg2 arg3 harg3 arg5 harg5 arg6 harg6 arg7 harg7 arg10 harg10 arg11 harg11 arg12 harg12 arg18 arg19 x0 x1 x3 x4 x5 x8 x9 x10 = k0_pay31 (k0_pay10 x9) (k0_pay25 (k0_pay10 x9) (dcT arg19.view 0 inb_S272x2816_S256x2816_0_0 (cvT arg18.view i x3 x4 x5 x9 x10) (dhT i x0 x1) x8)) (dcT arg19.view 2 inb_S272x2816_S256x2816_2_0 (cvT arg18.view i x3 x4 x5 x9 x10) (dhT i x0 x1) x8) (dcT arg19.view 1 inb_S272x2816_S256x2816_1_0 (cvT arg18.view i x3 x4 x5 x9 x10) (dhT i x0 x1) x8) := by
  unfold kernelRun0_C.sl.r_8
  rw [r_1_eq, r_5_eq, v146_eq, v161_eq]

/-- The gradient of the weight of the projection down. -/
theorem r_4_eq : kernelRun0_C.sl.r_4 c i arg2 harg2 arg3 harg3 arg5 harg5 arg6 harg6 arg7 harg7 arg11 harg11 arg12 harg12 arg18 arg21 harg21 x0 x1 x3 x4 x5 x9 x10 xs3 = k0_pay22 (cvT arg18.view i x3 x4 x5 x9 x10) (dhT i x0 x1) xs3 := by
  unfold kernelRun0_C.sl.r_4
  rw [r_2_eq, r_3_eq, full_read harg21 zero2]

variable {A : Args} {j k : ℕ} (H : Blocks A j k i x0 x1 x2 x3 x4 x5 x6 x7 x8 x9 x10)

include H

/-- The rows of the gradient of the normalised input. -/
theorem part_eq (r : Fin 256) (d : Fin 1024) :
    out0_C_11 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix3 0 r d)
      = A.part j (256 * k + r.val) d.val := by
  unfold out0_C_11 kernelRun0_C
  dsimp only
  rw [View.read_writes_junk_eq_canon, View.canon_cons_unit_zero zero3]
  rw [r_1_eq, r_5_eq, v146_eq, v161_eq]
  refine (congrFun (congrArg (k0_pay32 _ _ _ _) (full_read harg9 zero3 _ x7)) _).trans ?_
  exact part_tile _ _ H _ _ _ r d

/-- The gradient of the weight of the projection up. -/
theorem up_eq (d : Fin 1024) (q : Fin 2816) :
    sout0_C_2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 d q)
      = xs2 (ix2 d q) + upTerm A j k d.val q.val := by
  unfold sout0_C_2 kernelRun0_C
  dsimp only
  unfold kernelRun0_C.sl.HS2_1 kernelRun0_C.sl.r_9
  rw [View.read_writes_junk_eq_canon, View.canon_cons_unit_zero zero2]
  rw [r_eq, r_8_eq]
  refine (congrFun (congrArg (k0_pay1 _ _) (full_read harg20 zero2 _ xs2)) _).trans ?_
  exact up_tile _ _ H _ _ _ _ d q

/-- The gradient of the weight of the projection down. -/
theorem dn_eq (f : Fin 1408) (d : Fin 1024) :
    sout0_C_3 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 f d)
      = xs3 (ix2 f d) + dnTerm A j k f.val d.val := by
  unfold sout0_C_3 kernelRun0_C
  dsimp only
  unfold kernelRun0_C.sl.HS3_1
  rw [View.read_writes_junk_eq_canon, View.canon_cons_unit_zero zero2]
  rw [r_4_eq]
  exact dn_tile _ H _ f d

/-- The gradient of the bias. -/
theorem cb_eq (q : Fin 2816) :
    out0_C_13 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix3 0 0 q)
      = xo13 (ix3 0 0 q) + cbTerm A j k q.val := by
  unfold out0_C_13 kernelRun0_C
  dsimp only
  rw [View.read_writes_junk_eq_canon, View.canon_cons_unit_zero zero3]
  rw [v113_eq]
  refine (congrFun (congrArg (k0_pay24 _) (full_read harg17 zero3 _ xo13)) _).trans ?_
  exact cb_tile _ _ H _ _ q

/-- The gradients of the taps. -/
theorem cw_eq (t : Fin 3) (q : Fin 2816) :
    out0_C_12 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix3 0 t q)
      = xo12 (ix3 0 t q) + cwTerm A j k t.val q.val := by
  unfold out0_C_12 kernelRun0_C
  dsimp only
  rw [View.read_writes_junk_eq_canon]
  unfold kernelRun0_C.sl.r_6
  rw [r_7_eq, v113_eq, v152_eq, v127_eq]
  refine rows_at _ _ _ _ _ _ _ (fun t => xo12 (ix3 0 t q) + cwTerm A j k t.val q.val) q ?_ ?_ ?_ t
  · exact (cw0_tile _ _ H _ _ _ q).trans (congrArg (· + _) (row_read harg16 0 _ xo12 q))
  · exact (cw1_tile _ _ H _ _ _ q).trans (congrArg (· + _) (row_read harg16 1 _ xo12 q))
  · exact (cw2_tile _ _ H _ _ _ q).trans (congrArg (· + _) (row_read harg16 2 _ xo12 q))

end Cert.Tile.CaseC

end
-- ==== Proof.Tile.Step.lean ====
module

public import proofs.«01_k».proof.Proof.Tile.Blocks
public import proofs.«01_k».proof.Proof.Tile.CaseA
public import proofs.«01_k».proof.Proof.Tile.CaseB
public import proofs.«01_k».proof.Proof.Tile.CaseC

@[expose] public section

set_option maxRecDepth 8000

noncomputable section

/-! What a grid point leaves: its block of the gradient of the normalised input, and the sums over the tiles of its
half so far in the four other results. -/

namespace Cert.Tile

open Cert.KernelIdeal Cert.KernelIdeal.Gen Idealize.ShloMosaic Idealize.ShloMosaic.TcCoe Idealize.ShloMosaic.Tactic
open Cert.Spec (Args)

/-- A five-tuple's components. -/
theorem five {α β γ δ ε : Type} {x : α × β × γ × δ × ε} {a : α} {b : β} {d : γ} {e : δ} {f : ε} (h : x = (a, b, d, e, f)) :
    x.1 = a ∧ x.2.1 = b ∧ x.2.2.1 = d ∧ x.2.2.2.1 = e ∧ x.2.2.2.2 = f := by
  subst h; exact ⟨rfl, rfl, rfl, rfl, rfl⟩

variable (m : (ℓ : Loc nD τ sig) → Buf (Elt Ideal) ℓ) (c : Dev nD) (t : Fin cfg0.N)

/-- The first tile of a half: the gradient of the normalised input. -/
theorem partA (h0 : t.val % 64 = 0) (h1 : ¬t.val % 64 = 63) (r : Fin 256) (d : Fin 1024) :
    (outsAt0 m c t.val t.isLt).1 (ix3 0 r d) = (Host.A m c).part (t.val / 64) (256 * (t.val % 64) + r.val) d.val :=
  (congrFun (five (outsAt0_A m c t h0 h1)).1 (ix3 0 r d)).trans
    (CaseA.part_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks t m c) r d)

/-- The first tile of a half: the taps. -/
theorem cwA (h0 : t.val % 64 = 0) (h1 : ¬t.val % 64 = 63) (k : Fin 3) (q : Fin 2816) :
    (outsAt0 m c t.val t.isLt).2.1 (ix3 0 k q) = cwTerm (Host.A m c) (t.val / 64) (t.val % 64) k.val q.val :=
  (congrFun (five (outsAt0_A m c t h0 h1)).2.1 (ix3 0 k q)).trans
    (CaseA.cw_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks t m c) k q)

/-- The first tile of a half: the bias. -/
theorem cbA (h0 : t.val % 64 = 0) (h1 : ¬t.val % 64 = 63) (q : Fin 2816) :
    (outsAt0 m c t.val t.isLt).2.2.1 (ix3 0 0 q) = cbTerm (Host.A m c) (t.val / 64) (t.val % 64) q.val :=
  (congrFun (five (outsAt0_A m c t h0 h1)).2.2.1 (ix3 0 0 q)).trans
    (CaseA.cb_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks t m c) q)

/-- The first tile of a half: the projection up. -/
theorem upA (h0 : t.val % 64 = 0) (h1 : ¬t.val % 64 = 63) (d : Fin 1024) (q : Fin 2816) :
    (outsAt0 m c t.val t.isLt).2.2.2.1 (ix2 d q) = upTerm (Host.A m c) (t.val / 64) (t.val % 64) d.val q.val :=
  (congrFun (five (outsAt0_A m c t h0 h1)).2.2.2.1 (ix2 d q)).trans
    (CaseA.up_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks t m c) d q)

/-- The first tile of a half: the projection down. -/
theorem dnA (h0 : t.val % 64 = 0) (h1 : ¬t.val % 64 = 63) (f : Fin 1408) (d : Fin 1024) :
    (outsAt0 m c t.val t.isLt).2.2.2.2 (ix2 f d) = dnTerm (Host.A m c) (t.val / 64) (t.val % 64) f.val d.val :=
  (congrFun (five (outsAt0_A m c t h0 h1)).2.2.2.2 (ix2 f d)).trans
    (CaseA.dn_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks t m c) f d)

/-- A tile between: the gradient of the normalised input. -/
theorem partB (h0 : ¬t.val % 64 = 0) (h1 : ¬t.val % 64 = 63) (r : Fin 256) (d : Fin 1024) :
    (outsAt0 m c t.val t.isLt).1 (ix3 0 r d) = (Host.A m c).part (t.val / 64) (256 * (t.val % 64) + r.val) d.val :=
  (congrFun (five (outsAt0_B m c t h0 h1)).1 (ix3 0 r d)).trans
    (CaseB.part_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) r d)

/-- A tile between: the taps. -/
theorem cwB (h0 : ¬t.val % 64 = 0) (h1 : ¬t.val % 64 = 63) (k : Fin 3) (q : Fin 2816) :
    (outsAt0 m c t.val t.isLt).2.1 (ix3 0 k q) = (outsAt0 m c (t.val - 1) (Nat.lt_of_le_of_lt (Nat.sub_le _ _) t.isLt)).2.1 (ix3 0 k q) + cwTerm (Host.A m c) (t.val / 64) (t.val % 64) k.val q.val :=
  (congrFun (five (outsAt0_B m c t h0 h1)).2.1 (ix3 0 k q)).trans
    (CaseB.cw_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) k q)

/-- A tile between: the bias. -/
theorem cbB (h0 : ¬t.val % 64 = 0) (h1 : ¬t.val % 64 = 63) (q : Fin 2816) :
    (outsAt0 m c t.val t.isLt).2.2.1 (ix3 0 0 q) = (outsAt0 m c (t.val - 1) (Nat.lt_of_le_of_lt (Nat.sub_le _ _) t.isLt)).2.2.1 (ix3 0 0 q) + cbTerm (Host.A m c) (t.val / 64) (t.val % 64) q.val :=
  (congrFun (five (outsAt0_B m c t h0 h1)).2.2.1 (ix3 0 0 q)).trans
    (CaseB.cb_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) q)

/-- A tile between: the projection up. -/
theorem upB (h0 : ¬t.val % 64 = 0) (h1 : ¬t.val % 64 = 63) (d : Fin 1024) (q : Fin 2816) :
    (outsAt0 m c t.val t.isLt).2.2.2.1 (ix2 d q) = (outsAt0 m c (t.val - 1) (Nat.lt_of_le_of_lt (Nat.sub_le _ _) t.isLt)).2.2.2.1 (ix2 d q) + upTerm (Host.A m c) (t.val / 64) (t.val % 64) d.val q.val :=
  (congrFun (five (outsAt0_B m c t h0 h1)).2.2.2.1 (ix2 d q)).trans
    (CaseB.up_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) d q)

/-- A tile between: the projection down. -/
theorem dnB (h0 : ¬t.val % 64 = 0) (h1 : ¬t.val % 64 = 63) (f : Fin 1408) (d : Fin 1024) :
    (outsAt0 m c t.val t.isLt).2.2.2.2 (ix2 f d) = (outsAt0 m c (t.val - 1) (Nat.lt_of_le_of_lt (Nat.sub_le _ _) t.isLt)).2.2.2.2 (ix2 f d) + dnTerm (Host.A m c) (t.val / 64) (t.val % 64) f.val d.val :=
  (congrFun (five (outsAt0_B m c t h0 h1)).2.2.2.2 (ix2 f d)).trans
    (CaseB.dn_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) f d)

/-- The last tile of a half: the gradient of the normalised input. -/
theorem partC (h0 : ¬t.val % 64 = 0) (h1 : t.val % 64 = 63) (r : Fin 256) (d : Fin 1024) :
    (outsAt0 m c t.val t.isLt).1 (ix3 0 r d) = (Host.A m c).part (t.val / 64) (256 * (t.val % 64) + r.val) d.val :=
  (congrFun (five (outsAt0_C m c t h0 h1)).1 (ix3 0 r d)).trans
    (CaseC.part_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) r d)

/-- The last tile of a half: the taps. -/
theorem cwC (h0 : ¬t.val % 64 = 0) (h1 : t.val % 64 = 63) (k : Fin 3) (q : Fin 2816) :
    (outsAt0 m c t.val t.isLt).2.1 (ix3 0 k q) = (outsAt0 m c (t.val - 1) (Nat.lt_of_le_of_lt (Nat.sub_le _ _) t.isLt)).2.1 (ix3 0 k q) + cwTerm (Host.A m c) (t.val / 64) (t.val % 64) k.val q.val :=
  (congrFun (five (outsAt0_C m c t h0 h1)).2.1 (ix3 0 k q)).trans
    (CaseC.cw_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) k q)

/-- The last tile of a half: the bias. -/
theorem cbC (h0 : ¬t.val % 64 = 0) (h1 : t.val % 64 = 63) (q : Fin 2816) :
    (outsAt0 m c t.val t.isLt).2.2.1 (ix3 0 0 q) = (outsAt0 m c (t.val - 1) (Nat.lt_of_le_of_lt (Nat.sub_le _ _) t.isLt)).2.2.1 (ix3 0 0 q) + cbTerm (Host.A m c) (t.val / 64) (t.val % 64) q.val :=
  (congrFun (five (outsAt0_C m c t h0 h1)).2.2.1 (ix3 0 0 q)).trans
    (CaseC.cb_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) q)

/-- The last tile of a half: the projection up. -/
theorem upC (h0 : ¬t.val % 64 = 0) (h1 : t.val % 64 = 63) (d : Fin 1024) (q : Fin 2816) :
    (outsAt0 m c t.val t.isLt).2.2.2.1 (ix2 d q) = (outsAt0 m c (t.val - 1) (Nat.lt_of_le_of_lt (Nat.sub_le _ _) t.isLt)).2.2.2.1 (ix2 d q) + upTerm (Host.A m c) (t.val / 64) (t.val % 64) d.val q.val :=
  (congrFun (five (outsAt0_C m c t h0 h1)).2.2.2.1 (ix2 d q)).trans
    (CaseC.up_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) d q)

/-- The last tile of a half: the projection down. -/
theorem dnC (h0 : ¬t.val % 64 = 0) (h1 : t.val % 64 = 63) (f : Fin 1408) (d : Fin 1024) :
    (outsAt0 m c t.val t.isLt).2.2.2.2 (ix2 f d) = (outsAt0 m c (t.val - 1) (Nat.lt_of_le_of_lt (Nat.sub_le _ _) t.isLt)).2.2.2.2 (ix2 f d) + dnTerm (Host.A m c) (t.val / 64) (t.val % 64) f.val d.val :=
  (congrFun (five (outsAt0_C m c t h0 h1)).2.2.2.2 (ix2 f d)).trans
    (CaseC.dn_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (blocks t m c) f d)

end Cert.Tile

end
-- ==== Proof.Tile.Acc.lean ====
module

public import proofs.«01_k».proof.Proof.Tile.Step

@[expose] public section

set_option maxRecDepth 8000

noncomputable section

/-! After the last tile of a half, the four results that are accumulated hold the sums over all rows. -/

namespace Cert.Tile

open Cert.KernelIdeal Cert.KernelIdeal.Gen Idealize.ShloMosaic Idealize.ShloMosaic.TcCoe Idealize.ShloMosaic.Tactic
open Cert.Spec (Args)
open Cert.Spec.Args (col)

/-- What starts at the first tile of a half and grows by a term at each later one is the sum of the terms so far. -/
theorem acc (f : (n : ℕ) → n < cfg0.N → EReal) (term : ℕ → ℕ → EReal)
    (hA : ∀ t : Fin cfg0.N, t.val % 64 = 0 → f t.val t.isLt = term (t.val / 64) (t.val % 64))
    (hB : ∀ t : Fin cfg0.N, ¬t.val % 64 = 0 → f t.val t.isLt = f (t.val - 1) (Nat.lt_of_le_of_lt (Nat.sub_le _ _) t.isLt) + term (t.val / 64) (t.val % 64)) :
    ∀ (n : ℕ) (hn : n < cfg0.N), f n hn = ∑ k ∈ Finset.range (n % 64 + 1), term (n / 64) k := by
  intro n
  induction n with
  | zero => intro hn; exact (hA ⟨0, hn⟩ rfl).trans (Finset.sum_range_one _).symm
  | succ n ih =>
    intro hn
    by_cases h : (n + 1) % 64 = 0
    · rw [hA ⟨n + 1, hn⟩ h]
      show term ((n + 1) / 64) ((n + 1) % 64) = _
      rw [h]
      exact (Finset.sum_range_one _).symm
    · rw [hB ⟨n + 1, hn⟩ h]
      show f n _ + term ((n + 1) / 64) ((n + 1) % 64) = _
      have e1 : (n + 1) / 64 = n / 64 := by omega
      have e2 : (n + 1) % 64 = n % 64 + 1 := by omega
      rw [ih, e1, e2]
      exact (Finset.sum_range_succ _ _).symm

/-- The same at the last tile, the sum written over all tiles. -/
theorem acc_end (f : (n : ℕ) → n < cfg0.N → EReal) (term : ℕ → ℕ → EReal)
    (hA : ∀ t : Fin cfg0.N, t.val % 64 = 0 → f t.val t.isLt = term (t.val / 64) (t.val % 64))
    (hB : ∀ t : Fin cfg0.N, ¬t.val % 64 = 0 → f t.val t.isLt = f (t.val - 1) (Nat.lt_of_le_of_lt (Nat.sub_le _ _) t.isLt) + term (t.val / 64) (t.val % 64))
    (t : Fin cfg0.N) (h1 : t.val % 64 = 63) : f t.val t.isLt = ∑ k : Fin 64, term (t.val / 64) k.val := by
  rw [acc f term hA hB t.val t.isLt, h1]
  exact Finset.sum_range _

variable (m : (ℓ : Loc nD τ sig) → Buf (Elt Ideal) ℓ) (c : Dev nD) (t : Fin cfg0.N)

/-- The gradient of the normalised input, at every tile. -/
theorem part_at (r : Fin 256) (d : Fin 1024) :
    (outsAt0 m c t.val t.isLt).1 (ix3 0 r d) = (Host.A m c).part (t.val / 64) (256 * (t.val % 64) + r.val) d.val := by
  by_cases h0 : t.val % 64 = 0
  · exact partA m c t h0 (by omega) r d
  · by_cases h1 : t.val % 64 = 63
    · exact partC m c t h0 h1 r d
    · exact partB m c t h0 h1 r d

/-- The gradient of the taps after the last tile. -/
theorem cw_at (h1 : t.val % 64 = 63) (k : Fin 3) (q : Fin 2816) :
    (outsAt0 m c t.val t.isLt).2.1 (ix3 0 k q) = (Host.A m c).dcw k.val (col (t.val / 64) q.val) := by
  refine (acc_end (fun n hn => (outsAt0 m c n hn).2.1 (ix3 0 k q)) (fun j i => cwTerm (Host.A m c) j i k.val q.val)
    (fun t h0 => cwA m c t h0 (by omega) k q) (fun t h0 => ?_) t h1).trans ?_
  · by_cases h1 : t.val % 64 = 63
    · exact cwC m c t h0 h1 k q
    · exact cwB m c t h0 h1 k q
  · unfold cwTerm Args.dcw
    refine (sum_tiles (fun s => (Host.A m c).dz s (col (t.val / 64) q.val) * (Host.A m c).upp (s + k.val) (col (t.val / 64) q.val))).trans ?_
    exact Finset.sum_congr rfl fun s _ => by rw [Args.dz, if_pos s.isLt]

/-- The gradient of the bias after the last tile. -/
theorem cb_at (h1 : t.val % 64 = 63) (q : Fin 2816) :
    (outsAt0 m c t.val t.isLt).2.2.1 (ix3 0 0 q) = (Host.A m c).dcb (col (t.val / 64) q.val) := by
  refine (acc_end (fun n hn => (outsAt0 m c n hn).2.2.1 (ix3 0 0 q)) (fun j i => cbTerm (Host.A m c) j i q.val)
    (fun t h0 => cbA m c t h0 (by omega) q) (fun t h0 => ?_) t h1).trans ?_
  · by_cases h1 : t.val % 64 = 63
    · exact cbC m c t h0 h1 q
    · exact cbB m c t h0 h1 q
  · unfold cbTerm Args.dcb
    refine (sum_tiles (fun s => (Host.A m c).dz s (col (t.val / 64) q.val))).trans ?_
    exact Finset.sum_congr rfl fun s _ => by rw [Args.dz, if_pos s.isLt]

/-- The gradient of the weight of the projection up after the last tile. -/
theorem up_at (h1 : t.val % 64 = 63) (d : Fin 1024) (q : Fin 2816) :
    (outsAt0 m c t.val t.isLt).2.2.2.1 (ix2 d q) = (Host.A m c).dwup d.val (col (t.val / 64) q.val) := by
  refine (acc_end (fun n hn => (outsAt0 m c n hn).2.2.2.1 (ix2 d q)) (fun j i => upTerm (Host.A m c) j i d.val q.val)
    (fun t h0 => upA m c t h0 (by omega) d q) (fun t h0 => ?_) t h1).trans ?_
  · by_cases h1 : t.val % 64 = 63
    · exact upC m c t h0 h1 d q
    · exact upB m c t h0 h1 d q
  · unfold upTerm Args.dwup
    exact sum_tiles (fun s => (Host.A m c).hn s d.val * (Host.A m c).dup s (col (t.val / 64) q.val))

/-- The gradient of the weight of the projection down after the last tile. -/
theorem dn_at (h1 : t.val % 64 = 63) (f : Fin 1408) (d : Fin 1024) :
    (outsAt0 m c t.val t.isLt).2.2.2.2 (ix2 f d) = (Host.A m c).dwdn (t.val / 64 * 1408 + f.val) d.val := by
  refine (acc_end (fun n hn => (outsAt0 m c n hn).2.2.2.2 (ix2 f d)) (fun j i => dnTerm (Host.A m c) j i f.val d.val)
    (fun t h0 => dnA m c t h0 (by omega) f d) (fun t h0 => ?_) t h1).trans ?_
  · by_cases h1 : t.val % 64 = 63
    · exact dnC m c t h0 h1 f d
    · exact dnB m c t h0 h1 f d
  · unfold dnTerm Args.dwdn
    exact sum_tiles (fun s => Spec.gl ((Host.A m c).cv s (t.val / 64 * 1408 + f.val)) * (Host.A m c).cv s (2816 + (t.val / 64 * 1408 + f.val)) * (Host.A m c).dh s d.val)

end Cert.Tile

end
-- ==== Proof.Held.Out.lean ====
module

public import proofs.«01_k».proof.Proof.Held.Source
public import proofs.«01_k».proof.Proof.Held.Body
public import proofs.«01_k».proof.Proof.Tile.Acc

@[expose] public section

set_option maxRecDepth 8000

noncomputable section

/-! What the two weight gradients hold after the launch, entry by entry. -/

namespace Cert.Held

open Cert.KernelIdeal Cert.KernelIdeal.Gen Idealize.ShloMosaic Idealize.ShloMosaic.TcCoe Idealize.ShloMosaic.Tactic
open Cert.Tile (tlt crd five up_at dn_at)
open Cert.Spec.Args (col)

/-- An entry of the gradient of the weight of the projection up. -/
def ent0 {c : Dev nD} (f : HbBuf0 (F := Ideal) c hbM0_0) (s : Fin 4) (d : Fin 1024) (q : Fin 1408) : EReal :=
  (Memref.whole main_v32_1).view.read (Elt Ideal) f (ix3 s d q)

/-- An entry of the gradient of the weight of the projection down. -/
def ent1 {c : Dev nD} (f : HbBuf0 (F := Ideal) c hbM0_1) (s : Fin 2) (q : Fin 1408) (d : Fin 1024) : EReal :=
  (Memref.whole main_v32_2).view.read (Elt Ideal) f (ix3 s q d)

/-- The first slab a half writes: its gates. -/
theorem off1 (i : grid0.Coords) (hi : (i 0).val < 2) : k0_off1 i 0 = (i 0).val := by
  show (BitVec.ofNat 32 (i 0).val).toNat = _
  rw [BitVec.toNat_ofNat]; omega

/-- The second: its values, two slabs on. -/
theorem off2 (i : grid0.Coords) (hi : (i 0).val < 2) : k0_off2 i 0 = 2 + (i 0).val := by
  show (2#32 + BitVec.ofNat 32 (i 0).val).toNat = _
  rw [BitVec.toNat_add, BitVec.toNat_ofNat, BitVec.toNat_ofNat]; omega

/-- The slab of the other gradient. -/
theorem off3 (i : grid0.Coords) (hi : (i 0).val < 2) : k0_off3 i 0 = (i 0).val := by
  show (BitVec.ofNat 32 (i 0).val).toNat = _
  rw [BitVec.toNat_ofNat]; omega

section Run

variable (c : Dev nD) (i : grid0.Coords) (arg2 : Memref sig .tc .vmem S256x1024 .f32) (harg2 : arg2.IsWhole) (arg3 : Memref sig .tc .vmem S16x1024 .f32) (harg3 : arg3.IsWhole) (arg4 : Memref sig .tc .vmem S256x1024 .f32) (harg4 : arg4.IsWhole) (arg5 : Memref sig .tc .vmem S1x256x2816 .bf16) (harg5 : arg5.IsWhole) (arg6 : Memref sig .tc .vmem S1x16x2816 .bf16) (harg6 : arg6.IsWhole) (arg7 : Memref sig .tc .vmem S1x16x2816 .bf16) (harg7 : arg7.IsWhole) (arg8 : Memref sig .tc .vmem S1x1024 .f32) (harg8 : arg8.IsWhole) (arg9 : Memref sig .tc .vmem S1x1024x2816 .bf16) (harg9 : arg9.IsWhole) (arg10 : Memref sig .tc .vmem S1x1408x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg16 : Memref sig .tc .vmem S1x3x2816 .f32) (harg16 : arg16.IsWhole) (arg17 : Memref sig .tc .vmem S1x1x2816 .f32) (harg17 : arg17.IsWhole) (arg18 : Memref sig .tc .vmem S288x2816 .f32) (harg18 : arg18.IsWhole) (arg19 : Memref sig .tc .vmem S272x2816 .f32) (harg19 : arg19.IsWhole) (arg20 : Memref sig .tc .vmem S1024x2816 .f32) (harg20 : arg20.IsWhole) (arg21 : Memref sig .tc .vmem S1408x1024 .f32) (harg21 : arg21.IsWhole) (hc0 : ¬cond0_0 i) (hc1 : cond0_1 i) (x0 : Vec Ideal S256x1024 .f32) (x1 : Vec Ideal S16x1024 .f32) (x2 : Vec Ideal S256x1024 .f32) (x3 : Vec Ideal S1x256x2816 .bf16) (x4 : Vec Ideal S1x16x2816 .bf16) (x5 : Vec Ideal S1x16x2816 .bf16) (x6 : Vec Ideal S1x1024 .f32) (x7 : Vec Ideal S1x1024x2816 .bf16) (x8 : Vec Ideal S1x1408x1024 .bf16) (x9 : Vec Ideal S1x3x2816 .f32) (x10 : Vec Ideal S1x1x2816 .f32) (xo12 : Vec Ideal S1x3x2816 .f32) (xo13 : Vec Ideal S1x1x2816 .f32) (xs2 : Vec Ideal S1024x2816 .f32) (xs3 : Vec Ideal S1408x1024 .f32)
  (fw0 : HbBuf0 (F := Ideal) c hbM0_0) (fw1 : HbBuf0 (F := Ideal) c hbM0_1)

/-- The gates' slab after the copies. -/
theorem run0_lo (hi : (i 0).val < 2) (s : Fin 4) (hs : s.val = (i 0).val) (d : Fin 1024) (f : Fin 1408) :
    ent0 ((heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.1) s d f = sout0_C_2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 d (⟨f.val, by omega⟩ : Fin 2816)) := by
  rw [heldC_H0]
  unfold kernelRun0_C.sl.Hh0_w1 ent0
  refine (slab_miss (Memref.whole main_v32_1) (k0_off2 i) (2 + (i 0).val) _ _ _ _ _ (off2 i hi) s (by omega) d f).trans ?_
  unfold kernelRun0_C.sl.Hh0_w0
  refine (slab_hit (Memref.whole main_v32_1) (k0_off1 i) (i 0).val _ _ _ _ _ (off1 i hi) rfl rfl s hs d f).trans ?_
  exact src_lo c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 d f

/-- The values' slab after the copies. -/
theorem run0_hi (hi : (i 0).val < 2) (s : Fin 4) (hs : s.val = 2 + (i 0).val) (d : Fin 1024) (f : Fin 1408) :
    ent0 ((heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.1) s d f = sout0_C_2 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 d (⟨1408 + f.val, by omega⟩ : Fin 2816)) := by
  rw [heldC_H0]
  unfold kernelRun0_C.sl.Hh0_w1 ent0
  refine (slab_hit (Memref.whole main_v32_1) (k0_off2 i) (2 + (i 0).val) _ _ _ _ _ (off2 i hi) rfl rfl s hs d f).trans ?_
  exact src_hi c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 d f

/-- The slabs of the other half are as they were. -/
theorem run0_miss (hi : (i 0).val < 2) (s : Fin 4) (hs : s.val ≠ (i 0).val) (hs' : s.val ≠ 2 + (i 0).val) (d : Fin 1024) (f : Fin 1408) :
    ent0 ((heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.1) s d f = ent0 fw0 s d f := by
  rw [heldC_H0]
  unfold kernelRun0_C.sl.Hh0_w1 ent0
  refine (slab_miss (Memref.whole main_v32_1) (k0_off2 i) (2 + (i 0).val) _ _ _ _ _ (off2 i hi) s hs' d f).trans ?_
  unfold kernelRun0_C.sl.Hh0_w0
  exact slab_miss (Memref.whole main_v32_1) (k0_off1 i) (i 0).val _ _ _ _ _ (off1 i hi) s hs d f

/-- The slab of the other gradient after its copy. -/
theorem run1_hit (hi : (i 0).val < 2) (s : Fin 2) (hs : s.val = (i 0).val) (f : Fin 1408) (d : Fin 1024) :
    ent1 ((heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.2.1) s f d = sout0_C_3 c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 (ix2 f d) := by
  rw [heldC_H1]
  unfold kernelRun0_C.sl.Hh1_w2 ent1
  refine (slab_hit (Memref.whole main_v32_2) (k0_off3 i) (i 0).val _ _ _ _ _ (off3 i hi) rfl rfl s hs f d).trans ?_
  exact src_dn c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 f d

/-- Its other slab is as it was. -/
theorem run1_miss (hi : (i 0).val < 2) (s : Fin 2) (hs : s.val ≠ (i 0).val) (f : Fin 1408) (d : Fin 1024) :
    ent1 ((heldRun_C c i arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 hc0 hc1 x0 x1 x2 x3 x4 x5 x6 x7 x8 x9 x10 xo12 xo13 xs2 xs3 fw0 fw1).2.2.2.2.2.2.2.2.1) s f d = ent1 fw1 s f d := by
  rw [heldC_H1]
  unfold kernelRun0_C.sl.Hh1_w2 ent1
  exact slab_miss (Memref.whole main_v32_2) (k0_off3 i) (i 0).val _ _ _ _ _ (off3 i hi) s hs f d

end Run

variable (m : (ℓ : Loc nD τ sig) → Buf (Elt Ideal) ℓ) (c : Dev nD) (t : Fin cfg0.N)

/-- The half a tile belongs to. -/
theorem half_lt : (grid0.coords t 0).val < 2 := by
  have h := (crd t).1; have h' := tlt t; omega

/-- The last tile of a half puts its sums into the gates' slab … -/
theorem step0_lo (h0 : ¬t.val % 64 = 0) (h1 : t.val % 64 = 63) (fw) (s : Fin 4) (hs : s.val = t.val / 64) (d : Fin 1024) (f : Fin 1408) :
    ent0 (hbStep m c t h0 h1 fw).1 s d f = (Host.A m c).dwup d.val (s.val * 1408 + f.val) := by
  refine (run0_lo c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 fw.1 fw.2 (half_lt t) s (hs.trans (crd t).1.symm) d f).trans ?_
  refine (congrFun (five (outsAt0_C m c t h0 h1)).2.2.2.1.symm _).trans ((up_at m c t h1 d _).trans ?_)
  refine congrArg _ ((Spec.col_lo _ _ f.isLt).trans ?_)
  rw [hs]

/-- … and the values' slab, … -/
theorem step0_hi (h0 : ¬t.val % 64 = 0) (h1 : t.val % 64 = 63) (fw) (s : Fin 4) (hs : s.val = 2 + t.val / 64) (d : Fin 1024) (f : Fin 1408) :
    ent0 (hbStep m c t h0 h1 fw).1 s d f = (Host.A m c).dwup d.val (s.val * 1408 + f.val) := by
  refine (run0_hi c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 fw.1 fw.2 (half_lt t) s (hs.trans (congrArg (2 + ·) (crd t).1.symm)) d f).trans ?_
  refine (congrFun (five (outsAt0_C m c t h0 h1)).2.2.2.1.symm _).trans ((up_at m c t h1 d _).trans ?_)
  have e : 2816 + (t.val / 64 * 1408 + f.val) = s.val * 1408 + f.val := by omega
  exact congrArg _ ((Spec.col_hi _ _ f.isLt).trans e)

/-- … leaves the slabs of the other half, … -/
theorem step0_miss (h0 : ¬t.val % 64 = 0) (h1 : t.val % 64 = 63) (fw) (s : Fin 4) (hs : s.val ≠ t.val / 64) (hs' : s.val ≠ 2 + t.val / 64) (d : Fin 1024) (f : Fin 1408) :
    ent0 (hbStep m c t h0 h1 fw).1 s d f = ent0 fw.1 s d f :=
  run0_miss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 fw.1 fw.2 (half_lt t) s (fun e => hs (e.trans (crd t).1)) (fun e => hs' (e.trans (congrArg (2 + ·) (crd t).1))) d f

/-- … puts its other sums into its slab of the other gradient … -/
theorem step1_hit (h0 : ¬t.val % 64 = 0) (h1 : t.val % 64 = 63) (fw) (s : Fin 2) (hs : s.val = t.val / 64) (f : Fin 1408) (d : Fin 1024) :
    ent1 (hbStep m c t h0 h1 fw).2 s f d = (Host.A m c).dwdn (s.val * 1408 + f.val) d.val := by
  refine (run1_hit c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 fw.1 fw.2 (half_lt t) s (hs.trans (crd t).1.symm) f d).trans ?_
  refine (congrFun (five (outsAt0_C m c t h0 h1)).2.2.2.2.symm _).trans ((dn_at m c t h1 f d).trans ?_)
  rw [hs]

/-- … and leaves the other. -/
theorem step1_miss (h0 : ¬t.val % 64 = 0) (h1 : t.val % 64 = 63) (fw) (s : Fin 2) (hs : s.val ≠ t.val / 64) (f : Fin 1408) (d : Fin 1024) :
    ent1 (hbStep m c t h0 h1 fw).2 s f d = ent1 fw.2 s f d :=
  run1_miss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 fw.1 fw.2 (half_lt t) s (fun e => hs (e.trans (crd t).1)) f d

/-- Between two last tiles nothing changes. -/
theorem hbAt_const (n k : ℕ) (h : n % 64 + k ≤ 63) : hbAt m c (n + k) = hbAt m c n := by
  induction k with
  | zero => rfl
  | succ k ih =>
    rw [← Nat.add_assoc, hbAt_same m c (n + k) (by omega)]
    exact ih (by omega)

/-- The point that ends the first half. -/
def t63 : Fin cfg0.N := ⟨63, by show 63 < grid0.N; rw [N_0]; omega⟩

/-- The point that ends the second half. -/
def t127 : Fin cfg0.N := ⟨127, by show 127 < grid0.N; rw [N_0]; omega⟩

/-- The held arrays after the launch: the copies of the second half over those of the first. -/
theorem hbAt_end : hbAt m c cfg0.N = hbStep m c t127 (by decide) (by decide) (hbStep m c t63 (by decide) (by decide) (hbAt m c 63)) := by
  have e : hbAt m c cfg0.N = hbAt m c (t127.val + 1) := by show hbAt m c grid0.N = _; rw [N_0]; rfl
  rw [e, hbAt_step m c t127 (by decide) (by decide)]
  refine congrArg _ ?_
  have e' : hbAt m c t127.val = hbAt m c (t63.val + 1) := hbAt_const m c 64 63 (by omega)
  rw [e', hbAt_step m c t63 (by decide) (by decide)]
  rfl

/-- The gradient of the weight of the projection up after the launch. -/
theorem end0 (s : Fin 4) (d : Fin 1024) (f : Fin 1408) :
    ent0 (hbAt m c cfg0.N).1 s d f = (Host.A m c).dwup d.val (s.val * 1408 + f.val) := by
  rw [hbAt_end]
  match s with
  | 0 => exact (step0_miss m c t127 _ _ _ 0 (by decide) (by decide) d f).trans (step0_lo m c t63 _ _ _ 0 (by decide) d f)
  | 1 => exact step0_lo m c t127 _ _ _ 1 (by decide) d f
  | 2 => exact (step0_miss m c t127 _ _ _ 2 (by decide) (by decide) d f).trans (step0_hi m c t63 _ _ _ 2 (by decide) d f)
  | 3 => exact step0_hi m c t127 _ _ _ 3 (by decide) d f

/-- The gradient of the weight of the projection down after the launch. -/
theorem end1 (s : Fin 2) (f : Fin 1408) (d : Fin 1024) :
    ent1 (hbAt m c cfg0.N).2 s f d = (Host.A m c).dwdn (s.val * 1408 + f.val) d.val := by
  rw [hbAt_end]
  match s with
  | 0 => exact (step1_miss m c t127 _ _ _ 0 (by decide) f d).trans (step1_hit m c t63 _ _ _ 0 (by decide) f d)
  | 1 => exact step1_hit m c t127 _ _ _ 1 (by decide) f d

end Cert.Held

end
-- ==== Proof.Tile.Arrays.lean ====
module

public import proofs.«01_k».proof.Proof.Tile.Acc
public import proofs.«01_k».proof.Proof.Gen.KernelIdeal.Value

@[expose] public section

set_option maxRecDepth 16384

noncomputable section

/-! The three results that leave through the pipeline, as whole arrays. -/

namespace Cert.Tile

open Cert.KernelIdeal Cert.KernelIdeal.Gen Idealize.ShloMosaic Idealize.ShloMosaic.TcCoe Idealize.ShloMosaic.Tactic
open Cert.Spec (Args)
open Cert.Spec.Args (col)

variable (m : (ℓ : Loc nD τ sig) → Buf (Elt Ideal) ℓ) (c : Dev nD)

/-- The gradient of the normalised input: a half, a row, a column. -/
def partArr : FVec Ideal S2x16384x1024 .f32 := fun y => (Host.A m c).part (y 0).val (y 1).val (y 2).val

/-- The gradient of the taps: a half, a tap, a column of the half. -/
def cwArr : FVec Ideal S2x3x2816 .f32 := fun y => (Host.A m c).dcw (y 1).val (col (y 0).val (y 2).val)

/-- The gradient of the bias: a half, a column of the half. -/
def cbArr : FVec Ideal S2x1x2816 .f32 := fun y => (Host.A m c).dcb (col (y 0).val (y 2).val)

/-- Which block a tile's window of the first result is. -/
theorem idx11 : ∀ t : Fin cfg0.N, (cfg0.win 11).index t = ![t.val / 64, t.val % 64, 0] := by decide +kernel

/-- Which block a tile's window of the taps' gradient is. -/
theorem idx12 : ∀ t : Fin cfg0.N, (cfg0.win 12).index t = ![t.val / 64, 0, 0] := by decide +kernel

/-- Which block a tile's window of the bias' gradient is. -/
theorem idx13 : ∀ t : Fin cfg0.N, (cfg0.win 13).index t = ![t.val / 64, 0, 0] := by decide +kernel

/-- Only the last tile of a half writes the taps' gradient back. -/
theorem last12 : ∀ t : Fin cfg0.N, (cfg0.win 12).flush t = true → t.val % 64 = 63 := by decide +kernel

/-- Only the last tile of a half writes the bias' gradient back. -/
theorem last13 : ∀ t : Fin cfg0.N, (cfg0.win 13).flush t = true → t.val % 64 = 63 := by decide +kernel

/-! Where an entry of a block lies in its array. -/

/-- Along the halves. -/
theorem emb11_0 (t : Fin cfg0.N) (y) : ((((cfg0.win 11).blk t).view.emb y) 0 : ℕ) = t.val / 64 + (y 0).val := by
  blk_simp [idx11 t]

/-- Along the rows. -/
theorem emb11_1 (t : Fin cfg0.N) (y) : ((((cfg0.win 11).blk t).view.emb y) 1 : ℕ) = 256 * (t.val % 64) + (y 1).val := by
  blk_simp [idx11 t]
  exact congrArg (· + (y 1).val) (Nat.mul_comm _ _)

/-- Along the columns. -/
theorem emb11_2 (t : Fin cfg0.N) (y) : ((((cfg0.win 11).blk t).view.emb y) 2 : ℕ) = (y 2).val := by
  blk_simp [idx11 t]

/-- Along the halves. -/
theorem emb12_0 (t : Fin cfg0.N) (y) : ((((cfg0.win 12).blk t).view.emb y) 0 : ℕ) = t.val / 64 + (y 0).val := by
  blk_simp [idx12 t]

/-- Along the rows. -/
theorem emb12_1 (t : Fin cfg0.N) (y) : ((((cfg0.win 12).blk t).view.emb y) 1 : ℕ) = (y 1).val := by
  blk_simp [idx12 t]

/-- Along the columns. -/
theorem emb12_2 (t : Fin cfg0.N) (y) : ((((cfg0.win 12).blk t).view.emb y) 2 : ℕ) = (y 2).val := by
  blk_simp [idx12 t]

/-- Along the halves. -/
theorem emb13_0 (t : Fin cfg0.N) (y) : ((((cfg0.win 13).blk t).view.emb y) 0 : ℕ) = t.val / 64 + (y 0).val := by
  blk_simp [idx13 t]

/-- Along the rows. -/
theorem emb13_1 (t : Fin cfg0.N) (y) : ((((cfg0.win 13).blk t).view.emb y) 1 : ℕ) = (y 1).val := by
  blk_simp [idx13 t]

/-- Along the columns. -/
theorem emb13_2 (t : Fin cfg0.N) (y) : ((((cfg0.win 13).blk t).view.emb y) 2 : ℕ) = (y 2).val := by
  blk_simp [idx13 t]

/-- The gradient of the normalised input is what the tiles wrote back. -/
theorem arr11 : (dats m 0 c).arrAt 11 cfg0.N = partArr m c := by
  refine (dats m 0 c).arrAt_eq_of_covers 11 _ (by decide +kernel) fun t hf y => ?_
  blk_simp
  rw [after0_11]
  refine (congrArg (outsAt0 m c t.val t.isLt).1 (eq_ix3 y)).trans ?_
  have e : ∀ z : Fin 1, z = 0 := fun z => Subsingleton.elim _ _
  have e0 := emb11_0 t y
  have e1 := emb11_1 t y
  have e2 := emb11_2 t y
  rw [show (y 0).val = 0 from congrArg Fin.val (e (y 0)), Nat.add_zero] at e0
  rw [e (y 0)]
  refine (part_at m c t (y 1) (y 2)).trans ?_
  unfold partArr
  rw [e0, e1, e2]

/-- The gradient of the taps is what the tiles wrote back. -/
theorem arr12 : (dats m 0 c).arrAt 12 cfg0.N = cwArr m c := by
  refine (dats m 0 c).arrAt_eq_of_covers 12 _ (by decide +kernel) fun t hf y => ?_
  blk_simp
  rw [after0_12]
  refine (congrArg (outsAt0 m c t.val t.isLt).2.1 (eq_ix3 y)).trans ?_
  have e : ∀ z : Fin 1, z = 0 := fun z => Subsingleton.elim _ _
  have e0 := emb12_0 t y
  have e1 := emb12_1 t y
  have e2 := emb12_2 t y
  rw [show (y 0).val = 0 from congrArg Fin.val (e (y 0)), Nat.add_zero] at e0
  rw [e (y 0)]
  refine (cw_at m c t (last12 t hf) (y 1) (y 2)).trans ?_
  unfold cwArr
  rw [e0, e1, e2]

/-- The gradient of the bias is what the tiles wrote back. -/
theorem arr13 : (dats m 0 c).arrAt 13 cfg0.N = cbArr m c := by
  refine (dats m 0 c).arrAt_eq_of_covers 13 _ (by decide +kernel) fun t hf y => ?_
  blk_simp
  rw [after0_13]
  refine (congrArg (outsAt0 m c t.val t.isLt).2.2.1 (eq_ix3 y)).trans ?_
  have e : ∀ z : Fin 1, z = 0 := fun z => Subsingleton.elim _ _
  have e0 := emb13_0 t y
  have e1 := emb13_1 t y
  have e2 := emb13_2 t y
  rw [show (y 0).val = 0 from congrArg Fin.val (e (y 0)), Nat.add_zero] at e0
  rw [e (y 0), e (y 1)]
  refine (cb_at m c t (last13 t hf) (y 2)).trans ?_
  unfold cbArr
  rw [e0, e2]

end Cert.Tile

end
-- ==== Proof.Ref.Forward.lean ====
module

public import proofs.«01_k».proof.Proof.Gen.ReferenceIdeal.Read
public import proofs.«01_k».proof.Proof.Args

@[expose] public section

noncomputable section

/-! The forward lines of the reference, read at an index, as the formulas. -/

namespace Cert.Ref

open Cert.ReferenceIdeal Cert.ReferenceIdeal.Read Idealize.ShloMosaic Idealize.ShloMosaic.Tactic
open Cert.Spec (args rd1 rd2 rd1_lt rd2_lt rd1_val rd2_val)

variable (x0 x1 : (⟨S16384x1024, .f32⟩ : BufTy).Contents (Elt Ideal)) (x2 : (⟨S1024, .f32⟩ : BufTy).Contents (Elt Ideal))
  (x3 : (⟨S1024x5632, .f32⟩ : BufTy).Contents (Elt Ideal)) (x4 : (⟨S3x5632, .f32⟩ : BufTy).Contents (Elt Ideal))
  (x5 : (⟨S5632, .f32⟩ : BufTy).Contents (Elt Ideal)) (x6 : (⟨S2816x1024, .f32⟩ : BufTy).Contents (Elt Ideal))

/-- The normalised input. -/
theorem hn_eq (s : Fin 16384) (d : Fin 1024) :
    val_main_v12 (F := Ideal) x1 x2 (ix2 s d) = (args x0 x1 x2 x3 x4 x5 x6).hn s.val d.val := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [Spec.Args.hn, args, rd2_val, rd1_val]

/-- The projection up. -/
theorem up_eq (s : Fin 16384) (c : Fin 5632) :
    val_main_v19 (F := Ideal) x1 x2 x3 (ix2 s c) = (args x0 x1 x2 x3 x4 x5 x6).up s.val c.val := by
  pointwise [val_main_v19, val_main_v18, val_main_v17, val_main_v16, val_main_v15, val_main_v14, val_main_v13]
  unfold Spec.Args.up
  refine Finset.sum_congr rfl fun d _ => ?_
  rw [dite_eq_ite, ite_self, hn_eq x0 x1 x2 x3 x4 x5 x6, mul_comm]
  simp only [args, rd2_val]

/-- The projection up behind two rows of zeros. -/
theorem upp_eq (s : Fin 16386) (c : Fin 5632) :
    val_main_v21 (F := Ideal) x1 x2 x3 (ix2 s c) = (args x0 x1 x2 x3 x4 x5 x6).upp s.val c.val := by
  pointwise [val_main_v21, val_main_v20, val_main_cst_2]
  unfold Spec.Args.upp
  by_cases h : s.val < 2
  · rw [dif_pos h, if_pos h]
  · rw [dif_neg h, if_neg h, up_eq x0 x1 x2 x3 x4 x5 x6]

/-- The convolution. -/
theorem cv_eq (s : Fin 16384) (c : Fin 5632) :
    val_main_v45 (F := Ideal) x1 x2 x3 x4 x5 (ix2 s c) = (args x0 x1 x2 x3 x4 x5 x6).cv s.val c.val := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]
  rw [upp_eq x0 x1 x2 x3 x4 x5 x6, upp_eq x0 x1 x2 x3 x4 x5 x6, upp_eq x0 x1 x2 x3 x4 x5 x6]
  unfold Spec.Args.cv
  have e5 : (args x0 x1 x2 x3 x4 x5 x6).b c.val = x5 (ix1 c) := rd1_val x5 c
  have e0 : (args x0 x1 x2 x3 x4 x5 x6).cw 0 c.val = x4 (ix2 0 c) := rd2_val x4 0 c
  have e1 : (args x0 x1 x2 x3 x4 x5 x6).cw 1 c.val = x4 (ix2 1 c) := rd2_val x4 1 c
  have e2 : (args x0 x1 x2 x3 x4 x5 x6).cw 2 c.val = x4 (ix2 2 c) := rd2_val x4 2 c
  rw [e5, e0, e1, e2]
  simp only [Nat.add_comm]

end Cert.Ref

end
-- ==== Proof.Sums.lean ====
module

public import Idealize.ShloMosaic.Lib.Pipeline.ValueKit.Acc

@[expose] public section

/-! Sums over columns cut into groups. -/

namespace Cert.Spec

/-- A sum over the columns of a half: its gates, then its values. -/
theorem sum_cols {M : Type*} [AddCommMonoid M] (f : ℕ → M) :
    ∑ q : Fin 2816, f q.val = ∑ g : Fin 2, ∑ r : Fin 1408, f (g.val * 1408 + r.val) := by
  rw [← Fin.sum_univ_mul_divmod 2 1408 (fun a b => f (a * 1408 + b))]
  exact Finset.sum_congr rfl fun s _ => by rw [Nat.div_add_mod']

end Cert.Spec

end
-- ==== Proof.Ref.Backward.lean ====
module

public import proofs.«01_k».proof.Proof.Ref.Forward
public import proofs.«01_k».proof.Proof.Ref.Gelu
public import proofs.«01_k».proof.Proof.Sums

@[expose] public section

noncomputable section

/-! The backward lines of the reference, read at an index, as the formulas. -/

namespace Cert.Ref

open Cert.ReferenceIdeal Cert.ReferenceIdeal.Read Idealize.ShloMosaic Idealize.ShloMosaic.Tactic
open Cert.Spec (args rd1 rd2 rd1_lt rd2_lt rd1_val rd2_val)

variable (x0 x1 : (⟨S16384x1024, .f32⟩ : BufTy).Contents (Elt Ideal)) (x2 : (⟨S1024, .f32⟩ : BufTy).Contents (Elt Ideal))
  (x3 : (⟨S1024x5632, .f32⟩ : BufTy).Contents (Elt Ideal)) (x4 : (⟨S3x5632, .f32⟩ : BufTy).Contents (Elt Ideal))
  (x5 : (⟨S5632, .f32⟩ : BufTy).Contents (Elt Ideal)) (x6 : (⟨S2816x1024, .f32⟩ : BufTy).Contents (Elt Ideal))

/-- The cotangent of the activation. -/
theorem da_eq (s : Fin 16384) (f : Fin 2816) :
    val_main_v73 (F := Ideal) x0 x6 (ix2 s f) = (args x0 x1 x2 x3 x4 x5 x6).da s.val f.val := by
  pointwise [val_main_v73]
  simp only [Spec.Args.da, args, rd2_val]

variable (hA : (args x0 x1 x2 x3 x4 x5 x6).Real)
include hA

/-- The cotangent of the convolution. -/
theorem dcv_eq (s : Fin 16384) (c : Fin 5632) :
    val_main_v88 (F := Ideal) x0 x1 x2 x3 x4 x5 x6 (ix2 s c) = (args x0 x1 x2 x3 x4 x5 x6).dcv s.val c.val := by
  pointwise [val_main_v88, val_main_v87, val_main_v86, val_main_v85, val_main_v84, val_main_v83, val_main_v82, val_main_v81, val_main_v80, val_main_v79, val_main_v78, val_main_v77, val_main_v76, val_main_v75, val_main_v74, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_4, val_main_cst_5, val_main_cst_6, val_main_cst_7, val_main_cst_8, val_main_cst_9, val_main_cst_10, val_main_cst_11, val_main_cst_12, val_main_cst_13]
  unfold Spec.Args.dcv
  by_cases h : c.val < 2816
  · rw [dif_pos h, if_pos h]
    have hc := cv_eq x0 x1 x2 x3 x4 x5 x6 s c
    have hv := cv_eq x0 x1 x2 x3 x4 x5 x6 s ⟨2816 + c.val, by omega⟩
    have hd := da_eq x0 x1 x2 x3 x4 x5 x6 s ⟨c.val, h⟩
    rw [hc, hv, hd]
    exact Spec.dgl_spell _ _ (Spec.cv_isR _ hA _ _) ((Spec.da_isR _ hA _ _).mul (Spec.cv_isR _ hA _ _))
  · rw [dif_neg h, if_neg h]
    have hc := cv_eq x0 x1 x2 x3 x4 x5 x6 s ⟨c.val - 2816, by omega⟩
    have hd := da_eq x0 x1 x2 x3 x4 x5 x6 s ⟨c.val - 2816, by omega⟩
    rw [hc, hd, mul_comm]
    exact congrArg _ (Spec.gl_spell _ (Spec.cv_isR _ hA _ _))

/-- The cotangent of the projection up. -/
theorem dup_eq (s : Fin 16384) (c : Fin 5632) :
    val_main_v124 (F := Ideal) x0 x1 x2 x3 x4 x5 x6 (ix2 s c) = (args x0 x1 x2 x3 x4 x5 x6).dup s.val c.val := by
  pointwise [val_main_v124, val_main_v122, val_main_v121, val_main_v116, val_main_v115, val_main_v108, val_main_v107, val_main_v102, val_main_v101, val_main_v97, val_main_v93, val_main_v92, val_main_cst_17, val_main_cst_21, val_main_cst_27, val_main_v42, val_main_v41, val_main_v40, val_main_v35, val_main_v34, val_main_v33, val_main_v26, val_main_v25, val_main_v24]
  have key : ∀ (n : ℕ) (hn : n < 16384), val_main_v88 (F := Ideal) x0 x1 x2 x3 x4 x5 x6 (ix2 ⟨n, hn⟩ c)
      = (args x0 x1 x2 x3 x4 x5 x6).dz n c.val := by
    intro n hn
    rw [dcv_eq x0 x1 x2 x3 x4 x5 x6 hA]
    unfold Spec.Args.dz; rw [if_pos hn]
  have e2 : x4 (ix2 2 c) = (args x0 x1 x2 x3 x4 x5 x6).cw 2 c.val := (rd2_val x4 2 c).symm
  have e1 : x4 (ix2 1 c) = (args x0 x1 x2 x3 x4 x5 x6).cw 1 c.val := (rd2_val x4 1 c).symm
  have e0 : x4 (ix2 0 c) = (args x0 x1 x2 x3 x4 x5 x6).cw 0 c.val := (rd2_val x4 0 c).symm
  have hs : val_main_v88 (F := Ideal) x0 x1 x2 x3 x4 x5 x6 (ix2 s c) = (args x0 x1 x2 x3 x4 x5 x6).dz s.val c.val := key s.val s.isLt
  rw [e2, e1, e0, hs]
  unfold Spec.Args.dup
  rw [add_right_comm, mul_comm]
  congr 1
  · congr 1
    by_cases h : 2 + s.val < 16384
    · rw [dif_pos h, key _ h, mul_comm, Nat.add_comm]
    · rw [dif_neg h]; unfold Spec.Args.dz; rw [if_neg (by omega), mul_zero]
  · by_cases h : 1 ≤ 2 + s.val ∧ 2 + s.val - 1 < 16384
    · rw [dif_pos h, key _ h.2, mul_comm]
      congr 2; omega
    · rw [dif_neg h]; unfold Spec.Args.dz; rw [if_neg (by omega), mul_zero]

/-- The cotangent of the normalised input, by halves. -/
theorem part_eq (j : Fin 2) (s : Fin 16384) (d : Fin 1024) :
    val_main_v127 (F := Ideal) x0 x1 x2 x3 x4 x5 x6 (ix3 j s d) = (args x0 x1 x2 x3 x4 x5 x6).part j.val s.val d.val := by
  pointwise [val_main_v127, val_main_v126, val_main_v125, val_main_v16]
  unfold Spec.Args.part
  rw [Spec.sum_cols (fun q => (args x0 x1 x2 x3 x4 x5 x6).dup s.val (Spec.Args.col j.val q) * (args x0 x1 x2 x3 x4 x5 x6).W d.val (Spec.Args.col j.val q))]
  refine Finset.sum_congr rfl fun g _ => Finset.sum_congr rfl fun f _ => ?_
  rw [dup_eq x0 x1 x2 x3 x4 x5 x6 hA]
  have e : Spec.Args.col j.val (g.val * 1408 + f.val) = g.val * 2816 + j.val * 1408 + f.val := by
    unfold Spec.Args.col; omega
  rw [e]
  exact congrArg _ (rd2_val x3 d ⟨g.val * 2816 + j.val * 1408 + f.val, by omega⟩).symm

/-- The gradient of the weight of the projection up. -/
theorem dwup_eq (j : Fin 4) (d : Fin 1024) (f : Fin 1408) :
    val_main_v132 (F := Ideal) x0 x1 x2 x3 x4 x5 x6 (ix3 j d f) = (args x0 x1 x2 x3 x4 x5 x6).dwup d.val (j.val * 1408 + f.val) := by
  pointwise [val_main_v132, val_main_v131, val_main_v130, val_main_v129, val_main_v128, val_main_v126, val_main_v125, val_main_v15, val_main_v14, val_main_v13]
  unfold Spec.Args.dwup
  refine Finset.sum_congr rfl fun s _ => ?_
  rw [dite_eq_ite, ite_self, hn_eq x0 x1 x2 x3 x4 x5 x6, dup_eq x0 x1 x2 x3 x4 x5 x6 hA, mul_comm]
  congr 2
  dsimp only
  omega

/-- The activation. -/
theorem act_eq (s : Fin 16384) (f : Fin 2816) :
    val_main_v69 (F := Ideal) x1 x2 x3 x4 x5 (ix2 s f)
      = Spec.gl ((args x0 x1 x2 x3 x4 x5 x6).cv s.val f.val) * (args x0 x1 x2 x3 x4 x5 x6).cv s.val (2816 + f.val) := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_4, val_main_cst_5, val_main_cst_6, val_main_cst_7, val_main_cst_8, val_main_cst_9, val_main_cst_10, val_main_cst_11, val_main_cst_12, val_main_cst_13]
  have hc := cv_eq x0 x1 x2 x3 x4 x5 x6 s ⟨f.val, by omega⟩
  have hv := cv_eq x0 x1 x2 x3 x4 x5 x6 s ⟨2816 + f.val, by omega⟩
  rw [hc, hv]
  exact congrArg (· * _) (Spec.gl_spell _ (Spec.cv_isR _ hA _ _))

/-- The gradient of the weight of the projection down. -/
theorem dwdn_eq (j : Fin 2) (f : Fin 1408) (d : Fin 1024) :
    val_main_v133 (F := Ideal) x0 x1 x2 x3 x4 x5 (ix3 j f d) = (args x0 x1 x2 x3 x4 x5 x6).dwdn (j.val * 1408 + f.val) d.val := by
  pointwise [val_main_v133, val_main_v72, val_main_v71]
  unfold Spec.Args.dwdn
  refine Finset.sum_congr rfl fun s _ => ?_
  rw [act_eq x0 x1 x2 x3 x4 x5 x6 hA, mul_comm]
  simp only [args, rd2_val]

omit hA in
/-- Of three terms, one for each tap, the one at the tap. -/
theorem tap_pick {k : ℕ} {p : Prop} [Decidable p] (hp : p) (hk : k < 3) {a : (2 ≤ k ∧ k - 2 < 1) ∧ p → EReal}
    {b : (1 ≤ k ∧ k - 1 < 1) ∧ p → EReal} {c : k < 1 ∧ p → EReal} {r : EReal} (ha : ∀ h, k = 2 → a h = r)
    (hb : ∀ h, k = 1 → b h = r) (hc : ∀ h, k = 0 → c h = r) :
    ((if h : (2 ≤ k ∧ k - 2 < 1) ∧ p then a h else 0) + if h : (1 ≤ k ∧ k - 1 < 1) ∧ p then b h else 0)
      + (if h : k < 1 ∧ p then c h else 0) = r := by
  have h3 : k = 0 ∨ k = 1 ∨ k = 2 := by omega
  rcases h3 with h | h | h
  · rw [dif_neg (by omega), dif_neg (by omega), dif_pos ⟨by omega, hp⟩, zero_add, zero_add, hc _ h]
  · rw [dif_neg (by omega), dif_pos ⟨by omega, hp⟩, dif_neg (by omega), zero_add, add_zero, hb _ h]
  · rw [dif_pos ⟨by omega, hp⟩, dif_neg (by omega), dif_neg (by omega), add_zero, add_zero, ha _ h]

/-- The gradient of the taps. -/
theorem dcw_eq (j : Fin 2) (k : Fin 3) (q : Fin 2816) :
    val_main_v136 (F := Ideal) x0 x1 x2 x3 x4 x5 x6 (ix3 j k q) = (args x0 x1 x2 x3 x4 x5 x6).dcw k.val (Spec.Args.col j.val q.val) := by
  pointwise [val_main_v136, val_main_v135, val_main_v134, val_main_v120, val_main_v119, val_main_v118, val_main_v117, val_main_v114, val_main_v113, val_main_v112, val_main_v106, val_main_v105, val_main_v104, val_main_v103, val_main_v100, val_main_v99, val_main_v98, val_main_v96, val_main_v95, val_main_v94, val_main_v91, val_main_v90, val_main_v89, val_main_cst_14, val_main_cst_15, val_main_cst_16, val_main_cst_18, val_main_cst_19, val_main_cst_20, val_main_cst_24, val_main_cst_25, val_main_cst_26, val_main_v39, val_main_v32, val_main_v23]
  have hcol : q.val / 1408 * 2816 + j.val * 1408 + q.val % 1408 < 5632 := by omega
  have hu : ∀ (n : ℕ) (hn : n < 16386), val_main_v21 (F := Ideal) x1 x2 x3 (ix2 ⟨n, hn⟩ ⟨_, hcol⟩)
      = (args x0 x1 x2 x3 x4 x5 x6).upp n (Spec.Args.col j.val q.val) := fun n hn => upp_eq x0 x1 x2 x3 x4 x5 x6 _ _
  have hv : ∀ s : Fin 16384, val_main_v88 (F := Ideal) x0 x1 x2 x3 x4 x5 x6 (ix2 s ⟨_, hcol⟩)
      = (args x0 x1 x2 x3 x4 x5 x6).dcv s.val (Spec.Args.col j.val q.val) := fun s => dcv_eq x0 x1 x2 x3 x4 x5 x6 hA _ _
  have hw : ∀ n : ℕ, k.val = n → ∑ s : Fin 16384, (args x0 x1 x2 x3 x4 x5 x6).dcv s.val (Spec.Args.col j.val q.val)
      * (args x0 x1 x2 x3 x4 x5 x6).upp (s.val + n) (Spec.Args.col j.val q.val)
      = (args x0 x1 x2 x3 x4 x5 x6).dcw k.val (Spec.Args.col j.val q.val) := by
    intro n e
    rw [e]; rfl
  refine tap_pick hcol k.isLt (fun h e => ?_) (fun h e => ?_) (fun h e => ?_)
  · refine Eq.trans ?_ (hw _ e)
    refine (Fin.sum_univ_one _).trans (Finset.sum_congr rfl fun s _ => ?_)
    exact ((congrArg₂ (· * ·) (hu _ _) (hv s)).trans (mul_comm _ _)).trans
      (congrArg (fun n => (args x0 x1 x2 x3 x4 x5 x6).dcv s.val (Spec.Args.col j.val q.val) * (args x0 x1 x2 x3 x4 x5 x6).upp n (Spec.Args.col j.val q.val)) (Nat.add_comm _ _))
  · refine Eq.trans ?_ (hw _ e)
    refine (Fin.sum_univ_one _).trans (Finset.sum_congr rfl fun s _ => ?_)
    exact ((congrArg₂ (· * ·) (hu _ _) (hv s)).trans (mul_comm _ _)).trans
      (congrArg (fun n => (args x0 x1 x2 x3 x4 x5 x6).dcv s.val (Spec.Args.col j.val q.val) * (args x0 x1 x2 x3 x4 x5 x6).upp n (Spec.Args.col j.val q.val)) (Nat.add_comm _ _))
  · refine Eq.trans ?_ (hw _ e)
    refine (Fin.sum_univ_one _).trans (Finset.sum_congr rfl fun s _ => ?_)
    exact ((congrArg₂ (· * ·) (hu _ _) (hv s)).trans (mul_comm _ _))

/-- The gradient of the bias. -/
theorem dcb_eq (j : Fin 2) (q : Fin 2816) :
    val_main_v139 (F := Ideal) x0 x1 x2 x3 x4 x5 x6 (ix3 j 0 q) = (args x0 x1 x2 x3 x4 x5 x6).dcb (Spec.Args.col j.val q.val) := by
  pointwise [val_main_v139, val_main_v138, val_main_v137, val_main_v111, val_main_v110, val_main_v109, val_main_cst_22, val_main_cst_23]
  rw [Fin.sum_univ_one]
  unfold Spec.Args.dcb
  exact Finset.sum_congr rfl fun s _ => dcv_eq x0 x1 x2 x3 x4 x5 x6 hA _ _

end Cert.Ref

end
-- ==== Proof.Meet.lean ====
module

public import proofs.«01_k».proof.Proof.Held.Out
public import proofs.«01_k».proof.Proof.Tile.Arrays
public import proofs.«01_k».proof.Proof.Ref.Backward

@[expose] public section

set_option maxRecDepth 8000

noncomputable section

/-! The arrays the launch leaves are the arrays the reference computes. -/

namespace Cert.Meet

open Cert.KernelIdeal Cert.KernelIdeal.Gen Idealize.ShloMosaic Idealize.ShloMosaic.TcCoe Idealize.ShloMosaic.Tactic
open Cert.ReferenceIdeal.Read (val_main_v127 val_main_v132 val_main_v133 val_main_v136 val_main_v139)

variable (m : (ℓ : Loc nD τ sig) → Buf (Elt Ideal) ℓ) (c : Dev nD) (hA : (Host.A m c).Real)
include hA

/-- The gradient of the normalised input. -/
theorem part : val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = Tile.partArr m c :=
  funext fun y => (congrArg _ (eq_ix3 y)).trans (Ref.part_eq _ _ _ _ _ _ _ hA (y 0) (y 1) (y 2))

/-- The gradient of the weight of the projection up. -/
theorem dwup : val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = (Held.hbAt m c cfg0.N).1 :=
  funext fun y => (congrArg _ (eq_ix3 y)).trans ((Ref.dwup_eq _ _ _ _ _ _ _ hA (y 0) (y 1) (y 2)).trans
    ((Held.end0 m c (y 0) (y 1) (y 2)).symm.trans (congrArg (Held.hbAt m c cfg0.N).1 (eq_ix3 y).symm)))

/-- The gradient of the weight of the projection down. -/
theorem dwdn : Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (Held.hbAt m c cfg0.N).2 :=
  funext fun y => (congrArg _ (eq_ix3 y)).trans ((Ref.dwdn_eq _ _ _ _ _ _ _ hA (y 0) (y 1) (y 2)).trans
    ((Held.end1 m c (y 0) (y 1) (y 2)).symm.trans (congrArg (Held.hbAt m c cfg0.N).2 (eq_ix3 y).symm)))

/-- The gradient of the taps. -/
theorem dcw : val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = Tile.cwArr m c :=
  funext fun y => (congrArg _ (eq_ix3 y)).trans (Ref.dcw_eq _ _ _ _ _ _ _ hA (y 0) (y 1) (y 2))

/-- The gradient of the bias. -/
theorem dcb : val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = Tile.cbArr m c :=
  funext fun y => (congrArg _ ((eq_ix3 y).trans (congrArg (fun z : Fin 1 => ix3 (y 0) z (y 2)) (Subsingleton.elim _ 0)))).trans
    (Ref.dcb_eq _ _ _ _ _ _ _ hA (y 0) (y 2))

end Cert.Meet

end
-- ==== Proof.Fwd.Spec.lean ====
module

public import proofs.«01_k».proof.Proof.Args
public import proofs.«01_k».proof.Proof.Ref.Gelu

@[expose] public section

noncomputable section

/-! The forward pass from the mixers' output to the layer's result, as formulas over the extended reals: the output
projection, the convolutional feed-forward block and the per-layer embedding gate. -/

namespace Cert.Spec

open Idealize.ShloMosaic

/-- Gelu as the reference spells it, at every extended real. -/
theorem gl_spell_all (x : EReal) :
    x * (half * (1 + Ideal.tanh (C * (x + Ideal.ofBits FTy.f32 1027024659#32 * (x * x * x))))) = gl x := by
  induction x with
  | coe r => exact gl_spell _ ⟨r, rfl⟩
  | top =>
    have hc : (0 : EReal) < (cR : EReal) := by unfold cR; exact_mod_cast (by norm_num : (0 : ℝ) < 13386282 / 16777216)
    have ha : (0 : EReal) < (aR : EReal) := by unfold aR; exact_mod_cast (by norm_num : (0 : ℝ) < 12003091 / 268435456)
    have hp : (0 : EReal) < ((cR * aR : ℝ) : EReal) := by unfold aR cR; exact_mod_cast (by norm_num : (0 : ℝ) < 13386282 / 16777216 * (12003091 / 268435456))
    unfold gl gu th
    rw [A_eq, CA_eq, C_eq, half_eq, EReal.top_mul_top, EReal.top_mul_top, EReal.mul_top_of_pos ha, EReal.mul_top_of_pos hp,
      EReal.coe_add_top, EReal.top_mul_top, EReal.top_add_top, EReal.mul_top_of_pos hc, Ideal.tanh_top]
    congr 1
    rw [show (1 : EReal) = ((1 : ℝ) : EReal) from rfl, ← EReal.coe_add, ← EReal.coe_mul, ← EReal.coe_mul, ← EReal.coe_add]
    norm_num
  | bot =>
    have hc : (0 : EReal) < (cR : EReal) := by unfold cR; exact_mod_cast (by norm_num : (0 : ℝ) < 13386282 / 16777216)
    have ha : (0 : EReal) < (aR : EReal) := by unfold aR; exact_mod_cast (by norm_num : (0 : ℝ) < 12003091 / 268435456)
    have hp : (0 : EReal) < ((cR * aR : ℝ) : EReal) := by unfold aR cR; exact_mod_cast (by norm_num : (0 : ℝ) < 13386282 / 16777216 * (12003091 / 268435456))
    unfold gl gu th
    rw [A_eq, CA_eq, C_eq, half_eq, EReal.bot_mul_bot, EReal.top_mul_bot, EReal.mul_bot_of_pos ha, EReal.mul_top_of_pos hp,
      EReal.coe_add_top, EReal.bot_mul_top, EReal.bot_add, EReal.mul_bot_of_pos hc, Ideal.tanh_bot]
    congr 1
    rw [show (-1 : EReal) = ((-1 : ℝ) : EReal) by rw [EReal.coe_neg, EReal.coe_one], show (1 : EReal) = ((1 : ℝ) : EReal) from rfl,
      ← EReal.coe_add, ← EReal.coe_mul, ← EReal.coe_mul, ← EReal.coe_add]
    norm_num

/-- A row over its root mean square, times the gain: entry `d`. -/
def rms (x : ℕ → EReal) (g : ℕ → EReal) (d : ℕ) : EReal :=
  x d * Ideal.rsqrt (Ideal.div (∑ k : Fin 1024, x k * x k) (Ideal.ofBits FTy.f32 1149239296#32)
    + Ideal.ofBits FTy.f32 897988541#32) * g d

/-- The arrays of the forward pass, each read at a row and a column. -/
structure Fwd where
  /-- the input of the layer -/
  h : ℕ → ℕ → EReal
  /-- the output of the mixers -/
  ym : ℕ → ℕ → EReal
  /-- the embedding of the layer -/
  p : ℕ → ℕ → EReal
  /-- the weight of the output projection -/
  wo : ℕ → ℕ → EReal
  /-- the gain of the block's norm -/
  g2 : ℕ → EReal
  /-- the weight of the projection up -/
  W : ℕ → ℕ → EReal
  /-- the taps of the convolution -/
  cw : ℕ → ℕ → EReal
  /-- the bias of the convolution -/
  b : ℕ → EReal
  /-- the weight of the projection down -/
  wd : ℕ → ℕ → EReal
  /-- the gain of the gate's norm -/
  g3 : ℕ → EReal
  /-- the weight of the gate -/
  wg : ℕ → ℕ → EReal
  /-- the weight of the embedding's projection -/
  wp : ℕ → ℕ → EReal

namespace Fwd

variable (A : Fwd)

/-- The rows after the output projection. -/
def h1 (s d : ℕ) : EReal := A.h s d + ∑ k : Fin 1024, A.ym s k * A.wo k d

/-- The arguments of the feed-forward block (its formulas take no cotangent here). -/
def blk : Args where
  dh := fun _ _ => 0
  h := A.h1
  g := A.g2
  W := A.W
  cw := A.cw
  b := A.b
  wd := A.wd

/-- The activation: gelu of the gate times the value. -/
def act (s f : ℕ) : EReal := gl (A.blk.cv s f) * A.blk.cv s (2816 + f)

/-- The rows after the feed-forward block. -/
def h2 (s d : ℕ) : EReal := A.h1 s d + ∑ f : Fin 2816, A.act s f * A.wd f d

/-- The gate. -/
def gate (s d : ℕ) : EReal := Ideal.logistic (∑ k : Fin 1024, rms (A.h2 s) A.g3 k * A.wg k d)

/-- The rows after the embedding gate. -/
def h3 (s d : ℕ) : EReal := A.h2 s d + (∑ k : Fin 256, A.p s k * A.wp k d) * A.gate s d

end Fwd

/-- The projection down, its hidden channels in two halves. -/
theorem sum_halves (f : ℕ → EReal) :
    ∑ k : Fin 2816, f k.val = (∑ k : Fin 1408, f (0 * 1408 + k.val)) + ∑ k : Fin 1408, f (1 * 1408 + k.val) := by
  rw [← Finset.sum_range f, ← Finset.sum_range (fun k => f (0 * 1408 + k)), ← Finset.sum_range (fun k => f (1 * 1408 + k))]
  rw [show (2816 : ℕ) = 1408 + 1408 from rfl, Finset.sum_range_add]
  simp only [Nat.zero_mul, Nat.one_mul, Nat.zero_add]

end Cert.Spec

end
-- ==== Proof.Fwd.Pay.lean ====
module

public import proofs.«01_k».proof.Proof.Gen.ForwardIdeal.Skeleton
public import proofs.«01_k».proof.Proof.Fwd.Spec
public import Idealize.ShloMosaic.Lib.Pointwise
public import Idealize.ShloMosaic.PureOps.IdealRules
public import Idealize.ShloMosaic.PureOps.Ideal

@[expose] public section

noncomputable section

/-! What a tile of the forward pass computes from what it loads, entry by entry. -/

namespace Cert.FwdTile

open Cert.ForwardIdeal Cert.ForwardIdeal.Gen Idealize.ShloMosaic Idealize.ShloMosaic.Tactic

/-- The rows after the output projection, the sixteen rows before the tile first (zero before the first tile). -/
theorem pay2_apply (i : grid0.Coords) (v1 : Vec Ideal S16x1024 .f32) (v5 : Vec Ideal S16x1024 .bf16) (v10 : Vec Ideal S256x1024 .f32)
    (v12 : Vec Ideal S256x1024 .bf16) (v17 : Vec Ideal S1024x1024 .bf16) (r : Fin 272) (d : Fin 1024) :
    k0_pay2 i v1 v5 v10 v12 v17 (ix2 r d)
      = (if h : r.val < 16 then Scalar.select (Scalar.cmpi CmpIPredicate.sgt (BitVec.ofNat 32 (i 0).val) 0#32) (v1 (ix2 ⟨r.val, h⟩ d)) 0
          else v10 (ix2 ⟨r.val - 16, by omega⟩ d))
        + ∑ x : Fin 1024, (if h : r.val < 16 then Scalar.select (Scalar.cmpi CmpIPredicate.sgt (BitVec.ofNat 32 (i 0).val) 0#32) (v5 (ix2 ⟨r.val, h⟩ x)) 0
          else v12 (ix2 ⟨r.val - 16, by omega⟩ x)) * v17 (ix2 x d) := by
  pointwise [k0_pay2]

/-- The normalised rows. -/
theorem pay3_apply (i : grid0.Coords) (v1 : Vec Ideal S16x1024 .f32) (v5 : Vec Ideal S16x1024 .bf16) (v10 : Vec Ideal S256x1024 .f32)
    (v12 : Vec Ideal S256x1024 .bf16) (v17 : Vec Ideal S1024x1024 .bf16) (v21 : Vec Ideal S1x1024 .f32) (r : Fin 272) (d : Fin 1024) :
    k0_pay3 i v1 v5 v10 v12 v17 v21 (ix2 r d) = k0_pay2 i v1 v5 v10 v12 v17 (ix2 r d)
      * Ideal.rsqrt (Ideal.div (∑ x : Fin 1024, k0_pay2 i v1 v5 v10 v12 v17 (ix2 r x) * k0_pay2 i v1 v5 v10 v12 v17 (ix2 r x))
        (Ideal.ofBits FTy.f32 1149239296#32) + Ideal.ofBits FTy.f32 897988541#32) * v21 (ix2 0 d) := by
  generalize hg : k0_pay2 i v1 v5 v10 v12 v17 = g
  unfold k0_pay3
  rw [hg]
  pointwise []

/-- The rows of the tile itself. -/
theorem pay4_apply (i : grid0.Coords) (v1 : Vec Ideal S16x1024 .f32) (v5 : Vec Ideal S16x1024 .bf16) (v10 : Vec Ideal S256x1024 .f32)
    (v12 : Vec Ideal S256x1024 .bf16) (v17 : Vec Ideal S1024x1024 .bf16) (r : Fin 256) (d : Fin 1024) :
    k0_pay4 i v1 v5 v10 v12 v17 (ix2 r d) = k0_pay2 i v1 v5 v10 v12 v17 (ix2 ⟨16 + r.val, by omega⟩ d) := by
  generalize hg : k0_pay2 i v1 v5 v10 v12 v17 = g
  unfold k0_pay4
  rw [hg]
  pointwise []

/-- The projection up, first half. -/
theorem pay5_apply (v35 : FVec Ideal S272x1024 .bf16) (v37 : Vec Ideal S1x1024x2816 .bf16) (r : Fin 272) (q : Fin 2816) :
    k0_pay5 v35 v37 (ix2 r q) = ∑ d : Fin 1024, v35 (ix2 r d) * v37 (ix3 0 d q) := by
  pointwise [k0_pay5]

/-- The projection up, second half. -/
theorem pay11_apply (v35 : FVec Ideal S272x1024 .bf16) (v37 : Vec Ideal S1x1024x2816 .bf16) (r : Fin 272) (q : Fin 2816) :
    k0_pay11 v35 v37 (ix2 r q) = ∑ d : Fin 1024, v35 (ix2 r d) * v37 (ix3 0 d q) := by
  pointwise [k0_pay11]

/-- The convolution, first half. -/
theorem pay6_apply (v43 : Vec Ideal S1x3x2816 .f32) (v45 : Vec Ideal S1x1x2816 .f32) (v48 v54 v59 : Vec Ideal S256x2816 .f32) (r : Fin 256) (q : Fin 2816) :
    k0_pay6 v43 v45 v48 v54 v59 (ix2 r q) = v45 (ix3 0 0 q) + v43 (ix3 0 0 q) * v48 (ix2 r q) + v43 (ix3 0 1 q) * v54 (ix2 r q)
      + v43 (ix3 0 2 q) * v59 (ix2 r q) := by
  pointwise [k0_pay6]

/-- The hidden channels a tile saves, first half. -/
theorem pay7_apply (v63 : Vec Ideal S256x2816 .f32) (r : Fin 256) (q : Fin 2816) : k0_pay7 v63 (ix3 0 r q) = v63 (ix2 r q) := by
  pointwise [k0_pay7]

/-- The hidden channels a tile saves, second half. -/
theorem pay14_apply (v63 : Vec Ideal S256x2816 .f32) (r : Fin 256) (q : Fin 2816) : k0_pay14 v63 (ix3 0 r q) = v63 (ix2 r q) := by
  pointwise [k0_pay14]

/-- The named constant of the cubic term. -/
theorem named_ca : (Named.named κ "gelu_ca" 1024598649#32 : Ideal .f32) = Spec.CA :=
  IdealRules.named_const.ideal_named_scalar _ _ _ _ rfl

/-- The rows after the first half of the projection down. -/
theorem pay10_apply (v36 : FVec Ideal S256x1024 .f32) (v43 : Vec Ideal S1x3x2816 .f32) (v45 : Vec Ideal S1x1x2816 .f32)
    (v48 v54 v59 : Vec Ideal S256x2816 .f32) (v84 : Vec Ideal S1x1408x1024 .bf16) (r : Fin 256) (d : Fin 1024) :
    k0_pay10 v36 (k0_pay6 v43 v45 v48 v54 v59) (k0_pay8 v43 v45 v48 v54 v59) (k0_pay9 v43 v45 v48 v54 v59) (Scalar.ofBits FTy.f32 0x3F4C422A#32) v84 (ix2 r d)
      = v36 (ix2 r d) + ∑ f : Fin 1408, Spec.gl (k0_pay6 v43 v45 v48 v54 v59 (ix2 r ⟨f.val, by omega⟩))
        * k0_pay6 v43 v45 v48 v54 v59 (ix2 r ⟨1408 + f.val, by omega⟩) * v84 (ix3 0 f d) := by
  unfold k0_pay9 k0_pay8
  generalize k0_pay6 v43 v45 v48 v54 v59 = g
  pointwise [k0_pay10]
  rw [named_ca]
  rfl

/-- The convolution of the second half, as it is computed. -/
def cv2 (v94 : Vec Ideal S1x3x2816 .f32) (v96 : Vec Ideal S1x1x2816 .f32) (v99 v105 v110 : Vec Ideal S256x2816 .f32) (r : Fin 256) (q : Fin 2816) : EReal :=
  v96 (ix3 0 0 q) + v94 (ix3 0 0 q) * v99 (ix2 r q) + v94 (ix3 0 1 q) * v105 (ix2 r q) + v94 (ix3 0 2 q) * v110 (ix2 r q)

/-- The rows after the second half of the projection down. -/
theorem pay15_apply (v87 : FVec Ideal S256x1024 .f32) (v94 : Vec Ideal S1x3x2816 .f32) (v96 : Vec Ideal S1x1x2816 .f32)
    (v99 v105 v110 : Vec Ideal S256x2816 .f32) (v135 : Vec Ideal S1x1408x1024 .bf16) (r : Fin 256) (d : Fin 1024) :
    k0_pay15 v87 (k0_pay12 v94) (k0_pay13 v94 v96 v99 v105) v110 v135 (ix2 r d)
      = v87 (ix2 r d) + ∑ f : Fin 1408, Spec.gl (cv2 v94 v96 v99 v105 v110 r ⟨f.val, by omega⟩)
        * cv2 v94 v96 v99 v105 v110 r ⟨1408 + f.val, by omega⟩ * v135 (ix3 0 f d) := by
  pointwise [k0_pay15, k0_pay13, k0_pay12]
  rw [named_ca]
  rfl

/-- The gain of the gate's norm. -/
theorem pay16_apply (v139 : Vec Ideal S1x1024 .f32) (d : Fin 1024) : k0_pay16 v139 (ix2 0 d) = v139 (ix2 0 d) := by
  pointwise [k0_pay16]

/-- The mean square of a row, as the gate's norm uses it. -/
theorem pay17_apply (v87 : FVec Ideal S256x1024 .f32) (v95 : FVec Ideal S3x2816 .f32) (v108 : FVec Ideal S256x2816 .f32) (v110 : Vec Ideal S256x2816 .f32)
    (v135 : Vec Ideal S1x1408x1024 .bf16) (r : Fin 256) :
    k0_pay17 v87 v95 v108 v110 v135 (ix2 r 0) = Ideal.div (∑ x : Fin 1024, k0_pay15 v87 v95 v108 v110 v135 (ix2 r x) * k0_pay15 v87 v95 v108 v110 v135 (ix2 r x))
        (Ideal.ofBits FTy.f32 1149239296#32) + Ideal.ofBits FTy.f32 897988541#32 := by
  unfold k0_pay17
  generalize k0_pay15 v87 v95 v108 v110 v135 = g
  pointwise []

/-- The rows after the embedding gate. -/
theorem pay1_apply (v138 : FVec Ideal S256x1024 .f32) (v140 : FVec Ideal S1x1024 .f32) (v147 : FVec Ideal S256x1 .f32) (v154 : Vec Ideal S1024x1024 .bf16)
    (v164 : Vec Ideal S1x256x256 .f32) (v167 : Vec Ideal S256x1024 .bf16) (r : Fin 256) (d : Fin 1024) :
    k0_pay1 v138 v140 v147 v154 v164 v167 (ix2 r d) = v138 (ix2 r d) + (∑ k : Fin 256, v164 (ix3 0 r k) * v167 (ix2 k d))
      * Ideal.logistic (∑ k : Fin 1024, v138 (ix2 r k) * Ideal.rsqrt (v147 (ix2 r 0)) * v140 (ix2 0 k) * v154 (ix2 k d)) := by
  pointwise [k0_pay1]
  unfold Ideal.logistic
  rw [zero_sub]

end Cert.FwdTile

end
-- ==== Proof.Fwd.Tile.lean ====
module

public import proofs.«01_k».proof.Proof.Fwd.Pay
public import proofs.«01_k».proof.Proof.Gen.ForwardIdeal.Frame
public import Idealize.ShloMosaic.Lib.Pipeline.ValueKit.Tiles
public import Idealize.ShloMosaic.Lib.Pipeline.ValueKit.Acc
public import Idealize.ShloMosaic.Lib.Pipeline.Value
public import Idealize.ShloMosaic.Lib.WholeRead

@[expose] public section

set_option maxRecDepth 8000

noncomputable section

/-! What one tile of the forward pass leaves in each result, from the blocks it reads: tile `i` holds rows `256 * i, …`.
The hidden channels are computed in two halves; a half is written to a scratch array, the sixteen rows before the tile
first, and read back at shifts of up to two rows. -/

namespace Cert.FwdTile

open Cert.ForwardIdeal Cert.ForwardIdeal.Gen Idealize.ShloMosaic Idealize.ShloMosaic.Tactic
open Cert.Spec (Fwd)
open Cert.Spec.Args (col)

/-- A load of a whole array that holds `X` reads `X`. -/
theorem full_read {sig : RefSig} {κ : Kind} {sp : Space} {S : Shape} {e : EltTy} {m : Memref sig κ sp S e} (h : m.IsWhole)
    {off : Fin S.rank → Nat} (ho : off = fun _ => 0) (inb : ∀ a, off a + S.size a ≤ S.size a) (X : Vec Ideal S e) :
    View.readAt (Elt Ideal) m.view (Rect.unit off S.size inb).toLoadRect (h.unread X) = X := by
  rw [View.readAt_eq_ld, h.read_unread, View.ld_unit_zero ho]

/-- The offsets of a whole load, in two dimensions. -/
theorem zero2 : (![0, 0] : Fin 2 → ℕ) = fun _ => 0 := by decide

/-- The offsets of a whole load, in three dimensions. -/
theorem zero3 : (![0, 0, 0] : Fin 3 → ℕ) = fun _ => 0 := by decide

/-- A load of one of the two halves of an array that holds `X`. -/
theorem half_read {sig : RefSig} {κ : Kind} {sp : Space} {n k : ℕ} {e : EltTy} {m : Memref sig κ sp ⟨3, ![2, n, k]⟩ e} (h : m.IsWhole) (j : Fin 2)
    (inb : ∀ a, (![j.val, 0, 0] : Fin 3 → ℕ) a + (![1, n, k] : Fin 3 → ℕ) a ≤ (⟨3, ![2, n, k]⟩ : Shape).size a) (X : Vec Ideal ⟨3, ![2, n, k]⟩ e) (a : Fin n) (b : Fin k) :
    View.readAt (Elt Ideal) m.view (Rect.unit (s := ⟨3, ![2, n, k]⟩) ![j.val, 0, 0] ![1, n, k] inb).toLoadRect (h.unread X) (ix3 0 a b) = X (ix3 j a b) := by
  rw [View.readAt_eq_ld, h.read_unread]
  exact View.ld_unit_apply_of _ _ _ _ _ (ix3 j a b) (fun a => by match a with
    | ⟨0, _⟩ => rfl
    | ⟨1, _⟩ => exact (Nat.zero_add _).symm
    | ⟨2, _⟩ => exact (Nat.zero_add _).symm)

/-- A load of the scratch rows at a shift of `o` rows, after they were written whole. -/
theorem scratch_load {sig : RefSig} {κ : Kind} {sp : Space} (v : View sig κ sp S272x2816 .f32) (o : ℕ) (ho : o ≤ 16)
    (inb0 : ∀ a, (![0, 0] : Fin 2 → ℕ) a + S272x2816.size a ≤ S272x2816.size a)
    (inb : ∀ a, (![o, 0] : Fin 2 → ℕ) a + S256x2816.size a ≤ S272x2816.size a) (w : Vec Ideal S272x2816 .f32)
    (L : List (View.Piece (Elt Ideal) S272x2816 .f32)) (r : Fin 256) (q : Fin 2816) :
    v.readCov (⟨Rect.unit (s := S272x2816) ![0, 0] S272x2816.size inb0, w⟩ :: L) (Rect.unit (s := S272x2816) ![o, 0] S256x2816.size inb).toLoadRect (ix2 r q)
      = w (ix2 ⟨o + r.val, by omega⟩ q) := by
  rw [View.readCov_eq_canon', View.canon_cons_unit_zero zero2]
  exact congrArg w (funext fun a => by match a with
    | ⟨0, _⟩ => exact Fin.ext (show o + 1 * r.val = o + r.val by omega)
    | ⟨1, _⟩ => exact Fin.ext (show 0 + 1 * q.val = q.val by omega))

/-- The blocks of a tile are tile `i` of the arrays. -/
structure Blocks (A : Fwd) (i : ℕ) (ic : grid0.Coords) (x0 : Vec Ideal S256x1024 .f32) (x1 : Vec Ideal S16x1024 .f32) (x2 : Vec Ideal S256x1024 .bf16) (x3 : Vec Ideal S16x1024 .bf16) (x4 : Vec Ideal S1x256x256 .f32) (x5 : Vec Ideal S1024x1024 .bf16) (x6 : Vec Ideal S1x1024 .f32) (x7 : Vec Ideal S2x1024x2816 .bf16) (x8 : Vec Ideal S2x3x2816 .f32) (x9 : Vec Ideal S2x1x2816 .f32) (x10 : Vec Ideal S2x1408x1024 .bf16) (x11 : Vec Ideal S1x1024 .f32) (x12 : Vec Ideal S1024x1024 .bf16) (x13 : Vec Ideal S256x1024 .bf16) : Prop where
  hi : i < 64
  ic : (ic 0).val = i
  h0 : ∀ (r : Fin 256) (d : Fin 1024), x0 (ix2 r d) = A.h (256 * i + r.val) d.val
  h1 : 0 < i → ∀ (r : Fin 16) (d : Fin 1024), x1 (ix2 r d) = A.h (256 * i - 16 + r.val) d.val
  h2 : ∀ (r : Fin 256) (d : Fin 1024), x2 (ix2 r d) = A.ym (256 * i + r.val) d.val
  h3 : 0 < i → ∀ (r : Fin 16) (d : Fin 1024), x3 (ix2 r d) = A.ym (256 * i - 16 + r.val) d.val
  h4 : ∀ (r k : Fin 256), x4 (ix3 0 r k) = A.p (256 * i + r.val) k.val
  h5 : ∀ (k d : Fin 1024), x5 (ix2 k d) = A.wo k.val d.val
  h6 : ∀ d : Fin 1024, x6 (ix2 0 d) = A.g2 d.val
  h7 : ∀ (j : Fin 2) (d : Fin 1024) (q : Fin 2816), x7 (ix3 j d q) = A.W d.val (col j.val q.val)
  h8 : ∀ (j : Fin 2) (k : Fin 3) (q : Fin 2816), x8 (ix3 j k q) = A.cw k.val (col j.val q.val)
  h9 : ∀ (j : Fin 2) (q : Fin 2816), x9 (ix3 j 0 q) = A.b (col j.val q.val)
  h10 : ∀ (j : Fin 2) (f : Fin 1408) (d : Fin 1024), x10 (ix3 j f d) = A.wd (j.val * 1408 + f.val) d.val
  h11 : ∀ d : Fin 1024, x11 (ix2 0 d) = A.g3 d.val
  h12 : ∀ (k d : Fin 1024), x12 (ix2 k d) = A.wg k.val d.val
  h13 : ∀ (k : Fin 256) (d : Fin 1024), x13 (ix2 k d) = A.wp k.val d.val

section

variable {A : Fwd} {i : ℕ} {ic : grid0.Coords} {x0 : Vec Ideal S256x1024 .f32} {x1 : Vec Ideal S16x1024 .f32} {x2 : Vec Ideal S256x1024 .bf16} {x3 : Vec Ideal S16x1024 .bf16} {x4 : Vec Ideal S1x256x256 .f32} {x5 : Vec Ideal S1024x1024 .bf16} {x6 : Vec Ideal S1x1024 .f32} {x7 : Vec Ideal S2x1024x2816 .bf16} {x8 : Vec Ideal S2x3x2816 .f32} {x9 : Vec Ideal S2x1x2816 .f32} {x10 : Vec Ideal S2x1408x1024 .bf16} {x11 : Vec Ideal S1x1024 .f32} {x12 : Vec Ideal S1024x1024 .bf16} {x13 : Vec Ideal S256x1024 .bf16}
  (H : Blocks A i ic x0 x1 x2 x3 x4 x5 x6 x7 x8 x9 x10 x11 x12 x13)

include H

/-- The comparison with zero of the tile's number selects. -/
theorem sgt_select {α : Type} (a b : α) :
    Scalar.select (Scalar.cmpi CmpIPredicate.sgt (BitVec.ofNat 32 (ic 0).val) 0#32) a b = if 0 < i then a else b := by
  have hi := H.hi
  have hc : (Scalar.cmpi CmpIPredicate.sgt (BitVec.ofNat 32 i) 0#32) = if 0 < i then 1#1 else 0#1 := by
    have := (by decide +kernel : ∀ k : Fin 64, Scalar.cmpi CmpIPredicate.sgt (BitVec.ofNat 32 k.val) 0#32 = if 0 < k.val then 1#1 else 0#1)
    exact this ⟨i, hi⟩
  rw [H.ic, hc]
  split_ifs <;> rfl

/-- The rows after the output projection, sixteen rows early; rows before the sequence are zero. -/
theorem ext_eq (r : Fin 272) (d : Fin 1024) :
    k0_pay2 ic x1 x3 x0 x2 x5 (ix2 r d) = if 256 * i + r.val < 16 then 0 else A.h1 (256 * i + r.val - 16) d.val := by
  rw [pay2_apply]
  simp only [sgt_select H, H.h5]
  unfold Fwd.h1
  by_cases hr : r.val < 16
  · by_cases h : 0 < i
    · have e : 256 * i + r.val - 16 = 256 * i - 16 + r.val := by omega
      rw [if_neg (by omega), e, dif_pos hr, if_pos h, H.h1 h]
      congr 1
      refine Finset.sum_congr rfl fun x _ => ?_
      rw [dif_pos hr, if_pos h, H.h3 h]
    · rw [if_pos (by omega), dif_pos hr, if_neg h, zero_add]
      refine Finset.sum_eq_zero fun x _ => ?_
      rw [dif_pos hr, if_neg h, zero_mul]
  · have e : 256 * i + r.val - 16 = 256 * i + (r.val - 16) := by omega
    rw [if_neg (by omega), e, dif_neg hr, H.h0]
    congr 1
    refine Finset.sum_congr rfl fun x _ => ?_
    rw [dif_neg hr, H.h2]

/-- The rows after the output projection. -/
theorem h1_eq (r : Fin 256) (d : Fin 1024) : k0_pay4 ic x1 x3 x0 x2 x5 (ix2 r d) = A.h1 (256 * i + r.val) d.val := by
  rw [pay4_apply, ext_eq H, if_neg (by show ¬ 256 * i + (16 + r.val) < 16; omega)]
  congr 1
  show 256 * i + (16 + r.val) - 16 = _
  omega

/-- The normalised rows, sixteen rows early; rows before the sequence are zero. -/
theorem hn_eq (r : Fin 272) (d : Fin 1024) :
    k0_pay3 ic x1 x3 x0 x2 x5 x6 (ix2 r d) = if 256 * i + r.val < 16 then 0 else A.blk.hn (256 * i + r.val - 16) d.val := by
  rw [pay3_apply]
  simp only [ext_eq H, H.h6]
  by_cases h : 256 * i + r.val < 16
  · simp only [if_pos h, zero_mul]
  · simp only [if_neg h]
    rfl

/-- The projection up of a half, sixteen rows early; rows before the sequence are zero. -/
theorem up_eq (j : Fin 2) {w : Vec Ideal S1x1024x2816 .bf16} (hw : ∀ (d : Fin 1024) (q : Fin 2816), w (ix3 0 d q) = x7 (ix3 j d q))
    (r : Fin 272) (q : Fin 2816) :
    ∑ d : Fin 1024, k0_pay3 ic x1 x3 x0 x2 x5 x6 (ix2 r d) * w (ix3 0 d q)
      = A.blk.upp (256 * i + r.val - 14) (col j.val q.val) ∨ r.val < 14 := by
  by_cases h14 : r.val < 14
  · exact .inr h14
  left
  simp only [hn_eq H, hw, H.h7]
  unfold Spec.Args.upp
  by_cases h : 256 * i + r.val < 16
  · rw [if_pos (by omega)]
    simp only [if_pos h, zero_mul, Finset.sum_const_zero]
  · rw [if_neg (by omega)]
    simp only [if_neg h]
    unfold Spec.Args.up
    have e : 256 * i + r.val - 16 = 256 * i + r.val - 14 - 2 := by omega
    rw [e]
    rfl

end

/-- The convolution of a half, from the rows of the projection up and the two rows before each. -/
theorem conv_eq (A : Fwd) (s c : ℕ) {v48 v54 v59 t0 t1 t2 b : EReal} (h48 : v48 = A.blk.upp s c) (h54 : v54 = A.blk.upp (s + 1) c) (h59 : v59 = A.blk.upp (s + 2) c)
    (e0 : t0 = A.cw 0 c) (e1 : t1 = A.cw 1 c) (e2 : t2 = A.cw 2 c) (eb : b = A.b c) : b + t0 * v48 + t1 * v54 + t2 * v59 = A.blk.cv s c := by
  rw [h48, h54, h59, e0, e1, e2, eb]
  unfold Spec.Args.cv
  rw [mul_comm (A.blk.upp s c), mul_comm (A.blk.upp (s + 1) c), mul_comm (A.blk.upp (s + 2) c)]
  rfl

section

variable (c : Dev nD) (ic : grid0.Coords) (arg1 : Memref sig .tc .vmem S256x1024 .f32) (harg1 : arg1.IsWhole) (arg2 : Memref sig .tc .vmem S16x1024 .f32) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S1x256x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S2x1024x2816 .bf16) (harg8 : arg8.IsWhole) (arg9 : Memref sig .tc .vmem S2x3x2816 .f32) (harg9 : arg9.IsWhole) (arg10 : Memref sig .tc .vmem S2x1x2816 .f32) (harg10 : arg10.IsWhole) (arg11 : Memref sig .tc .vmem S2x1408x1024 .bf16) (harg11 : arg11.IsWhole) (arg12 : Memref sig .tc .vmem S1x1024 .f32) (harg12 : arg12.IsWhole) (arg13 : Memref sig .tc .vmem S1024x1024 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S2x256x2816 .bf16) (harg18 : arg18.IsWhole) (arg19 : Memref sig .tc .vmem S272x2816 .f32) (harg19 : arg19.IsWhole)
    (x0 : Vec Ideal S256x1024 .f32) (x1 : Vec Ideal S16x1024 .f32) (x2 : Vec Ideal S256x1024 .bf16) (x3 : Vec Ideal S16x1024 .bf16) (x4 : Vec Ideal S1x256x256 .f32) (x5 : Vec Ideal S1024x1024 .bf16) (x6 : Vec Ideal S1x1024 .f32) (x7 : Vec Ideal S2x1024x2816 .bf16) (x8 : Vec Ideal S2x3x2816 .f32) (x9 : Vec Ideal S2x1x2816 .f32) (x10 : Vec Ideal S2x1408x1024 .bf16) (x11 : Vec Ideal S1x1024 .f32) (x12 : Vec Ideal S1024x1024 .bf16) (x13 : Vec Ideal S256x1024 .bf16)

/-- The normalised rows. -/
theorem r_eq : kernelRun0_A.sl.r c ic arg1 harg1 arg2 harg2 arg3 harg3 arg4 harg4 arg6 harg6 arg7 harg7 x0 x1 x2 x3 x5 x6 = k0_pay3 ic x1 x3 x0 x2 x5 x6 := by
  unfold kernelRun0_A.sl.r
  rw [full_read harg1 zero2, full_read harg2 zero2, full_read harg3 zero2, full_read harg4 zero2, full_read harg6 zero2, full_read harg7 zero2]

/-- The rows after the output projection. -/
theorem r_1_eq : kernelRun0_A.sl.r_1 c ic arg1 harg1 arg2 harg2 arg3 harg3 arg4 harg4 arg6 harg6 x0 x1 x2 x3 x5 = k0_pay4 ic x1 x3 x0 x2 x5 := by
  unfold kernelRun0_A.sl.r_1
  rw [full_read harg1 zero2, full_read harg2 zero2, full_read harg3 zero2, full_read harg4 zero2, full_read harg6 zero2]

/-- The gain of the gate's norm. -/
theorem r_9_at (d : Fin 1024) : kernelRun0_A.sl.r_9 c arg12 harg12 x11 (ix2 0 d) = x11 (ix2 0 d) := by
  unfold kernelRun0_A.sl.r_9
  rw [full_read harg12 zero2, pay16_apply]

variable {A : Fwd} {i : ℕ}
variable {x0} {x1} {x2} {x3} {x4} {x5} {x6} {x7} {x8} {x9} {x10} {x11} {x12} {x13}
  (H : Blocks A i ic x0 x1 x2 x3 x4 x5 x6 x7 x8 x9 x10 x11 x12 x13)

include H

/-- The projection up, two rows earlier, first half. -/
theorem v48_at (r : Fin 256) (q : Fin 2816) : kernelRun0_A.sl.v48 c ic arg1 harg1 arg2 harg2 arg3 harg3 arg4 harg4 arg6 harg6 arg7 harg7 arg8 harg8 arg19 x0 x1 x2 x3 x5 x6 x7 (ix2 r q) = A.blk.upp (256 * i + r.val) (col 0 q.val) := by
  unfold kernelRun0_A.sl.v48 kernelRun0_A.sl.HS0_1
  refine (scratch_load _ 14 (by omega) _ _ _ _ r q).trans ((pay5_apply _ _ _ _).trans ?_)
  rw [r_eq]
  refine ((up_eq H 0 (fun d q => half_read harg8 0 _ x7 d q) ⟨14 + r.val, by omega⟩ q).resolve_right (by show ¬ 14 + r.val < 14; omega)).trans ?_
  have e : 256 * i + (14 + r.val) - 14 = 256 * i + r.val := by omega
  exact congrArg (fun s => A.blk.upp s (col 0 q.val)) e

/-- The projection up, one row earlier, first half. -/
theorem v54_at (r : Fin 256) (q : Fin 2816) : kernelRun0_A.sl.v54 c ic arg1 harg1 arg2 harg2 arg3 harg3 arg4 harg4 arg6 harg6 arg7 harg7 arg8 harg8 arg19 x0 x1 x2 x3 x5 x6 x7 (ix2 r q) = A.blk.upp (256 * i + r.val + 1) (col 0 q.val) := by
  unfold kernelRun0_A.sl.v54 kernelRun0_A.sl.HS0_1
  refine (scratch_load _ 15 (by omega) _ _ _ _ r q).trans ((pay5_apply _ _ _ _).trans ?_)
  rw [r_eq]
  refine ((up_eq H 0 (fun d q => half_read harg8 0 _ x7 d q) ⟨15 + r.val, by omega⟩ q).resolve_right (by show ¬ 15 + r.val < 14; omega)).trans ?_
  have e : 256 * i + (15 + r.val) - 14 = 256 * i + r.val + 1 := by omega
  exact congrArg (fun s => A.blk.upp s (col 0 q.val)) e

/-- The projection up, first half. -/
theorem v59_at (r : Fin 256) (q : Fin 2816) : kernelRun0_A.sl.v59 c ic arg1 harg1 arg2 harg2 arg3 harg3 arg4 harg4 arg6 harg6 arg7 harg7 arg8 harg8 arg19 x0 x1 x2 x3 x5 x6 x7 (ix2 r q) = A.blk.upp (256 * i + r.val + 2) (col 0 q.val) := by
  unfold kernelRun0_A.sl.v59 kernelRun0_A.sl.HS0_1
  refine (scratch_load _ 16 (by omega) _ _ _ _ r q).trans ((pay5_apply _ _ _ _).trans ?_)
  rw [r_eq]
  refine ((up_eq H 0 (fun d q => half_read harg8 0 _ x7 d q) ⟨16 + r.val, by omega⟩ q).resolve_right (by show ¬ 16 + r.val < 14; omega)).trans ?_
  have e : 256 * i + (16 + r.val) - 14 = 256 * i + r.val + 2 := by omega
  exact congrArg (fun s => A.blk.upp s (col 0 q.val)) e

/-- The projection up, two rows earlier, second half. -/
theorem v99_at (r : Fin 256) (q : Fin 2816) : kernelRun0_A.sl.v99 c ic arg1 harg1 arg2 harg2 arg3 harg3 arg4 harg4 arg6 harg6 arg7 harg7 arg8 harg8 arg19 x0 x1 x2 x3 x5 x6 x7 (ix2 r q) = A.blk.upp (256 * i + r.val) (col 1 q.val) := by
  unfold kernelRun0_A.sl.v99 kernelRun0_A.sl.HS0_2
  refine (scratch_load _ 14 (by omega) _ _ _ _ r q).trans ((pay11_apply _ _ _ _).trans ?_)
  rw [r_eq]
  refine ((up_eq H 1 (fun d q => half_read harg8 1 _ x7 d q) ⟨14 + r.val, by omega⟩ q).resolve_right (by show ¬ 14 + r.val < 14; omega)).trans ?_
  have e : 256 * i + (14 + r.val) - 14 = 256 * i + r.val := by omega
  exact congrArg (fun s => A.blk.upp s (col 1 q.val)) e

/-- The projection up, one row earlier, second half. -/
theorem v105_at (r : Fin 256) (q : Fin 2816) : kernelRun0_A.sl.v105 c ic arg1 harg1 arg2 harg2 arg3 harg3 arg4 harg4 arg6 harg6 arg7 harg7 arg8 harg8 arg19 x0 x1 x2 x3 x5 x6 x7 (ix2 r q) = A.blk.upp (256 * i + r.val + 1) (col 1 q.val) := by
  unfold kernelRun0_A.sl.v105 kernelRun0_A.sl.HS0_2
  refine (scratch_load _ 15 (by omega) _ _ _ _ r q).trans ((pay11_apply _ _ _ _).trans ?_)
  rw [r_eq]
  refine ((up_eq H 1 (fun d q => half_read harg8 1 _ x7 d q) ⟨15 + r.val, by omega⟩ q).resolve_right (by show ¬ 15 + r.val < 14; omega)).trans ?_
  have e : 256 * i + (15 + r.val) - 14 = 256 * i + r.val + 1 := by omega
  exact congrArg (fun s => A.blk.upp s (col 1 q.val)) e

/-- The projection up, second half. -/
theorem v110_at (r : Fin 256) (q : Fin 2816) : kernelRun0_A.sl.v110 c ic arg1 harg1 arg2 harg2 arg3 harg3 arg4 harg4 arg6 harg6 arg7 harg7 arg8 harg8 arg19 x0 x1 x2 x3 x5 x6 x7 (ix2 r q) = A.blk.upp (256 * i + r.val + 2) (col 1 q.val) := by
  unfold kernelRun0_A.sl.v110 kernelRun0_A.sl.HS0_2
  refine (scratch_load _ 16 (by omega) _ _ _ _ r q).trans ((pay11_apply _ _ _ _).trans ?_)
  rw [r_eq]
  refine ((up_eq H 1 (fun d q => half_read harg8 1 _ x7 d q) ⟨16 + r.val, by omega⟩ q).resolve_right (by show ¬ 16 + r.val < 14; omega)).trans ?_
  have e : 256 * i + (16 + r.val) - 14 = 256 * i + r.val + 2 := by omega
  exact congrArg (fun s => A.blk.upp s (col 1 q.val)) e

/-- The convolution, first half. -/
theorem r_2_at (r : Fin 256) (q : Fin 2816) : kernelRun0_A.sl.r_2 c ic arg1 harg1 arg2 harg2 arg3 harg3 arg4 harg4 arg6 harg6 arg7 harg7 arg8 harg8 arg9 harg9 arg10 harg10 arg19 x0 x1 x2 x3 x5 x6 x7 x8 x9 (ix2 r q) = A.blk.cv (256 * i + r.val) (col 0 q.val) := by
  unfold kernelRun0_A.sl.r_2
  refine (pay6_apply _ _ _ _ _ r q).trans (conv_eq A _ _ (v48_at (H := H) ..) (v54_at (H := H) ..) (v59_at (H := H) ..) ?_ ?_ ?_ ?_)
  · exact (half_read harg9 0 _ x8 0 q).trans (H.h8 0 0 q)
  · exact (half_read harg9 0 _ x8 1 q).trans (H.h8 0 1 q)
  · exact (half_read harg9 0 _ x8 2 q).trans (H.h8 0 2 q)
  · exact (half_read harg10 0 _ x9 0 q).trans (H.h9 0 q)

/-- The convolution, second half. -/
theorem cv2_at (r : Fin 256) (q : Fin 2816) :
    cv2 (View.readAt (Elt Ideal) arg9.view (Rect.unit (s := S2x3x2816) ![1, 0, 0] S1x3x2816.size inb_S2x3x2816_S1x3x2816_1_0_0).toLoadRect (harg9.unread x8))
      (View.readAt (Elt Ideal) arg10.view (Rect.unit (s := S2x1x2816) ![1, 0, 0] S1x1x2816.size inb_S2x1x2816_S1x1x2816_1_0_0).toLoadRect (harg10.unread x9))
      (kernelRun0_A.sl.v99 c ic arg1 harg1 arg2 harg2 arg3 harg3 arg4 harg4 arg6 harg6 arg7 harg7 arg8 harg8 arg19 x0 x1 x2 x3 x5 x6 x7) (kernelRun0_A.sl.v105 c ic arg1 harg1 arg2 harg2 arg3 harg3 arg4 harg4 arg6 harg6 arg7 harg7 arg8 harg8 arg19 x0 x1 x2 x3 x5 x6 x7) (kernelRun0_A.sl.v110 c ic arg1 harg1 arg2 harg2 arg3 harg3 arg4 harg4 arg6 harg6 arg7 harg7 arg8 harg8 arg19 x0 x1 x2 x3 x5 x6 x7) r q
      = A.blk.cv (256 * i + r.val) (col 1 q.val) := by
  unfold cv2
  refine conv_eq A _ _ (v99_at (H := H) ..) (v105_at (H := H) ..) (v110_at (H := H) ..) ?_ ?_ ?_ ?_
  · exact (half_read harg9 1 _ x8 0 q).trans (H.h8 1 0 q)
  · exact (half_read harg9 1 _ x8 1 q).trans (H.h8 1 1 q)
  · exact (half_read harg9 1 _ x8 2 q).trans (H.h8 1 2 q)
  · exact (half_read harg10 1 _ x9 0 q).trans (H.h9 1 q)

/-- The rows after the first half of the projection down. -/
theorem r_5_at (r : Fin 256) (d : Fin 1024) : kernelRun0_A.sl.r_5 c ic arg1 harg1 arg2 harg2 arg3 harg3 arg4 harg4 arg6 harg6 arg7 harg7 arg8 harg8 arg9 harg9 arg10 harg10 arg11 harg11 arg19 x0 x1 x2 x3 x5 x6 x7 x8 x9 x10 (ix2 r d)
    = A.h1 (256 * i + r.val) d.val + ∑ f : Fin 1408, A.act (256 * i + r.val) (0 * 1408 + f.val) * A.wd (0 * 1408 + f.val) d.val := by
  have h2 := r_2_at (H := H) (c := c) (arg1 := arg1) (harg1 := harg1) (arg2 := arg2) (harg2 := harg2) (arg3 := arg3) (harg3 := harg3) (arg4 := arg4) (harg4 := harg4) (arg6 := arg6) (harg6 := harg6) (arg7 := arg7) (harg7 := harg7) (arg8 := arg8) (harg8 := harg8) (arg9 := arg9) (harg9 := harg9) (arg10 := arg10) (harg10 := harg10) (arg19 := arg19)
  unfold kernelRun0_A.sl.r_2 at h2
  unfold kernelRun0_A.sl.r_5 kernelRun0_A.sl.r_4 kernelRun0_A.sl.r_3 kernelRun0_A.sl.r_2 kernelRun0_A.sl.cst_38
  refine (pay10_apply _ _ _ _ _ _ _ r d).trans ?_
  rw [r_1_eq, h1_eq H]
  refine congrArg (A.h1 (256 * i + r.val) d.val + ·) (Finset.sum_congr rfl fun f _ => ?_)
  rw [h2, h2]
  show Spec.gl (A.blk.cv _ (col 0 f.val)) * A.blk.cv _ (col 0 (1408 + f.val)) * _ = _
  rw [Spec.col_lo _ _ f.isLt, Spec.col_hi _ _ f.isLt]
  exact congrArg _ ((half_read harg11 0 _ x10 f d).trans (H.h10 0 f d))

/-- The rows after the feed-forward block. -/
theorem r_8_at (r : Fin 256) (d : Fin 1024) : kernelRun0_A.sl.r_8 c ic arg1 harg1 arg2 harg2 arg3 harg3 arg4 harg4 arg6 harg6 arg7 harg7 arg8 harg8 arg9 harg9 arg10 harg10 arg11 harg11 arg19 x0 x1 x2 x3 x5 x6 x7 x8 x9 x10 (ix2 r d) = A.h2 (256 * i + r.val) d.val := by
  unfold kernelRun0_A.sl.r_8 kernelRun0_A.sl.r_6 kernelRun0_A.sl.r_7
  refine (pay15_apply _ _ _ _ _ _ _ r d).trans ?_
  rw [r_5_at (H := H)]
  simp only [cv2_at (H := H)]
  unfold Fwd.h2
  rw [Spec.sum_halves (fun f => A.act (256 * i + r.val) f * A.wd f d.val), ← add_assoc]
  refine congrArg (A.h1 (256 * i + r.val) d.val + (∑ f : Fin 1408, A.act (256 * i + r.val) (0 * 1408 + f.val) * A.wd (0 * 1408 + f.val) d.val) + ·)
    (Finset.sum_congr rfl fun f _ => ?_)
  show Spec.gl (A.blk.cv _ (col 1 f.val)) * A.blk.cv _ (col 1 (1408 + f.val)) * _ = _
  rw [Spec.col_lo _ _ f.isLt, Spec.col_hi _ _ f.isLt]
  exact congrArg _ ((half_read harg11 1 _ x10 f d).trans (H.h10 1 f d))

/-- The mean square of a row after the feed-forward block. -/
theorem r_10_at (r : Fin 256) : kernelRun0_A.sl.r_10 c ic arg1 harg1 arg2 harg2 arg3 harg3 arg4 harg4 arg6 harg6 arg7 harg7 arg8 harg8 arg9 harg9 arg10 harg10 arg11 harg11 arg19 x0 x1 x2 x3 x5 x6 x7 x8 x9 x10 (ix2 r 0)
    = Ideal.div (∑ k : Fin 1024, A.h2 (256 * i + r.val) k.val * A.h2 (256 * i + r.val) k.val) (Ideal.ofBits FTy.f32 1149239296#32) + Ideal.ofBits FTy.f32 897988541#32 := by
  have h8 := fun d => r_8_at (H := H) (c := c) (arg1 := arg1) (harg1 := harg1) (arg2 := arg2) (harg2 := harg2) (arg3 := arg3) (harg3 := harg3) (arg4 := arg4) (harg4 := harg4) (arg6 := arg6) (harg6 := harg6) (arg7 := arg7) (harg7 := harg7) (arg8 := arg8) (harg8 := harg8) (arg9 := arg9) (harg9 := harg9) (arg10 := arg10) (harg10 := harg10) (arg11 := arg11) (harg11 := harg11) (arg19 := arg19) (r := r) (d := d)
  unfold kernelRun0_A.sl.r_8 at h8
  unfold kernelRun0_A.sl.r_10
  refine (pay17_apply _ _ _ _ _ r).trans ?_
  simp only [h8]

/-- The first result of a tile. -/
theorem out14 (r : Fin 256) (d : Fin 1024) : out0_A_14 c ic arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix2 r d) = A.h1 (256 * i + r.val) d.val := by
  unfold out0_A_14 kernelRun0_A
  dsimp only
  rw [View.read_writes_junk_eq_canon, View.canon_cons_unit_zero zero2, r_1_eq]
  exact h1_eq H r d

/-- The second result of a tile. -/
theorem out15 (r : Fin 256) (d : Fin 1024) : out0_A_15 c ic arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix2 r d) = A.h2 (256 * i + r.val) d.val := by
  unfold out0_A_15 kernelRun0_A
  dsimp only
  rw [View.read_writes_junk_eq_canon, View.canon_cons_unit_zero zero2]
  exact r_8_at (H := H) ..

/-- The third result of a tile. -/
theorem out16 (r : Fin 256) (d : Fin 1024) : out0_A_16 c ic arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix2 r d) = A.h3 (256 * i + r.val) d.val := by
  unfold out0_A_16 kernelRun0_A
  dsimp only
  rw [View.read_writes_junk_eq_canon, View.canon_cons_unit_zero zero2]
  refine (pay1_apply _ _ _ _ _ _ r d).trans ?_
  rw [full_read harg5 zero3, full_read harg13 zero2, full_read harg14 zero2]
  simp only [r_8_at (H := H), r_9_at, r_10_at (H := H), H.h4, H.h11, H.h12, H.h13]
  rfl

/-- The saved hidden channels of a tile. -/
theorem out17 (j : Fin 2) (r : Fin 256) (q : Fin 2816) : out0_A_17 c ic arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix3 j r q) = A.blk.up (256 * i + r.val) (col j.val q.val) := by
  have hu : ∀ c, A.blk.upp (256 * i + r.val + 2) c = A.blk.up (256 * i + r.val) c := fun c => by
    unfold Spec.Args.upp
    rw [if_neg (by omega), Nat.add_sub_cancel]
  unfold out0_A_17 kernelRun0_A
  dsimp only
  rw [View.read_writes_junk_eq_canon]
  match j with
  | 0 =>
    refine (View.canon_cons_of_not_mem _ _ fun h => ?_).trans ?_
    · have h1 := (Rect.mem_set_unit (inb := inb_S2x256x2816_S1x256x2816_1_0_0)).mp h 0
      exact absurd (show 1 ≤ 0 from h1.1) (by decide)
    have e : (ix3 0 r q : S2x256x2816.Idx) = (Rect.unit (s := S2x256x2816) ![0, 0, 0] S1x256x2816.size inb_S2x256x2816_S1x256x2816_0_0_0).emb (ix3 0 r q) := by
      funext a
      match a with
      | ⟨0, _⟩ => rfl
      | ⟨1, _⟩ => exact Fin.ext (show r.val = 0 + 1 * r.val by omega)
      | ⟨2, _⟩ => exact Fin.ext (show q.val = 0 + 1 * q.val by omega)
    rw [e]
    refine (View.canon_cons_emb _ _ _ _).trans ((pay7_apply _ r q).trans ((v59_at (H := H) ..).trans (hu _)))
  | 1 =>
    have e : (ix3 1 r q : S2x256x2816.Idx) = (Rect.unit (s := S2x256x2816) ![1, 0, 0] S1x256x2816.size inb_S2x256x2816_S1x256x2816_1_0_0).emb (ix3 0 r q) := by
      funext a
      match a with
      | ⟨0, _⟩ => rfl
      | ⟨1, _⟩ => exact Fin.ext (show r.val = 0 + 1 * r.val by omega)
      | ⟨2, _⟩ => exact Fin.ext (show q.val = 0 + 1 * q.val by omega)
    rw [e]
    refine (View.canon_cons_emb _ _ _ _).trans ((pay14_apply _ r q).trans ((v110_at (H := H) ..).trans (hu _)))

end

end Cert.FwdTile

end
-- ==== Proof.Fwd.Args.lean ====
module

public import proofs.«01_k».proof.Proof.Fwd.Spec

@[expose] public section

noncomputable section

/-! The twelve arrays of the forward program as the arrays of the formulas. -/

namespace Cert.Spec

open Idealize.ShloMosaic Idealize.ShloMosaic.Tactic

/-- The first layer of a stack of matrices. -/
def layer0 {l n m : ℕ} (x : (⟨3, ![l + 1, n, m]⟩ : Shape).Idx → EReal) : (⟨2, ![n, m]⟩ : Shape).Idx → EReal :=
  fun y => x (ix3 0 (y 0) (y 1))

/-- The arrays of the formulas from the twelve arguments. -/
def fwd (x0 x1 : (⟨2, ![16384, 1024]⟩ : Shape).Idx → EReal) (x2 : (⟨3, ![4, 16384, 256]⟩ : Shape).Idx → EReal)
    (x3 : (⟨2, ![1024, 1024]⟩ : Shape).Idx → EReal) (x4 : (⟨1, ![1024]⟩ : Shape).Idx → EReal)
    (x5 : (⟨2, ![1024, 5632]⟩ : Shape).Idx → EReal) (x6 : (⟨2, ![3, 5632]⟩ : Shape).Idx → EReal)
    (x7 : (⟨1, ![5632]⟩ : Shape).Idx → EReal) (x8 : (⟨2, ![2816, 1024]⟩ : Shape).Idx → EReal)
    (x9 : (⟨1, ![1024]⟩ : Shape).Idx → EReal) (x10 : (⟨2, ![1024, 1024]⟩ : Shape).Idx → EReal)
    (x11 : (⟨2, ![256, 1024]⟩ : Shape).Idx → EReal) : Fwd where
  h := rd2 x0
  ym := rd2 x1
  p := rd2 (layer0 (l := 3) x2)
  wo := rd2 x3
  g2 := rd1 x4
  W := rd2 x5
  cw := rd2 x6
  b := rd1 x7
  wd := rd2 x8
  g3 := rd1 x9
  wg := rd2 x10
  wp := rd2 x11

end Cert.Spec

end
-- ==== Proof.Fwd.Host.lean ====
module

public import proofs.«01_k».proof.Proof.Gen.ForwardIdeal.Frame.Runs
public import proofs.«01_k».proof.Proof.Host.Entry
public import proofs.«01_k».proof.Proof.Fwd.Args

@[expose] public section

set_option maxRecDepth 8000

noncomputable section

/-! What the arrays of the forward call hold when it is entered: the host operations before it read off. -/

namespace Cert.FwdHost

open Cert.ForwardIdeal Cert.ForwardIdeal.Gen Idealize.ShloMosaic Idealize.ShloMosaic.TcCoe Idealize.ShloMosaic.Tactic
open Cert.Host (halves_apply col_lt)

variable (m : (ℓ : Loc nD τ sig) → Buf (Elt Ideal) ℓ) (c : Dev nD)

/-- The mixers' output, as the call reads it. -/
theorem V_ym : V m c main_v6 = truncf (F := Ideal) .bf16 (m ((c : Thread nD τ).loc main_arg1) : FVec Ideal S16384x1024 .f32) bitsLt_bf16_f32 := by
  entry_read
  rfl

/-- The weight of the output projection, as the call reads it. -/
theorem V_wo : V m c main_v7 = truncf (F := Ideal) .bf16 (m ((c : Thread nD τ).loc main_arg3) : FVec Ideal S1024x1024 .f32) bitsLt_bf16_f32 := by
  entry_read
  rfl

/-- The gain of the block's norm, as the call reads it. -/
theorem V_g2 : V m c main_v8 = shapeCast S1x1024 (m ((c : Thread nD τ).loc main_arg4) : FVec Ideal S1024 .f32) shapeCasts_S1024_S1x1024 := by
  entry_read
  rfl

/-- The weight of the projection up, as the call reads it. -/
theorem V_W : V m c main_v3 = shapeCast S2x1024x2816 (transpose S2x1024x2x1408 [2, 0, 1, 3] (shapeCast S1024x2x2x1408 (truncf (F := Ideal) .bf16 (m ((c : Thread nD τ).loc main_arg5) : FVec Ideal S1024x5632 .f32) bitsLt_bf16_f32) shapeCasts_S1024x5632_S1024x2x2x1408)
    transposes_S1024x2x2x1408_S2x1024x2x1408_2_0_1_3) shapeCasts_S2x1024x2x1408_S2x1024x2816 := by
  entry_read
  rfl

/-- The taps, as the call reads it. -/
theorem V_cw : V m c main_v11 = shapeCast S2x3x2816 (transpose S2x3x2x1408 [2, 0, 1, 3] (shapeCast S3x2x2x1408 (m ((c : Thread nD τ).loc main_arg6) : FVec Ideal S3x5632 .f32) shapeCasts_S3x5632_S3x2x2x1408)
    transposes_S3x2x2x1408_S2x3x2x1408_2_0_1_3) shapeCasts_S2x3x2x1408_S2x3x2816 := by
  entry_read
  rfl

/-- The bias, as the call reads it. -/
theorem V_b : V m c main_v15 = shapeCast S2x1x2816 (transpose S2x1x2x1408 [2, 0, 1, 3] (shapeCast S1x2x2x1408 (shapeCast S1x5632 (m ((c : Thread nD τ).loc main_arg7) : FVec Ideal S5632 .f32) shapeCasts_S5632_S1x5632) shapeCasts_S1x5632_S1x2x2x1408)
    transposes_S1x2x2x1408_S2x1x2x1408_2_0_1_3) shapeCasts_S2x1x2x1408_S2x1x2816 := by
  entry_read
  rfl

/-- The weight of the projection down, as the call reads it. -/
theorem V_wd : V m c main_v5 = shapeCast S2x1408x1024 (truncf (F := Ideal) .bf16 (m ((c : Thread nD τ).loc main_arg8) : FVec Ideal S2816x1024 .f32) bitsLt_bf16_f32) shapeCasts_S2816x1024_S2x1408x1024 := by
  entry_read
  rfl

/-- The gain of the gate's norm, as the call reads it. -/
theorem V_g3 : V m c main_v16 = shapeCast S1x1024 (m ((c : Thread nD τ).loc main_arg9) : FVec Ideal S1024 .f32) shapeCasts_S1024_S1x1024 := by
  entry_read
  rfl

/-- The weight of the gate, as the call reads it. -/
theorem V_wg : V m c main_v17 = truncf (F := Ideal) .bf16 (m ((c : Thread nD τ).loc main_arg10) : FVec Ideal S1024x1024 .f32) bitsLt_bf16_f32 := by
  entry_read
  rfl

/-- The weight of the embedding's projection, as the call reads it. -/
theorem V_wp : V m c main_v18 = truncf (F := Ideal) .bf16 (m ((c : Thread nD τ).loc main_arg11) : FVec Ideal S256x1024 .f32) bitsLt_bf16_f32 := by
  entry_read
  rfl

/-- The arrays of the formulas from the arrays the program is launched on. -/
def A : Spec.Fwd := Spec.fwd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- An entry of the layer's input. -/
theorem h_at (s : Fin 16384) (d : Fin 1024) : V m c main_arg0 (ix2 s d) = (A m c).h s.val d.val :=
  (congrFun (V_main_arg0 m c) _).trans (Spec.rd2_val _ s d).symm

/-- An entry of the layer's embedding. -/
theorem p_at (s : Fin 16384) (k : Fin 256) : V m c main_arg2 (ix3 0 s k) = (A m c).p s.val k.val :=
  (congrFun (V_main_arg2 m c) _).trans (Spec.rd2_val (Spec.layer0 (l := 3) _) s k).symm

/-- An entry of the mixers' output. -/
theorem ym_at (s : Fin 16384) (d : Fin 1024) : V m c main_v6 (ix2 s d) = (A m c).ym s.val d.val :=
  (congrFun (V_ym m c) _).trans (Spec.rd2_val _ s d).symm

/-- An entry of the weight of the output projection. -/
theorem wo_at (s : Fin 1024) (d : Fin 1024) : V m c main_v7 (ix2 s d) = (A m c).wo s.val d.val :=
  (congrFun (V_wo m c) _).trans (Spec.rd2_val _ s d).symm

/-- An entry of the weight of the gate. -/
theorem wg_at (s : Fin 1024) (d : Fin 1024) : V m c main_v17 (ix2 s d) = (A m c).wg s.val d.val :=
  (congrFun (V_wg m c) _).trans (Spec.rd2_val _ s d).symm

/-- An entry of the weight of the embedding's projection. -/
theorem wp_at (s : Fin 256) (d : Fin 1024) : V m c main_v18 (ix2 s d) = (A m c).wp s.val d.val :=
  (congrFun (V_wp m c) _).trans (Spec.rd2_val _ s d).symm

/-- An entry of the gain of the block's norm. -/
theorem g2_at (d : Fin 1024) : V m c main_v8 (ix2 0 d) = (A m c).g2 d.val := by
  refine (congrFun (V_g2 m c) _).trans ((shapeCast_apply _ _ _ (ix1 d) ?_).trans (Spec.rd1_val _ d).symm)
  rw [Shape.rowMajor_val_two, Shape.rowMajor_val_one]
  exact (Nat.zero_add _).symm

/-- An entry of the gain of the gate's norm. -/
theorem g3_at (d : Fin 1024) : V m c main_v16 (ix2 0 d) = (A m c).g3 d.val := by
  refine (congrFun (V_g3 m c) _).trans ((shapeCast_apply _ _ _ (ix1 d) ?_).trans (Spec.rd1_val _ d).symm)
  rw [Shape.rowMajor_val_two, Shape.rowMajor_val_one]
  exact (Nat.zero_add _).symm

/-- An entry of the weight of the projection up. -/
theorem W_at (j : Fin 2) (d : Fin 1024) (q : Fin 2816) : V m c main_v3 (ix3 j d q) = (A m c).W d.val (Spec.Args.col j.val q.val) :=
  (congrFun (V_W m c) _).trans ((halves_apply _ _ _ _ j d q (col_lt j q)).trans (Spec.rd2_val _ d ⟨_, col_lt j q⟩).symm)

/-- An entry of the taps. -/
theorem cw_at (j : Fin 2) (k : Fin 3) (q : Fin 2816) : V m c main_v11 (ix3 j k q) = (A m c).cw k.val (Spec.Args.col j.val q.val) :=
  (congrFun (V_cw m c) _).trans ((halves_apply _ _ _ _ j k q (col_lt j q)).trans (Spec.rd2_val _ k ⟨_, col_lt j q⟩).symm)

/-- An entry of the bias. -/
theorem b_at (j : Fin 2) (q : Fin 2816) : V m c main_v15 (ix3 j 0 q) = (A m c).b (Spec.Args.col j.val q.val) := by
  refine (congrFun (V_b m c) _).trans ((halves_apply _ _ _ _ j 0 q (col_lt j q)).trans ?_)
  refine (shapeCast_apply _ _ _ (ix1 (⟨_, col_lt j q⟩ : Fin 5632)) ?_).trans (Spec.rd1_val _ ⟨_, col_lt j q⟩).symm
  rw [Shape.rowMajor_val_two, Shape.rowMajor_val_one]
  show Spec.Args.col j.val q.val = 0 * 5632 + Spec.Args.col j.val q.val
  omega

/-- An entry of the weight of the projection down. -/
theorem wd_at (j : Fin 2) (f : Fin 1408) (d : Fin 1024) : V m c main_v5 (ix3 j f d) = (A m c).wd (j.val * 1408 + f.val) d.val := by
  have hj := j.isLt
  have hf := f.isLt
  refine (congrFun (V_wd m c) _).trans ((shapeCast_apply _ _ _ (ix2 (⟨j.val * 1408 + f.val, by omega⟩ : Fin 2816) d) ?_).trans (Spec.rd2_val _ (⟨j.val * 1408 + f.val, by omega⟩ : Fin 2816) d).symm)
  rw [Shape.rowMajor_val_two, Shape.rowMajor_val_three]
  rfl

end Cert.FwdHost

end
-- ==== Proof.Fwd.Blocks.lean ====
module

public import proofs.«01_k».proof.Proof.Fwd.Tile
public import proofs.«01_k».proof.Proof.Fwd.Host
public import Idealize.ShloMosaic.Lib.Pipeline.ValueKit.Point

@[expose] public section

set_option maxRecDepth 8000

noncomputable section

/-! The blocks a grid point of the forward call is given, as entries of the arrays of the call. -/

namespace Cert.FwdTile

open Cert.ForwardIdeal Cert.ForwardIdeal.Gen Idealize.ShloMosaic Idealize.ShloMosaic.TcCoe Idealize.ShloMosaic.Tactic
open Cert.Spec.Args (col)

/-- Which block of its array holds the input's rows. -/
theorem idx0 : ∀ t : Fin cfg0.N, (cfg0.win 0).index t 0 = t.val ∧ (cfg0.win 0).index t 1 = 0 := by decide +kernel
/-- Which block of its array holds the input's rows before the tile. -/
theorem idx1 : ∀ t : Fin cfg0.N, (cfg0.win 1).index t 0 = t.val * 16 - 1 ∧ (cfg0.win 1).index t 1 = 0 := by decide +kernel
/-- Which block of its array holds the rows of the mixers' output. -/
theorem idx2 : ∀ t : Fin cfg0.N, (cfg0.win 2).index t 0 = t.val ∧ (cfg0.win 2).index t 1 = 0 := by decide +kernel
/-- Which block of its array holds the rows of the mixers' output before the tile. -/
theorem idx3 : ∀ t : Fin cfg0.N, (cfg0.win 3).index t 0 = t.val * 16 - 1 ∧ (cfg0.win 3).index t 1 = 0 := by decide +kernel
/-- Which block of its array holds the embedding's rows. -/
theorem idx4 : ∀ t : Fin cfg0.N, (cfg0.win 4).index t 0 = 0 ∧ (cfg0.win 4).index t 1 = t.val ∧ (cfg0.win 4).index t 2 = 0 := by decide +kernel
/-- Which block of its array holds the weight of the output projection. -/
theorem idx5 : ∀ t : Fin cfg0.N, (cfg0.win 5).index t 0 = 0 ∧ (cfg0.win 5).index t 1 = 0 := by decide +kernel
/-- Which block of its array holds the gain of the block's norm. -/
theorem idx6 : ∀ t : Fin cfg0.N, (cfg0.win 6).index t 0 = 0 ∧ (cfg0.win 6).index t 1 = 0 := by decide +kernel
/-- Which block of its array holds the weight of the projection up. -/
theorem idx7 : ∀ t : Fin cfg0.N, (cfg0.win 7).index t 0 = 0 ∧ (cfg0.win 7).index t 1 = 0 ∧ (cfg0.win 7).index t 2 = 0 := by decide +kernel
/-- Which block of its array holds the taps. -/
theorem idx8 : ∀ t : Fin cfg0.N, (cfg0.win 8).index t 0 = 0 ∧ (cfg0.win 8).index t 1 = 0 ∧ (cfg0.win 8).index t 2 = 0 := by decide +kernel
/-- Which block of its array holds the bias. -/
theorem idx9 : ∀ t : Fin cfg0.N, (cfg0.win 9).index t 0 = 0 ∧ (cfg0.win 9).index t 1 = 0 ∧ (cfg0.win 9).index t 2 = 0 := by decide +kernel
/-- Which block of its array holds the weight of the projection down. -/
theorem idx10 : ∀ t : Fin cfg0.N, (cfg0.win 10).index t 0 = 0 ∧ (cfg0.win 10).index t 1 = 0 ∧ (cfg0.win 10).index t 2 = 0 := by decide +kernel
/-- Which block of its array holds the gain of the gate's norm. -/
theorem idx11 : ∀ t : Fin cfg0.N, (cfg0.win 11).index t 0 = 0 ∧ (cfg0.win 11).index t 1 = 0 := by decide +kernel
/-- Which block of its array holds the weight of the gate. -/
theorem idx12 : ∀ t : Fin cfg0.N, (cfg0.win 12).index t 0 = 0 ∧ (cfg0.win 12).index t 1 = 0 := by decide +kernel
/-- Which block of its array holds the weight of the embedding's projection. -/
theorem idx13 : ∀ t : Fin cfg0.N, (cfg0.win 13).index t 0 = 0 ∧ (cfg0.win 13).index t 1 = 0 := by decide +kernel
/-- The tile of a grid point. -/
theorem crd : ∀ t : Fin cfg0.N, (grid0.coords t 0).val = t.val := by decide +kernel

variable (t : Fin cfg0.N)

/-- There are 64 grid points. -/
theorem tlt : t.val < 64 := lt_of_lt_of_eq t.isLt N_0

/-- Where in its array the block of the input's rows lies. -/
theorem emb0 (r : Fin 256) (d : Fin 1024) : ((cfg0.win 0).blk t).view.emb (ix2 r d) = ix2 (⟨256 * t.val + r.val, by have := tlt t; omega⟩ : Fin 16384) d := by
  blk_ext [idx0 t]

/-- Where in its array the block of the input's rows before the tile lies. -/
theorem emb1 (h : 0 < t.val) (r : Fin 16) (d : Fin 1024) : ((cfg0.win 1).blk t).view.emb (ix2 r d) = ix2 (⟨256 * t.val - 16 + r.val, by have := tlt t; omega⟩ : Fin 16384) d := by
  blk_ext [idx1 t]

/-- Where in its array the block of the rows of the mixers' output lies. -/
theorem emb2 (r : Fin 256) (d : Fin 1024) : ((cfg0.win 2).blk t).view.emb (ix2 r d) = ix2 (⟨256 * t.val + r.val, by have := tlt t; omega⟩ : Fin 16384) d := by
  blk_ext [idx2 t]

/-- Where in its array the block of the rows of the mixers' output before the tile lies. -/
theorem emb3 (h : 0 < t.val) (r : Fin 16) (d : Fin 1024) : ((cfg0.win 3).blk t).view.emb (ix2 r d) = ix2 (⟨256 * t.val - 16 + r.val, by have := tlt t; omega⟩ : Fin 16384) d := by
  blk_ext [idx3 t]

/-- Where in its array the block of the embedding's rows lies. -/
theorem emb4 (r k : Fin 256) : ((cfg0.win 4).blk t).view.emb (ix3 0 r k) = ix3 (0 : Fin 4) (⟨256 * t.val + r.val, by have := tlt t; omega⟩ : Fin 16384) k := by
  blk_ext [idx4 t]

/-- Where in its array the block of the weight of the output projection lies. -/
theorem emb5 (k d : Fin 1024) : ((cfg0.win 5).blk t).view.emb (ix2 k d) = ix2 k d := by
  blk_ext [idx5 t]

/-- Where in its array the block of the gain of the block's norm lies. -/
theorem emb6 (d : Fin 1024) : ((cfg0.win 6).blk t).view.emb (ix2 0 d) = ix2 0 d := by
  blk_ext [idx6 t]

/-- Where in its array the block of the weight of the projection up lies. -/
theorem emb7 (j : Fin 2) (d : Fin 1024) (q : Fin 2816) : ((cfg0.win 7).blk t).view.emb (ix3 j d q) = ix3 j d q := by
  blk_ext [idx7 t]

/-- Where in its array the block of the taps lies. -/
theorem emb8 (j : Fin 2) (k : Fin 3) (q : Fin 2816) : ((cfg0.win 8).blk t).view.emb (ix3 j k q) = ix3 j k q := by
  blk_ext [idx8 t]

/-- Where in its array the block of the bias lies. -/
theorem emb9 (j : Fin 2) (q : Fin 2816) : ((cfg0.win 9).blk t).view.emb (ix3 j 0 q) = ix3 j 0 q := by
  blk_ext [idx9 t]

/-- Where in its array the block of the weight of the projection down lies. -/
theorem emb10 (j : Fin 2) (f : Fin 1408) (d : Fin 1024) : ((cfg0.win 10).blk t).view.emb (ix3 j f d) = ix3 j f d := by
  blk_ext [idx10 t]

/-- Where in its array the block of the gain of the gate's norm lies. -/
theorem emb11 (d : Fin 1024) : ((cfg0.win 11).blk t).view.emb (ix2 0 d) = ix2 0 d := by
  blk_ext [idx11 t]

/-- Where in its array the block of the weight of the gate lies. -/
theorem emb12 (k d : Fin 1024) : ((cfg0.win 12).blk t).view.emb (ix2 k d) = ix2 k d := by
  blk_ext [idx12 t]

/-- Where in its array the block of the weight of the embedding's projection lies. -/
theorem emb13 (k : Fin 256) (d : Fin 1024) : ((cfg0.win 13).blk t).view.emb (ix2 k d) = ix2 k d := by
  blk_ext [idx13 t]

variable (m : (ℓ : Loc nD τ sig) → Buf (Elt Ideal) ℓ) (c : Dev nD)

/-- The block of the input's rows, entry by entry. -/
theorem blk0 (r : Fin 256) (d : Fin 1024) : (iblk m c 0 t : Vec Ideal S256x1024 .f32) (ix2 r d) = (FwdHost.A m c).h (256 * t.val + r.val) d.val :=
  (congrArg (V m c main_arg0) (emb0 t r d)).trans (FwdHost.h_at m c _ d)

/-- The block of the input's rows before the tile, entry by entry. -/
theorem blk1 (h : 0 < t.val) (r : Fin 16) (d : Fin 1024) : (iblk m c 1 t : Vec Ideal S16x1024 .f32) (ix2 r d) = (FwdHost.A m c).h (256 * t.val - 16 + r.val) d.val :=
  (congrArg (V m c main_arg0) (emb1 t h r d)).trans (FwdHost.h_at m c _ d)

/-- The block of the rows of the mixers' output, entry by entry. -/
theorem blk2 (r : Fin 256) (d : Fin 1024) : (iblk m c 2 t : Vec Ideal S256x1024 .bf16) (ix2 r d) = (FwdHost.A m c).ym (256 * t.val + r.val) d.val :=
  (congrArg (V m c main_v6) (emb2 t r d)).trans (FwdHost.ym_at m c _ d)

/-- The block of the rows of the mixers' output before the tile, entry by entry. -/
theorem blk3 (h : 0 < t.val) (r : Fin 16) (d : Fin 1024) : (iblk m c 3 t : Vec Ideal S16x1024 .bf16) (ix2 r d) = (FwdHost.A m c).ym (256 * t.val - 16 + r.val) d.val :=
  (congrArg (V m c main_v6) (emb3 t h r d)).trans (FwdHost.ym_at m c _ d)

/-- The block of the embedding's rows, entry by entry. -/
theorem blk4 (r k : Fin 256) : (iblk m c 4 t : Vec Ideal S1x256x256 .f32) (ix3 0 r k) = (FwdHost.A m c).p (256 * t.val + r.val) k.val :=
  (congrArg (V m c main_arg2) (emb4 t r k)).trans (FwdHost.p_at m c _ k)

/-- The block of the weight of the output projection, entry by entry. -/
theorem blk5 (k d : Fin 1024) : (iblk m c 5 t : Vec Ideal S1024x1024 .bf16) (ix2 k d) = (FwdHost.A m c).wo k.val d.val :=
  (congrArg (V m c main_v7) (emb5 t k d)).trans (FwdHost.wo_at m c k d)

/-- The block of the gain of the block's norm, entry by entry. -/
theorem blk6 (d : Fin 1024) : (iblk m c 6 t : Vec Ideal S1x1024 .f32) (ix2 0 d) = (FwdHost.A m c).g2 d.val :=
  (congrArg (V m c main_v8) (emb6 t d)).trans (FwdHost.g2_at m c d)

/-- The block of the weight of the projection up, entry by entry. -/
theorem blk7 (j : Fin 2) (d : Fin 1024) (q : Fin 2816) : (iblk m c 7 t : Vec Ideal S2x1024x2816 .bf16) (ix3 j d q) = (FwdHost.A m c).W d.val (col j.val q.val) :=
  (congrArg (V m c main_v3) (emb7 t j d q)).trans (FwdHost.W_at m c j d q)

/-- The block of the taps, entry by entry. -/
theorem blk8 (j : Fin 2) (k : Fin 3) (q : Fin 2816) : (iblk m c 8 t : Vec Ideal S2x3x2816 .f32) (ix3 j k q) = (FwdHost.A m c).cw k.val (col j.val q.val) :=
  (congrArg (V m c main_v11) (emb8 t j k q)).trans (FwdHost.cw_at m c j k q)

/-- The block of the bias, entry by entry. -/
theorem blk9 (j : Fin 2) (q : Fin 2816) : (iblk m c 9 t : Vec Ideal S2x1x2816 .f32) (ix3 j 0 q) = (FwdHost.A m c).b (col j.val q.val) :=
  (congrArg (V m c main_v15) (emb9 t j q)).trans (FwdHost.b_at m c j q)

/-- The block of the weight of the projection down, entry by entry. -/
theorem blk10 (j : Fin 2) (f : Fin 1408) (d : Fin 1024) : (iblk m c 10 t : Vec Ideal S2x1408x1024 .bf16) (ix3 j f d) = (FwdHost.A m c).wd (j.val * 1408 + f.val) d.val :=
  (congrArg (V m c main_v5) (emb10 t j f d)).trans (FwdHost.wd_at m c j f d)

/-- The block of the gain of the gate's norm, entry by entry. -/
theorem blk11 (d : Fin 1024) : (iblk m c 11 t : Vec Ideal S1x1024 .f32) (ix2 0 d) = (FwdHost.A m c).g3 d.val :=
  (congrArg (V m c main_v16) (emb11 t d)).trans (FwdHost.g3_at m c d)

/-- The block of the weight of the gate, entry by entry. -/
theorem blk12 (k d : Fin 1024) : (iblk m c 12 t : Vec Ideal S1024x1024 .bf16) (ix2 k d) = (FwdHost.A m c).wg k.val d.val :=
  (congrArg (V m c main_v17) (emb12 t k d)).trans (FwdHost.wg_at m c k d)

/-- The block of the weight of the embedding's projection, entry by entry. -/
theorem blk13 (k : Fin 256) (d : Fin 1024) : (iblk m c 13 t : Vec Ideal S256x1024 .bf16) (ix2 k d) = (FwdHost.A m c).wp k.val d.val :=
  (congrArg (V m c main_v18) (emb13 t k d)).trans (FwdHost.wp_at m c k d)

/-- The blocks of point `t` are those of tile `t`. -/
theorem blocks : Blocks (FwdHost.A m c) t.val (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) :=
  Blocks.mk (tlt t) (crd t) (blk0 t m c) (blk1 t m c) (blk2 t m c) (blk3 t m c) (blk4 t m c) (blk5 t m c) (blk6 t m c) (blk7 t m c) (blk8 t m c) (blk9 t m c) (blk10 t m c) (blk11 t m c) (blk12 t m c) (blk13 t m c)

end Cert.FwdTile

end
-- ==== Proof.Fwd.Arrays.lean ====
module

public import proofs.«01_k».proof.Proof.Fwd.Blocks
public import proofs.«01_k».proof.Proof.Gen.ForwardIdeal.Value

@[expose] public section

set_option maxRecDepth 16384

noncomputable section

/-! The four results of the forward call as whole arrays. -/

namespace Cert.FwdTile

open Cert.ForwardIdeal Cert.ForwardIdeal.Gen Idealize.ShloMosaic Idealize.ShloMosaic.TcCoe Idealize.ShloMosaic.Tactic
open Cert.Spec.Args (col)

variable (m : (ℓ : Loc nD τ sig) → Buf (Elt Ideal) ℓ) (c : Dev nD)

/-- The rows after the output projection. -/
def h1Arr : FVec Ideal S16384x1024 .f32 := fun y => (FwdHost.A m c).h1 (y 0).val (y 1).val

/-- The rows after the feed-forward block. -/
def h2Arr : FVec Ideal S16384x1024 .f32 := fun y => (FwdHost.A m c).h2 (y 0).val (y 1).val

/-- The rows after the embedding gate. -/
def h3Arr : FVec Ideal S16384x1024 .f32 := fun y => (FwdHost.A m c).h3 (y 0).val (y 1).val

/-- The hidden channels before the convolution: a half, a row, a column of the half. -/
def upArr : FVec Ideal S2x16384x2816 .bf16 := fun y => (FwdHost.A m c).blk.up (y 1).val (col (y 0).val (y 2).val)

/-- Which block of its array holds a tile of the result: the rows after the output projection. -/
theorem idx14 : ∀ t : Fin cfg0.N, (cfg0.win 14).index t = ![t.val, 0] := by decide +kernel

/-- Which block of its array holds a tile of the result: the rows after the feed-forward block. -/
theorem idx15 : ∀ t : Fin cfg0.N, (cfg0.win 15).index t = ![t.val, 0] := by decide +kernel

/-- Which block of its array holds a tile of the result: the rows after the embedding gate. -/
theorem idx16 : ∀ t : Fin cfg0.N, (cfg0.win 16).index t = ![t.val, 0] := by decide +kernel

/-- Which block of its array holds a tile of the hidden channels. -/
theorem idx17 : ∀ t : Fin cfg0.N, (cfg0.win 17).index t = ![0, t.val, 0] := by decide +kernel

/-! Where an entry of a block lies in its array. -/

/-- Along the rows. -/
theorem emb14_0 (t : Fin cfg0.N) (y) : ((((cfg0.win 14).blk t).view.emb y) 0 : ℕ) = 256 * t.val + (y 0).val := by
  blk_simp [idx14 t]
  exact congrArg (· + (y 0).val) (Nat.mul_comm _ _)

/-- Along the columns. -/
theorem emb14_1 (t : Fin cfg0.N) (y) : ((((cfg0.win 14).blk t).view.emb y) 1 : ℕ) = (y 1).val := by
  blk_simp [idx14 t]

/-- Along the rows. -/
theorem emb15_0 (t : Fin cfg0.N) (y) : ((((cfg0.win 15).blk t).view.emb y) 0 : ℕ) = 256 * t.val + (y 0).val := by
  blk_simp [idx15 t]
  exact congrArg (· + (y 0).val) (Nat.mul_comm _ _)

/-- Along the columns. -/
theorem emb15_1 (t : Fin cfg0.N) (y) : ((((cfg0.win 15).blk t).view.emb y) 1 : ℕ) = (y 1).val := by
  blk_simp [idx15 t]

/-- Along the rows. -/
theorem emb16_0 (t : Fin cfg0.N) (y) : ((((cfg0.win 16).blk t).view.emb y) 0 : ℕ) = 256 * t.val + (y 0).val := by
  blk_simp [idx16 t]
  exact congrArg (· + (y 0).val) (Nat.mul_comm _ _)

/-- Along the columns. -/
theorem emb16_1 (t : Fin cfg0.N) (y) : ((((cfg0.win 16).blk t).view.emb y) 1 : ℕ) = (y 1).val := by
  blk_simp [idx16 t]

/-- Along the halves. -/
theorem emb17_0 (t : Fin cfg0.N) (y) : ((((cfg0.win 17).blk t).view.emb y) 0 : ℕ) = (y 0).val := by
  blk_simp [idx17 t]

/-- Along the rows. -/
theorem emb17_1 (t : Fin cfg0.N) (y) : ((((cfg0.win 17).blk t).view.emb y) 1 : ℕ) = 256 * t.val + (y 1).val := by
  blk_simp [idx17 t]
  exact congrArg (· + (y 1).val) (Nat.mul_comm _ _)

/-- Along the columns. -/
theorem emb17_2 (t : Fin cfg0.N) (y) : ((((cfg0.win 17).blk t).view.emb y) 2 : ℕ) = (y 2).val := by
  blk_simp [idx17 t]

/-- The rows after the output projection, tile by tile. -/
theorem h1_at (t : Fin cfg0.N) (r : Fin 256) (d : Fin 1024) : (outsAt0 m c t).1 (ix2 r d) = (FwdHost.A m c).h1 (256 * t.val + r.val) d.val := by
  unfold outsAt0
  dsimp only
  rw [out14 (A := FwdHost.A m c) (i := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (H := blocks t m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) r d]

/-- The rows after the feed-forward block, tile by tile. -/
theorem h2_at (t : Fin cfg0.N) (r : Fin 256) (d : Fin 1024) : (outsAt0 m c t).2.1 (ix2 r d) = (FwdHost.A m c).h2 (256 * t.val + r.val) d.val := by
  unfold outsAt0
  dsimp only
  rw [out15 (A := FwdHost.A m c) (i := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (H := blocks t m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) r d]

/-- The rows after the embedding gate, tile by tile. -/
theorem h3_at (t : Fin cfg0.N) (r : Fin 256) (d : Fin 1024) : (outsAt0 m c t).2.2.1 (ix2 r d) = (FwdHost.A m c).h3 (256 * t.val + r.val) d.val := by
  unfold outsAt0
  dsimp only
  rw [out16 (A := FwdHost.A m c) (i := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (H := blocks t m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) r d]

/-- The hidden channels, tile by tile. -/
theorem up_at (t : Fin cfg0.N) (j : Fin 2) (r : Fin 256) (q : Fin 2816) :
    (outsAt0 m c t).2.2.2 (ix3 j r q) = (FwdHost.A m c).blk.up (256 * t.val + r.val) (col j.val q.val) := by
  unfold outsAt0
  dsimp only
  rw [out17 (A := FwdHost.A m c) (i := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (H := blocks t m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) j r q]

/-- The rows after the output projection are what the tiles wrote back. -/
theorem arr14 : (dats m 0 c).arrAt 14 cfg0.N = h1Arr m c := by
  refine (dats m 0 c).arrAt_eq_of_covers 14 _ (by decide +kernel) fun t hf y => ?_
  blk_simp
  rw [after0_14]
  refine (congrArg (outsAt0 m c t).1 (eq_ix2 y)).trans ?_
  have e0 := emb14_0 t y
  have e1 := emb14_1 t y
  refine (h1_at m c t (y 0) (y 1)).trans ?_
  unfold h1Arr
  rw [e0, e1]

/-- The rows after the feed-forward block are what the tiles wrote back. -/
theorem arr15 : (dats m 0 c).arrAt 15 cfg0.N = h2Arr m c := by
  refine (dats m 0 c).arrAt_eq_of_covers 15 _ (by decide +kernel) fun t hf y => ?_
  blk_simp
  rw [after0_15]
  refine (congrArg (outsAt0 m c t).2.1 (eq_ix2 y)).trans ?_
  have e0 := emb15_0 t y
  have e1 := emb15_1 t y
  refine (h2_at m c t (y 0) (y 1)).trans ?_
  unfold h2Arr
  rw [e0, e1]

/-- The rows after the embedding gate are what the tiles wrote back. -/
theorem arr16 : (dats m 0 c).arrAt 16 cfg0.N = h3Arr m c := by
  refine (dats m 0 c).arrAt_eq_of_covers 16 _ (by decide +kernel) fun t hf y => ?_
  blk_simp
  rw [after0_16]
  refine (congrArg (outsAt0 m c t).2.2.1 (eq_ix2 y)).trans ?_
  have e0 := emb16_0 t y
  have e1 := emb16_1 t y
  refine (h3_at m c t (y 0) (y 1)).trans ?_
  unfold h3Arr
  rw [e0, e1]

/-- The hidden channels are what the tiles wrote back. -/
theorem arr17 : (dats m 0 c).arrAt 17 cfg0.N = upArr m c := by
  refine (dats m 0 c).arrAt_eq_of_covers 17 _ (by decide +kernel) fun t hf y => ?_
  blk_simp
  rw [after0_17]
  refine (congrArg (outsAt0 m c t).2.2.2 (eq_ix3 y)).trans ?_
  have e0 := emb17_0 t y
  have e1 := emb17_1 t y
  have e2 := emb17_2 t y
  refine (up_at m c t (y 0) (y 1) (y 2)).trans ?_
  unfold upArr
  rw [e0, e1, e2]

end Cert.FwdTile

end
-- ==== Proof.Fwd.Ref.lean ====
module

public import proofs.«01_k».proof.Proof.Gen.ForwardReferenceIdeal.Read
public import proofs.«01_k».proof.Proof.Host.Entry
public import proofs.«01_k».proof.Proof.Fwd.Args

@[expose] public section

noncomputable section

/-! The reference of the forward call, read at an index, as the formulas. -/

namespace Cert.FwdRef

open Cert.ForwardReferenceIdeal Cert.ForwardReferenceIdeal.Read Idealize.ShloMosaic Idealize.ShloMosaic.Tactic
open Cert.Spec (fwd layer0 rd1 rd2 rd1_lt rd2_lt rd1_val rd2_val)

variable (x0 x1 : (⟨S16384x1024, .f32⟩ : BufTy).Contents (Elt Ideal)) (x2 : (⟨S4x16384x256, .f32⟩ : BufTy).Contents (Elt Ideal))
  (x3 : (⟨S1024x1024, .f32⟩ : BufTy).Contents (Elt Ideal)) (x4 : (⟨S1024, .f32⟩ : BufTy).Contents (Elt Ideal))
  (x5 : (⟨S1024x5632, .f32⟩ : BufTy).Contents (Elt Ideal)) (x6 : (⟨S3x5632, .f32⟩ : BufTy).Contents (Elt Ideal))
  (x7 : (⟨S5632, .f32⟩ : BufTy).Contents (Elt Ideal)) (x8 : (⟨S2816x1024, .f32⟩ : BufTy).Contents (Elt Ideal))
  (x9 : (⟨S1024, .f32⟩ : BufTy).Contents (Elt Ideal)) (x10 : (⟨S1024x1024, .f32⟩ : BufTy).Contents (Elt Ideal))
  (x11 : (⟨S256x1024, .f32⟩ : BufTy).Contents (Elt Ideal))

/-- The rows after the output projection. -/
theorem h1_eq (s : Fin 16384) (d : Fin 1024) :
    val_main_v1 (F := Ideal) x0 x1 x3 (ix2 s d) = (fwd x0 x1 x2 x3 x4 x5 x6 x7 x8 x9 x10 x11).h1 s.val d.val := by
  pointwise [val_main_v1, val_main_v0]
  simp only [Spec.Fwd.h1, fwd, rd2_val]

/-- The rows normalised before the block. -/
theorem hn_eq (s : Fin 16384) (d : Fin 1024) :
    val_main_v14 (F := Ideal) x0 x1 x3 x4 (ix2 s d) = (fwd x0 x1 x2 x3 x4 x5 x6 x7 x8 x9 x10 x11).blk.hn s.val d.val := by
  pointwise [val_main_v14, val_main_v13, val_main_v12, val_main_v11, val_main_v10, val_main_v9, val_main_v8, val_main_v7, val_main_v6, val_main_v5, val_main_v4, val_main_v3, val_main_v2, val_main_cst, val_main_cst_0, val_main_cst_1]
  simp only [h1_eq x0 x1 x2 x3 x4 x5 x6 x7 x8 x9 x10 x11]
  simp only [Spec.Args.hn, Spec.Fwd.blk]
  refine congrArg₂ (fun a b : EReal => a * b) rfl ?_
  exact (rd1_val x4 d).symm

/-- The projection up. -/
theorem up_eq (s : Fin 16384) (c : Fin 5632) :
    val_main_v15 (F := Ideal) x0 x1 x3 x4 x5 (ix2 s c) = (fwd x0 x1 x2 x3 x4 x5 x6 x7 x8 x9 x10 x11).blk.up s.val c.val := by
  pointwise [val_main_v15]
  unfold Spec.Args.up
  refine Finset.sum_congr rfl fun d _ => ?_
  rw [hn_eq x0 x1 x2 x3 x4 x5 x6 x7 x8 x9 x10 x11]
  exact congrArg₂ (fun a b : EReal => a * b) rfl (rd2_val x5 d c).symm

/-- The projection up behind two rows of zeros. -/
theorem upp_eq (s : Fin 16386) (c : Fin 5632) :
    val_main_v17 (F := Ideal) x0 x1 x3 x4 x5 (ix2 s c) = (fwd x0 x1 x2 x3 x4 x5 x6 x7 x8 x9 x10 x11).blk.upp s.val c.val := by
  pointwise [val_main_v17, val_main_v16, val_main_cst_2]
  unfold Spec.Args.upp
  by_cases h : s.val < 2
  · rw [dif_pos h, if_pos h]
  · rw [dif_neg h, if_neg h, up_eq x0 x1 x2 x3 x4 x5 x6 x7 x8 x9 x10 x11]

/-- The convolution. -/
theorem cv_eq (s : Fin 16384) (c : Fin 5632) :
    val_main_v40 (F := Ideal) x0 x1 x3 x4 x5 x6 x7 (ix2 s c) = (fwd x0 x1 x2 x3 x4 x5 x6 x7 x8 x9 x10 x11).blk.cv s.val c.val := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18]
  rw [upp_eq x0 x1 x2 x3 x4 x5 x6 x7 x8 x9 x10 x11, upp_eq x0 x1 x2 x3 x4 x5 x6 x7 x8 x9 x10 x11, upp_eq x0 x1 x2 x3 x4 x5 x6 x7 x8 x9 x10 x11]
  unfold Spec.Args.cv
  have e5 : (fwd x0 x1 x2 x3 x4 x5 x6 x7 x8 x9 x10 x11).blk.b c.val = x7 (ix1 c) := rd1_val x7 c
  have e0 : (fwd x0 x1 x2 x3 x4 x5 x6 x7 x8 x9 x10 x11).blk.cw 0 c.val = x6 (ix2 0 c) := rd2_val x6 0 c
  have e1 : (fwd x0 x1 x2 x3 x4 x5 x6 x7 x8 x9 x10 x11).blk.cw 1 c.val = x6 (ix2 1 c) := rd2_val x6 1 c
  have e2 : (fwd x0 x1 x2 x3 x4 x5 x6 x7 x8 x9 x10 x11).blk.cw 2 c.val = x6 (ix2 2 c) := rd2_val x6 2 c
  rw [e5, e0, e1, e2]
  simp only [Nat.add_comm]

/-- The activation. -/
theorem act_eq (s : Fin 16384) (f : Fin 2816) :
    val_main_v56 (F := Ideal) x0 x1 x3 x4 x5 x6 x7 (ix2 s f) = (fwd x0 x1 x2 x3 x4 x5 x6 x7 x8 x9 x10 x11).act s.val f.val := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_cst_3, val_main_cst_4, val_main_cst_5, val_main_cst_6]
  simp only [cv_eq x0 x1 x2 x3 x4 x5 x6 x7 x8 x9 x10 x11]
  unfold Spec.Fwd.act
  exact congrArg (fun z : EReal => z * (_ : EReal)) (Spec.gl_spell_all _)

/-- The rows after the feed-forward block. -/
theorem h2_eq (s : Fin 16384) (d : Fin 1024) :
    val_main_v58 (F := Ideal) x0 x1 x3 x4 x5 x6 x7 x8 (ix2 s d) = (fwd x0 x1 x2 x3 x4 x5 x6 x7 x8 x9 x10 x11).h2 s.val d.val := by
  pointwise [val_main_v58, val_main_v57]
  rw [h1_eq x0 x1 x2 x3 x4 x5 x6 x7 x8 x9 x10 x11]
  simp only [act_eq x0 x1 x2 x3 x4 x5 x6 x7 x8 x9 x10 x11]
  unfold Spec.Fwd.h2
  refine congrArg₂ (fun a b : EReal => a + b) rfl (Finset.sum_congr rfl fun f _ => ?_)
  exact congrArg₂ (fun a b : EReal => a * b) rfl (rd2_val x8 f d).symm

/-- The embedding's projection. -/
theorem pr_eq (s : Fin 16384) (d : Fin 1024) :
    val_main_v61 (F := Ideal) x2 x11 (ix2 s d) = ∑ k : Fin 256, (fwd x0 x1 x2 x3 x4 x5 x6 x7 x8 x9 x10 x11).p s.val k.val * (fwd x0 x1 x2 x3 x4 x5 x6 x7 x8 x9 x10 x11).wp k.val d.val := by
  pointwise [val_main_v61, val_main_v60, val_main_v59]
  refine Finset.sum_congr rfl fun k _ => ?_
  exact congrArg₂ (· * ·) (rd2_val (layer0 (l := 3) x2) s k).symm (rd2_val x11 k d).symm

/-- The rows normalised before the gate. -/
theorem gn_eq (s : Fin 16384) (d : Fin 1024) :
    val_main_v74 (F := Ideal) x0 x1 x3 x4 x5 x6 x7 x8 x9 (ix2 s d) = Spec.rms ((fwd x0 x1 x2 x3 x4 x5 x6 x7 x8 x9 x10 x11).h2 s.val) (fwd x0 x1 x2 x3 x4 x5 x6 x7 x8 x9 x10 x11).g3 d.val := by
  pointwise [val_main_v74, val_main_v73, val_main_v72, val_main_v71, val_main_v70, val_main_v69, val_main_v68, val_main_v67, val_main_v66, val_main_v65, val_main_v64, val_main_v63, val_main_v62, val_main_cst_7, val_main_cst_8, val_main_cst_9]
  simp only [h2_eq x0 x1 x2 x3 x4 x5 x6 x7 x8 x9 x10 x11]
  unfold Spec.rms
  refine congrArg₂ (fun a b : EReal => a * b) rfl ?_
  exact (rd1_val x9 d).symm

/-- The gate. -/
theorem gate_eq (s : Fin 16384) (d : Fin 1024) :
    val_main_v81 (F := Ideal) x0 x1 x3 x4 x5 x6 x7 x8 x9 x10 (ix2 s d) = (fwd x0 x1 x2 x3 x4 x5 x6 x7 x8 x9 x10 x11).gate s.val d.val := by
  pointwise [val_main_v81, val_main_v80, val_main_v79, val_main_v78, val_main_v77, val_main_v76, val_main_v75, val_main_cst_10, val_main_cst_11]
  simp only [gn_eq x0 x1 x2 x3 x4 x5 x6 x7 x8 x9 x10 x11]
  unfold Spec.Fwd.gate Ideal.logistic
  have e : ∀ k : Fin 1024, (fwd x0 x1 x2 x3 x4 x5 x6 x7 x8 x9 x10 x11).wg k.val d.val = x10 (ix2 k d) := fun k => rd2_val x10 k d
  simp only [e]

/-- The rows after the embedding gate. -/
theorem h3_eq (s : Fin 16384) (d : Fin 1024) :
    val_main_v83 (F := Ideal) x0 x1 x2 x3 x4 x5 x6 x7 x8 x9 x10 x11 (ix2 s d) = (fwd x0 x1 x2 x3 x4 x5 x6 x7 x8 x9 x10 x11).h3 s.val d.val := by
  pointwise [val_main_v83, val_main_v82]
  rw [h2_eq x0 x1 x2 x3 x4 x5 x6 x7 x8 x9 x10 x11, pr_eq x0 x1 x2 x3 x4 x5 x6 x7 x8 x9 x10 x11, gate_eq x0 x1 x2 x3 x4 x5 x6 x7 x8 x9 x10 x11]
  rfl

/-- The hidden channels in halves. -/
theorem half_eq (j : Fin 2) (s : Fin 16384) (q : Fin 2816) :
    val_main_v87 (F := Ideal) x0 x1 x3 x4 x5 (ix3 j s q) = (fwd x0 x1 x2 x3 x4 x5 x6 x7 x8 x9 x10 x11).blk.up s.val (Spec.Args.col j.val q.val) :=
  (Cert.Host.halves_apply (val_main_v15 (F := Ideal) x0 x1 x3 x4 x5) _
    _ _ j s q (Cert.Host.col_lt j q)).trans
    (up_eq x0 x1 x2 x3 x4 x5 x6 x7 x8 x9 x10 x11 s ⟨_, Cert.Host.col_lt j q⟩)

end Cert.FwdRef

end
-- ==== Proof.Fwd.Meet.lean ====
module

public import proofs.«01_k».proof.Proof.Fwd.Arrays
public import proofs.«01_k».proof.Proof.Fwd.Ref

@[expose] public section

set_option maxRecDepth 8000

noncomputable section

/-! The arrays the forward launch leaves are the arrays its reference computes. -/

namespace Cert.FwdMeet

open Cert.ForwardIdeal Cert.ForwardIdeal.Gen Idealize.ShloMosaic Idealize.ShloMosaic.TcCoe Idealize.ShloMosaic.Tactic
open Cert.ForwardReferenceIdeal.Read (val_main_v1 val_main_v58 val_main_v83 val_main_v87)

variable (m : (ℓ : Loc nD τ sig) → Buf (Elt Ideal) ℓ) (c : Dev nD)

/-- The rows after the output projection. -/
theorem h1 : val_main_v1 (F := Ideal) (m ((c : Thread nD τ).loc main_arg0)) (m ((c : Thread nD τ).loc main_arg1)) (m ((c : Thread nD τ).loc main_arg3)) = FwdTile.h1Arr m c :=
  funext fun y => (congrArg _ (eq_ix2 y)).trans (FwdRef.h1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (y 0) (y 1))

/-- The rows after the feed-forward block. -/
theorem h2 : val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = FwdTile.h2Arr m c :=
  funext fun y => (congrArg _ (eq_ix2 y)).trans (FwdRef.h2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (y 0) (y 1))

/-- The rows after the embedding gate. -/
theorem h3 : val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = FwdTile.h3Arr m c :=
  funext fun y => (congrArg _ (eq_ix2 y)).trans (FwdRef.h3_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (y 0) (y 1))

/-- The hidden channels before the convolution. -/
theorem up : val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) = FwdTile.upArr m c :=
  funext fun y => (congrArg _ (eq_ix3 y)).trans (FwdRef.half_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (y 0) (y 1) (y 2))

end Cert.FwdMeet

end
-- ==== Proof.Norm.Real.lean ====
module

public import proofs.«01_k».proof.Proof.Ref.Gelu

@[expose] public section

noncomputable section

/-! The backward pass of the norm over the root mean square: the form the kernels compute and the form the
transpose of the reference's lines has are the same extended real, whatever the row holds. -/

namespace Cert.Spec

open Idealize.ShloMosaic

/-- The mean square of a row, plus epsilon. -/
def msq (x : ℕ → EReal) : EReal :=
  Ideal.div (∑ k : Fin 1024, x k * x k) (Ideal.ofBits FTy.f32 1149239296#32) + Ideal.ofBits FTy.f32 897988541#32

/-- One over the root mean square of a row. -/
def rinv (x : ℕ → EReal) : EReal := Ideal.rsqrt (msq x)

/-- The gradient of a row through the norm, as the kernels compute it from the gradient `y` of the normalised row. -/
def rmsBwd (x y : ℕ → EReal) (d : ℕ) : EReal :=
  rinv x * (y d - x d * rinv x * Ideal.div (∑ k : Fin 1024, y k * (x k * rinv x)) (Ideal.ofBits FTy.f32 1149239296#32))

/-- A square is not negative. -/
theorem mul_self_nonneg (x : EReal) : 0 ≤ x * x := by
  induction x with
  | coe r => exact_mod_cast _root_.mul_self_nonneg r
  | top => simp
  | bot => simp

/-- The mean square of a row plus epsilon is infinite or a positive real number. -/
theorem msq_cases (x : ℕ → EReal) : msq x = ⊤ ∨ ∃ w : ℝ, 0 < w ∧ msq x = (w : EReal) := by
  have hs : 0 ≤ ∑ k : Fin 1024, x k * x k := Finset.sum_nonneg fun k _ => mul_self_nonneg (x k)
  obtain ⟨e, he, hE⟩ := eps_eq
  unfold msq
  rw [rows_eq, hE, Ideal.div_coe (by norm_num)]
  generalize (∑ k : Fin 1024, x k * x k) = q at hs
  induction q with
  | coe r =>
    have hr : 0 ≤ r := by exact_mod_cast hs
    refine Or.inr ⟨r * (1 / 1024) + e, by positivity, by push_cast; rfl⟩
  | top =>
    refine Or.inl ?_
    rw [EReal.top_mul_coe_of_pos (by norm_num), EReal.top_add_coe]
  | bot => exact absurd hs (by simp)

/-- A sum times a nonnegative real number. -/
theorem sum_mul_coe {ι : Type} (s : Finset ι) (f : ι → EReal) (a : ℝ) (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (by exact_mod_cast ha) (EReal.coe_ne_top a)]

/-- Twice a real multiple. -/
theorem mul_add_self (z : EReal) (a : ℝ) (ha : a < 0) : z * (a : EReal) + z * (a : EReal) = z * ((2 * a : ℝ) : EReal) := by
  have h2 : 2 * a < 0 := by linarith
  induction z with
  | coe r => norm_cast; ring
  | top => rw [EReal.top_mul_coe_of_neg ha, EReal.top_mul_coe_of_neg h2, EReal.bot_add]
  | bot => rw [EReal.bot_mul_coe_of_neg ha, EReal.bot_mul_coe_of_neg h2, EReal.top_add_top]

/-- The word of minus one half. -/
theorem mhalf_eq : Ideal.ofBits FTy.f32 3204448256#32 = ((-(1 / 2) : ℝ) : EReal) := by
  simp [Ideal.ofBits, Ideal.ieee, -EReal.coe_mul]; norm_num

/-- The transpose of the norm's lines is what the kernels compute. -/
theorem rmsBwd_spell (x y : ℕ → EReal) (d : ℕ) (c : EReal)
    (hc : c = Ideal.div ((∑ k : Fin 1024, x k * y k) * (Ideal.ofBits FTy.f32 3204448256#32 * Ideal.div (rinv x) (msq x)))
      (Ideal.ofBits FTy.f32 1149239296#32)) (e : EReal) :
    e + y d * rinv x + x d * c + c * x d = e + rmsBwd x y d := by
  subst hc
  rw [add_assoc, add_assoc]
  congr 1
  unfold rmsBwd
  rcases msq_cases x with h | ⟨w, hw, h⟩
  · have hr : rinv x = 0 := by unfold rinv; rw [h, Ideal.rsqrt_top]
    have hd : Ideal.div (0 : EReal) ⊤ = 0 := by simp [Ideal.div]
    rw [hr, h, hd, rows_eq]
    simp only [mul_zero, zero_mul, zero_add, add_zero, Ideal.div_coe (by norm_num : (1024 : ℝ) ≠ 0)]
  · obtain ⟨ρ, hρ, hρw, hr⟩ : ∃ ρ : ℝ, 0 < ρ ∧ ρ * ρ = 1 / w ∧ rinv x = (ρ : EReal) := by
      refine ⟨(Real.sqrt w)⁻¹, by positivity, ?_, ?_⟩
      · rw [← mul_inv, Real.mul_self_sqrt hw.le, one_div]
      · unfold rinv
        rw [h, Ideal.rsqrt_coe, if_neg (not_lt.mpr hw.le), if_neg hw.ne']
    have hS : ∑ k : Fin 1024, y k * (x k * rinv x) = (∑ k : Fin 1024, x k * y k) * (ρ : EReal) := by
      rw [← sum_mul_coe _ _ _ hρ.le]
      exact Finset.sum_congr rfl fun k _ => by rw [hr, ← mul_assoc, mul_comm (y k)]
    rw [hS, hr, h, rows_eq, mhalf_eq, Ideal.div_coe hw.ne', Ideal.div_coe (by norm_num : (1024 : ℝ) ≠ 0),
      Ideal.div_coe (by norm_num : (1024 : ℝ) ≠ 0), sub_eq_add_neg,
      EReal.left_distrib_of_nonneg_of_ne_top (by exact_mod_cast hρ.le) (EReal.coe_ne_top ρ), mul_comm (y d)]
    congr 1
    generalize (∑ k : Fin 1024, x k * y k) = S
    have hn : -(ρ * ρ * ρ) / 2048 < 0 := by
      have : 0 < ρ * ρ * ρ := by positivity
      linarith
    have hk : S * (((-(1 / 2) : ℝ) : EReal) * ((ρ : EReal) * ((1 / w : ℝ) : EReal))) * ((1 / 1024 : ℝ) : EReal)
        = S * ((-(ρ * ρ * ρ) / 2048 : ℝ) : EReal) := by
      rw [mul_assoc]
      congr 1
      norm_cast
      rw [← hρw]; ring
    have hm : x d * (ρ : EReal) * (S * (ρ : EReal) * ((1 / 1024 : ℝ) : EReal)) = x d * S * ((ρ * ρ * (1 / 1024) : ℝ) : EReal) := by
      rw [EReal.coe_mul, EReal.coe_mul]; ac_rfl
    rw [hk, mul_comm (S * _) (x d), ← mul_assoc, mul_add_self _ _ hn, hm, ← neg_mul_eq_mul_neg, ← neg_mul (ρ : EReal),
      mul_comm (-(ρ : EReal)), mul_assoc (x d * S), ← EReal.coe_neg, ← EReal.coe_mul]
    congr 2
    ring

end Cert.Spec

end
-- ==== Proof.Norm.Spec.lean ====
module

public import proofs.«01_k».proof.Proof.Norm.Real
public import proofs.«01_k».proof.Proof.Fwd.Args

@[expose] public section

noncomputable section

/-! The gradients of the embedding gate and of the output projection as formulas over the extended reals, row by row
and column by column. -/

namespace Cert.Spec

open Idealize.ShloMosaic Idealize.ShloMosaic.Tactic

/-- The arrays of the gradient of the embedding gate, each read at a row and a column. -/
structure GateArgs where
  /-- the cotangent of the gate's result -/
  dh3 : ℕ → ℕ → EReal
  /-- the rows before the gate -/
  h2 : ℕ → ℕ → EReal
  /-- the embedding of the layer -/
  p : ℕ → ℕ → EReal
  /-- the gain of the gate's norm -/
  g : ℕ → EReal
  /-- the weight of the gate -/
  wg : ℕ → ℕ → EReal
  /-- the weight of the embedding's projection -/
  wp : ℕ → ℕ → EReal

namespace GateArgs

variable (A : GateArgs)

/-- The normalised rows, before the gain. -/
def xhat (s d : ℕ) : EReal := A.h2 s d * rinv (A.h2 s)

/-- The normalised rows. -/
def hn (s d : ℕ) : EReal := A.xhat s d * A.g d

/-- The gate. -/
def gate (s d : ℕ) : EReal := Ideal.logistic (∑ k : Fin 1024, A.hn s k * A.wg k d)

/-- The projected embedding. -/
def pp (s d : ℕ) : EReal := ∑ k : Fin 256, A.p s k * A.wp k d

/-- The gradient of the projected embedding. -/
def dpp (s d : ℕ) : EReal := A.dh3 s d * A.gate s d

/-- The gradient of what the gate is the logistic function of. -/
def dpre (s d : ℕ) : EReal := A.dh3 s d * A.pp s d * A.gate s d * (1 - A.gate s d)

/-- The gradient of the normalised rows. -/
def dhn (s k : ℕ) : EReal := ∑ d : Fin 1024, A.dpre s d * A.wg k d

/-- The gradient of the rows before the gate. -/
def dh2 (s d : ℕ) : EReal := A.dh3 s d + rmsBwd (A.h2 s) (fun k => A.dhn s k * A.g k) d

/-- The gradient of the weight of the gate. -/
def dwg (k d : ℕ) : EReal := ∑ s : Fin 16384, A.hn s k * A.dpre s d

/-- The gradient of the weight of the embedding's projection. -/
def dwp (k d : ℕ) : EReal := ∑ s : Fin 16384, A.p s k * A.dpp s d

/-- The gradient of the gain of the gate's norm. -/
def dg (d : ℕ) : EReal := ∑ s : Fin 16384, A.dhn s d * A.xhat s d

end GateArgs

/-- The arrays of the gradient of the output projection, each read at a row and a column. -/
structure OutArgs where
  /-- the cotangent of the projection's result that does not come through the norm -/
  dh2 : ℕ → ℕ → EReal
  /-- the cotangent of the normalised rows, in two parts -/
  part : ℕ → ℕ → ℕ → EReal
  /-- the input of the layer -/
  h : ℕ → ℕ → EReal
  /-- the output of the mixers -/
  ym : ℕ → ℕ → EReal
  /-- the gain of the block's norm -/
  g : ℕ → EReal
  /-- the weight of the output projection -/
  wo : ℕ → ℕ → EReal

namespace OutArgs

variable (A : OutArgs)

/-- The rows after the output projection. -/
def h1 (s d : ℕ) : EReal := A.h s d + ∑ k : Fin 1024, A.ym s k * A.wo k d

/-- The normalised rows, before the gain. -/
def xhat (s d : ℕ) : EReal := A.h1 s d * rinv (A.h1 s)

/-- The gradient of the normalised rows. -/
def dhn (s d : ℕ) : EReal := A.part 0 s d + A.part 1 s d

/-- The gradient of the rows after the projection. -/
def dh1 (s d : ℕ) : EReal := A.dh2 s d + rmsBwd (A.h1 s) (fun k => A.dhn s k * A.g k) d

/-- The gradient of the output of the mixers. -/
def dym (s k : ℕ) : EReal := ∑ d : Fin 1024, A.dh1 s d * A.wo k d

/-- The gradient of the weight of the projection. -/
def dwo (k d : ℕ) : EReal := ∑ s : Fin 16384, A.ym s k * A.dh1 s d

/-- The gradient of the gain of the block's norm. -/
def dg (d : ℕ) : EReal := ∑ s : Fin 16384, A.dhn s d * A.xhat s d

end OutArgs

/-- The arguments of the gate's formulas from the six arrays; the embedding is that of the first layer. -/
def gateArgs {l : ℕ} (x0 x1 : (⟨2, ![16384, 1024]⟩ : Shape).Idx → EReal) (x2 : (⟨3, ![l + 1, 16384, 256]⟩ : Shape).Idx → EReal)
    (x3 : (⟨1, ![1024]⟩ : Shape).Idx → EReal) (x4 : (⟨2, ![1024, 1024]⟩ : Shape).Idx → EReal)
    (x5 : (⟨2, ![256, 1024]⟩ : Shape).Idx → EReal) : GateArgs where
  dh3 := rd2 x0
  h2 := rd2 x1
  p := rd2 (layer0 x2)
  g := rd1 x3
  wg := rd2 x4
  wp := rd2 x5

/-- One of the two parts of an array. -/
def half2 (x : (⟨3, ![2, 16384, 1024]⟩ : Shape).Idx → EReal) (j : ℕ) : (⟨2, ![16384, 1024]⟩ : Shape).Idx → EReal :=
  fun y => if h : j < 2 then x (ix3 ⟨j, h⟩ (y 0) (y 1)) else 0

/-- The arguments of the projection's formulas from the six arrays. -/
def outArgs (x0 : (⟨2, ![16384, 1024]⟩ : Shape).Idx → EReal) (x1 : (⟨3, ![2, 16384, 1024]⟩ : Shape).Idx → EReal)
    (x2 x3 : (⟨2, ![16384, 1024]⟩ : Shape).Idx → EReal) (x4 : (⟨1, ![1024]⟩ : Shape).Idx → EReal)
    (x5 : (⟨2, ![1024, 1024]⟩ : Shape).Idx → EReal) : OutArgs where
  dh2 := rd2 x0
  part := fun j => rd2 (half2 x1 j)
  h := rd2 x2
  ym := rd2 x3
  g := rd1 x4
  wo := rd2 x5

/-- A sum over all rows, tile by tile of 512 rows. -/
theorem sum_rows512 (f : ℕ → EReal) :
    ∑ k ∈ Finset.range 32, ∑ r : Fin 512, f (512 * k + r.val) = ∑ s : Fin 16384, f s.val := by
  rw [← Finset.sum_range f, show (16384 : ℕ) = 32 * 512 from rfl]
  have key : ∀ n : ℕ, ∑ k ∈ Finset.range n, ∑ r : Fin 512, f (512 * k + r.val) = ∑ s ∈ Finset.range (n * 512), f s := by
    intro n
    induction n with
    | zero => simp
    | succ n ih =>
      rw [Finset.sum_range_succ, ih, Nat.add_mul n 1 512, Nat.one_mul, Finset.sum_range_add]
      congr 1
      rw [Finset.sum_range (fun r => f (n * 512 + r)), Nat.mul_comm n]
  exact key 32

/-- What starts at position zero with a term and grows by a term at each later one is the sum of the terms so far. -/
theorem acc_sum {N : ℕ} (f : (n : ℕ) → n < N → EReal) (term : ℕ → EReal)
    (hA : ∀ t : Fin N, t.val = 0 → f t.val t.isLt = term t.val)
    (hB : ∀ t : Fin N, ¬t.val = 0 → f t.val t.isLt = f (t.val - 1) (Nat.lt_of_le_of_lt (Nat.sub_le _ _) t.isLt) + term t.val) :
    ∀ (n : ℕ) (hn : n < N), f n hn = ∑ k ∈ Finset.range (n + 1), term k := by
  intro n
  induction n with
  | zero => intro hn; exact (hA ⟨0, hn⟩ rfl).trans (Finset.sum_range_one _).symm
  | succ n ih =>
    intro hn
    refine (hB ⟨n + 1, hn⟩ (Nat.succ_ne_zero n)).trans ?_
    show f n _ + term (n + 1) = _
    rw [ih]
    exact (Finset.sum_range_succ _ _).symm

end Cert.Spec

end
-- ==== Proof.Gate.Pay.lean ====
module

public import proofs.«01_k».proof.Proof.Gen.GateIdeal.Skeleton
public import proofs.«01_k».proof.Proof.Norm.Spec
public import Idealize.ShloMosaic.Lib.Pointwise
public import Idealize.ShloMosaic.PureOps.Ideal

@[expose] public section

noncomputable section

/-! What a tile of the gradient of the embedding gate computes from what it loads, entry by entry. -/

namespace Cert.GateTile

open Cert.GateIdeal Cert.GateIdeal.Gen Idealize.ShloMosaic Idealize.ShloMosaic.Tactic

/-- The zero a product starts from. -/
abbrev zero : FVec Ideal S512x1024 .f32 := constant S512x1024 .f32 0x00000000#32

/-- The zeros the gradient of the weight of the gate starts from. -/
theorem pay3_apply (k d : Fin 1024) : k0_pay3 (F := Ideal) (ix2 k d) = 0 := by
  pointwise [k0_pay3]

/-- The zeros the gradient of the weight of the embedding's projection starts from. -/
theorem pay4_apply (k : Fin 256) (d : Fin 1024) : k0_pay4 (F := Ideal) (ix2 k d) = 0 := by
  pointwise [k0_pay4]

/-- The zeros the gradient of the gain starts from. -/
theorem pay5_apply (d : Fin 1024) : k0_pay5 (F := Ideal) (ix2 0 d) = 0 := by
  pointwise [k0_pay5]

/-- The gain. -/
theorem pay6_apply (v3 : Vec Ideal S1x1024 .f32) (d : Fin 1024) : k0_pay6 v3 (ix2 0 d) = v3 (ix2 0 d) := by
  pointwise [k0_pay6]

/-- One over the root mean square of a row. -/
theorem pay7_apply (v6 : Vec Ideal S512x1024 .f32) (r : Fin 512) :
    k0_pay7 v6 (ix2 r 0) = Ideal.rsqrt (Ideal.div (∑ x : Fin 1024, v6 (ix2 r x) * v6 (ix2 r x))
        (Ideal.ofBits FTy.f32 1149239296#32) + Ideal.ofBits FTy.f32 897988541#32) := by
  pointwise [k0_pay7]

/-- The normalised rows, before the gain. -/
theorem pay8_apply (v6 : Vec Ideal S512x1024 .f32) (r : Fin 512) (d : Fin 1024) :
    k0_pay8 v6 (ix2 r d) = v6 (ix2 r d) * k0_pay7 v6 (ix2 r 0) := by
  unfold k0_pay8
  generalize k0_pay7 v6 = g
  pointwise []

/-- The normalised rows. -/
theorem pay9_apply (v3 : Vec Ideal S1x1024 .f32) (v6 : Vec Ideal S512x1024 .f32) (r : Fin 512) (d : Fin 1024) :
    k0_pay9 v3 v6 (ix2 r d) = k0_pay8 v6 (ix2 r d) * v3 (ix2 0 d) := by
  unfold k0_pay9
  generalize k0_pay8 v6 = g
  pointwise [k0_pay6]

/-- The gate. -/
theorem pay10_apply (v3 : Vec Ideal S1x1024 .f32) (v6 : Vec Ideal S512x1024 .f32) (v20 : Vec Ideal S1024x1024 .bf16) (r : Fin 512) (d : Fin 1024) :
    k0_pay10 v3 v6 v20 (ix2 r d) = Ideal.logistic (∑ k : Fin 1024, k0_pay9 v3 v6 (ix2 r k) * v20 (ix2 k d)) := by
  unfold k0_pay10
  generalize k0_pay9 v3 v6 = g
  pointwise []
  unfold Ideal.logistic
  rw [zero_sub]

/-- The embedding. -/
theorem pay11_apply (v30 : Vec Ideal S1x512x256 .f32) (r : Fin 512) (k : Fin 256) : k0_pay11 v30 (ix2 r k) = v30 (ix3 0 r k) := by
  pointwise [k0_pay11]

/-- The weight of the embedding's projection. -/
theorem pay12_apply (v33 : Vec Ideal S256x1024 .bf16) (k : Fin 256) (d : Fin 1024) : k0_pay12 v33 (ix2 k d) = v33 (ix2 k d) := by
  pointwise [k0_pay12]

/-- The gradient of what the gate is the logistic function of. -/
theorem pay13_apply (v5 : Vec Ideal S512x1024 .f32) (v29 : FVec Ideal S512x1024 .f32) (v32 : FVec Ideal S512x256 .bf16) (v34 : FVec Ideal S256x1024 .bf16)
    (r : Fin 512) (d : Fin 1024) :
    k0_pay13 v5 v29 v32 v34 zero (ix2 r d) = v5 (ix2 r d) * (∑ k : Fin 256, v32 (ix2 r k) * v34 (ix2 k d)) * v29 (ix2 r d) * (1 - v29 (ix2 r d)) := by
  pointwise [k0_pay13]

/-- What is added to the gradient of the weight of the embedding's projection. -/
theorem pay14_apply (v5 : Vec Ideal S512x1024 .f32) (v29 : FVec Ideal S512x1024 .f32) (v32 : FVec Ideal S512x256 .bf16) (v44 : Vec Ideal S256x1024 .f32)
    (k : Fin 256) (d : Fin 1024) :
    k0_pay14 v5 v29 v32 v44 (ix2 k d) = v44 (ix2 k d) + ∑ r : Fin 512, v32 (ix2 r k) * (v5 (ix2 r d) * v29 (ix2 r d)) := by
  pointwise [k0_pay14]

/-- What is added to the gradient of the weight of the gate. -/
theorem pay15_apply (v5 : Vec Ideal S512x1024 .f32) (v19 : FVec Ideal S512x1024 .bf16) (v29 : FVec Ideal S512x1024 .f32) (v32 : FVec Ideal S512x256 .bf16)
    (v34 : FVec Ideal S256x1024 .bf16) (v49 : Vec Ideal S1024x1024 .f32) (k d : Fin 1024) :
    k0_pay15 v5 v19 v29 v32 v34 zero v49 (ix2 k d) = v49 (ix2 k d) + ∑ r : Fin 512, v19 (ix2 r k) * k0_pay13 v5 v29 v32 v34 zero (ix2 r d) := by
  unfold k0_pay15
  generalize k0_pay13 v5 v29 v32 v34 zero = g
  pointwise []

/-- The gradient of the normalised rows. -/
theorem pay16_apply (v5 : Vec Ideal S512x1024 .f32) (v29 : FVec Ideal S512x1024 .f32) (v32 : FVec Ideal S512x256 .bf16)
    (v34 : FVec Ideal S256x1024 .bf16) (v54 : Vec Ideal S1024x1024 .bf16) (r : Fin 512) (k : Fin 1024) :
    k0_pay16 v5 v29 v32 v34 zero v54 (ix2 r k) = ∑ d : Fin 1024, k0_pay13 v5 v29 v32 v34 zero (ix2 r d) * v54 (ix2 k d) := by
  unfold k0_pay16
  generalize k0_pay13 v5 v29 v32 v34 zero = g
  pointwise []

/-- The gradient that comes through the norm. -/
theorem pay17_apply (v4 : FVec Ideal S1x1024 .f32) (v5 : Vec Ideal S512x1024 .f32) (v14 : FVec Ideal S512x1 .f32) (v16 v29 : FVec Ideal S512x1024 .f32)
    (v32 : FVec Ideal S512x256 .bf16) (v34 : FVec Ideal S256x1024 .bf16) (v54 : Vec Ideal S1024x1024 .bf16) (r : Fin 512) (d : Fin 1024) :
    k0_pay17 v4 v5 v14 v16 v29 v32 v34 zero v54 (ix2 r d)
      = v14 (ix2 r 0) * (k0_pay16 v5 v29 v32 v34 zero v54 (ix2 r d) * v4 (ix2 0 d)
        - v16 (ix2 r d) * Ideal.div (∑ k : Fin 1024, k0_pay16 v5 v29 v32 v34 zero v54 (ix2 r k) * v4 (ix2 0 k) * v16 (ix2 r k))
          (Ideal.ofBits FTy.f32 1149239296#32)) := by
  unfold k0_pay17
  generalize k0_pay16 v5 v29 v32 v34 zero v54 = g
  pointwise []

/-- What is added to the gradient of the gain. -/
theorem pay18_apply (v5 : Vec Ideal S512x1024 .f32) (v16 v29 : FVec Ideal S512x1024 .f32) (v32 : FVec Ideal S512x256 .bf16)
    (v34 : FVec Ideal S256x1024 .bf16) (v54 : Vec Ideal S1024x1024 .bf16) (d : Fin 1024) :
    k0_pay18 v5 v16 v29 v32 v34 zero v54 (ix2 0 d)
      = ∑ r : Fin 512, k0_pay16 v5 v29 v32 v34 zero v54 (ix2 r d) * v16 (ix2 r d) := by
  unfold k0_pay18
  generalize k0_pay16 v5 v29 v32 v34 zero v54 = g
  pointwise []

/-- The gradient of the gain before a tile. -/
theorem pay19_apply (v72 : Vec Ideal S1x1024 .f32) (d : Fin 1024) : k0_pay19 v72 (ix2 0 d) = v72 (ix2 0 d) := by
  pointwise [k0_pay19]

/-- The gradient of the gain after a tile. -/
theorem pay1_apply (v71 v73 : FVec Ideal S1x1024 .f32) (d : Fin 1024) : k0_pay1 v71 v73 (ix2 0 d) = v73 (ix2 0 d) + v71 (ix2 0 d) := by
  pointwise [k0_pay1]

/-- The gradient of the rows before the gate. -/
theorem pay2_apply (v5 : Vec Ideal S512x1024 .f32) (v68 : FVec Ideal S512x1024 .f32) (r : Fin 512) (d : Fin 1024) :
    k0_pay2 v5 v68 (ix2 r d) = v5 (ix2 r d) + v68 (ix2 r d) := by
  pointwise [k0_pay2]

end Cert.GateTile

end
-- ==== Proof.Gate.Tile.lean ====
module

public import proofs.«01_k».proof.Proof.Gate.Pay

@[expose] public section

noncomputable section

/-! What one tile of the gradient of the embedding gate computes, from the blocks it reads: tile `i` holds rows
`512 * i, …`. -/

namespace Cert.GateTile

open Cert.GateIdeal Cert.GateIdeal.Gen Idealize.ShloMosaic Idealize.ShloMosaic.Tactic
open Cert.Spec (GateArgs)

/-- The blocks of a tile are tile `i` of the arrays. -/
structure Blocks (A : GateArgs) (i : ℕ) (x0 x1 : Vec Ideal S512x1024 .f32) (x2 : Vec Ideal S1x512x256 .f32) (x3 : Vec Ideal S1x1024 .f32)
    (x4 : Vec Ideal S1024x1024 .bf16) (x5 : Vec Ideal S256x1024 .bf16) : Prop where
  h0 : ∀ (r : Fin 512) (d : Fin 1024), x0 (ix2 r d) = A.dh3 (512 * i + r.val) d.val
  h1 : ∀ (r : Fin 512) (d : Fin 1024), x1 (ix2 r d) = A.h2 (512 * i + r.val) d.val
  h2 : ∀ (r : Fin 512) (k : Fin 256), x2 (ix3 0 r k) = A.p (512 * i + r.val) k.val
  h3 : ∀ d : Fin 1024, x3 (ix2 0 d) = A.g d.val
  h4 : ∀ (k d : Fin 1024), x4 (ix2 k d) = A.wg k.val d.val
  h5 : ∀ (k : Fin 256) (d : Fin 1024), x5 (ix2 k d) = A.wp k.val d.val

variable {A : GateArgs} {i : ℕ} {x0 x1 : Vec Ideal S512x1024 .f32} {x2 : Vec Ideal S1x512x256 .f32} {x3 : Vec Ideal S1x1024 .f32}
  {x4 : Vec Ideal S1024x1024 .bf16} {x5 : Vec Ideal S256x1024 .bf16}
  (H : Blocks A i x0 x1 x2 x3 x4 x5)

include H

/-- One over the root mean square of a row. -/
theorem r_eq (r : Fin 512) : k0_pay7 x1 (ix2 r 0) = Spec.rinv (A.h2 (512 * i + r.val)) := by
  rw [pay7_apply]
  simp only [H.h1]
  rfl

/-- The normalised rows, before the gain. -/
theorem xhat_eq (r : Fin 512) (d : Fin 1024) : k0_pay8 x1 (ix2 r d) = A.xhat (512 * i + r.val) d.val := by
  rw [pay8_apply, r_eq H, H.h1]
  rfl

/-- The normalised rows. -/
theorem hn_eq (r : Fin 512) (d : Fin 1024) : k0_pay9 x3 x1 (ix2 r d) = A.hn (512 * i + r.val) d.val := by
  rw [pay9_apply, xhat_eq H, H.h3]
  rfl

/-- The gate. -/
theorem gate_eq (r : Fin 512) (d : Fin 1024) : k0_pay10 x3 x1 x4 (ix2 r d) = A.gate (512 * i + r.val) d.val := by
  rw [pay10_apply]
  simp only [hn_eq H, H.h4]
  rfl

/-- The gradient of what the gate is the logistic function of. -/
theorem dpre_eq (r : Fin 512) (d : Fin 1024) :
    k0_pay13 x0 (k0_pay10 x3 x1 x4) (k0_pay11 x2) (k0_pay12 x5) zero (ix2 r d) = A.dpre (512 * i + r.val) d.val := by
  rw [pay13_apply, gate_eq H]
  simp only [pay11_apply, pay12_apply, H.h0, H.h2, H.h5]
  rfl

/-- The gradient of the normalised rows. -/
theorem dhn_eq (r : Fin 512) (k : Fin 1024) :
    k0_pay16 x0 (k0_pay10 x3 x1 x4) (k0_pay11 x2) (k0_pay12 x5) zero x4 (ix2 r k) = A.dhn (512 * i + r.val) k.val := by
  rw [pay16_apply]
  simp only [dpre_eq H, H.h4]
  rfl

/-- The gradient of the rows before the gate. -/
theorem dh2_eq (r : Fin 512) (d : Fin 1024) :
    k0_pay2 x0 (k0_pay17 (k0_pay6 x3) x0 (k0_pay7 x1) (k0_pay8 x1) (k0_pay10 x3 x1 x4) (k0_pay11 x2) (k0_pay12 x5) zero x4) (ix2 r d)
      = A.dh2 (512 * i + r.val) d.val := by
  rw [pay2_apply, pay17_apply]
  simp only [r_eq H, xhat_eq H, dhn_eq H, pay6_apply, H.h0, H.h3]
  rfl

/-- What a tile adds to the gradient of the weight of the gate. -/
theorem dwg_eq (acc : Vec Ideal S1024x1024 .f32) (k d : Fin 1024) :
    k0_pay15 x0 (k0_pay9 x3 x1) (k0_pay10 x3 x1 x4) (k0_pay11 x2) (k0_pay12 x5) zero acc (ix2 k d)
      = acc (ix2 k d) + ∑ r : Fin 512, A.hn (512 * i + r.val) k.val * A.dpre (512 * i + r.val) d.val := by
  rw [pay15_apply]
  simp only [dpre_eq H, hn_eq H]

/-- What a tile adds to the gradient of the weight of the embedding's projection. -/
theorem dwp_eq (acc : Vec Ideal S256x1024 .f32) (k : Fin 256) (d : Fin 1024) :
    k0_pay14 x0 (k0_pay10 x3 x1 x4) (k0_pay11 x2) acc (ix2 k d)
      = acc (ix2 k d) + ∑ r : Fin 512, A.p (512 * i + r.val) k.val * A.dpp (512 * i + r.val) d.val := by
  rw [pay14_apply]
  simp only [gate_eq H, pay11_apply, H.h0, H.h2]
  rfl

/-- What a tile adds to the gradient of the gain. -/
theorem dg_eq (acc : Vec Ideal S1x1024 .f32) (d : Fin 1024) :
    k0_pay1 (k0_pay18 x0 (k0_pay8 x1) (k0_pay10 x3 x1 x4) (k0_pay11 x2) (k0_pay12 x5) zero x4) (k0_pay19 acc) (ix2 0 d)
      = acc (ix2 0 d) + ∑ r : Fin 512, A.dhn (512 * i + r.val) d.val * A.xhat (512 * i + r.val) d.val := by
  rw [pay1_apply, pay18_apply, pay19_apply]
  simp only [dhn_eq H, xhat_eq H]

end Cert.GateTile

end
-- ==== Proof.Gate.Host.lean ====
module

public import proofs.«01_k».proof.Proof.Gen.GateIdeal.Frame.Runs
public import proofs.«01_k».proof.Proof.Norm.Spec
public import Idealize.ShloMosaic.Lib.Pipeline.ValueKit.Point

@[expose] public section

set_option maxRecDepth 8000

noncomputable section

/-! What the arrays of the gate's backward call hold when it is entered: the host operations before it read off. -/

namespace Cert.GateHost

open Cert.GateIdeal Cert.GateIdeal.Gen Idealize.ShloMosaic Idealize.ShloMosaic.TcCoe Idealize.ShloMosaic.Tactic

variable (m : (ℓ : Loc nD τ sig) → Buf (Elt Ideal) ℓ) (c : Dev nD)

/-- The gain, as the call reads it. -/
theorem V_g : V m c main_v0 = shapeCast S1x1024 (m ((c : Thread nD τ).loc main_arg3) : FVec Ideal S1024 .f32) shapeCasts_S1024_S1x1024 := by
  entry_read
  rfl

/-- The weight of the gate, as the call reads it. -/
theorem V_wg : V m c main_v1 = truncf (F := Ideal) .bf16 (m ((c : Thread nD τ).loc main_arg4) : FVec Ideal S1024x1024 .f32) bitsLt_bf16_f32 := by
  entry_read
  rfl

/-- The weight of the embedding's projection, as the call reads it. -/
theorem V_wp : V m c main_v2 = truncf (F := Ideal) .bf16 (m ((c : Thread nD τ).loc main_arg5) : FVec Ideal S256x1024 .f32) bitsLt_bf16_f32 := by
  entry_read
  rfl

/-- The arrays of the formulas from the arrays the program is launched on. -/
def A : Spec.GateArgs := Spec.gateArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- An entry of the cotangent. -/
theorem dh3_at (s : Fin 16384) (d : Fin 1024) : V m c main_arg0 (ix2 s d) = (A m c).dh3 s.val d.val :=
  (congrFun (V_main_arg0 m c) _).trans (Spec.rd2_val _ s d).symm

/-- An entry of the rows before the gate. -/
theorem h2_at (s : Fin 16384) (d : Fin 1024) : V m c main_arg1 (ix2 s d) = (A m c).h2 s.val d.val :=
  (congrFun (V_main_arg1 m c) _).trans (Spec.rd2_val _ s d).symm

/-- An entry of the layer's embedding. -/
theorem p_at (s : Fin 16384) (k : Fin 256) : V m c main_arg2 (ix3 0 s k) = (A m c).p s.val k.val :=
  (congrFun (V_main_arg2 m c) _).trans (Spec.rd2_val (Spec.layer0 (l := 3) _) s k).symm

/-- An entry of the gain. -/
theorem g_at (d : Fin 1024) : V m c main_v0 (ix2 0 d) = (A m c).g d.val := by
  refine (congrFun (V_g m c) _).trans ((shapeCast_apply _ _ _ (ix1 d) ?_).trans (Spec.rd1_val _ d).symm)
  rw [Shape.rowMajor_val_two, Shape.rowMajor_val_one]
  exact (Nat.zero_add _).symm

/-- An entry of the weight of the gate. -/
theorem wg_at (s : Fin 1024) (d : Fin 1024) : V m c main_v1 (ix2 s d) = (A m c).wg s.val d.val :=
  (congrFun (V_wg m c) _).trans (Spec.rd2_val _ s d).symm

/-- An entry of the weight of the embedding's projection. -/
theorem wp_at (s : Fin 256) (d : Fin 1024) : V m c main_v2 (ix2 s d) = (A m c).wp s.val d.val :=
  (congrFun (V_wp m c) _).trans (Spec.rd2_val _ s d).symm

end Cert.GateHost

end
-- ==== Proof.Gate.Blocks.lean ====
module

public import proofs.«01_k».proof.Proof.Gate.Tile
public import proofs.«01_k».proof.Proof.Gate.Host

@[expose] public section

set_option maxRecDepth 8000

noncomputable section

/-! The blocks a grid point of the gate's backward call is given, as entries of the arrays of the call. -/

namespace Cert.GateTile

open Cert.GateIdeal Cert.GateIdeal.Gen Idealize.ShloMosaic Idealize.ShloMosaic.TcCoe Idealize.ShloMosaic.Tactic

/-- Which block of its array holds the cotangent's rows. -/
theorem idx0 : ∀ t : Fin cfg0.N, (cfg0.win 0).index t 0 = t.val ∧ (cfg0.win 0).index t 1 = 0 := by decide +kernel
/-- Which block of its array holds the rows before the gate. -/
theorem idx1 : ∀ t : Fin cfg0.N, (cfg0.win 1).index t 0 = t.val ∧ (cfg0.win 1).index t 1 = 0 := by decide +kernel
/-- Which block of its array holds the embedding's rows. -/
theorem idx2 : ∀ t : Fin cfg0.N, (cfg0.win 2).index t 0 = 0 ∧ (cfg0.win 2).index t 1 = t.val ∧ (cfg0.win 2).index t 2 = 0 := by decide +kernel
/-- Which block of its array holds the gain. -/
theorem idx3 : ∀ t : Fin cfg0.N, (cfg0.win 3).index t 0 = 0 ∧ (cfg0.win 3).index t 1 = 0 := by decide +kernel
/-- Which block of its array holds the weight of the gate. -/
theorem idx4 : ∀ t : Fin cfg0.N, (cfg0.win 4).index t 0 = 0 ∧ (cfg0.win 4).index t 1 = 0 := by decide +kernel
/-- Which block of its array holds the weight of the embedding's projection. -/
theorem idx5 : ∀ t : Fin cfg0.N, (cfg0.win 5).index t 0 = 0 ∧ (cfg0.win 5).index t 1 = 0 := by decide +kernel

variable (t : Fin cfg0.N)

/-- There are 32 grid points. -/
theorem tlt : t.val < 32 := lt_of_lt_of_eq t.isLt N_0

/-- Where in its array the block of the cotangent's rows lies. -/
theorem emb0 (r : Fin 512) (d : Fin 1024) : ((cfg0.win 0).blk t).view.emb (ix2 r d) = ix2 (⟨512 * t.val + r.val, by have := tlt t; omega⟩ : Fin 16384) d := by
  blk_ext [idx0 t]

/-- Where in its array the block of the rows before the gate lies. -/
theorem emb1 (r : Fin 512) (d : Fin 1024) : ((cfg0.win 1).blk t).view.emb (ix2 r d) = ix2 (⟨512 * t.val + r.val, by have := tlt t; omega⟩ : Fin 16384) d := by
  blk_ext [idx1 t]

/-- Where in its array the block of the embedding's rows lies. -/
theorem emb2 (r : Fin 512) (d : Fin 256) : ((cfg0.win 2).blk t).view.emb (ix3 0 r d) = ix3 (0 : Fin 4) (⟨512 * t.val + r.val, by have := tlt t; omega⟩ : Fin 16384) d := by
  blk_ext [idx2 t]

/-- Where in its array the block of the gain lies. -/
theorem emb3 (d : Fin 1024) : ((cfg0.win 3).blk t).view.emb (ix2 0 d) = ix2 0 d := by
  blk_ext [idx3 t]

/-- Where in its array the block of the weight of the gate lies. -/
theorem emb4 (k d : Fin 1024) : ((cfg0.win 4).blk t).view.emb (ix2 k d) = ix2 k d := by
  blk_ext [idx4 t]

/-- Where in its array the block of the weight of the embedding's projection lies. -/
theorem emb5 (k : Fin 256) (d : Fin 1024) : ((cfg0.win 5).blk t).view.emb (ix2 k d) = ix2 k d := by
  blk_ext [idx5 t]

variable (m : (ℓ : Loc nD τ sig) → Buf (Elt Ideal) ℓ) (c : Dev nD)

/-- The block of the cotangent's rows, entry by entry. -/
theorem blk0 (r : Fin 512) (d : Fin 1024) : (iblk m c 0 t : Vec Ideal S512x1024 .f32) (ix2 r d) = (GateHost.A m c).dh3 (512 * t.val + r.val) d.val :=
  (congrArg (V m c main_arg0) (emb0 t r d)).trans (GateHost.dh3_at m c _ d)

/-- The block of the rows before the gate, entry by entry. -/
theorem blk1 (r : Fin 512) (d : Fin 1024) : (iblk m c 1 t : Vec Ideal S512x1024 .f32) (ix2 r d) = (GateHost.A m c).h2 (512 * t.val + r.val) d.val :=
  (congrArg (V m c main_arg1) (emb1 t r d)).trans (GateHost.h2_at m c _ d)

/-- The block of the embedding's rows, entry by entry. -/
theorem blk2 (r : Fin 512) (d : Fin 256) : (iblk m c 2 t : Vec Ideal S1x512x256 .f32) (ix3 0 r d) = (GateHost.A m c).p (512 * t.val + r.val) d.val :=
  (congrArg (V m c main_arg2) (emb2 t r d)).trans (GateHost.p_at m c _ d)

/-- The block of the gain, entry by entry. -/
theorem blk3 (d : Fin 1024) : (iblk m c 3 t : Vec Ideal S1x1024 .f32) (ix2 0 d) = (GateHost.A m c).g d.val :=
  (congrArg (V m c main_v0) (emb3 t d)).trans (GateHost.g_at m c d)

/-- The block of the weight of the gate, entry by entry. -/
theorem blk4 (k d : Fin 1024) : (iblk m c 4 t : Vec Ideal S1024x1024 .bf16) (ix2 k d) = (GateHost.A m c).wg k.val d.val :=
  (congrArg (V m c main_v1) (emb4 t k d)).trans (GateHost.wg_at m c k d)

/-- The block of the weight of the embedding's projection, entry by entry. -/
theorem blk5 (k : Fin 256) (d : Fin 1024) : (iblk m c 5 t : Vec Ideal S256x1024 .bf16) (ix2 k d) = (GateHost.A m c).wp k.val d.val :=
  (congrArg (V m c main_v2) (emb5 t k d)).trans (GateHost.wp_at m c k d)

/-- The blocks of point `t` are those of tile `t`. -/
theorem blocks : Blocks (GateHost.A m c) t.val (iblk m c 0 t) (iblk m c 1 t) (iblk m c 2 t) (iblk m c 3 t) (iblk m c 4 t) (iblk m c 5 t) :=
  Blocks.mk (blk0 t m c) (blk1 t m c) (blk2 t m c) (blk3 t m c) (blk4 t m c) (blk5 t m c)

end Cert.GateTile

end
-- ==== Proof.Norm.Read.lean ====
module

public import Idealize.ShloMosaic.Lib.Pipeline.ValueKit.Tiles
public import Idealize.ShloMosaic.Lib.Pipeline.Value
public import Idealize.ShloMosaic.Lib.WholeRead
public import Idealize.ShloMosaic.Lib.Pointwise
public import Idealize.ShloMosaic.PureOps.Ideal

@[expose] public section

noncomputable section

/-! Loads of whole arrays. -/

namespace Cert.Norm

open Idealize.ShloMosaic Idealize.ShloMosaic.Tactic

/-- A load of a whole array that holds `X` reads `X`. -/
theorem full_read {sig : RefSig} {κ : Kind} {sp : Space} {S : Shape} {e : EltTy} {m : Memref sig κ sp S e} (h : m.IsWhole)
    {off : Fin S.rank → Nat} (ho : off = fun _ => 0) (inb : ∀ a, off a + S.size a ≤ S.size a) (X : Vec Ideal S e) :
    View.readAt (Elt Ideal) m.view (Rect.unit off S.size inb).toLoadRect (h.unread X) = X := by
  rw [View.readAt_eq_ld, h.read_unread, View.ld_unit_zero ho]

/-- The offsets of a whole load, in two dimensions. -/
theorem zero2 : (![0, 0] : Fin 2 → ℕ) = fun _ => 0 := by decide

/-- The offsets of a whole load, in three dimensions. -/
theorem zero3 : (![0, 0, 0] : Fin 3 → ℕ) = fun _ => 0 := by decide

/-- A load of a whole array after it was written whole. -/
theorem full_cov {sig : RefSig} {κ : Kind} {sp : Space} {S : Shape} {e : EltTy} (v : View sig κ sp S e)
    {off off' : Fin S.rank → Nat} (ho : off = fun _ => 0) (ho' : off' = fun _ => 0) (inb : ∀ a, off a + S.size a ≤ S.size a)
    (inb' : ∀ a, off' a + S.size a ≤ S.size a) (w : Vec Ideal S e) (L : List (View.Piece (Elt Ideal) S e)) :
    v.readCov (⟨Rect.unit off S.size inb, w⟩ :: L) (Rect.unit off' S.size inb').toLoadRect = w := by
  rw [View.readCov_eq_canon', View.canon_cons_unit_zero ho]
  exact View.ld_unit_zero ho' _ _

/-- A load of one of the two parts of an array that holds `X`. -/
theorem half_read {sig : RefSig} {κ : Kind} {sp : Space} {n k : ℕ} {e : EltTy} {m : Memref sig κ sp ⟨3, ![2, n, k]⟩ e} (h : m.IsWhole) (j : Fin 2)
    (inb : ∀ a, (![j.val, 0, 0] : Fin 3 → ℕ) a + (![1, n, k] : Fin 3 → ℕ) a ≤ (⟨3, ![2, n, k]⟩ : Shape).size a) (X : Vec Ideal ⟨3, ![2, n, k]⟩ e) (a : Fin n) (b : Fin k) :
    View.readAt (Elt Ideal) m.view (Rect.unit (s := ⟨3, ![2, n, k]⟩) ![j.val, 0, 0] ![1, n, k] inb).toLoadRect (h.unread X) (ix3 0 a b) = X (ix3 j a b) := by
  rw [View.readAt_eq_ld, h.read_unread]
  exact View.ld_unit_apply_of _ _ _ _ _ (ix3 j a b) (fun a => by match a with
    | ⟨0, _⟩ => rfl
    | ⟨1, _⟩ => exact (Nat.zero_add _).symm
    | ⟨2, _⟩ => exact (Nat.zero_add _).symm)

end Cert.Norm

end
-- ==== Proof.Gate.Run.lean ====
module

public import proofs.«01_k».proof.Proof.Gate.Pay
public import proofs.«01_k».proof.Proof.Norm.Read
public import proofs.«01_k».proof.Proof.Gen.GateIdeal.Frame

@[expose] public section

set_option maxRecDepth 8000

noncomputable section

/-! What a run of the body of the gradient of the embedding gate leaves in each result: at the first tile (A) and at a later
one (B). -/

namespace Cert.GateTile

open Cert.GateIdeal Cert.GateIdeal.Gen Idealize.ShloMosaic Idealize.ShloMosaic.Tactic
open Cert.Norm

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S1x1024 .f32) (harg10 : arg10.IsWhole)
  (x0 : Vec Ideal S512x1024 .f32) (x1 : Vec Ideal S512x1024 .f32) (x2 : Vec Ideal S1x512x256 .f32) (x3 : Vec Ideal S1x1024 .f32) (x4 : Vec Ideal S1024x1024 .bf16) (x5 : Vec Ideal S256x1024 .bf16) (xo7 : Vec Ideal S1024x1024 .f32) (xo8 : Vec Ideal S256x1024 .f32) (xo9 : Vec Ideal S1x1024 .f32)

/-- At the first tile: the gradient of the rows before the gate. -/
theorem outA6 (hc0 : cond0_0 i) : out0_A_6 c i arg1 harg1 arg2 harg2 arg3 harg3 arg4 harg4 arg5 harg5 arg6 harg6 arg7 harg7 arg8 harg8 arg9 harg9 arg10 harg10 hc0 x0 x1 x2 x3 x4 x5 =
    k0_pay2 x0 (k0_pay17 (k0_pay6 x3) x0 (k0_pay7 x1) (k0_pay8 x1) (k0_pay10 x3 x1 x4) (k0_pay11 x2) (k0_pay12 x5) zero x4) := by
  unfold out0_A_6 kernelRun0_A
  dsimp only
  rw [View.read_writes_junk_eq_canon, View.canon_cons_unit_zero zero2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10,
    full_read harg1 zero2, full_read harg2 zero2, full_read harg3 zero3, full_read harg4 zero2, full_read harg5 zero2, full_read harg6 zero2, full_read harg7 zero2, full_read harg8 zero2, full_read harg9 zero2, full_read harg10 zero2]
  rfl

/-- At the first tile: the gradient of the weight of the gate. -/
theorem outA7 (hc0 : cond0_0 i) : out0_A_7 c i arg1 harg1 arg2 harg2 arg3 harg3 arg4 harg4 arg5 harg5 arg6 harg6 arg7 harg7 arg8 harg8 arg9 harg9 arg10 harg10 hc0 x0 x1 x2 x3 x4 x5 =
    k0_pay15 x0 (k0_pay9 x3 x1) (k0_pay10 x3 x1 x4) (k0_pay11 x2) (k0_pay12 x5) zero (k0_pay3 (F := Ideal)) := by
  unfold out0_A_7 kernelRun0_A
  dsimp only
  rw [View.read_writes_junk_eq_canon, View.canon_cons_unit_zero zero2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10,
    full_read harg1 zero2, full_read harg2 zero2, full_read harg3 zero3, full_read harg4 zero2, full_read harg5 zero2, full_read harg6 zero2, full_read harg7 zero2, full_read harg8 zero2, full_read harg9 zero2, full_read harg10 zero2, kernelRun0_A.sl.v49, kernelRun0_A.sl.H7_1, full_cov arg8.view zero2 zero2]
  rfl

/-- At the first tile: the gradient of the weight of the embedding's projection. -/
theorem outA8 (hc0 : cond0_0 i) : out0_A_8 c i arg1 harg1 arg2 harg2 arg3 harg3 arg4 harg4 arg5 harg5 arg6 harg6 arg7 harg7 arg8 harg8 arg9 harg9 arg10 harg10 hc0 x0 x1 x2 x3 x4 x5 =
    k0_pay14 x0 (k0_pay10 x3 x1 x4) (k0_pay11 x2) (k0_pay4 (F := Ideal)) := by
  unfold out0_A_8 kernelRun0_A
  dsimp only
  rw [View.read_writes_junk_eq_canon, View.canon_cons_unit_zero zero2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10,
    full_read harg1 zero2, full_read harg2 zero2, full_read harg3 zero3, full_read harg4 zero2, full_read harg5 zero2, full_read harg6 zero2, full_read harg7 zero2, full_read harg8 zero2, full_read harg9 zero2, full_read harg10 zero2, kernelRun0_A.sl.v44, kernelRun0_A.sl.H8_1, full_cov arg9.view zero2 zero2]

/-- At the first tile: the gradient of the gain. -/
theorem outA9 (hc0 : cond0_0 i) : out0_A_9 c i arg1 harg1 arg2 harg2 arg3 harg3 arg4 harg4 arg5 harg5 arg6 harg6 arg7 harg7 arg8 harg8 arg9 harg9 arg10 harg10 hc0 x0 x1 x2 x3 x4 x5 =
    k0_pay1 (k0_pay18 x0 (k0_pay8 x1) (k0_pay10 x3 x1 x4) (k0_pay11 x2) (k0_pay12 x5) zero x4) (k0_pay19 (k0_pay5 (F := Ideal))) := by
  unfold out0_A_9 kernelRun0_A
  dsimp only
  rw [View.read_writes_junk_eq_canon, View.canon_cons_unit_zero zero2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10,
    full_read harg1 zero2, full_read harg2 zero2, full_read harg3 zero3, full_read harg4 zero2, full_read harg5 zero2, full_read harg6 zero2, full_read harg7 zero2, full_read harg8 zero2, full_read harg9 zero2, full_read harg10 zero2, kernelRun0_A.sl.v72, kernelRun0_A.sl.H9_1, full_cov arg10.view zero2 zero2]
  rfl

/-- At a later tile: the gradient of the rows before the gate. -/
theorem outB6 (hc0 : ¬cond0_0 i) : out0_B_6 c i arg1 harg1 arg2 harg2 arg3 harg3 arg4 harg4 arg5 harg5 arg6 harg6 arg7 harg7 arg8 harg8 arg9 harg9 arg10 harg10 hc0 x0 x1 x2 x3 x4 x5 xo7 xo8 xo9 =
    k0_pay2 x0 (k0_pay17 (k0_pay6 x3) x0 (k0_pay7 x1) (k0_pay8 x1) (k0_pay10 x3 x1 x4) (k0_pay11 x2) (k0_pay12 x5) zero x4) := by
  unfold out0_B_6 kernelRun0_B
  dsimp only
  rw [View.read_writes_junk_eq_canon, View.canon_cons_unit_zero zero2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10,
    full_read harg1 zero2, full_read harg2 zero2, full_read harg3 zero3, full_read harg4 zero2, full_read harg5 zero2, full_read harg6 zero2, full_read harg7 zero2, full_read harg8 zero2, full_read harg9 zero2, full_read harg10 zero2]
  rfl

/-- At a later tile: the gradient of the weight of the gate. -/
theorem outB7 (hc0 : ¬cond0_0 i) : out0_B_7 c i arg1 harg1 arg2 harg2 arg3 harg3 arg4 harg4 arg5 harg5 arg6 harg6 arg7 harg7 arg8 harg8 arg9 harg9 arg10 harg10 hc0 x0 x1 x2 x3 x4 x5 xo7 xo8 xo9 =
    k0_pay15 x0 (k0_pay9 x3 x1) (k0_pay10 x3 x1 x4) (k0_pay11 x2) (k0_pay12 x5) zero xo7 := by
  unfold out0_B_7 kernelRun0_B
  dsimp only
  rw [View.read_writes_junk_eq_canon, View.canon_cons_unit_zero zero2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10,
    full_read harg1 zero2, full_read harg2 zero2, full_read harg3 zero3, full_read harg4 zero2, full_read harg5 zero2, full_read harg6 zero2, full_read harg7 zero2, full_read harg8 zero2, full_read harg9 zero2, full_read harg10 zero2]
  rfl

/-- At a later tile: the gradient of the weight of the embedding's projection. -/
theorem outB8 (hc0 : ¬cond0_0 i) : out0_B_8 c i arg1 harg1 arg2 harg2 arg3 harg3 arg4 harg4 arg5 harg5 arg6 harg6 arg7 harg7 arg8 harg8 arg9 harg9 arg10 harg10 hc0 x0 x1 x2 x3 x4 x5 xo7 xo8 xo9 =
    k0_pay14 x0 (k0_pay10 x3 x1 x4) (k0_pay11 x2) xo8 := by
  unfold out0_B_8 kernelRun0_B
  dsimp only
  rw [View.read_writes_junk_eq_canon, View.canon_cons_unit_zero zero2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10,
    full_read harg1 zero2, full_read harg2 zero2, full_read harg3 zero3, full_read harg4 zero2, full_read harg5 zero2, full_read harg6 zero2, full_read harg7 zero2, full_read harg8 zero2, full_read harg9 zero2, full_read harg10 zero2]

/-- At a later tile: the gradient of the gain. -/
theorem outB9 (hc0 : ¬cond0_0 i) : out0_B_9 c i arg1 harg1 arg2 harg2 arg3 harg3 arg4 harg4 arg5 harg5 arg6 harg6 arg7 harg7 arg8 harg8 arg9 harg9 arg10 harg10 hc0 x0 x1 x2 x3 x4 x5 xo7 xo8 xo9 =
    k0_pay1 (k0_pay18 x0 (k0_pay8 x1) (k0_pay10 x3 x1 x4) (k0_pay11 x2) (k0_pay12 x5) zero x4) (k0_pay19 xo9) := by
  unfold out0_B_9 kernelRun0_B
  dsimp only
  rw [View.read_writes_junk_eq_canon, View.canon_cons_unit_zero zero2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10,
    full_read harg1 zero2, full_read harg2 zero2, full_read harg3 zero3, full_read harg4 zero2, full_read harg5 zero2, full_read harg6 zero2, full_read harg7 zero2, full_read harg8 zero2, full_read harg9 zero2, full_read harg10 zero2]
  rfl

end Cert.GateTile

end
-- ==== Proof.Gate.Arrays.lean ====
module

public import proofs.«01_k».proof.Proof.Gate.Blocks
public import proofs.«01_k».proof.Proof.Gate.Run
public import proofs.«01_k».proof.Proof.Gen.GateIdeal.Value

@[expose] public section

set_option maxRecDepth 16384

noncomputable section

/-! The four results of the gate's backward call as whole arrays. -/

namespace Cert.GateTile

open Cert.GateIdeal Cert.GateIdeal.Gen Idealize.ShloMosaic Idealize.ShloMosaic.TcCoe Idealize.ShloMosaic.Tactic

variable (m : (ℓ : Loc nD τ sig) → Buf (Elt Ideal) ℓ) (c : Dev nD)

/-- The gradient of the rows before the gate. -/
def dh2Arr : FVec Ideal S16384x1024 .f32 := fun y => (GateHost.A m c).dh2 (y 0).val (y 1).val

/-- The gradient of the weight of the gate. -/
def dwgArr : FVec Ideal S1024x1024 .f32 := fun y => (GateHost.A m c).dwg (y 0).val (y 1).val

/-- The gradient of the weight of the embedding's projection. -/
def dwpArr : FVec Ideal S256x1024 .f32 := fun y => (GateHost.A m c).dwp (y 0).val (y 1).val

/-- The gradient of the gain. -/
def dgArr : FVec Ideal S1x1024 .f32 := fun y => (GateHost.A m c).dg (y 1).val

/-- A grid point is the first when the test the body makes says so. -/
theorem first (t : Fin cfg0.N) : t.val % 32 = 0 ↔ t.val = 0 := by
  have := tlt t
  omega

/-- Which block of its array holds the gradient of the rows before the gate. -/
theorem idx6 : ∀ t : Fin cfg0.N, (cfg0.win 6).index t = ![t.val, 0] := by decide +kernel

/-- Which block of its array holds the gradient of the weight of the gate. -/
theorem idx7 : ∀ t : Fin cfg0.N, (cfg0.win 7).index t = ![0, 0] := by decide +kernel

/-- Which block of its array holds the gradient of the weight of the embedding's projection. -/
theorem idx8 : ∀ t : Fin cfg0.N, (cfg0.win 8).index t = ![0, 0] := by decide +kernel

/-- Which block of its array holds the gradient of the gain. -/
theorem idx9 : ∀ t : Fin cfg0.N, (cfg0.win 9).index t = ![0, 0] := by decide +kernel

/-- Only the last tile writes the gradient of the weight of the gate back. -/
theorem last7 : ∀ t : Fin cfg0.N, (cfg0.win 7).flush t = true → t.val = 31 := by decide +kernel

/-- Only the last tile writes the gradient of the weight of the embedding's projection back. -/
theorem last8 : ∀ t : Fin cfg0.N, (cfg0.win 8).flush t = true → t.val = 31 := by decide +kernel

/-- Only the last tile writes the gradient of the gain back. -/
theorem last9 : ∀ t : Fin cfg0.N, (cfg0.win 9).flush t = true → t.val = 31 := by decide +kernel

/-! Where an entry of a block lies in its array. -/

/-- Along the rows. -/
theorem emb6_0 (t : Fin cfg0.N) (y) : ((((cfg0.win 6).blk t).view.emb y) 0 : ℕ) = 512 * t.val + (y 0).val := by
  blk_simp [idx6 t]
  exact congrArg (· + (y 0).val) (Nat.mul_comm _ _)

/-- Along the columns. -/
theorem emb6_1 (t : Fin cfg0.N) (y) : ((((cfg0.win 6).blk t).view.emb y) 1 : ℕ) = (y 1).val := by
  blk_simp [idx6 t]

/-- Along the rows. -/
theorem emb7_0 (t : Fin cfg0.N) (y) : ((((cfg0.win 7).blk t).view.emb y) 0 : ℕ) = (y 0).val := by
  blk_simp [idx7 t]

/-- Along the columns. -/
theorem emb7_1 (t : Fin cfg0.N) (y) : ((((cfg0.win 7).blk t).view.emb y) 1 : ℕ) = (y 1).val := by
  blk_simp [idx7 t]

/-- Along the rows. -/
theorem emb8_0 (t : Fin cfg0.N) (y) : ((((cfg0.win 8).blk t).view.emb y) 0 : ℕ) = (y 0).val := by
  blk_simp [idx8 t]

/-- Along the columns. -/
theorem emb8_1 (t : Fin cfg0.N) (y) : ((((cfg0.win 8).blk t).view.emb y) 1 : ℕ) = (y 1).val := by
  blk_simp [idx8 t]

/-- Along the rows. -/
theorem emb9_0 (t : Fin cfg0.N) (y) : ((((cfg0.win 9).blk t).view.emb y) 0 : ℕ) = (y 0).val := by
  blk_simp [idx9 t]

/-- Along the columns. -/
theorem emb9_1 (t : Fin cfg0.N) (y) : ((((cfg0.win 9).blk t).view.emb y) 1 : ℕ) = (y 1).val := by
  blk_simp [idx9 t]

/-- The gradient of the rows before the gate, tile by tile. -/
theorem dh2_at (t : Fin cfg0.N) (r : Fin 512) (d : Fin 1024) : (outsAt0 m c t.val t.isLt).1 (ix2 r d) = (GateHost.A m c).dh2 (512 * t.val + r.val) d.val := by
  by_cases h0 : t.val % 32 = 0
  · rw [outsAt0_A m c t h0]
    dsimp only
    rw [outA6]
    exact dh2_eq (blocks t m c) r d
  · rw [outsAt0_B m c t h0]
    dsimp only
    rw [outB6]
    exact dh2_eq (blocks t m c) r d

/-- The gradient of the weight of the gate after the last tile. -/
theorem dwg_at (t : Fin cfg0.N) (h1 : t.val = 31) (k d : Fin 1024) : (outsAt0 m c t.val t.isLt).2.1 (ix2 k d) = (GateHost.A m c).dwg k.val d.val := by
  refine (Spec.acc_sum (fun n hn => (outsAt0 m c n hn).2.1 (ix2 k d)) (fun i => ∑ r : Fin 512, (GateHost.A m c).hn (512 * i + r.val) k.val * (GateHost.A m c).dpre (512 * i + r.val) d.val)
    (fun t h => ?_) (fun t h => ?_) t.val t.isLt).trans ?_
  · show (outsAt0 m c t.val t.isLt).2.1 (ix2 k d) = _
    rw [outsAt0_A m c t ((first t).mpr h)]
    dsimp only
    rw [outA7]
    refine (dwg_eq (blocks t m c) _ k d).trans ?_
    rw [pay3_apply k d, zero_add]
  · show (outsAt0 m c t.val t.isLt).2.1 (ix2 k d) = _
    rw [outsAt0_B m c t fun h' => h ((first t).mp h')]
    dsimp only
    rw [outB7]
    exact dwg_eq (blocks t m c) _ k d
  · rw [h1]
    exact Spec.sum_rows512 (fun s => (GateHost.A m c).hn s k.val * (GateHost.A m c).dpre s d.val)

/-- The gradient of the weight of the embedding's projection after the last tile. -/
theorem dwp_at (t : Fin cfg0.N) (h1 : t.val = 31) (k : Fin 256) (d : Fin 1024) : (outsAt0 m c t.val t.isLt).2.2.1 (ix2 k d) = (GateHost.A m c).dwp k.val d.val := by
  refine (Spec.acc_sum (fun n hn => (outsAt0 m c n hn).2.2.1 (ix2 k d)) (fun i => ∑ r : Fin 512, (GateHost.A m c).p (512 * i + r.val) k.val * (GateHost.A m c).dpp (512 * i + r.val) d.val)
    (fun t h => ?_) (fun t h => ?_) t.val t.isLt).trans ?_
  · show (outsAt0 m c t.val t.isLt).2.2.1 (ix2 k d) = _
    rw [outsAt0_A m c t ((first t).mpr h)]
    dsimp only
    rw [outA8]
    refine (dwp_eq (blocks t m c) _ k d).trans ?_
    rw [pay4_apply k d, zero_add]
  · show (outsAt0 m c t.val t.isLt).2.2.1 (ix2 k d) = _
    rw [outsAt0_B m c t fun h' => h ((first t).mp h')]
    dsimp only
    rw [outB8]
    exact dwp_eq (blocks t m c) _ k d
  · rw [h1]
    exact Spec.sum_rows512 (fun s => (GateHost.A m c).p s k.val * (GateHost.A m c).dpp s d.val)

/-- The gradient of the gain after the last tile. -/
theorem dg_at (t : Fin cfg0.N) (h1 : t.val = 31) (d : Fin 1024) : (outsAt0 m c t.val t.isLt).2.2.2 (ix2 0 d) = (GateHost.A m c).dg d.val := by
  refine (Spec.acc_sum (fun n hn => (outsAt0 m c n hn).2.2.2 (ix2 0 d)) (fun i => ∑ r : Fin 512, (GateHost.A m c).dhn (512 * i + r.val) d.val * (GateHost.A m c).xhat (512 * i + r.val) d.val)
    (fun t h => ?_) (fun t h => ?_) t.val t.isLt).trans ?_
  · show (outsAt0 m c t.val t.isLt).2.2.2 (ix2 0 d) = _
    rw [outsAt0_A m c t ((first t).mpr h)]
    dsimp only
    rw [outA9]
    refine (dg_eq (blocks t m c) _ d).trans ?_
    rw [pay5_apply d, zero_add]
  · show (outsAt0 m c t.val t.isLt).2.2.2 (ix2 0 d) = _
    rw [outsAt0_B m c t fun h' => h ((first t).mp h')]
    dsimp only
    rw [outB9]
    exact dg_eq (blocks t m c) _ d
  · rw [h1]
    exact Spec.sum_rows512 (fun s => (GateHost.A m c).dhn s d.val * (GateHost.A m c).xhat s d.val)

/-- The gradient of the rows before the gate is what the tiles wrote back. -/
theorem arr6 : (dats m 0 c).arrAt 6 cfg0.N = dh2Arr m c := by
  refine (dats m 0 c).arrAt_eq_of_covers 6 _ (by decide +kernel) fun t hf y => ?_
  blk_simp
  rw [after0_6]
  refine (congrArg (outsAt0 m c t.val t.isLt).1 (eq_ix2 y)).trans ?_
  have e0 := emb6_0 t y
  have e1 := emb6_1 t y
  refine (dh2_at m c t (y 0) (y 1)).trans ?_
  unfold dh2Arr
  rw [e0, e1]

/-- The gradient of the weight of the gate is what the tiles wrote back. -/
theorem arr7 : (dats m 0 c).arrAt 7 cfg0.N = dwgArr m c := by
  refine (dats m 0 c).arrAt_eq_of_covers 7 _ (by decide +kernel) fun t hf y => ?_
  blk_simp
  rw [after0_7]
  refine (congrArg (outsAt0 m c t.val t.isLt).2.1 (eq_ix2 y)).trans ?_
  have e0 := emb7_0 t y
  have e1 := emb7_1 t y
  refine (dwg_at m c t (last7 t hf) (y 0) (y 1)).trans ?_
  unfold dwgArr
  rw [e0, e1]

/-- The gradient of the weight of the embedding's projection is what the tiles wrote back. -/
theorem arr8 : (dats m 0 c).arrAt 8 cfg0.N = dwpArr m c := by
  refine (dats m 0 c).arrAt_eq_of_covers 8 _ (by decide +kernel) fun t hf y => ?_
  blk_simp
  rw [after0_8]
  refine (congrArg (outsAt0 m c t.val t.isLt).2.2.1 (eq_ix2 y)).trans ?_
  have e0 := emb8_0 t y
  have e1 := emb8_1 t y
  refine (dwp_at m c t (last8 t hf) (y 0) (y 1)).trans ?_
  unfold dwpArr
  rw [e0, e1]

/-- The gradient of the gain is what the tiles wrote back. -/
theorem arr9 : (dats m 0 c).arrAt 9 cfg0.N = dgArr m c := by
  refine (dats m 0 c).arrAt_eq_of_covers 9 _ (by decide +kernel) fun t hf y => ?_
  blk_simp
  rw [after0_9]
  refine (congrArg (outsAt0 m c t.val t.isLt).2.2.2 (eq_ix2 y)).trans ?_
  have e0 := emb9_0 t y
  have e1 := emb9_1 t y
  have e : ∀ z : Fin 1, z = 0 := fun z => Subsingleton.elim _ _
  rw [e (y 0)]
  refine (dg_at m c t (last9 t hf) (y 1)).trans ?_
  unfold dgArr
  rw [e1]

end Cert.GateTile

end
-- ==== Proof.Gate.Ref.lean ====
module

public import proofs.«01_k».proof.Proof.Gen.GateReferenceIdeal.Read
public import proofs.«01_k».proof.Proof.Norm.Spec
public import Idealize.ShloMosaic.Lib.Pointwise

@[expose] public section

noncomputable section

/-! The reference of the gate's backward call, read at an index, as the formulas. -/

namespace Cert.GateRef

open Cert.GateReferenceIdeal Cert.GateReferenceIdeal.Read Idealize.ShloMosaic Idealize.ShloMosaic.Tactic
open Cert.Spec (gateArgs layer0 rd1 rd2 rd1_val rd2_val)

variable (x0 x1 : (⟨S16384x1024, .f32⟩ : BufTy).Contents (Elt Ideal)) (x2 : (⟨S4x16384x256, .f32⟩ : BufTy).Contents (Elt Ideal))
  (x3 : (⟨S1024, .f32⟩ : BufTy).Contents (Elt Ideal)) (x4 : (⟨S1024x1024, .f32⟩ : BufTy).Contents (Elt Ideal))
  (x5 : (⟨S256x1024, .f32⟩ : BufTy).Contents (Elt Ideal))

/-- The mean square of a row. -/
theorem h_eq (s : Fin 16384) :
    val_main_v9 (F := Ideal) x1 (ix2 s 0) = Spec.msq ((gateArgs x0 x1 x2 x3 x4 x5).h2 s.val) := by
  pointwise [val_main_v9, val_main_v8, val_main_v7, val_main_v6, val_main_v5, val_main_v4, val_main_v3, val_main_cst, val_main_cst_0, val_main_cst_1]
  unfold Spec.msq
  have e : ∀ k : Fin 1024, (gateArgs x0 x1 x2 x3 x4 x5).h2 s.val k.val = x1 (ix2 s k) := fun k => rd2_val x1 s k
  simp only [e]

/-- One over the root mean square of a row. -/
theorem r_eq (s : Fin 16384) :
    val_main_v10 (F := Ideal) x1 (ix2 s 0) = Spec.rinv ((gateArgs x0 x1 x2 x3 x4 x5).h2 s.val) := by
  pointwise [val_main_v10]
  rw [h_eq x0 x1 x2 x3 x4 x5]
  rfl

/-- The normalised rows, before the gain. -/
theorem xhat_eq (s : Fin 16384) (d : Fin 1024) :
    val_main_v15 (F := Ideal) x1 (ix2 s d) = (gateArgs x0 x1 x2 x3 x4 x5).xhat s.val d.val := by
  pointwise [val_main_v15, val_main_v14]
  rw [r_eq x0 x1 x2 x3 x4 x5]
  exact congrArg₂ (fun a b : EReal => a * b) (rd2_val x1 s d).symm rfl

/-- The normalised rows. -/
theorem hn_eq (s : Fin 16384) (d : Fin 1024) :
    val_main_v18 (F := Ideal) x1 x3 (ix2 s d) = (gateArgs x0 x1 x2 x3 x4 x5).hn s.val d.val := by
  pointwise [val_main_v18, val_main_v17, val_main_v16]
  rw [xhat_eq x0 x1 x2 x3 x4 x5]
  exact congrArg₂ (fun a b : EReal => a * b) rfl (rd1_val x3 d).symm

/-- The gate. -/
theorem gate_eq (s : Fin 16384) (d : Fin 1024) :
    val_main_v25 (F := Ideal) x1 x3 x4 (ix2 s d) = (gateArgs x0 x1 x2 x3 x4 x5).gate s.val d.val := by
  pointwise [val_main_v25, val_main_v24, val_main_v23, val_main_v22, val_main_v21, val_main_v20, val_main_v19, val_main_cst_3, val_main_cst_4]
  simp only [hn_eq x0 x1 x2 x3 x4 x5]
  unfold Spec.GateArgs.gate Ideal.logistic
  have e : ∀ k : Fin 1024, (gateArgs x0 x1 x2 x3 x4 x5).wg k.val d.val = x4 (ix2 k d) := fun k => rd2_val x4 k d
  simp only [e]

/-- The projected embedding. -/
theorem pp_eq (s : Fin 16384) (d : Fin 1024) :
    val_main_v2 (F := Ideal) x2 x5 (ix2 s d) = (gateArgs x0 x1 x2 x3 x4 x5).pp s.val d.val := by
  pointwise [val_main_v2, val_main_v1, val_main_v0]
  refine Finset.sum_congr rfl fun k _ => ?_
  exact congrArg₂ (· * ·) (rd2_val (layer0 (l := 3) x2) s k).symm (rd2_val x5 k d).symm

/-- The gradient of the projected embedding. -/
theorem dpp_eq (s : Fin 16384) (d : Fin 1024) :
    val_main_v33 (F := Ideal) x0 x1 x3 x4 (ix2 s d) = (gateArgs x0 x1 x2 x3 x4 x5).dpp s.val d.val := by
  pointwise [val_main_v33, val_main_v31]
  rw [gate_eq x0 x1 x2 x3 x4 x5]
  exact congrArg₂ (fun a b : EReal => a * b) (rd2_val x0 s d).symm rfl

/-- The gradient of what the gate is the logistic function of. -/
theorem dpre_eq (s : Fin 16384) (d : Fin 1024) :
    val_main_v34 (F := Ideal) x0 x1 x2 x3 x4 x5 (ix2 s d) = (gateArgs x0 x1 x2 x3 x4 x5).dpre s.val d.val := by
  pointwise [val_main_v34, val_main_v32, val_main_v31, val_main_v28, val_main_v27, val_main_v26, val_main_cst_5]
  rw [gate_eq x0 x1 x2 x3 x4 x5, pp_eq x0 x1 x2 x3 x4 x5]
  unfold Spec.GateArgs.dpre
  have e : (gateArgs x0 x1 x2 x3 x4 x5).dh3 s.val d.val = x0 (ix2 s d) := rd2_val x0 s d
  rw [e, mul_comm (x0 (ix2 s d) : EReal), mul_assoc (_ * _ : EReal)]

/-- The gradient of the normalised rows. -/
theorem dhn_eq (s : Fin 16384) (k : Fin 1024) :
    val_main_v37 (F := Ideal) x0 x1 x2 x3 x4 x5 (ix2 s k) = (gateArgs x0 x1 x2 x3 x4 x5).dhn s.val k.val := by
  pointwise [val_main_v37]
  simp only [dpre_eq x0 x1 x2 x3 x4 x5]
  refine Finset.sum_congr rfl fun d _ => ?_
  exact congrArg₂ (fun a b : EReal => a * b) rfl (rd2_val x4 k d).symm

/-- The gradient of the weight of the gate. -/
theorem dwg_eq (k d : Fin 1024) :
    val_main_v36 (F := Ideal) x0 x1 x2 x3 x4 x5 (ix2 k d) = (gateArgs x0 x1 x2 x3 x4 x5).dwg k.val d.val := by
  pointwise [val_main_v36, val_main_v35]
  simp only [dpre_eq x0 x1 x2 x3 x4 x5, hn_eq x0 x1 x2 x3 x4 x5]
  exact Finset.sum_congr rfl fun s _ => mul_comm _ _

/-- The gradient of the weight of the embedding's projection. -/
theorem dwp_eq (k : Fin 256) (d : Fin 1024) :
    val_main_v60 (F := Ideal) x0 x1 x2 x3 x4 (ix2 k d) = (gateArgs x0 x1 x2 x3 x4 x5).dwp k.val d.val := by
  pointwise [val_main_v60, val_main_v59, val_main_v1, val_main_v0]
  simp only [dpp_eq x0 x1 x2 x3 x4 x5]
  refine Finset.sum_congr rfl fun s _ => (mul_comm _ _).trans ?_
  exact congrArg₂ (fun a b : EReal => a * b) (rd2_val (layer0 (l := 3) x2) s k).symm rfl

/-- The gradient of the gain, as a vector. -/
theorem dg0_eq (d : Fin 1024) :
    val_main_v39 (F := Ideal) x0 x1 x2 x3 x4 x5 (ix1 d) = (gateArgs x0 x1 x2 x3 x4 x5).dg d.val := by
  pointwise [val_main_v39, val_main_v38, val_main_cst_6]
  simp only [dhn_eq x0 x1 x2 x3 x4 x5, xhat_eq x0 x1 x2 x3 x4 x5]
  exact Finset.sum_congr rfl fun s _ => mul_comm _ _

/-- The gradient of the gain, as a row. -/
theorem dg1_eq (d : Fin 1024) :
    val_main_v40 (F := Ideal) x0 x1 x2 x3 x4 x5 (ix2 0 d) = (gateArgs x0 x1 x2 x3 x4 x5).dg d.val := by
  pointwise [val_main_v40]
  exact dg0_eq x0 x1 x2 x3 x4 x5 d

/-- The gradient of the gain. -/
theorem dg_eq (d : Fin 1024) :
    val_main_v61 (F := Ideal) x0 x1 x2 x3 x4 x5 (ix2 0 d) = (gateArgs x0 x1 x2 x3 x4 x5).dg d.val := by
  pointwise [val_main_v61, val_main_v43, val_main_cst_7]
  refine (Fin.sum_univ_one _).trans ?_
  exact dg1_eq x0 x1 x2 x3 x4 x5 d

/-- What the norm's gradient adds along a row. -/
theorem t0_eq (s : Fin 16384) :
    val_main_v52 (F := Ideal) x0 x1 x2 x3 x4 x5 (ix2 s 0) = Ideal.div ((∑ k : Fin 1024, (gateArgs x0 x1 x2 x3 x4 x5).h2 s.val k.val * ((gateArgs x0 x1 x2 x3 x4 x5).dhn s.val k.val * (gateArgs x0 x1 x2 x3 x4 x5).g k.val)) * (Ideal.ofBits FTy.f32 3204448256#32 * Ideal.div (Spec.rinv ((gateArgs x0 x1 x2 x3 x4 x5).h2 s.val)) (Spec.msq ((gateArgs x0 x1 x2 x3 x4 x5).h2 s.val)))) (Ideal.ofBits FTy.f32 1149239296#32) := by
  pointwise [val_main_v52, val_main_v51, val_main_v50, val_main_v46, val_main_v45, val_main_v44, val_main_v42, val_main_v41, val_main_v16, val_main_v13, val_main_v12, val_main_v11, val_main_cst_2, val_main_cst_8, val_main_cst_9]
  simp only [h_eq x0 x1 x2 x3 x4 x5, r_eq x0 x1 x2 x3 x4 x5, dhn_eq x0 x1 x2 x3 x4 x5]
  have e : ∀ k : Fin 1024, (gateArgs x0 x1 x2 x3 x4 x5).h2 s.val k.val = x1 (ix2 s k) := fun k => rd2_val x1 s k
  have e' : ∀ k : Fin 1024, (gateArgs x0 x1 x2 x3 x4 x5).g k.val = x3 (ix1 k) := fun k => rd1_val x3 k
  simp only [e, e']

/-- The same as a vector. -/
theorem t_eq (s : Fin 16384) :
    val_main_v53 (F := Ideal) x0 x1 x2 x3 x4 x5 (ix1 s) = Ideal.div ((∑ k : Fin 1024, (gateArgs x0 x1 x2 x3 x4 x5).h2 s.val k.val * ((gateArgs x0 x1 x2 x3 x4 x5).dhn s.val k.val * (gateArgs x0 x1 x2 x3 x4 x5).g k.val)) * (Ideal.ofBits FTy.f32 3204448256#32 * Ideal.div (Spec.rinv ((gateArgs x0 x1 x2 x3 x4 x5).h2 s.val)) (Spec.msq ((gateArgs x0 x1 x2 x3 x4 x5).h2 s.val)))) (Ideal.ofBits FTy.f32 1149239296#32) := by
  pointwise [val_main_v53, val_main_cst_10]
  refine (Fin.sum_univ_one _).trans ?_
  exact t0_eq x0 x1 x2 x3 x4 x5 s

/-- The gradient of the rows before the gate. -/
theorem dh2_eq (s : Fin 16384) (d : Fin 1024) :
    val_main_v58 (F := Ideal) x0 x1 x2 x3 x4 x5 (ix2 s d) = (gateArgs x0 x1 x2 x3 x4 x5).dh2 s.val d.val := by
  pointwise [val_main_v58, val_main_v57, val_main_v56, val_main_v55, val_main_v54, val_main_v49, val_main_v48, val_main_v47, val_main_v42, val_main_v41, val_main_v16]
  rw [t_eq x0 x1 x2 x3 x4 x5, r_eq x0 x1 x2 x3 x4 x5, dhn_eq x0 x1 x2 x3 x4 x5]
  have e : (gateArgs x0 x1 x2 x3 x4 x5).h2 s.val d.val = x1 (ix2 s d) := rd2_val x1 s d
  have e' : (gateArgs x0 x1 x2 x3 x4 x5).g d.val = x3 (ix1 d) := rd1_val x3 d
  have e'' : (gateArgs x0 x1 x2 x3 x4 x5).dh3 s.val d.val = x0 (ix2 s d) := rd2_val x0 s d
  rw [← e, ← e', ← e'']
  exact Spec.rmsBwd_spell ((gateArgs x0 x1 x2 x3 x4 x5).h2 s.val) (fun k => (gateArgs x0 x1 x2 x3 x4 x5).dhn s.val k * (gateArgs x0 x1 x2 x3 x4 x5).g k) d _ rfl _

end Cert.GateRef

end
-- ==== Proof.Gate.Meet.lean ====
module

public import proofs.«01_k».proof.Proof.Gate.Arrays
public import proofs.«01_k».proof.Proof.Gate.Ref

@[expose] public section

set_option maxRecDepth 8000

noncomputable section

/-! The arrays the backward call of the embedding gate leaves are the arrays its reference computes. -/

namespace Cert.GateMeet

open Cert.GateIdeal Cert.GateIdeal.Gen Idealize.ShloMosaic Idealize.ShloMosaic.TcCoe Idealize.ShloMosaic.Tactic
open Cert.GateReferenceIdeal.Read (val_main_v58 val_main_v36 val_main_v60 val_main_v61)

variable (m : (ℓ : Loc nD τ sig) → Buf (Elt Ideal) ℓ) (c : Dev nD)

/-- The gradient of the rows before the gate. -/
theorem dh2 : val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = GateTile.dh2Arr m c :=
  funext fun y => (congrArg _ (eq_ix2 y)).trans (GateRef.dh2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1))

/-- The gradient of the weight of the gate. -/
theorem dwg : val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = GateTile.dwgArr m c :=
  funext fun y => (congrArg _ (eq_ix2 y)).trans (GateRef.dwg_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1))

/-- The gradient of the weight of the embedding's projection. -/
theorem dwp : val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = GateTile.dwpArr m c :=
  funext fun y => (congrArg _ (eq_ix2 y)).trans (GateRef.dwp_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1))

/-- The gradient of the gain. -/
theorem dg : val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = GateTile.dgArr m c :=
  funext fun y => (congrArg _ ((eq_ix2 y).trans (congrArg (fun z : Fin 1 => ix2 z (y 1)) (Subsingleton.elim _ _)))).trans (GateRef.dg_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 1))

end Cert.GateMeet

end
-- ==== Proof.Out.Pay.lean ====
module

public import proofs.«01_k».proof.Proof.Gen.OutIdeal.Skeleton
public import proofs.«01_k».proof.Proof.Norm.Spec
public import proofs.«01_k».proof.Proof.Norm.Read
public import Idealize.ShloMosaic.Lib.Pointwise
public import Idealize.ShloMosaic.PureOps.Ideal

@[expose] public section

noncomputable section

/-! What a tile of the gradient of the output projection computes from what it loads, entry by entry. -/

namespace Cert.OutTile

open Cert.OutIdeal Cert.OutIdeal.Gen Idealize.ShloMosaic Idealize.ShloMosaic.Tactic

/-- One of the two parts of a block. -/
def half (j : Fin 2) (x : Vec Ideal S2x512x1024 .f32) : Vec Ideal S1x512x1024 .f32 := fun y => x (ix3 j (y 1) (y 2))

/-- A load of the first part. -/
theorem read0 {sig : RefSig} {κ : Kind} {sp : Space} {m : Memref sig κ sp S2x512x1024 .f32} (h : m.IsWhole)
    (inb : ∀ a, (![0, 0, 0] : Fin 3 → ℕ) a + S1x512x1024.size a ≤ S2x512x1024.size a) (X : Vec Ideal S2x512x1024 .f32) :
    View.readAt (Elt Ideal) m.view (Rect.unit (s := S2x512x1024) ![0, 0, 0] S1x512x1024.size inb).toLoadRect (h.unread X) = half 0 X := by
  funext y
  have e : y = ix3 (0 : Fin 1) (y 1) (y 2) := (eq_ix3 y).trans (congrArg (fun z : Fin 1 => ix3 z (y 1) (y 2)) (Subsingleton.elim _ _))
  exact (congrArg (View.readAt (Elt Ideal) m.view (Rect.unit (s := S2x512x1024) ![0, 0, 0] S1x512x1024.size inb).toLoadRect (h.unread X)) e).trans
    (Norm.half_read h 0 inb X (y 1) (y 2))

/-- A load of the second part. -/
theorem read1 {sig : RefSig} {κ : Kind} {sp : Space} {m : Memref sig κ sp S2x512x1024 .f32} (h : m.IsWhole)
    (inb : ∀ a, (![1, 0, 0] : Fin 3 → ℕ) a + S1x512x1024.size a ≤ S2x512x1024.size a) (X : Vec Ideal S2x512x1024 .f32) :
    View.readAt (Elt Ideal) m.view (Rect.unit (s := S2x512x1024) ![1, 0, 0] S1x512x1024.size inb).toLoadRect (h.unread X) = half 1 X := by
  funext y
  have e : y = ix3 (0 : Fin 1) (y 1) (y 2) := (eq_ix3 y).trans (congrArg (fun z : Fin 1 => ix3 z (y 1) (y 2)) (Subsingleton.elim _ _))
  exact (congrArg (View.readAt (Elt Ideal) m.view (Rect.unit (s := S2x512x1024) ![1, 0, 0] S1x512x1024.size inb).toLoadRect (h.unread X)) e).trans
    (Norm.half_read h 1 inb X (y 1) (y 2))

/-- The zeros the gradient of the weight starts from. -/
theorem pay6_apply (k d : Fin 1024) : k0_pay6 (F := Ideal) (ix2 k d) = 0 := by
  pointwise [k0_pay6]

/-- The zeros the gradient of the gain starts from. -/
theorem pay7_apply (d : Fin 1024) : k0_pay7 (F := Ideal) (ix2 0 d) = 0 := by
  pointwise [k0_pay7]

/-- One over the root mean square of a row. -/
theorem pay9_apply (v5 : Vec Ideal S512x1024 .f32) (r : Fin 512) :
    k0_pay9 v5 (ix2 r 0) = Ideal.rsqrt (Ideal.div (∑ x : Fin 1024, v5 (ix2 r x) * v5 (ix2 r x))
        (Ideal.ofBits FTy.f32 1149239296#32) + Ideal.ofBits FTy.f32 897988541#32) := by
  pointwise [k0_pay9, k0_pay8]

/-- The normalised rows, before the gain. -/
theorem pay10_apply (v5 : Vec Ideal S512x1024 .f32) (r : Fin 512) (d : Fin 1024) :
    k0_pay10 v5 (ix2 r d) = v5 (ix2 r d) * k0_pay9 v5 (ix2 r 0) := by
  unfold k0_pay10
  generalize k0_pay9 v5 = g
  pointwise [k0_pay8]

/-- The gradient of the normalised rows. -/
theorem pay11_apply (v17 v19 : Vec Ideal S1x512x1024 .f32) (r : Fin 512) (d : Fin 1024) :
    k0_pay11 v17 v19 (ix2 r d) = v17 (ix3 0 r d) + v19 (ix3 0 r d) := by
  pointwise [k0_pay11]

/-- The gradient that comes through the norm. -/
theorem pay12_apply (v3 : Vec Ideal S1x1024 .f32) (v5 : Vec Ideal S512x1024 .f32) (v17 v19 : Vec Ideal S1x512x1024 .f32) (r : Fin 512) (d : Fin 1024) :
    k0_pay12 v3 v5 v17 v19 (ix2 r d)
      = k0_pay9 v5 (ix2 r 0) * (k0_pay11 v17 v19 (ix2 r d) * v3 (ix2 0 d)
        - k0_pay10 v5 (ix2 r d) * Ideal.div (∑ k : Fin 1024, k0_pay11 v17 v19 (ix2 r k) * v3 (ix2 0 k) * k0_pay10 v5 (ix2 r k))
          (Ideal.ofBits FTy.f32 1149239296#32)) := by
  unfold k0_pay12
  generalize k0_pay11 v17 v19 = g
  generalize k0_pay10 v5 = g'
  generalize k0_pay9 v5 = g''
  pointwise []

/-- What is added to the gradient of the gain. -/
theorem pay13_apply (v5 : Vec Ideal S512x1024 .f32) (v17 v19 : Vec Ideal S1x512x1024 .f32) (d : Fin 1024) :
    k0_pay13 v5 v17 v19 (ix2 0 d) = ∑ r : Fin 512, k0_pay11 v17 v19 (ix2 r d) * k0_pay10 v5 (ix2 r d) := by
  unfold k0_pay13
  generalize k0_pay11 v17 v19 = g
  generalize k0_pay10 v5 = g'
  pointwise []

/-- The gradient of the gain after a tile. -/
theorem pay1_apply (v36 : FVec Ideal S1x1024 .f32) (v37 : Vec Ideal S1x1024 .f32) (d : Fin 1024) :
    k0_pay1 v36 v37 (ix2 0 d) = v37 (ix2 0 d) + v36 (ix2 0 d) := by
  pointwise [k0_pay1]

/-- The gradient of the rows after the projection. -/
theorem pay2_apply (v33 : FVec Ideal S512x1024 .f32) (v41 : Vec Ideal S512x1024 .f32) (r : Fin 512) (d : Fin 1024) :
    k0_pay2 v33 v41 (ix2 r d) = v41 (ix2 r d) + v33 (ix2 r d) := by
  pointwise [k0_pay2]

/-- The gradient of the output of the mixers. -/
theorem pay4_apply (v33 : FVec Ideal S512x1024 .f32) (v41 : Vec Ideal S512x1024 .f32) (v45 : Vec Ideal S1024x1024 .bf16) (r : Fin 512) (k : Fin 1024) :
    k0_pay4 v33 v41 v45 (ix2 r k) = ∑ d : Fin 1024, k0_pay2 v33 v41 (ix2 r d) * v45 (ix2 k d) := by
  unfold k0_pay4 k0_pay3
  generalize k0_pay2 v33 v41 = g
  pointwise []

/-- The gradient of the weight after a tile. -/
theorem pay5_apply (v33 : FVec Ideal S512x1024 .f32) (v41 : Vec Ideal S512x1024 .f32) (v50 : Vec Ideal S1024x1024 .f32) (v52 : Vec Ideal S512x1024 .bf16)
    (k d : Fin 1024) :
    k0_pay5 v33 v41 v50 v52 (ix2 k d) = v50 (ix2 k d) + ∑ r : Fin 512, v52 (ix2 r k) * k0_pay2 v33 v41 (ix2 r d) := by
  unfold k0_pay5 k0_pay3
  generalize k0_pay2 v33 v41 = g
  pointwise []

end Cert.OutTile

end
-- ==== Proof.Out.Tile.lean ====
module

public import proofs.«01_k».proof.Proof.Out.Pay

@[expose] public section

noncomputable section

/-! What one tile of the gradient of the output projection computes, from the blocks it reads: tile `i` holds rows
`512 * i, …`. -/

namespace Cert.OutTile

open Cert.OutIdeal Cert.OutIdeal.Gen Idealize.ShloMosaic Idealize.ShloMosaic.Tactic
open Cert.Spec (OutArgs)

/-- The blocks of a tile are tile `i` of the arrays. -/
structure Blocks (A : OutArgs) (i : ℕ) (x0 : Vec Ideal S512x1024 .f32) (x1 : Vec Ideal S2x512x1024 .f32) (x2 : Vec Ideal S512x1024 .f32)
    (x3 : Vec Ideal S512x1024 .bf16) (x4 : Vec Ideal S1x1024 .f32) (x5 : Vec Ideal S1024x1024 .bf16) : Prop where
  h0 : ∀ (r : Fin 512) (d : Fin 1024), x0 (ix2 r d) = A.dh2 (512 * i + r.val) d.val
  h1 : ∀ (j : Fin 2) (r : Fin 512) (d : Fin 1024), x1 (ix3 j r d) = A.part j.val (512 * i + r.val) d.val
  h2 : ∀ (r : Fin 512) (d : Fin 1024), x2 (ix2 r d) = A.h1 (512 * i + r.val) d.val
  h3 : ∀ (r : Fin 512) (k : Fin 1024), x3 (ix2 r k) = A.ym (512 * i + r.val) k.val
  h4 : ∀ d : Fin 1024, x4 (ix2 0 d) = A.g d.val
  h5 : ∀ (k d : Fin 1024), x5 (ix2 k d) = A.wo k.val d.val

variable {A : OutArgs} {i : ℕ} {x0 : Vec Ideal S512x1024 .f32} {x1 : Vec Ideal S2x512x1024 .f32} {x2 : Vec Ideal S512x1024 .f32}
  {x3 : Vec Ideal S512x1024 .bf16} {x4 : Vec Ideal S1x1024 .f32} {x5 : Vec Ideal S1024x1024 .bf16}
  (H : Blocks A i x0 x1 x2 x3 x4 x5)

include H

/-- One over the root mean square of a row. -/
theorem r_eq (r : Fin 512) : k0_pay9 x2 (ix2 r 0) = Spec.rinv (A.h1 (512 * i + r.val)) := by
  rw [pay9_apply]
  simp only [H.h2]
  rfl

/-- The normalised rows, before the gain. -/
theorem xhat_eq (r : Fin 512) (d : Fin 1024) : k0_pay10 x2 (ix2 r d) = A.xhat (512 * i + r.val) d.val := by
  rw [pay10_apply, r_eq H, H.h2]
  rfl

/-- The gradient of the normalised rows. -/
theorem dhn_eq (r : Fin 512) (d : Fin 1024) : k0_pay11 (half 0 x1) (half 1 x1) (ix2 r d) = A.dhn (512 * i + r.val) d.val := by
  rw [pay11_apply]
  exact congrArg₂ (fun a b : EReal => a + b) (H.h1 0 r d) (H.h1 1 r d)

/-- The gradient of the rows after the projection. -/
theorem dh1_eq (r : Fin 512) (d : Fin 1024) :
    k0_pay2 (k0_pay12 x4 x2 (half 0 x1) (half 1 x1)) x0 (ix2 r d) = A.dh1 (512 * i + r.val) d.val := by
  rw [pay2_apply, pay12_apply]
  simp only [r_eq H, xhat_eq H, dhn_eq H, H.h0, H.h4]
  rfl

/-- The gradient of the output of the mixers. -/
theorem dym_eq (r : Fin 512) (k : Fin 1024) :
    k0_pay4 (k0_pay12 x4 x2 (half 0 x1) (half 1 x1)) x0 x5 (ix2 r k) = A.dym (512 * i + r.val) k.val := by
  rw [pay4_apply]
  simp only [dh1_eq H, H.h5]
  rfl

/-- What a tile adds to the gradient of the weight. -/
theorem dwo_eq (acc : Vec Ideal S1024x1024 .f32) (k d : Fin 1024) :
    k0_pay5 (k0_pay12 x4 x2 (half 0 x1) (half 1 x1)) x0 acc x3 (ix2 k d)
      = acc (ix2 k d) + ∑ r : Fin 512, A.ym (512 * i + r.val) k.val * A.dh1 (512 * i + r.val) d.val := by
  rw [pay5_apply]
  simp only [dh1_eq H, H.h3]

/-- What a tile adds to the gradient of the gain. -/
theorem dg_eq (acc : Vec Ideal S1x1024 .f32) (d : Fin 1024) :
    k0_pay1 (k0_pay13 x2 (half 0 x1) (half 1 x1)) acc (ix2 0 d)
      = acc (ix2 0 d) + ∑ r : Fin 512, A.dhn (512 * i + r.val) d.val * A.xhat (512 * i + r.val) d.val := by
  rw [pay1_apply, pay13_apply]
  simp only [dhn_eq H, xhat_eq H]

end Cert.OutTile

end
-- ==== Proof.Out.Host.lean ====
module

public import proofs.«01_k».proof.Proof.Gen.OutIdeal.Frame.Runs
public import proofs.«01_k».proof.Proof.Norm.Spec
public import Idealize.ShloMosaic.Lib.Pipeline.ValueKit.Point
public import Idealize.ShloMosaic.Lib.Pointwise
public import Idealize.ShloMosaic.PureOps.Ideal

@[expose] public section

set_option maxRecDepth 8000

noncomputable section

/-! What the arrays of the projection's backward call hold when it is entered: the host operations before it read off. -/

namespace Cert.OutHost

open Cert.OutIdeal Cert.OutIdeal.Gen Idealize.ShloMosaic Idealize.ShloMosaic.TcCoe Idealize.ShloMosaic.Tactic

variable (m : (ℓ : Loc nD τ sig) → Buf (Elt Ideal) ℓ) (c : Dev nD)

/-- The output of the mixers, as the call reads it. -/
theorem V_ym : V m c main_v2 = truncf (F := Ideal) .bf16 (m ((c : Thread nD τ).loc main_arg3) : FVec Ideal S16384x1024 .f32) bitsLt_bf16_f32 := by
  entry_read
  rfl

/-- The gain, as the call reads it. -/
theorem V_g : V m c main_v3 = shapeCast S1x1024 (m ((c : Thread nD τ).loc main_arg4) : FVec Ideal S1024 .f32) shapeCasts_S1024_S1x1024 := by
  entry_read
  rfl

/-- The weight of the projection, as the call reads it. -/
theorem V_wo : V m c main_v4 = truncf (F := Ideal) .bf16 (m ((c : Thread nD τ).loc main_arg5) : FVec Ideal S1024x1024 .f32) bitsLt_bf16_f32 := by
  entry_read
  rfl

/-- The rows after the projection, as the call reads them. -/
theorem V_h1 : V m c main_v1 = addf (F := Ideal) (m ((c : Thread nD τ).loc main_arg2) : FVec Ideal S16384x1024 .f32)
    (Host.dotGeneral (F := Ideal) (φ₁ := .f32) (φ₂ := .f32) dot_S16384x1024_S1024x1024_S16384x1024_1_0_0_1_n_n none (m ((c : Thread nD τ).loc main_arg3) : FVec Ideal S16384x1024 .f32) (m ((c : Thread nD τ).loc main_arg5) : FVec Ideal S1024x1024 .f32)) := by
  entry_read
  rfl

/-- The arrays of the formulas from the arrays the program is launched on. -/
def A : Spec.OutArgs := Spec.outArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- An entry of the cotangent. -/
theorem dh2_at (s : Fin 16384) (d : Fin 1024) : V m c main_arg0 (ix2 s d) = (A m c).dh2 s.val d.val :=
  (congrFun (V_main_arg0 m c) _).trans (Spec.rd2_val _ s d).symm

/-- An entry of a part of an array. -/
theorem half2_val (x : (⟨3, ![2, 16384, 1024]⟩ : Shape).Idx → EReal) (j : Fin 2) (s : Fin 16384) (d : Fin 1024) :
    Spec.rd2 (Spec.half2 x j.val) s.val d.val = x (ix3 j s d) := by
  refine (Spec.rd2_val _ s d).trans ?_
  unfold Spec.half2
  rw [dif_pos j.isLt]
  rfl

/-- An entry of the cotangent of the normalised rows. -/
theorem part_at (j : Fin 2) (s : Fin 16384) (d : Fin 1024) : V m c main_arg1 (ix3 j s d) = (A m c).part j.val s.val d.val :=
  (congrFun (V_main_arg1 m c) _).trans (half2_val _ j s d).symm

/-- An entry of the output of the mixers. -/
theorem ym_at (s : Fin 16384) (k : Fin 1024) : V m c main_v2 (ix2 s k) = (A m c).ym s.val k.val :=
  (congrFun (V_ym m c) _).trans (Spec.rd2_val _ s k).symm

/-- An entry of the gain. -/
theorem g_at (d : Fin 1024) : V m c main_v3 (ix2 0 d) = (A m c).g d.val := by
  refine (congrFun (V_g m c) _).trans ((shapeCast_apply _ _ _ (ix1 d) ?_).trans (Spec.rd1_val _ d).symm)
  rw [Shape.rowMajor_val_two, Shape.rowMajor_val_one]
  exact (Nat.zero_add _).symm

/-- An entry of the weight of the projection. -/
theorem wo_at (k d : Fin 1024) : V m c main_v4 (ix2 k d) = (A m c).wo k.val d.val :=
  (congrFun (V_wo m c) _).trans (Spec.rd2_val _ k d).symm

/-- An entry of the rows after the projection, from any arrays. -/
theorem h1_read (h ym : FVec Ideal S16384x1024 .f32) (wo : FVec Ideal S1024x1024 .f32) (s : Fin 16384) (d : Fin 1024) :
    addf (F := Ideal) h (Host.dotGeneral dot_S16384x1024_S1024x1024_S16384x1024_1_0_0_1_n_n none ym wo) (ix2 s d)
      = h (ix2 s d) + ∑ k : Fin 1024, ym (ix2 s k) * wo (ix2 k d) := by
  pointwise []

/-- An entry of the rows after the projection. -/
theorem h1_at (s : Fin 16384) (d : Fin 1024) : V m c main_v1 (ix2 s d) = (A m c).h1 s.val d.val := by
  refine (congrFun (V_h1 m c) _).trans ((h1_read _ _ _ s d).trans ?_)
  unfold Spec.OutArgs.h1
  refine congrArg₂ (fun a b : EReal => a + b) (Spec.rd2_val _ s d).symm (Finset.sum_congr rfl fun k _ => ?_)
  exact congrArg₂ (fun a b : EReal => a * b) (Spec.rd2_val _ s k).symm (Spec.rd2_val _ k d).symm

end Cert.OutHost

end
-- ==== Proof.Out.Blocks.lean ====
module

public import proofs.«01_k».proof.Proof.Out.Tile
public import proofs.«01_k».proof.Proof.Out.Host

@[expose] public section

set_option maxRecDepth 8000

noncomputable section

/-! The blocks a grid point of the projection's backward call is given, as entries of the arrays of the call. -/

namespace Cert.OutTile

open Cert.OutIdeal Cert.OutIdeal.Gen Idealize.ShloMosaic Idealize.ShloMosaic.TcCoe Idealize.ShloMosaic.Tactic

/-- Which block of its array holds the cotangent's rows. -/
theorem idx0 : ∀ t : Fin cfg0.N, (cfg0.win 0).index t 0 = t.val ∧ (cfg0.win 0).index t 1 = 0 := by decide +kernel
/-- Which block of its array holds the parts of the cotangent of the normalised rows. -/
theorem idx1 : ∀ t : Fin cfg0.N, (cfg0.win 1).index t 0 = 0 ∧ (cfg0.win 1).index t 1 = t.val ∧ (cfg0.win 1).index t 2 = 0 := by decide +kernel
/-- Which block of its array holds the rows after the projection. -/
theorem idx2 : ∀ t : Fin cfg0.N, (cfg0.win 2).index t 0 = t.val ∧ (cfg0.win 2).index t 1 = 0 := by decide +kernel
/-- Which block of its array holds the output of the mixers. -/
theorem idx3 : ∀ t : Fin cfg0.N, (cfg0.win 3).index t 0 = t.val ∧ (cfg0.win 3).index t 1 = 0 := by decide +kernel
/-- Which block of its array holds the gain. -/
theorem idx4 : ∀ t : Fin cfg0.N, (cfg0.win 4).index t 0 = 0 ∧ (cfg0.win 4).index t 1 = 0 := by decide +kernel
/-- Which block of its array holds the weight of the projection. -/
theorem idx5 : ∀ t : Fin cfg0.N, (cfg0.win 5).index t 0 = 0 ∧ (cfg0.win 5).index t 1 = 0 := by decide +kernel

variable (t : Fin cfg0.N)

/-- There are 32 grid points. -/
theorem tlt : t.val < 32 := lt_of_lt_of_eq t.isLt N_0

/-- Where in its array the block of the cotangent's rows lies. -/
theorem emb0 (r : Fin 512) (d : Fin 1024) : ((cfg0.win 0).blk t).view.emb (ix2 r d) = ix2 (⟨512 * t.val + r.val, by have := tlt t; omega⟩ : Fin 16384) d := by
  blk_ext [idx0 t]

/-- Where in its array the block of the parts of the cotangent of the normalised rows lies. -/
theorem emb1 (j : Fin 2) (r : Fin 512) (d : Fin 1024) : ((cfg0.win 1).blk t).view.emb (ix3 j r d) = ix3 j (⟨512 * t.val + r.val, by have := tlt t; omega⟩ : Fin 16384) d := by
  blk_ext [idx1 t]

/-- Where in its array the block of the rows after the projection lies. -/
theorem emb2 (r : Fin 512) (d : Fin 1024) : ((cfg0.win 2).blk t).view.emb (ix2 r d) = ix2 (⟨512 * t.val + r.val, by have := tlt t; omega⟩ : Fin 16384) d := by
  blk_ext [idx2 t]

/-- Where in its array the block of the output of the mixers lies. -/
theorem emb3 (r : Fin 512) (d : Fin 1024) : ((cfg0.win 3).blk t).view.emb (ix2 r d) = ix2 (⟨512 * t.val + r.val, by have := tlt t; omega⟩ : Fin 16384) d := by
  blk_ext [idx3 t]

/-- Where in its array the block of the gain lies. -/
theorem emb4 (d : Fin 1024) : ((cfg0.win 4).blk t).view.emb (ix2 0 d) = ix2 0 d := by
  blk_ext [idx4 t]

/-- Where in its array the block of the weight of the projection lies. -/
theorem emb5 (k d : Fin 1024) : ((cfg0.win 5).blk t).view.emb (ix2 k d) = ix2 k d := by
  blk_ext [idx5 t]

variable (m : (ℓ : Loc nD τ sig) → Buf (Elt Ideal) ℓ) (c : Dev nD)

/-- The block of the cotangent's rows, entry by entry. -/
theorem blk0 (r : Fin 512) (d : Fin 1024) : (iblk m c 0 t : Vec Ideal S512x1024 .f32) (ix2 r d) = (OutHost.A m c).dh2 (512 * t.val + r.val) d.val :=
  (congrArg (V m c main_arg0) (emb0 t r d)).trans (OutHost.dh2_at m c _ d)

/-- The block of the parts of the cotangent of the normalised rows, entry by entry. -/
theorem blk1 (j : Fin 2) (r : Fin 512) (d : Fin 1024) : (iblk m c 1 t : Vec Ideal S2x512x1024 .f32) (ix3 j r d) = (OutHost.A m c).part j.val (512 * t.val + r.val) d.val :=
  (congrArg (V m c main_arg1) (emb1 t j r d)).trans (OutHost.part_at m c j _ d)

/-- The block of the rows after the projection, entry by entry. -/
theorem blk2 (r : Fin 512) (d : Fin 1024) : (iblk m c 2 t : Vec Ideal S512x1024 .f32) (ix2 r d) = (OutHost.A m c).h1 (512 * t.val + r.val) d.val :=
  (congrArg (V m c main_v1) (emb2 t r d)).trans (OutHost.h1_at m c _ d)

/-- The block of the output of the mixers, entry by entry. -/
theorem blk3 (r : Fin 512) (d : Fin 1024) : (iblk m c 3 t : Vec Ideal S512x1024 .bf16) (ix2 r d) = (OutHost.A m c).ym (512 * t.val + r.val) d.val :=
  (congrArg (V m c main_v2) (emb3 t r d)).trans (OutHost.ym_at m c _ d)

/-- The block of the gain, entry by entry. -/
theorem blk4 (d : Fin 1024) : (iblk m c 4 t : Vec Ideal S1x1024 .f32) (ix2 0 d) = (OutHost.A m c).g d.val :=
  (congrArg (V m c main_v3) (emb4 t d)).trans (OutHost.g_at m c d)

/-- The block of the weight of the projection, entry by entry. -/
theorem blk5 (k d : Fin 1024) : (iblk m c 5 t : Vec Ideal S1024x1024 .bf16) (ix2 k d) = (OutHost.A m c).wo k.val d.val :=
  (congrArg (V m c main_v4) (emb5 t k d)).trans (OutHost.wo_at m c k d)

/-- The blocks of point `t` are those of tile `t`. -/
theorem blocks : Blocks (OutHost.A m c) t.val (iblk m c 0 t) (iblk m c 1 t) (iblk m c 2 t) (iblk m c 3 t) (iblk m c 4 t) (iblk m c 5 t) :=
  Blocks.mk (blk0 t m c) (blk1 t m c) (blk2 t m c) (blk3 t m c) (blk4 t m c) (blk5 t m c)

end Cert.OutTile

end
-- ==== Proof.Out.Run.lean ====
module

public import proofs.«01_k».proof.Proof.Out.Pay
public import proofs.«01_k».proof.Proof.Gen.OutIdeal.Frame

@[expose] public section

set_option maxRecDepth 8000

noncomputable section

/-! What a run of the body of the gradient of the output projection leaves in each result: at the first tile (A) and at a
later one (B). -/

namespace Cert.OutTile

open Cert.OutIdeal Cert.OutIdeal.Gen Idealize.ShloMosaic Idealize.ShloMosaic.Tactic
open Cert.Norm

variable (c : Dev nD) (i : grid0.Coords) (arg1 : Memref sig .tc .vmem S512x1024 .f32) (harg1 : arg1.IsWhole) (arg2 : Memref sig .tc .vmem S2x512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1024x1024 .f32) (harg9 : arg9.IsWhole) (arg10 : Memref sig .tc .vmem S1x1024 .f32) (harg10 : arg10.IsWhole)
  (x0 : Vec Ideal S512x1024 .f32) (x1 : Vec Ideal S2x512x1024 .f32) (x2 : Vec Ideal S512x1024 .f32) (x3 : Vec Ideal S512x1024 .bf16) (x4 : Vec Ideal S1x1024 .f32) (x5 : Vec Ideal S1024x1024 .bf16) (xo8 : Vec Ideal S1024x1024 .f32) (xo9 : Vec Ideal S1x1024 .f32)

/-- At the first tile: the gradient of the rows after the projection. -/
theorem outA6 (hc0 : cond0_0 i) : out0_A_6 c i arg1 harg1 arg2 harg2 arg3 harg3 arg4 harg4 arg5 harg5 arg6 harg6 arg7 harg7 arg8 harg8 arg9 harg9 arg10 harg10 hc0 x0 x1 x2 x3 x4 x5 =
    k0_pay2 (k0_pay12 x4 x2 (half 0 x1) (half 1 x1)) x0 := by
  unfold out0_A_6 kernelRun0_A
  dsimp only
  rw [View.read_writes_junk_eq_canon, View.canon_cons_unit_zero zero2]
  simp only [kernelRun0_A.sl.r,
    read0 harg2, read1 harg2, full_read harg1 zero2, full_read harg3 zero2, full_read harg4 zero2, full_read harg5 zero2, full_read harg6 zero2, full_read harg7 zero2, full_read harg8 zero2, full_read harg9 zero2, full_read harg10 zero2]

/-- At the first tile: the gradient of the output of the mixers. -/
theorem outA7 (hc0 : cond0_0 i) : out0_A_7 c i arg1 harg1 arg2 harg2 arg3 harg3 arg4 harg4 arg5 harg5 arg6 harg6 arg7 harg7 arg8 harg8 arg9 harg9 arg10 harg10 hc0 x0 x1 x2 x3 x4 x5 =
    k0_pay4 (k0_pay12 x4 x2 (half 0 x1) (half 1 x1)) x0 x5 := by
  unfold out0_A_7 kernelRun0_A
  dsimp only
  rw [View.read_writes_junk_eq_canon, View.canon_cons_unit_zero zero2]
  simp only [kernelRun0_A.sl.r,
    read0 harg2, read1 harg2, full_read harg1 zero2, full_read harg3 zero2, full_read harg4 zero2, full_read harg5 zero2, full_read harg6 zero2, full_read harg7 zero2, full_read harg8 zero2, full_read harg9 zero2, full_read harg10 zero2]

/-- At the first tile: the gradient of the weight. -/
theorem outA8 (hc0 : cond0_0 i) : out0_A_8 c i arg1 harg1 arg2 harg2 arg3 harg3 arg4 harg4 arg5 harg5 arg6 harg6 arg7 harg7 arg8 harg8 arg9 harg9 arg10 harg10 hc0 x0 x1 x2 x3 x4 x5 =
    k0_pay5 (k0_pay12 x4 x2 (half 0 x1) (half 1 x1)) x0 (k0_pay6 (F := Ideal)) x3 := by
  unfold out0_A_8 kernelRun0_A
  dsimp only
  rw [View.read_writes_junk_eq_canon, View.canon_cons_unit_zero zero2]
  simp only [kernelRun0_A.sl.r,
    read0 harg2, read1 harg2, full_read harg1 zero2, full_read harg3 zero2, full_read harg4 zero2, full_read harg5 zero2, full_read harg6 zero2, full_read harg7 zero2, full_read harg8 zero2, full_read harg9 zero2, full_read harg10 zero2, kernelRun0_A.sl.v50, kernelRun0_A.sl.H8_1, full_cov arg9.view zero2 zero2]

/-- At the first tile: the gradient of the gain. -/
theorem outA9 (hc0 : cond0_0 i) : out0_A_9 c i arg1 harg1 arg2 harg2 arg3 harg3 arg4 harg4 arg5 harg5 arg6 harg6 arg7 harg7 arg8 harg8 arg9 harg9 arg10 harg10 hc0 x0 x1 x2 x3 x4 x5 =
    k0_pay1 (k0_pay13 x2 (half 0 x1) (half 1 x1)) (k0_pay7 (F := Ideal)) := by
  unfold out0_A_9 kernelRun0_A
  dsimp only
  rw [View.read_writes_junk_eq_canon, View.canon_cons_unit_zero zero2]
  simp only [kernelRun0_A.sl.r_1,
    read0 harg2, read1 harg2, full_read harg1 zero2, full_read harg3 zero2, full_read harg4 zero2, full_read harg5 zero2, full_read harg6 zero2, full_read harg7 zero2, full_read harg8 zero2, full_read harg9 zero2, full_read harg10 zero2, kernelRun0_A.sl.v37, kernelRun0_A.sl.H9_1, full_cov arg10.view zero2 zero2]

/-- At a later tile: the gradient of the rows after the projection. -/
theorem outB6 (hc0 : ¬cond0_0 i) : out0_B_6 c i arg1 harg1 arg2 harg2 arg3 harg3 arg4 harg4 arg5 harg5 arg6 harg6 arg7 harg7 arg8 harg8 arg9 harg9 arg10 harg10 hc0 x0 x1 x2 x3 x4 x5 xo8 xo9 =
    k0_pay2 (k0_pay12 x4 x2 (half 0 x1) (half 1 x1)) x0 := by
  unfold out0_B_6 kernelRun0_B
  dsimp only
  rw [View.read_writes_junk_eq_canon, View.canon_cons_unit_zero zero2]
  simp only [kernelRun0_B.sl.r,
    read0 harg2, read1 harg2, full_read harg1 zero2, full_read harg3 zero2, full_read harg4 zero2, full_read harg5 zero2, full_read harg6 zero2, full_read harg7 zero2, full_read harg8 zero2, full_read harg9 zero2, full_read harg10 zero2]

/-- At a later tile: the gradient of the output of the mixers. -/
theorem outB7 (hc0 : ¬cond0_0 i) : out0_B_7 c i arg1 harg1 arg2 harg2 arg3 harg3 arg4 harg4 arg5 harg5 arg6 harg6 arg7 harg7 arg8 harg8 arg9 harg9 arg10 harg10 hc0 x0 x1 x2 x3 x4 x5 xo8 xo9 =
    k0_pay4 (k0_pay12 x4 x2 (half 0 x1) (half 1 x1)) x0 x5 := by
  unfold out0_B_7 kernelRun0_B
  dsimp only
  rw [View.read_writes_junk_eq_canon, View.canon_cons_unit_zero zero2]
  simp only [kernelRun0_B.sl.r,
    read0 harg2, read1 harg2, full_read harg1 zero2, full_read harg3 zero2, full_read harg4 zero2, full_read harg5 zero2, full_read harg6 zero2, full_read harg7 zero2, full_read harg8 zero2, full_read harg9 zero2, full_read harg10 zero2]

/-- At a later tile: the gradient of the weight. -/
theorem outB8 (hc0 : ¬cond0_0 i) : out0_B_8 c i arg1 harg1 arg2 harg2 arg3 harg3 arg4 harg4 arg5 harg5 arg6 harg6 arg7 harg7 arg8 harg8 arg9 harg9 arg10 harg10 hc0 x0 x1 x2 x3 x4 x5 xo8 xo9 =
    k0_pay5 (k0_pay12 x4 x2 (half 0 x1) (half 1 x1)) x0 xo8 x3 := by
  unfold out0_B_8 kernelRun0_B
  dsimp only
  rw [View.read_writes_junk_eq_canon, View.canon_cons_unit_zero zero2]
  simp only [kernelRun0_B.sl.r,
    read0 harg2, read1 harg2, full_read harg1 zero2, full_read harg3 zero2, full_read harg4 zero2, full_read harg5 zero2, full_read harg6 zero2, full_read harg7 zero2, full_read harg8 zero2, full_read harg9 zero2, full_read harg10 zero2]

/-- At a later tile: the gradient of the gain. -/
theorem outB9 (hc0 : ¬cond0_0 i) : out0_B_9 c i arg1 harg1 arg2 harg2 arg3 harg3 arg4 harg4 arg5 harg5 arg6 harg6 arg7 harg7 arg8 harg8 arg9 harg9 arg10 harg10 hc0 x0 x1 x2 x3 x4 x5 xo8 xo9 =
    k0_pay1 (k0_pay13 x2 (half 0 x1) (half 1 x1)) xo9 := by
  unfold out0_B_9 kernelRun0_B
  dsimp only
  rw [View.read_writes_junk_eq_canon, View.canon_cons_unit_zero zero2]
  simp only [kernelRun0_B.sl.r_1, kernelRun0_B.sl.r_2,
    read0 harg2, read1 harg2, full_read harg1 zero2, full_read harg3 zero2, full_read harg4 zero2, full_read harg5 zero2, full_read harg6 zero2, full_read harg7 zero2, full_read harg8 zero2, full_read harg9 zero2, full_read harg10 zero2]

end Cert.OutTile

end
-- ==== Proof.Out.Arrays.lean ====
module

public import proofs.«01_k».proof.Proof.Out.Blocks
public import proofs.«01_k».proof.Proof.Out.Run
public import proofs.«01_k».proof.Proof.Gen.OutIdeal.Value

@[expose] public section

set_option maxRecDepth 16384

noncomputable section

/-! The four results of the projection's backward call as whole arrays. -/

namespace Cert.OutTile

open Cert.OutIdeal Cert.OutIdeal.Gen Idealize.ShloMosaic Idealize.ShloMosaic.TcCoe Idealize.ShloMosaic.Tactic

variable (m : (ℓ : Loc nD τ sig) → Buf (Elt Ideal) ℓ) (c : Dev nD)

/-- The gradient of the rows after the projection. -/
def dh1Arr : FVec Ideal S16384x1024 .f32 := fun y => (OutHost.A m c).dh1 (y 0).val (y 1).val

/-- The gradient of the output of the mixers. -/
def dymArr : FVec Ideal S16384x1024 .bf16 := fun y => (OutHost.A m c).dym (y 0).val (y 1).val

/-- The gradient of the weight of the projection. -/
def dwoArr : FVec Ideal S1024x1024 .f32 := fun y => (OutHost.A m c).dwo (y 0).val (y 1).val

/-- The gradient of the gain. -/
def dgArr : FVec Ideal S1x1024 .f32 := fun y => (OutHost.A m c).dg (y 1).val

/-- A grid point is the first when the test the body makes says so. -/
theorem first (t : Fin cfg0.N) : t.val % 32 = 0 ↔ t.val = 0 := by
  have := tlt t
  omega

/-- Which block of its array holds the gradient of the rows after the projection. -/
theorem idx6 : ∀ t : Fin cfg0.N, (cfg0.win 6).index t = ![t.val, 0] := by decide +kernel

/-- Which block of its array holds the gradient of the output of the mixers. -/
theorem idx7 : ∀ t : Fin cfg0.N, (cfg0.win 7).index t = ![t.val, 0] := by decide +kernel

/-- Which block of its array holds the gradient of the weight of the projection. -/
theorem idx8 : ∀ t : Fin cfg0.N, (cfg0.win 8).index t = ![0, 0] := by decide +kernel

/-- Which block of its array holds the gradient of the gain. -/
theorem idx9 : ∀ t : Fin cfg0.N, (cfg0.win 9).index t = ![0, 0] := by decide +kernel

/-- Only the last tile writes the gradient of the weight of the projection back. -/
theorem last8 : ∀ t : Fin cfg0.N, (cfg0.win 8).flush t = true → t.val = 31 := by decide +kernel

/-- Only the last tile writes the gradient of the gain back. -/
theorem last9 : ∀ t : Fin cfg0.N, (cfg0.win 9).flush t = true → t.val = 31 := by decide +kernel

/-! Where an entry of a block lies in its array. -/

/-- Along the rows. -/
theorem emb6_0 (t : Fin cfg0.N) (y) : ((((cfg0.win 6).blk t).view.emb y) 0 : ℕ) = 512 * t.val + (y 0).val := by
  blk_simp [idx6 t]
  exact congrArg (· + (y 0).val) (Nat.mul_comm _ _)

/-- Along the columns. -/
theorem emb6_1 (t : Fin cfg0.N) (y) : ((((cfg0.win 6).blk t).view.emb y) 1 : ℕ) = (y 1).val := by
  blk_simp [idx6 t]

/-- Along the rows. -/
theorem emb7_0 (t : Fin cfg0.N) (y) : ((((cfg0.win 7).blk t).view.emb y) 0 : ℕ) = 512 * t.val + (y 0).val := by
  blk_simp [idx7 t]
  exact congrArg (· + (y 0).val) (Nat.mul_comm _ _)

/-- Along the columns. -/
theorem emb7_1 (t : Fin cfg0.N) (y) : ((((cfg0.win 7).blk t).view.emb y) 1 : ℕ) = (y 1).val := by
  blk_simp [idx7 t]

/-- Along the rows. -/
theorem emb8_0 (t : Fin cfg0.N) (y) : ((((cfg0.win 8).blk t).view.emb y) 0 : ℕ) = (y 0).val := by
  blk_simp [idx8 t]

/-- Along the columns. -/
theorem emb8_1 (t : Fin cfg0.N) (y) : ((((cfg0.win 8).blk t).view.emb y) 1 : ℕ) = (y 1).val := by
  blk_simp [idx8 t]

/-- Along the rows. -/
theorem emb9_0 (t : Fin cfg0.N) (y) : ((((cfg0.win 9).blk t).view.emb y) 0 : ℕ) = (y 0).val := by
  blk_simp [idx9 t]

/-- Along the columns. -/
theorem emb9_1 (t : Fin cfg0.N) (y) : ((((cfg0.win 9).blk t).view.emb y) 1 : ℕ) = (y 1).val := by
  blk_simp [idx9 t]

/-- The gradient of the rows after the projection, tile by tile. -/
theorem dh1_at (t : Fin cfg0.N) (r : Fin 512) (d : Fin 1024) : (outsAt0 m c t.val t.isLt).1 (ix2 r d) = (OutHost.A m c).dh1 (512 * t.val + r.val) d.val := by
  by_cases h0 : t.val % 32 = 0
  · rw [outsAt0_A m c t h0]
    dsimp only
    rw [outA6]
    exact dh1_eq (blocks t m c) r d
  · rw [outsAt0_B m c t h0]
    dsimp only
    rw [outB6]
    exact dh1_eq (blocks t m c) r d

/-- The gradient of the output of the mixers, tile by tile. -/
theorem dym_at (t : Fin cfg0.N) (r : Fin 512) (d : Fin 1024) : (outsAt0 m c t.val t.isLt).2.1 (ix2 r d) = (OutHost.A m c).dym (512 * t.val + r.val) d.val := by
  by_cases h0 : t.val % 32 = 0
  · rw [outsAt0_A m c t h0]
    dsimp only
    rw [outA7]
    exact dym_eq (blocks t m c) r d
  · rw [outsAt0_B m c t h0]
    dsimp only
    rw [outB7]
    exact dym_eq (blocks t m c) r d

/-- The gradient of the weight of the projection after the last tile. -/
theorem dwo_at (t : Fin cfg0.N) (h1 : t.val = 31) (k d : Fin 1024) : (outsAt0 m c t.val t.isLt).2.2.1 (ix2 k d) = (OutHost.A m c).dwo k.val d.val := by
  refine (Spec.acc_sum (fun n hn => (outsAt0 m c n hn).2.2.1 (ix2 k d)) (fun i => ∑ r : Fin 512, (OutHost.A m c).ym (512 * i + r.val) k.val * (OutHost.A m c).dh1 (512 * i + r.val) d.val)
    (fun t h => ?_) (fun t h => ?_) t.val t.isLt).trans ?_
  · show (outsAt0 m c t.val t.isLt).2.2.1 (ix2 k d) = _
    rw [outsAt0_A m c t ((first t).mpr h)]
    dsimp only
    rw [outA8]
    refine (dwo_eq (blocks t m c) _ k d).trans ?_
    rw [pay6_apply k d, zero_add]
  · show (outsAt0 m c t.val t.isLt).2.2.1 (ix2 k d) = _
    rw [outsAt0_B m c t fun h' => h ((first t).mp h')]
    dsimp only
    rw [outB8]
    exact dwo_eq (blocks t m c) _ k d
  · rw [h1]
    exact Spec.sum_rows512 (fun s => (OutHost.A m c).ym s k.val * (OutHost.A m c).dh1 s d.val)

/-- The gradient of the gain after the last tile. -/
theorem dg_at (t : Fin cfg0.N) (h1 : t.val = 31) (d : Fin 1024) : (outsAt0 m c t.val t.isLt).2.2.2 (ix2 0 d) = (OutHost.A m c).dg d.val := by
  refine (Spec.acc_sum (fun n hn => (outsAt0 m c n hn).2.2.2 (ix2 0 d)) (fun i => ∑ r : Fin 512, (OutHost.A m c).dhn (512 * i + r.val) d.val * (OutHost.A m c).xhat (512 * i + r.val) d.val)
    (fun t h => ?_) (fun t h => ?_) t.val t.isLt).trans ?_
  · show (outsAt0 m c t.val t.isLt).2.2.2 (ix2 0 d) = _
    rw [outsAt0_A m c t ((first t).mpr h)]
    dsimp only
    rw [outA9]
    refine (dg_eq (blocks t m c) _ d).trans ?_
    rw [pay7_apply d, zero_add]
  · show (outsAt0 m c t.val t.isLt).2.2.2 (ix2 0 d) = _
    rw [outsAt0_B m c t fun h' => h ((first t).mp h')]
    dsimp only
    rw [outB9]
    exact dg_eq (blocks t m c) _ d
  · rw [h1]
    exact Spec.sum_rows512 (fun s => (OutHost.A m c).dhn s d.val * (OutHost.A m c).xhat s d.val)

/-- The gradient of the rows after the projection is what the tiles wrote back. -/
theorem arr6 : (dats m 0 c).arrAt 6 cfg0.N = dh1Arr m c := by
  refine (dats m 0 c).arrAt_eq_of_covers 6 _ (by decide +kernel) fun t hf y => ?_
  blk_simp
  rw [after0_6]
  refine (congrArg (outsAt0 m c t.val t.isLt).1 (eq_ix2 y)).trans ?_
  have e0 := emb6_0 t y
  have e1 := emb6_1 t y
  refine (dh1_at m c t (y 0) (y 1)).trans ?_
  unfold dh1Arr
  rw [e0, e1]

/-- The gradient of the output of the mixers is what the tiles wrote back. -/
theorem arr7 : (dats m 0 c).arrAt 7 cfg0.N = dymArr m c := by
  refine (dats m 0 c).arrAt_eq_of_covers 7 _ (by decide +kernel) fun t hf y => ?_
  blk_simp
  rw [after0_7]
  refine (congrArg (outsAt0 m c t.val t.isLt).2.1 (eq_ix2 y)).trans ?_
  have e0 := emb7_0 t y
  have e1 := emb7_1 t y
  refine (dym_at m c t (y 0) (y 1)).trans ?_
  unfold dymArr
  rw [e0, e1]

/-- The gradient of the weight of the projection is what the tiles wrote back. -/
theorem arr8 : (dats m 0 c).arrAt 8 cfg0.N = dwoArr m c := by
  refine (dats m 0 c).arrAt_eq_of_covers 8 _ (by decide +kernel) fun t hf y => ?_
  blk_simp
  rw [after0_8]
  refine (congrArg (outsAt0 m c t.val t.isLt).2.2.1 (eq_ix2 y)).trans ?_
  have e0 := emb8_0 t y
  have e1 := emb8_1 t y
  refine (dwo_at m c t (last8 t hf) (y 0) (y 1)).trans ?_
  unfold dwoArr
  rw [e0, e1]

/-- The gradient of the gain is what the tiles wrote back. -/
theorem arr9 : (dats m 0 c).arrAt 9 cfg0.N = dgArr m c := by
  refine (dats m 0 c).arrAt_eq_of_covers 9 _ (by decide +kernel) fun t hf y => ?_
  blk_simp
  rw [after0_9]
  refine (congrArg (outsAt0 m c t.val t.isLt).2.2.2 (eq_ix2 y)).trans ?_
  have e0 := emb9_0 t y
  have e1 := emb9_1 t y
  have e : ∀ z : Fin 1, z = 0 := fun z => Subsingleton.elim _ _
  rw [e (y 0)]
  refine (dg_at m c t (last9 t hf) (y 1)).trans ?_
  unfold dgArr
  rw [e1]

end Cert.OutTile

end
-- ==== Proof.Out.Ref.lean ====
module

public import proofs.«01_k».proof.Proof.Gen.OutReferenceIdeal.Read
public import proofs.«01_k».proof.Proof.Out.Host

@[expose] public section

noncomputable section

/-! The reference of the projection's backward call, read at an index, as the formulas. -/

namespace Cert.OutRef

open Cert.OutReferenceIdeal Cert.OutReferenceIdeal.Read Idealize.ShloMosaic Idealize.ShloMosaic.Tactic
open Cert.Spec (outArgs rd1 rd2 rd1_val rd2_val)
open Cert.OutHost (half2_val)

variable (x0 : (⟨S16384x1024, .f32⟩ : BufTy).Contents (Elt Ideal)) (x1 : (⟨S2x16384x1024, .f32⟩ : BufTy).Contents (Elt Ideal))
  (x2 x3 : (⟨S16384x1024, .f32⟩ : BufTy).Contents (Elt Ideal)) (x4 : (⟨S1024, .f32⟩ : BufTy).Contents (Elt Ideal))
  (x5 : (⟨S1024x1024, .f32⟩ : BufTy).Contents (Elt Ideal))

/-- The rows after the projection. -/
theorem h1_eq (s : Fin 16384) (d : Fin 1024) :
    val_main_v1 (F := Ideal) x2 x3 x5 (ix2 s d) = (outArgs x0 x1 x2 x3 x4 x5).h1 s.val d.val := by
  pointwise [val_main_v1, val_main_v0]
  refine congrArg₂ (fun a b : EReal => a + b) (rd2_val x2 s d).symm (Finset.sum_congr rfl fun k _ => ?_)
  exact congrArg₂ (fun a b : EReal => a * b) (rd2_val x3 s k).symm (rd2_val x5 k d).symm

/-- The mean square of a row. -/
theorem m_eq (s : Fin 16384) :
    val_main_v8 (F := Ideal) x2 x3 x5 (ix2 s 0) = Spec.msq ((outArgs x0 x1 x2 x3 x4 x5).h1 s.val) := by
  pointwise [val_main_v8, val_main_v7, val_main_v6, val_main_v5, val_main_v4, val_main_v3, val_main_v2, val_main_cst, val_main_cst_0, val_main_cst_1]
  simp only [h1_eq x0 x1 x2 x3 x4 x5]
  rfl

/-- One over the root mean square of a row. -/
theorem r_eq (s : Fin 16384) :
    val_main_v9 (F := Ideal) x2 x3 x5 (ix2 s 0) = Spec.rinv ((outArgs x0 x1 x2 x3 x4 x5).h1 s.val) := by
  pointwise [val_main_v9]
  rw [m_eq x0 x1 x2 x3 x4 x5]
  rfl

/-- The normalised rows, before the gain. -/
theorem xhat_eq (s : Fin 16384) (d : Fin 1024) :
    val_main_v14 (F := Ideal) x2 x3 x5 (ix2 s d) = (outArgs x0 x1 x2 x3 x4 x5).xhat s.val d.val := by
  pointwise [val_main_v14, val_main_v13]
  rw [r_eq x0 x1 x2 x3 x4 x5, h1_eq x0 x1 x2 x3 x4 x5]
  rfl

/-- The gradient of the normalised rows. -/
theorem dhn_eq (s : Fin 16384) (d : Fin 1024) :
    val_main_v22 (F := Ideal) x1 (ix2 s d) = (outArgs x0 x1 x2 x3 x4 x5).dhn s.val d.val := by
  pointwise [val_main_v22, val_main_v21, val_main_v20, val_main_v19, val_main_v18]
  exact congrArg₂ (fun a b : EReal => a + b) (half2_val x1 0 s d).symm (half2_val x1 1 s d).symm

/-- The gradient of the gain, as a vector. -/
theorem dg0_eq (d : Fin 1024) :
    val_main_v24 (F := Ideal) x1 x2 x3 x5 (ix1 d) = (outArgs x0 x1 x2 x3 x4 x5).dg d.val := by
  pointwise [val_main_v24, val_main_v23, val_main_cst_3]
  simp only [dhn_eq x0 x1 x2 x3 x4 x5, xhat_eq x0 x1 x2 x3 x4 x5]
  exact Finset.sum_congr rfl fun s _ => mul_comm _ _

/-- The gradient of the gain, as a row. -/
theorem dg1_eq (d : Fin 1024) :
    val_main_v25 (F := Ideal) x1 x2 x3 x5 (ix2 0 d) = (outArgs x0 x1 x2 x3 x4 x5).dg d.val := by
  pointwise [val_main_v25]
  exact dg0_eq x0 x1 x2 x3 x4 x5 d

/-- The gradient of the gain. -/
theorem dg_eq (d : Fin 1024) :
    val_main_v49 (F := Ideal) x1 x2 x3 x5 (ix2 0 d) = (outArgs x0 x1 x2 x3 x4 x5).dg d.val := by
  pointwise [val_main_v49, val_main_v28, val_main_cst_4]
  refine (Fin.sum_univ_one _).trans ?_
  exact dg1_eq x0 x1 x2 x3 x4 x5 d

/-- What the norm's gradient adds along a row. -/
theorem t0_eq (s : Fin 16384) :
    val_main_v37 (F := Ideal) x1 x2 x3 x4 x5 (ix2 s 0) = Ideal.div ((∑ k : Fin 1024, (outArgs x0 x1 x2 x3 x4 x5).h1 s.val k.val * ((outArgs x0 x1 x2 x3 x4 x5).dhn s.val k.val * (outArgs x0 x1 x2 x3 x4 x5).g k.val)) * (Ideal.ofBits FTy.f32 3204448256#32 * Ideal.div (Spec.rinv ((outArgs x0 x1 x2 x3 x4 x5).h1 s.val)) (Spec.msq ((outArgs x0 x1 x2 x3 x4 x5).h1 s.val)))) (Ideal.ofBits FTy.f32 1149239296#32) := by
  pointwise [val_main_v37, val_main_v36, val_main_v35, val_main_v31, val_main_v30, val_main_v29, val_main_v27, val_main_v26, val_main_v15, val_main_v12, val_main_v11, val_main_v10, val_main_cst_2, val_main_cst_5, val_main_cst_6]
  simp only [h1_eq x0 x1 x2 x3 x4 x5, m_eq x0 x1 x2 x3 x4 x5, r_eq x0 x1 x2 x3 x4 x5, dhn_eq x0 x1 x2 x3 x4 x5]
  have e' : ∀ k : Fin 1024, (outArgs x0 x1 x2 x3 x4 x5).g k.val = x4 (ix1 k) := fun k => rd1_val x4 k
  simp only [e']

/-- The same as a vector. -/
theorem t_eq (s : Fin 16384) :
    val_main_v38 (F := Ideal) x1 x2 x3 x4 x5 (ix1 s) = Ideal.div ((∑ k : Fin 1024, (outArgs x0 x1 x2 x3 x4 x5).h1 s.val k.val * ((outArgs x0 x1 x2 x3 x4 x5).dhn s.val k.val * (outArgs x0 x1 x2 x3 x4 x5).g k.val)) * (Ideal.ofBits FTy.f32 3204448256#32 * Ideal.div (Spec.rinv ((outArgs x0 x1 x2 x3 x4 x5).h1 s.val)) (Spec.msq ((outArgs x0 x1 x2 x3 x4 x5).h1 s.val)))) (Ideal.ofBits FTy.f32 1149239296#32) := by
  pointwise [val_main_v38, val_main_cst_7]
  refine (Fin.sum_univ_one _).trans ?_
  exact t0_eq x0 x1 x2 x3 x4 x5 s

/-- The gradient of the rows after the projection. -/
theorem dh1_eq (s : Fin 16384) (d : Fin 1024) :
    val_main_v43 (F := Ideal) x0 x1 x2 x3 x4 x5 (ix2 s d) = (outArgs x0 x1 x2 x3 x4 x5).dh1 s.val d.val := by
  pointwise [val_main_v43, val_main_v42, val_main_v41, val_main_v40, val_main_v39, val_main_v34, val_main_v33, val_main_v32, val_main_v27, val_main_v26, val_main_v15]
  rw [t_eq x0 x1 x2 x3 x4 x5, r_eq x0 x1 x2 x3 x4 x5, dhn_eq x0 x1 x2 x3 x4 x5, h1_eq x0 x1 x2 x3 x4 x5]
  have e' : (outArgs x0 x1 x2 x3 x4 x5).g d.val = x4 (ix1 d) := rd1_val x4 d
  have e'' : (outArgs x0 x1 x2 x3 x4 x5).dh2 s.val d.val = x0 (ix2 s d) := rd2_val x0 s d
  rw [← e', ← e'']
  exact Spec.rmsBwd_spell ((outArgs x0 x1 x2 x3 x4 x5).h1 s.val) (fun k => (outArgs x0 x1 x2 x3 x4 x5).dhn s.val k * (outArgs x0 x1 x2 x3 x4 x5).g k) d _ rfl _

/-- The same, reshaped to itself. -/
theorem dh1c_eq (s : Fin 16384) (d : Fin 1024) :
    val_main_v44 (F := Ideal) x0 x1 x2 x3 x4 x5 (ix2 s d) = (outArgs x0 x1 x2 x3 x4 x5).dh1 s.val d.val := by
  pointwise [val_main_v44]
  exact dh1_eq x0 x1 x2 x3 x4 x5 s d

/-- The gradient of the output of the mixers. -/
theorem dym_eq (s : Fin 16384) (k : Fin 1024) :
    val_main_v48 (F := Ideal) x0 x1 x2 x3 x4 x5 (ix2 s k) = (outArgs x0 x1 x2 x3 x4 x5).dym s.val k.val := by
  pointwise [val_main_v48, val_main_v47]
  simp only [dh1c_eq x0 x1 x2 x3 x4 x5]
  refine Finset.sum_congr rfl fun d _ => ?_
  exact congrArg₂ (fun a b : EReal => a * b) rfl (rd2_val x5 k d).symm

/-- The gradient of the weight of the projection. -/
theorem dwo_eq (k d : Fin 1024) :
    val_main_v46 (F := Ideal) x0 x1 x2 x3 x4 x5 (ix2 k d) = (outArgs x0 x1 x2 x3 x4 x5).dwo k.val d.val := by
  pointwise [val_main_v46, val_main_v45]
  simp only [dh1c_eq x0 x1 x2 x3 x4 x5]
  refine Finset.sum_congr rfl fun s _ => (mul_comm _ _).trans ?_
  exact congrArg₂ (fun a b : EReal => a * b) (rd2_val x3 s k).symm rfl

end Cert.OutRef

end
-- ==== Proof.Out.Meet.lean ====
module

public import proofs.«01_k».proof.Proof.Out.Arrays
public import proofs.«01_k».proof.Proof.Out.Ref

@[expose] public section

set_option maxRecDepth 8000

noncomputable section

/-! The arrays the backward call of the output projection leaves are the arrays its reference computes. -/

namespace Cert.OutMeet

open Cert.OutIdeal Cert.OutIdeal.Gen Idealize.ShloMosaic Idealize.ShloMosaic.TcCoe Idealize.ShloMosaic.Tactic
open Cert.OutReferenceIdeal.Read (val_main_v43 val_main_v48 val_main_v46 val_main_v49)

variable (m : (ℓ : Loc nD τ sig) → Buf (Elt Ideal) ℓ) (c : Dev nD)

/-- The gradient of the rows after the projection. -/
theorem dh1 : val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = OutTile.dh1Arr m c :=
  funext fun y => (congrArg _ (eq_ix2 y)).trans (OutRef.dh1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1))

/-- The gradient of the output of the mixers. -/
theorem dym : val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = OutTile.dymArr m c :=
  funext fun y => (congrArg _ (eq_ix2 y)).trans (OutRef.dym_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1))

/-- The gradient of the weight of the projection. -/
theorem dwo : val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = OutTile.dwoArr m c :=
  funext fun y => (congrArg _ (eq_ix2 y)).trans (OutRef.dwo_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1))

/-- The gradient of the gain. -/
theorem dg : val_main_v49 (F := Ideal) (m ((c : Thread nD τ).loc main_arg1)) (m ((c : Thread nD τ).loc main_arg2)) (m ((c : Thread nD τ).loc main_arg3)) (m ((c : Thread nD τ).loc main_arg5)) = OutTile.dgArr m c :=
  funext fun y => (congrArg _ ((eq_ix2 y).trans (congrArg (fun z : Fin 1 => ix2 z (y 1)) (Subsingleton.elim _ _)))).trans (OutRef.dg_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 1))

end Cert.OutMeet

end
-- ==== Proof.lean ====
module

public import proofs.«01_k».proof.Defs
public import proofs.«01_k».proof.Proof.Gen.Kernel
public import proofs.«01_k».proof.Proof.Gen.Kernel.Frame
public import proofs.«01_k».proof.Proof.Gen.Forward
public import proofs.«01_k».proof.Proof.Gen.Forward.Frame
public import proofs.«01_k».proof.Proof.Gen.ForwardIdeal
public import proofs.«01_k».proof.Proof.Gen.ForwardReferenceIdeal
public import proofs.«01_k».proof.Proof.Gen.ForwardIdeal.Frame
public import proofs.«01_k».proof.Proof.Gen.ForwardIdeal.Value
public import proofs.«01_k».proof.Proof.Gen.ForwardReferenceIdeal.Run
public import proofs.«01_k».proof.Proof.Gen.ForwardReferenceIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Finite
public import proofs.«01_k».proof.Proof.Meet
public import proofs.«01_k».proof.Proof.Fwd.Meet
public import proofs.«01_k».proof.Proof.Gate.Meet
public import proofs.«01_k».proof.Proof.Out.Meet
public import Idealize.ShloMosaic.Adequacy
public import Idealize.ShloMosaic.Init

@[expose] public section

set_option maxRecDepth 8000

noncomputable section

namespace Cert.Proof

open Idealize.ShloMosaic Idealize.SL.Sem Idealize.ShloMosaic.TcCoe

/-- The kernel's run with every result named. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v32_0) = Tile.partArr m c
      ∧ r.2.mem ((c.tc : Thread Cert.KernelIdeal.nD Cert.KernelIdeal.τ).loc Cert.KernelIdeal.main_v32_1) = (Held.hbAt m c Cert.KernelIdeal.cfg0.N).1
      ∧ r.2.mem ((c.tc : Thread Cert.KernelIdeal.nD Cert.KernelIdeal.τ).loc Cert.KernelIdeal.main_v32_2) = (Held.hbAt m c Cert.KernelIdeal.cfg0.N).2
      ∧ r.2.mem ((c.tc : Thread Cert.KernelIdeal.nD Cert.KernelIdeal.τ).loc Cert.KernelIdeal.main_v32_3) = Tile.cwArr m c
      ∧ r.2.mem ((c.tc : Thread Cert.KernelIdeal.nD Cert.KernelIdeal.τ).loc Cert.KernelIdeal.main_v32_4) = Tile.cbArr m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  refine (θ_run Cert.KernelIdeal.defs _ _).mono (fun r h c => ?_) (Held.run_held (F := Ideal) m g)
  have hR : Pipeline.FramePostR Cert.KernelIdeal.cfgs (Cert.KernelIdeal.Gen.dats m) 0 Cert.KernelIdeal.Gen.R0 (Cert.KernelIdeal.Gen.V m) r :=
    fun c => ⟨fun w => ((h.1.toR c).1 w).trans (Held.arrAtH m c w _), (h.1.toR c).2⟩
  exact ⟨(Cert.KernelIdeal.Value.post11 m r hR c).trans (Tile.arr11 m c),
    (h.1.written c (b := Cert.KernelIdeal.main_v32_1) (by decide)).trans (Held.hbG_0 m c),
    (h.1.written c (b := Cert.KernelIdeal.main_v32_2) (by decide)).trans (Held.hbG_1 m c),
    (Cert.KernelIdeal.Value.post12 m r hR c).trans (Tile.arr12 m c),
    (Cert.KernelIdeal.Value.post13 m r hR c).trans (Tile.arr13 m c),
    Cert.KernelIdeal.Value.kept_main_arg0 m r hR c,
    Cert.KernelIdeal.Value.kept_main_arg1 m r hR c,
    Cert.KernelIdeal.Value.kept_main_arg2 m r hR c,
    Cert.KernelIdeal.Value.kept_main_arg3 m r hR c,
    Cert.KernelIdeal.Value.kept_main_arg4 m r hR c,
    Cert.KernelIdeal.Value.kept_main_arg5 m r hR c,
    Cert.KernelIdeal.Value.kept_main_arg6 m r hR c⟩

/-- The reference's run keeps its arguments, and it has no semaphores. -/
theorem reference_frame : ∀ (m : (ℓ : Loc Cert.ReferenceIdeal.nD Cert.ReferenceIdeal.τ Cert.ReferenceIdeal.sig) → Buf (Elt Ideal) ℓ) (g : Dev Cert.ReferenceIdeal.nD → PrngReg),
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) := fun m g =>
  (θ_run Cert.ReferenceIdeal.defs _ _).mono (fun r h => ⟨fun c => (h c).2.2.2.2.2, sem_eq_zero_of_no_sems (by decide) r.2⟩)
    (Cert.ReferenceIdeal.Value.run (F := Ideal) m g)

/-- Over the extended reals the kernel's five results are the reference's, when every argument is finite. -/
theorem algebraic : Cert.algebraic_KernelIdeal_ReferenceIdeal_pre_finite := by
  intro m g m' g' hpre hagree
  refine ⟨fun c => Tile.partArr m c, fun c => (Held.hbAt m c Cert.KernelIdeal.cfg0.N).1, fun c => (Held.hbAt m c Cert.KernelIdeal.cfg0.N).2,
    fun c => Tile.cwArr m c, fun c => Tile.cbArr m c, kernel_run m g, ?_⟩
  refine (θ_run Cert.ReferenceIdeal.defs _ _).mono (fun r h c => ?_) (Cert.ReferenceIdeal.Value.run (F := Ideal) m' g')
  obtain ⟨a0, a1, a2, a3, a4, a5, a6⟩ := hagree c
  have hA := real m hpre c
  refine ⟨(h c).1.trans ((Cert.ReferenceIdeal.Read.val_main_v127_eq _).trans (Eq.trans ?_ (Meet.part m c hA))),
    (h c).2.1.trans ((Cert.ReferenceIdeal.Read.val_main_v132_eq _).trans (Eq.trans ?_ (Meet.dwup m c hA))),
    (h c).2.2.1.trans ((Cert.ReferenceIdeal.Read.val_main_v133_eq _).trans (Eq.trans ?_ (Meet.dwdn m c hA))),
    (h c).2.2.2.1.trans ((Cert.ReferenceIdeal.Read.val_main_v136_eq _).trans (Eq.trans ?_ (Meet.dcw m c hA))),
    (h c).2.2.2.2.1.trans ((Cert.ReferenceIdeal.Read.val_main_v139_eq _).trans (Eq.trans ?_ (Meet.dcb m c hA))), (h c).2.2.2.2.2⟩
  · exact congr (congr (congr (congr (congr (congr (congrArg (Cert.ReferenceIdeal.Read.val_main_v127 (F := Ideal)) a0) a1) a2) a3) a4) a5) a6
  · exact congr (congr (congr (congr (congr (congr (congrArg (Cert.ReferenceIdeal.Read.val_main_v132 (F := Ideal)) a0) a1) a2) a3) a4) a5) a6
  · exact congr (congr (congr (congr (congr (congrArg (Cert.ReferenceIdeal.Read.val_main_v133 (F := Ideal)) a0) a1) a2) a3) a4) a5
  · exact congr (congr (congr (congr (congr (congr (congrArg (Cert.ReferenceIdeal.Read.val_main_v136 (F := Ideal)) a0) a1) a2) a3) a4) a5) a6
  · exact congr (congr (congr (congr (congr (congr (congrArg (Cert.ReferenceIdeal.Read.val_main_v139 (F := Ideal)) a0) a1) a2) a3) a4) a5) a6

/-- The forward call's run with every result named. -/
theorem forward_run (m : (ℓ : Loc Cert.ForwardIdeal.nD Cert.ForwardIdeal.τ Cert.ForwardIdeal.sig) → Buf (Elt Ideal) ℓ) (g : Dev Cert.ForwardIdeal.nD → PrngReg) :
    θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
      r.2.mem ((c.tc : Thread Cert.ForwardIdeal.nD Cert.ForwardIdeal.τ).loc Cert.ForwardIdeal.main_v19_0) = FwdTile.h1Arr m c
      ∧ r.2.mem ((c.tc : Thread Cert.ForwardIdeal.nD Cert.ForwardIdeal.τ).loc Cert.ForwardIdeal.main_v19_1) = FwdTile.h2Arr m c
      ∧ r.2.mem ((c.tc : Thread Cert.ForwardIdeal.nD Cert.ForwardIdeal.τ).loc Cert.ForwardIdeal.main_v19_2) = FwdTile.h3Arr m c
      ∧ r.2.mem ((c.tc : Thread Cert.ForwardIdeal.nD Cert.ForwardIdeal.τ).loc Cert.ForwardIdeal.main_v19_3) = FwdTile.upArr m c
      ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
      ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
      ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10)
      ∧ r.2.mem ((c.tc : Thread Cert.ForwardIdeal.nD Cert.ForwardIdeal.τ).loc Cert.ForwardIdeal.main_arg11) = m ((c.tc : Thread Cert.ForwardIdeal.nD Cert.ForwardIdeal.τ).loc Cert.ForwardIdeal.main_arg11)) := by
  refine (θ_run Cert.ForwardIdeal.defs _ _).mono (fun r h c => ?_) (Cert.ForwardIdeal.Value.run_blocks (F := Ideal) m g)
  obtain ⟨h0, h1, h2, h3, h4⟩ := h c
  exact ⟨h0.trans (FwdTile.arr14 m c), h1.trans (FwdTile.arr15 m c), h2.trans (FwdTile.arr16 m c), h3.trans (FwdTile.arr17 m c), h4⟩

/-- The forward reference's run keeps its arguments, and it has no semaphores. -/
theorem forward_reference_frame : ∀ (m : (ℓ : Loc Cert.ForwardReferenceIdeal.nD Cert.ForwardReferenceIdeal.τ Cert.ForwardReferenceIdeal.sig) → Buf (Elt Ideal) ℓ) (g : Dev Cert.ForwardReferenceIdeal.nD → PrngReg),
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5)
      ∧ r.2.mem ((c.tc : Thread Cert.ForwardReferenceIdeal.nD Cert.ForwardReferenceIdeal.τ).loc Cert.ForwardReferenceIdeal.main_arg6) = m ((c.tc : Thread Cert.ForwardReferenceIdeal.nD Cert.ForwardReferenceIdeal.τ).loc Cert.ForwardReferenceIdeal.main_arg6)
      ∧ r.2.mem ((c.tc : Thread Cert.ForwardReferenceIdeal.nD Cert.ForwardReferenceIdeal.τ).loc Cert.ForwardReferenceIdeal.main_arg7) = m ((c.tc : Thread Cert.ForwardReferenceIdeal.nD Cert.ForwardReferenceIdeal.τ).loc Cert.ForwardReferenceIdeal.main_arg7)
      ∧ r.2.mem ((c.tc : Thread Cert.ForwardReferenceIdeal.nD Cert.ForwardReferenceIdeal.τ).loc Cert.ForwardReferenceIdeal.main_arg8) = m ((c.tc : Thread Cert.ForwardReferenceIdeal.nD Cert.ForwardReferenceIdeal.τ).loc Cert.ForwardReferenceIdeal.main_arg8)
      ∧ r.2.mem ((c.tc : Thread Cert.ForwardReferenceIdeal.nD Cert.ForwardReferenceIdeal.τ).loc Cert.ForwardReferenceIdeal.main_arg9) = m ((c.tc : Thread Cert.ForwardReferenceIdeal.nD Cert.ForwardReferenceIdeal.τ).loc Cert.ForwardReferenceIdeal.main_arg9)
      ∧ r.2.mem ((c.tc : Thread Cert.ForwardReferenceIdeal.nD Cert.ForwardReferenceIdeal.τ).loc Cert.ForwardReferenceIdeal.main_arg10) = m ((c.tc : Thread Cert.ForwardReferenceIdeal.nD Cert.ForwardReferenceIdeal.τ).loc Cert.ForwardReferenceIdeal.main_arg10)
      ∧ r.2.mem ((c.tc : Thread Cert.ForwardReferenceIdeal.nD Cert.ForwardReferenceIdeal.τ).loc Cert.ForwardReferenceIdeal.main_arg11) = m ((c.tc : Thread Cert.ForwardReferenceIdeal.nD Cert.ForwardReferenceIdeal.τ).loc Cert.ForwardReferenceIdeal.main_arg11))
      ∧ r.2.sem = fun _ => 0) := fun m g =>
  (θ_run Cert.ForwardReferenceIdeal.defs _ _).mono (fun r h => ⟨fun c => (h c).2.2.2.2, sem_eq_zero_of_no_sems (by decide) r.2⟩)
    (Cert.ForwardReferenceIdeal.Value.run (F := Ideal) m g)

/-- Over the extended reals the forward call's four results are the reference's. -/
theorem forward_algebraic : Cert.algebraic_ForwardIdeal_ForwardReferenceIdeal := by
  intro m g m' g' _ hagree
  refine ⟨fun c => FwdTile.h1Arr m c, fun c => FwdTile.h2Arr m c, fun c => FwdTile.h3Arr m c, fun c => FwdTile.upArr m c, forward_run m g, ?_⟩
  refine (θ_run Cert.ForwardReferenceIdeal.defs _ _).mono (fun r h c => ?_) (Cert.ForwardReferenceIdeal.Value.run (F := Ideal) m' g')
  obtain ⟨a0, a1, a2, a3, a4, a5, a6, a7, a8, a9, a10, a11⟩ := hagree c
  refine ⟨(h c).1.trans ((Cert.ForwardReferenceIdeal.Read.val_main_v1_eq _).trans (Eq.trans ?_ (FwdMeet.h1 m c))),
    (h c).2.1.trans ((Cert.ForwardReferenceIdeal.Read.val_main_v58_eq _).trans (Eq.trans ?_ (FwdMeet.h2 m c))),
    (h c).2.2.1.trans ((Cert.ForwardReferenceIdeal.Read.val_main_v83_eq _).trans (Eq.trans ?_ (FwdMeet.h3 m c))),
    (h c).2.2.2.1.trans ((Cert.ForwardReferenceIdeal.Read.val_main_v87_eq _).trans (Eq.trans ?_ (FwdMeet.up m c))), (h c).2.2.2.2⟩
  · exact congr (congr (congrArg (Cert.ForwardReferenceIdeal.Read.val_main_v1 (F := Ideal)) a0) a1) a3
  · exact congr (congr (congr (congr (congr (congr (congr (congrArg (Cert.ForwardReferenceIdeal.Read.val_main_v58 (F := Ideal)) a0) a1) a3) a4) a5) a6) a7) a8
  · exact congr (congr (congr (congr (congr (congr (congr (congr (congr (congr (congr (congrArg (Cert.ForwardReferenceIdeal.Read.val_main_v83 (F := Ideal)) a0) a1) a2) a3) a4) a5) a6) a7) a8) a9) a10) a11
  · exact congr (congr (congr (congr (congrArg (Cert.ForwardReferenceIdeal.Read.val_main_v87 (F := Ideal)) a0) a1) a3) a4) a5

/-- The run of the gate's backward call with every result named. -/
theorem gate_run (m : (ℓ : Loc Cert.GateIdeal.nD Cert.GateIdeal.τ Cert.GateIdeal.sig) → Buf (Elt Ideal) ℓ) (g : Dev Cert.GateIdeal.nD → PrngReg) :
    θ_run (Cert.GateIdeal.defs (F := Ideal)) (onTc (τ := Cert.GateIdeal.τ) (Cert.GateIdeal.main (F := Ideal))) ⟨m, fun _ => 0, g⟩ (fun r => ∀ c : Dev Cert.GateIdeal.nD,
      r.2.mem ((c.tc : Thread Cert.GateIdeal.nD Cert.GateIdeal.τ).loc Cert.GateIdeal.main_v3_0) = GateTile.dh2Arr m c
      ∧ r.2.mem ((c.tc : Thread Cert.GateIdeal.nD Cert.GateIdeal.τ).loc Cert.GateIdeal.main_v3_1) = GateTile.dwgArr m c
      ∧ r.2.mem ((c.tc : Thread Cert.GateIdeal.nD Cert.GateIdeal.τ).loc Cert.GateIdeal.main_v3_2) = GateTile.dwpArr m c
      ∧ r.2.mem ((c.tc : Thread Cert.GateIdeal.nD Cert.GateIdeal.τ).loc Cert.GateIdeal.main_v3_3) = GateTile.dgArr m c
      ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)) := by
  refine (θ_run Cert.GateIdeal.defs _ _).mono (fun r h c => ?_) (Cert.GateIdeal.Value.run_blocks (F := Ideal) m g)
  obtain ⟨h0, h1, h2, h3, h4⟩ := h c
  exact ⟨h0.trans (GateTile.arr6 m c), h1.trans (GateTile.arr7 m c), h2.trans (GateTile.arr8 m c), h3.trans (GateTile.arr9 m c), h4⟩

/-- The run of the reference of the gate's backward call keeps its arguments, and it has no semaphores. -/
theorem gate_reference_frame : ∀ (m : (ℓ : Loc Cert.GateReferenceIdeal.nD Cert.GateReferenceIdeal.τ Cert.GateReferenceIdeal.sig) → Buf (Elt Ideal) ℓ) (g : Dev Cert.GateReferenceIdeal.nD → PrngReg),
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0) := fun m g =>
  (θ_run Cert.GateReferenceIdeal.defs _ _).mono (fun r h => ⟨fun c => (h c).2.2.2.2, sem_eq_zero_of_no_sems (by decide) r.2⟩)
    (Cert.GateReferenceIdeal.Value.run (F := Ideal) m g)

/-- Over the extended reals the four results of the gate's backward call are the reference's. -/
theorem gate_algebraic : Cert.algebraic_GateIdeal_GateReferenceIdeal := by
  intro m g m' g' _ hagree
  refine ⟨fun c => GateTile.dh2Arr m c, fun c => GateTile.dwgArr m c, fun c => GateTile.dwpArr m c, fun c => GateTile.dgArr m c, gate_run m g, ?_⟩
  refine (θ_run Cert.GateReferenceIdeal.defs _ _).mono (fun r h c => ?_) (Cert.GateReferenceIdeal.Value.run (F := Ideal) m' g')
  obtain ⟨a0, a1, a2, a3, a4, a5⟩ := hagree c
  refine ⟨(h c).1.trans ((Cert.GateReferenceIdeal.Read.val_main_v58_eq _ _).trans (Eq.trans ?_ (GateMeet.dh2 m c))),
    (h c).2.1.trans ((Cert.GateReferenceIdeal.Read.val_main_v36_eq _ _ _ _ _ _).trans (Eq.trans ?_ (GateMeet.dwg m c))),
    (h c).2.2.1.trans ((Cert.GateReferenceIdeal.Read.val_main_v60_eq _ _ _ _ _).trans (Eq.trans ?_ (GateMeet.dwp m c))),
    (h c).2.2.2.1.trans ((Cert.GateReferenceIdeal.Read.val_main_v61_eq _ _ _ _ _ _).trans (Eq.trans ?_ (GateMeet.dg m c))), (h c).2.2.2.2⟩
  · exact congr (congr (congr (congr (congr (congrArg (Cert.GateReferenceIdeal.Read.val_main_v58 (F := Ideal)) a0) a1) a2) a3) a4) a5
  · exact congr (congr (congr (congr (congr (congrArg (Cert.GateReferenceIdeal.Read.val_main_v36 (F := Ideal)) a0) a1) a2) a3) a4) a5
  · exact congr (congr (congr (congr (congrArg (Cert.GateReferenceIdeal.Read.val_main_v60 (F := Ideal)) a0) a1) a2) a3) a4
  · exact congr (congr (congr (congr (congr (congrArg (Cert.GateReferenceIdeal.Read.val_main_v61 (F := Ideal)) a0) a1) a2) a3) a4) a5

/-- The run of the projection's backward call with every result named. -/
theorem out_run (m : (ℓ : Loc Cert.OutIdeal.nD Cert.OutIdeal.τ Cert.OutIdeal.sig) → Buf (Elt Ideal) ℓ) (g : Dev Cert.OutIdeal.nD → PrngReg) :
    θ_run (Cert.OutIdeal.defs (F := Ideal)) (onTc (τ := Cert.OutIdeal.τ) (Cert.OutIdeal.main (F := Ideal))) ⟨m, fun _ => 0, g⟩ (fun r => ∀ c : Dev Cert.OutIdeal.nD,
      r.2.mem ((c.tc : Thread Cert.OutIdeal.nD Cert.OutIdeal.τ).loc Cert.OutIdeal.main_v5_0) = OutTile.dh1Arr m c
      ∧ r.2.mem ((c.tc : Thread Cert.OutIdeal.nD Cert.OutIdeal.τ).loc Cert.OutIdeal.main_v5_1) = OutTile.dymArr m c
      ∧ r.2.mem ((c.tc : Thread Cert.OutIdeal.nD Cert.OutIdeal.τ).loc Cert.OutIdeal.main_v5_2) = OutTile.dwoArr m c
      ∧ r.2.mem ((c.tc : Thread Cert.OutIdeal.nD Cert.OutIdeal.τ).loc Cert.OutIdeal.main_v5_3) = OutTile.dgArr m c
      ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)) := by
  refine (θ_run Cert.OutIdeal.defs _ _).mono (fun r h c => ?_) (Cert.OutIdeal.Value.run_blocks (F := Ideal) m g)
  obtain ⟨h0, h1, h2, h3, h4⟩ := h c
  exact ⟨h0.trans (OutTile.arr6 m c), h1.trans (OutTile.arr7 m c), h2.trans (OutTile.arr8 m c), h3.trans (OutTile.arr9 m c), h4⟩

/-- The run of the reference of the projection's backward call keeps its arguments, and it has no semaphores. -/
theorem out_reference_frame : ∀ (m : (ℓ : Loc Cert.OutReferenceIdeal.nD Cert.OutReferenceIdeal.τ Cert.OutReferenceIdeal.sig) → Buf (Elt Ideal) ℓ) (g : Dev Cert.OutReferenceIdeal.nD → PrngReg),
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0) := fun m g =>
  (θ_run Cert.OutReferenceIdeal.defs _ _).mono (fun r h => ⟨fun c => (h c).2.2.2.2, sem_eq_zero_of_no_sems (by decide) r.2⟩)
    (Cert.OutReferenceIdeal.Value.run (F := Ideal) m g)

/-- Over the extended reals the four results of the projection's backward call are the reference's. -/
theorem out_algebraic : Cert.algebraic_OutIdeal_OutReferenceIdeal := by
  intro m g m' g' _ hagree
  refine ⟨fun c => OutTile.dh1Arr m c, fun c => OutTile.dymArr m c, fun c => OutTile.dwoArr m c, fun c => OutTile.dgArr m c, out_run m g, ?_⟩
  refine (θ_run Cert.OutReferenceIdeal.defs _ _).mono (fun r h c => ?_) (Cert.OutReferenceIdeal.Value.run (F := Ideal) m' g')
  obtain ⟨a0, a1, a2, a3, a4, a5⟩ := hagree c
  refine ⟨(h c).1.trans ((Cert.OutReferenceIdeal.Read.val_main_v43_eq _ _).trans (Eq.trans ?_ (OutMeet.dh1 m c))),
    (h c).2.1.trans ((Cert.OutReferenceIdeal.Read.val_main_v48_eq _ _).trans (Eq.trans ?_ (OutMeet.dym m c))),
    (h c).2.2.1.trans ((Cert.OutReferenceIdeal.Read.val_main_v46_eq _ _).trans (Eq.trans ?_ (OutMeet.dwo m c))),
    (h c).2.2.2.1.trans ((Cert.OutReferenceIdeal.Read.val_main_v49_eq _ _ _ _).trans (Eq.trans ?_ (OutMeet.dg m c))), (h c).2.2.2.2⟩
  · exact congr (congr (congr (congr (congr (congrArg (Cert.OutReferenceIdeal.Read.val_main_v43 (F := Ideal)) a0) a1) a2) a3) a4) a5
  · exact congr (congr (congr (congr (congr (congrArg (Cert.OutReferenceIdeal.Read.val_main_v48 (F := Ideal)) a0) a1) a2) a3) a4) a5
  · exact congr (congr (congr (congr (congr (congrArg (Cert.OutReferenceIdeal.Read.val_main_v46 (F := Ideal)) a0) a1) a2) a3) a4) a5
  · exact congr (congr (congr (congrArg (Cert.OutReferenceIdeal.Read.val_main_v49 (F := Ideal)) a1) a2) a3) a5

/-- Everything the certificate claims. -/
theorem claim : Cert.Claim :=
  ⟨Cert.Kernel.Gen.facts, Cert.KernelIdeal.Gen.facts, Cert.ReferenceIdeal.Gen.facts, Cert.Forward.Gen.facts, Cert.ForwardIdeal.Gen.facts,
    Cert.ForwardReferenceIdeal.Gen.facts,
    Cert.Gate.Gen.facts, Cert.GateIdeal.Gen.facts, Cert.GateReferenceIdeal.Gen.facts, Cert.Out.Gen.facts, Cert.OutIdeal.Gen.facts, Cert.OutReferenceIdeal.Gen.facts,
    Cert.Pre_finite.Gen.facts,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.Forward.Gen.frame m g, fun m g _ => Cert.ForwardIdeal.Gen.frame m g, fun m g _ => forward_reference_frame m g,
    fun m g _ => Cert.Gate.Gen.frame m g, fun m g _ => Cert.GateIdeal.Gen.frame m g, fun m g _ => gate_reference_frame m g,
    fun m g _ => Cert.Out.Gen.frame m g, fun m g _ => Cert.OutIdeal.Gen.frame m g, fun m g _ => out_reference_frame m g,
    ⟨IdealRules.named_const.statement Cert.KernelIdeal.κ "gelu_ca" .f32 0x3D122279#32 ((80338380498831 / 2251799813685248 : ℝ) : EReal) rfl,
      IdealRules.named_const.statement Cert.KernelIdeal.κ "gelu_3ca" .f32 0x3DDB33B6#32 ((241015141496493 / 2251799813685248 : ℝ) : EReal) rfl⟩,
    algebraic,
    IdealRules.named_const.statement Cert.ForwardIdeal.κ "gelu_ca" .f32 0x3D122279#32 ((80338380498831 / 2251799813685248 : ℝ) : EReal) rfl,
    forward_algebraic, trivial, gate_algebraic, trivial, out_algebraic⟩

end Cert.Proof

end
